-- ==== Defs.lean ====
def Pre_Kernel [hPre_levels : Cert.Pre_levels.Facts] (m : (ℓ : Loc Cert.Kernel.nD Cert.Kernel.τ Cert.Kernel.sig) → Buf (Elt Bits) ℓ) : Prop :=
  ∀ c : Dev Cert.Kernel.nD,
    (Cert.Pre_levels.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_levels : Cert.Pre_levels.Facts] (m : (ℓ : Loc Cert.KernelIdeal.nD Cert.KernelIdeal.τ Cert.KernelIdeal.sig) → Buf (Elt Ideal) ℓ) : Prop :=
  ∀ c : Dev Cert.KernelIdeal.nD,
    (Cert.Pre_levels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_levels [hPre_levels : Cert.Pre_levels.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_levels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_levels : Cert.Pre_levels.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_levels : Cert.Pre_levels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_levels [hReferenceIdeal : Cert.ReferenceIdeal.Facts] [hPre_levels : Cert.Pre_levels.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_levels m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_nb" .f32 0x31AAAAAB#32 ((1 / 201326592 : ℝ) : EReal)
  ∧ IdealRules.named_const.Statement Cert.KernelIdeal.κ "inv_n" .f32 0x33AAAAAB#32 ((1 / 12582912 : ℝ) : EReal)

def algebraic_KernelIdeal_ReferenceIdeal [hKernelIdeal : Cert.KernelIdeal.Facts] [hReferenceIdeal : Cert.ReferenceIdeal.Facts] [hPre_levels : Cert.Pre_levels.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_levels : Cert.Pre_levels.Facts),
    quiescent_Kernel (hKernel := hKernel) (hPre_levels := hPre_levels)
    ∧ quiescent_KernelIdeal (hKernelIdeal := hKernelIdeal) (hPre_levels := hPre_levels)
    ∧ quiescent_ReferenceIdeal (hReferenceIdeal := hReferenceIdeal)
    ∧ quiescent_ReferenceIdeal_pre_levels (hReferenceIdeal := hReferenceIdeal) (hPre_levels := hPre_levels)
    ∧ preserves_Kernel_KernelIdeal
    ∧ algebraic_KernelIdeal_ReferenceIdeal (hKernelIdeal := hKernelIdeal) (hReferenceIdeal := hReferenceIdeal) (hPre_levels := hPre_levels)
-- ==== Pre_levels.lean ====
abbrev S16x3x1024x256 : Shape := ⟨4, ![16, 3, 1024, 256]⟩
abbrev S_ : Shape := ⟨0, ![]⟩

class Facts : Prop where
  bcast_S_S16x3x1024x256 : S_.BroadcastsInDim S16x3x1024x256 (![] : Fin 0 → Fin S16x3x1024x256.rank)
  reducesTo_S16x3x1024x256_S_d0_1_2_3 : S16x3x1024x256.ReducesTo [0, 1, 2, 3] S_
  h_S_ : 0 < S_.numel

variable [Facts]

def fn {F : FTy → Type} [FloatOps F] (main_arg0 : FVec F S16x3x1024x256 .f32) (main_arg1 : FVec F S16x3x1024x256 .f32) : IVec S_ 1 :=
  let main_v0 : IVec S16x3x1024x256 32 := fptosi 32 main_arg1
  let main_c : IVec S_ 32 := constantI S_ 32 0#32
  let main_v1 : IVec S16x3x1024x256 32 := broadcastInDim S16x3x1024x256 ![] bcast_S_S16x3x1024x256 main_c
  let main_v2 : IVec S16x3x1024x256 1 := cmpi .sge main_v0 main_v1
  let main_c_0 : IVec S_ 32 := constantI S_ 32 255#32
  let main_v3 : IVec S16x3x1024x256 32 := broadcastInDim S16x3x1024x256 ![] bcast_S_S16x3x1024x256 main_c_0
  let main_v4 : IVec S16x3x1024x256 1 := cmpi .sle main_v0 main_v3
  let main_v5 : IVec S16x3x1024x256 1 := andi main_v2 main_v4
  let main_v6 : FVec F S16x3x1024x256 .f32 := sitofp .f32 main_v0
  let main_v7 : IVec S16x3x1024x256 1 := cmpf .oeq main_v6 main_arg1
  let main_v8 : IVec S16x3x1024x256 1 := andi main_v5 main_v7
  let main_c_1 : IVec S_ 1 := constantI S_ 1 1#1
  let main_v9 : IVec S_ 1 := (fun x v => Host.reduce IntOp.andi x v reducesTo_S16x3x1024x256_S_d0_1_2_3 h_S_) main_v8 main_c_1
  main_v9
-- ==== Kernel.lean ====
abbrev S16x3x1024x256 : Shape := ⟨4, ![16, 3, 1024, 256]⟩
abbrev S12582912 : Shape := ⟨1, ![12582912]⟩
abbrev S32x256 : Shape := ⟨2, ![32, 256]⟩
abbrev S16384 : Shape := ⟨1, ![16384]⟩
abbrev S4096 : Shape := ⟨1, ![4096]⟩
abbrev S256 : Shape := ⟨1, ![256]⟩
abbrev S16 : Shape := ⟨1, ![16]⟩
abbrev S_ : Shape := ⟨0, ![]⟩
abbrev S1x256 : Shape := ⟨2, ![1, 256]⟩
abbrev S1x1 : Shape := ⟨2, ![1, 1]⟩
abbrev S1 : Shape := ⟨1, ![1]⟩

abbrev nBuf : Table → Nat
  | .hbm => 8
  | .local .tc .vmem => 3
  | .local .scVector .vmem => 5
  | _ => 0

abbrev bufTy : (tb : Table) → Fin (nBuf tb) → BufTy
  | .hbm, ⟨0, _⟩ => ⟨S16x3x1024x256, .f32⟩
  | .hbm, ⟨1, _⟩ => ⟨S16x3x1024x256, .f32⟩
  | .hbm, ⟨2, _⟩ => ⟨S12582912, .f32⟩
  | .hbm, ⟨3, _⟩ => ⟨S12582912, .f32⟩
  | .hbm, ⟨4, _⟩ => ⟨S32x256, .f32⟩
  | .hbm, ⟨5, _⟩ => ⟨S32x256, .f32⟩
  | .hbm, ⟨6, _⟩ => ⟨S1x1, .f32⟩
  | .hbm, ⟨7, _⟩ => ⟨S_, .f32⟩
  | .local .tc .vmem, ⟨0, _⟩ => ⟨S32x256, .f32⟩
  | .local .tc .vmem, ⟨1, _⟩ => ⟨S32x256, .f32⟩
  | .local .tc .vmem, ⟨2, _⟩ => ⟨S1x1, .f32⟩
  | .local .scVector .vmem, ⟨0, _⟩ => ⟨S16384, .f32⟩
  | .local .scVector .vmem, ⟨1, _⟩ => ⟨S16384, .f32⟩
  | .local .scVector .vmem, ⟨2, _⟩ => ⟨S4096, .f32⟩
  | .local .scVector .vmem, ⟨3, _⟩ => ⟨S256, .f32⟩
  | .local .scVector .vmem, ⟨4, _⟩ => ⟨S256, .f32⟩
  | _, _ => ⟨S16x3x1024x256, .f32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 53 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => true
  | ⟨51, _⟩ => true
  | ⟨52, _⟩ => true
  | _ => false

abbrev sig : RefSig :=
  ofTables nBuf rfl bufTy 4 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v0_scv : Ref sig .scVector := ⟨.hbm, 2, rfl⟩
abbrev main_v1_scv : Ref sig .scVector := ⟨.hbm, 3, rfl⟩
abbrev main_v2_0_scv : Ref sig .scVector := ⟨.hbm, 4, rfl⟩
abbrev main_v2_1_scv : Ref sig .scVector := ⟨.hbm, 5, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 50
abbrev cc1_sem1_0 : DmaSem sig := 51
abbrev cc1_sem2_0 : DmaSem sig := 52
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c256_i32_1 : BitVec 32 := 256#32
  let v8 : BitVec 32 := Scalar.addi c0_i32 c256_i32_1
  let c1_i32 : BitVec 32 := 1#32
  ⟨c0_i32, v8, c1_i32⟩
def k0_mult1 (k0_t1 : Fin k0_t1_loop.trips) : BitVec 32 :=
  let c0_i32_132 : BitVec 32 := 0#32
  let c0_i32 : BitVec 32 := 0#32
  let c1_i32 : BitVec 32 := 1#32
  let arg11 : BitVec 32 := Scf.iv c0_i32 c1_i32 k0_t1
  let c1_i32_131 : BitVec 32 := 1#32
  let v609 : BitVec 32 := Scalar.muli arg11 c1_i32_131
  let v610 : BitVec 32 := Scalar.addi c0_i32_132 v609
  let c16_i32 : BitVec 32 := 16#32
  let v611 : BitVec 32 := Scalar.muli v610 c16_i32
  v611
def k0_off1 (k0_t1 : Fin k0_t1_loop.trips) : Fin 1 → Nat :=
  let c0_i32_132 : BitVec 32 := 0#32
  let c0_i32 : BitVec 32 := 0#32
  let c1_i32 : BitVec 32 := 1#32
  let arg11 : BitVec 32 := Scf.iv c0_i32 c1_i32 k0_t1
  let c1_i32_131 : BitVec 32 := 1#32
  let v609 : BitVec 32 := Scalar.muli arg11 c1_i32_131
  let v610 : BitVec 32 := Scalar.addi c0_i32_132 v609
  let c16_i32 : BitVec 32 := 16#32
  let v611 : BitVec 32 := Scalar.muli v610 c16_i32
  let v612 : BitVec 32 := v611
  let v613 : Index := Scalar.indexCast v612
  ![v613.toNat]
def k0_off2 (i : grid0.Coords) (c0_i32_3 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c393216_i32 : BitVec 32 := 393216#32
  let v2 : BitVec 32 := Scalar.muli v1 c393216_i32
  let v9 : BitVec 32 := Scalar.addi v2 c0_i32_3
  ![v9.toNat]
@[reducible] def k0_t2_loop : Scf.Loop 32 :=
  let c0_i32_4 : BitVec 32 := 0#32
  let c64_i32 : BitVec 32 := 64#32
  let v10 : BitVec 32 := Scalar.addi c0_i32_4 c64_i32
  let c1_i32_5 : BitVec 32 := 1#32
  ⟨c0_i32_4, v10, c1_i32_5⟩
def k0_mult2 (k0_t2 : Fin k0_t2_loop.trips) : BitVec 32 :=
  let c0_i32_132 : BitVec 32 := 0#32
  let c0_i32_4 : BitVec 32 := 0#32
  let c1_i32_5 : BitVec 32 := 1#32
  let arg11 : BitVec 32 := Scf.iv c0_i32_4 c1_i32_5 k0_t2
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  v611
def k0_off3 (k0_t2 : Fin k0_t2_loop.trips) : Fin 1 → Nat :=
  let c0_i32_132 : BitVec 32 := 0#32
  let c0_i32_4 : BitVec 32 := 0#32
  let c1_i32_5 : BitVec 32 := 1#32
  let arg11 : BitVec 32 := Scf.iv c0_i32_4 c1_i32_5 k0_t2
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c0_i32_134 : BitVec 32 := 0#32
  let v613 : BitVec 32 := Scalar.addi v612 c0_i32_134
  let v614 : Index := Scalar.indexCast v613
  ![v614.toNat]

def k0_chk1 (v622 : IVec S16 32) : Prop :=
  (∀ a x, ((![v622] : Fin 1 → IVec S16 32) a x).toNat < S4096.size a)
theorem k0_idx1_inb : ∀ (v622 : IVec S16 32) (k0_hw1 : k0_chk1 v622), ∀ a x, ((![v622] : Fin 1 → IVec S16 32) a x).toNat < S4096.size a := fun v622 k0_hw1 => k0_hw1
def k0_off4 (k0_t2 : Fin k0_t2_loop.trips) : Fin 1 → Nat :=
  let c0_i32_132 : BitVec 32 := 0#32
  let c0_i32_4 : BitVec 32 := 0#32
  let c1_i32_5 : BitVec 32 := 1#32
  let arg11 : BitVec 32 := Scf.iv c0_i32_4 c1_i32_5 k0_t2
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c16_i32 : BitVec 32 := 16#32
  let v623 : BitVec 32 := Scalar.addi v612 c16_i32
  let v624 : Index := Scalar.indexCast v623
  ![v624.toNat]

def k0_chk2 (v632 : IVec S16 32) : Prop :=
  (∀ a x, ((![v632] : Fin 1 → IVec S16 32) a x).toNat < S4096.size a)
theorem k0_idx2_inb : ∀ (v632 : IVec S16 32) (k0_hw2 : k0_chk2 v632), ∀ a x, ((![v632] : Fin 1 → IVec S16 32) a x).toNat < S4096.size a := fun v632 k0_hw2 => k0_hw2
def k0_off5 (k0_t2 : Fin k0_t2_loop.trips) : Fin 1 → Nat :=
  let c0_i32_132 : BitVec 32 := 0#32
  let c0_i32_4 : BitVec 32 := 0#32
  let c1_i32_5 : BitVec 32 := 1#32
  let arg11 : BitVec 32 := Scf.iv c0_i32_4 c1_i32_5 k0_t2
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c32_i32 : BitVec 32 := 32#32
  let v633 : BitVec 32 := Scalar.addi v612 c32_i32
  let v634 : Index := Scalar.indexCast v633
  ![v634.toNat]

def k0_chk3 (v642 : IVec S16 32) : Prop :=
  (∀ a x, ((![v642] : Fin 1 → IVec S16 32) a x).toNat < S4096.size a)
theorem k0_idx3_inb : ∀ (v642 : IVec S16 32) (k0_hw3 : k0_chk3 v642), ∀ a x, ((![v642] : Fin 1 → IVec S16 32) a x).toNat < S4096.size a := fun v642 k0_hw3 => k0_hw3
def k0_off6 (k0_t2 : Fin k0_t2_loop.trips) : Fin 1 → Nat :=
  let c0_i32_132 : BitVec 32 := 0#32
  let c0_i32_4 : BitVec 32 := 0#32
  let c1_i32_5 : BitVec 32 := 1#32
  let arg11 : BitVec 32 := Scf.iv c0_i32_4 c1_i32_5 k0_t2
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c48_i32 : BitVec 32 := 48#32
  let v643 : BitVec 32 := Scalar.addi v612 c48_i32
  let v644 : Index := Scalar.indexCast v643
  ![v644.toNat]

def k0_chk4 (v652 : IVec S16 32) : Prop :=
  (∀ a x, ((![v652] : Fin 1 → IVec S16 32) a x).toNat < S4096.size a)
theorem k0_idx4_inb : ∀ (v652 : IVec S16 32) (k0_hw4 : k0_chk4 v652), ∀ a x, ((![v652] : Fin 1 → IVec S16 32) a x).toNat < S4096.size a := fun v652 k0_hw4 => k0_hw4
def k0_off7 (k0_t2 : Fin k0_t2_loop.trips) : Fin 1 → Nat :=
  let c0_i32_132 : BitVec 32 := 0#32
  let c0_i32_4 : BitVec 32 := 0#32
  let c1_i32_5 : BitVec 32 := 1#32
  let arg11 : BitVec 32 := Scf.iv c0_i32_4 c1_i32_5 k0_t2
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c64_i32_135 : BitVec 32 := 64#32
  let v653 : BitVec 32 := Scalar.addi v612 c64_i32_135
  let v654 : Index := Scalar.indexCast v653
  ![v654.toNat]

def k0_chk5 (v662 : IVec S16 32) : Prop :=
  (∀ a x, ((![v662] : Fin 1 → IVec S16 32) a x).toNat < S4096.size a)
theorem k0_idx5_inb : ∀ (v662 : IVec S16 32) (k0_hw5 : k0_chk5 v662), ∀ a x, ((![v662] : Fin 1 → IVec S16 32) a x).toNat < S4096.size a := fun v662 k0_hw5 => k0_hw5
def k0_off8 (k0_t2 : Fin k0_t2_loop.trips) : Fin 1 → Nat :=
  let c0_i32_132 : BitVec 32 := 0#32
  let c0_i32_4 : BitVec 32 := 0#32
  let c1_i32_5 : BitVec 32 := 1#32
  let arg11 : BitVec 32 := Scf.iv c0_i32_4 c1_i32_5 k0_t2
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c80_i32 : BitVec 32 := 80#32
  let v663 : BitVec 32 := Scalar.addi v612 c80_i32
  let v664 : Index := Scalar.indexCast v663
  ![v664.toNat]

def k0_chk6 (v672 : IVec S16 32) : Prop :=
  (∀ a x, ((![v672] : Fin 1 → IVec S16 32) a x).toNat < S4096.size a)
theorem k0_idx6_inb : ∀ (v672 : IVec S16 32) (k0_hw6 : k0_chk6 v672), ∀ a x, ((![v672] : Fin 1 → IVec S16 32) a x).toNat < S4096.size a := fun v672 k0_hw6 => k0_hw6
def k0_off9 (k0_t2 : Fin k0_t2_loop.trips) : Fin 1 → Nat :=
  let c0_i32_132 : BitVec 32 := 0#32
  let c0_i32_4 : BitVec 32 := 0#32
  let c1_i32_5 : BitVec 32 := 1#32
  let arg11 : BitVec 32 := Scf.iv c0_i32_4 c1_i32_5 k0_t2
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c96_i32 : BitVec 32 := 96#32
  let v673 : BitVec 32 := Scalar.addi v612 c96_i32
  let v674 : Index := Scalar.indexCast v673
  ![v674.toNat]

def k0_chk7 (v682 : IVec S16 32) : Prop :=
  (∀ a x, ((![v682] : Fin 1 → IVec S16 32) a x).toNat < S4096.size a)
theorem k0_idx7_inb : ∀ (v682 : IVec S16 32) (k0_hw7 : k0_chk7 v682), ∀ a x, ((![v682] : Fin 1 → IVec S16 32) a x).toNat < S4096.size a := fun v682 k0_hw7 => k0_hw7
def k0_off10 (k0_t2 : Fin k0_t2_loop.trips) : Fin 1 → Nat :=
  let c0_i32_132 : BitVec 32 := 0#32
  let c0_i32_4 : BitVec 32 := 0#32
  let c1_i32_5 : BitVec 32 := 1#32
  let arg11 : BitVec 32 := Scf.iv c0_i32_4 c1_i32_5 k0_t2
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c112_i32 : BitVec 32 := 112#32
  let v683 : BitVec 32 := Scalar.addi v612 c112_i32
  let v684 : Index := Scalar.indexCast v683
  ![v684.toNat]

def k0_chk8 (v692 : IVec S16 32) : Prop :=
  (∀ a x, ((![v692] : Fin 1 → IVec S16 32) a x).toNat < S4096.size a)
theorem k0_idx8_inb : ∀ (v692 : IVec S16 32) (k0_hw8 : k0_chk8 v692), ∀ a x, ((![v692] : Fin 1 → IVec S16 32) a x).toNat < S4096.size a := fun v692 k0_hw8 => k0_hw8
def k0_off11 (k0_t2 : Fin k0_t2_loop.trips) : Fin 1 → Nat :=
  let c0_i32_132 : BitVec 32 := 0#32
  let c0_i32_4 : BitVec 32 := 0#32
  let c1_i32_5 : BitVec 32 := 1#32
  let arg11 : BitVec 32 := Scf.iv c0_i32_4 c1_i32_5 k0_t2
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c128_i32 : BitVec 32 := 128#32
  let v693 : BitVec 32 := Scalar.addi v612 c128_i32
  let v694 : Index := Scalar.indexCast v693
  ![v694.toNat]

def k0_chk9 (v702 : IVec S16 32) : Prop :=
  (∀ a x, ((![v702] : Fin 1 → IVec S16 32) a x).toNat < S4096.size a)
theorem k0_idx9_inb : ∀ (v702 : IVec S16 32) (k0_hw9 : k0_chk9 v702), ∀ a x, ((![v702] : Fin 1 → IVec S16 32) a x).toNat < S4096.size a := fun v702 k0_hw9 => k0_hw9
def k0_off12 (k0_t2 : Fin k0_t2_loop.trips) : Fin 1 → Nat :=
  let c0_i32_132 : BitVec 32 := 0#32
  let c0_i32_4 : BitVec 32 := 0#32
  let c1_i32_5 : BitVec 32 := 1#32
  let arg11 : BitVec 32 := Scf.iv c0_i32_4 c1_i32_5 k0_t2
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c144_i32 : BitVec 32 := 144#32
  let v703 : BitVec 32 := Scalar.addi v612 c144_i32
  let v704 : Index := Scalar.indexCast v703
  ![v704.toNat]

def k0_chk10 (v712 : IVec S16 32) : Prop :=
  (∀ a x, ((![v712] : Fin 1 → IVec S16 32) a x).toNat < S4096.size a)
theorem k0_idx10_inb : ∀ (v712 : IVec S16 32) (k0_hw10 : k0_chk10 v712), ∀ a x, ((![v712] : Fin 1 → IVec S16 32) a x).toNat < S4096.size a := fun v712 k0_hw10 => k0_hw10
def k0_off13 (k0_t2 : Fin k0_t2_loop.trips) : Fin 1 → Nat :=
  let c0_i32_132 : BitVec 32 := 0#32
  let c0_i32_4 : BitVec 32 := 0#32
  let c1_i32_5 : BitVec 32 := 1#32
  let arg11 : BitVec 32 := Scf.iv c0_i32_4 c1_i32_5 k0_t2
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c160_i32 : BitVec 32 := 160#32
  let v713 : BitVec 32 := Scalar.addi v612 c160_i32
  let v714 : Index := Scalar.indexCast v713
  ![v714.toNat]

def k0_chk11 (v722 : IVec S16 32) : Prop :=
  (∀ a x, ((![v722] : Fin 1 → IVec S16 32) a x).toNat < S4096.size a)
theorem k0_idx11_inb : ∀ (v722 : IVec S16 32) (k0_hw11 : k0_chk11 v722), ∀ a x, ((![v722] : Fin 1 → IVec S16 32) a x).toNat < S4096.size a := fun v722 k0_hw11 => k0_hw11
def k0_off14 (k0_t2 : Fin k0_t2_loop.trips) : Fin 1 → Nat :=
  let c0_i32_132 : BitVec 32 := 0#32
  let c0_i32_4 : BitVec 32 := 0#32
  let c1_i32_5 : BitVec 32 := 1#32
  let arg11 : BitVec 32 := Scf.iv c0_i32_4 c1_i32_5 k0_t2
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c176_i32 : BitVec 32 := 176#32
  let v723 : BitVec 32 := Scalar.addi v612 c176_i32
  let v724 : Index := Scalar.indexCast v723
  ![v724.toNat]

def k0_chk12 (v732 : IVec S16 32) : Prop :=
  (∀ a x, ((![v732] : Fin 1 → IVec S16 32) a x).toNat < S4096.size a)
theorem k0_idx12_inb : ∀ (v732 : IVec S16 32) (k0_hw12 : k0_chk12 v732), ∀ a x, ((![v732] : Fin 1 → IVec S16 32) a x).toNat < S4096.size a := fun v732 k0_hw12 => k0_hw12
def k0_off15 (k0_t2 : Fin k0_t2_loop.trips) : Fin 1 → Nat :=
  let c0_i32_132 : BitVec 32 := 0#32
  let c0_i32_4 : BitVec 32 := 0#32
  let c1_i32_5 : BitVec 32 := 1#32
  let arg11 : BitVec 32 := Scf.iv c0_i32_4 c1_i32_5 k0_t2
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c192_i32 : BitVec 32 := 192#32
  let v733 : BitVec 32 := Scalar.addi v612 c192_i32
  let v734 : Index := Scalar.indexCast v733
  ![v734.toNat]

def k0_chk13 (v742 : IVec S16 32) : Prop :=
  (∀ a x, ((![v742] : Fin 1 → IVec S16 32) a x).toNat < S4096.size a)
theorem k0_idx13_inb : ∀ (v742 : IVec S16 32) (k0_hw13 : k0_chk13 v742), ∀ a x, ((![v742] : Fin 1 → IVec S16 32) a x).toNat < S4096.size a := fun v742 k0_hw13 => k0_hw13
def k0_off16 (k0_t2 : Fin k0_t2_loop.trips) : Fin 1 → Nat :=
  let c0_i32_132 : BitVec 32 := 0#32
  let c0_i32_4 : BitVec 32 := 0#32
  let c1_i32_5 : BitVec 32 := 1#32
  let arg11 : BitVec 32 := Scf.iv c0_i32_4 c1_i32_5 k0_t2
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c208_i32 : BitVec 32 := 208#32
  let v743 : BitVec 32 := Scalar.addi v612 c208_i32
  let v744 : Index := Scalar.indexCast v743
  ![v744.toNat]

def k0_chk14 (v752 : IVec S16 32) : Prop :=
  (∀ a x, ((![v752] : Fin 1 → IVec S16 32) a x).toNat < S4096.size a)
theorem k0_idx14_inb : ∀ (v752 : IVec S16 32) (k0_hw14 : k0_chk14 v752), ∀ a x, ((![v752] : Fin 1 → IVec S16 32) a x).toNat < S4096.size a := fun v752 k0_hw14 => k0_hw14
def k0_off17 (k0_t2 : Fin k0_t2_loop.trips) : Fin 1 → Nat :=
  let c0_i32_132 : BitVec 32 := 0#32
  let c0_i32_4 : BitVec 32 := 0#32
  let c1_i32_5 : BitVec 32 := 1#32
  let arg11 : BitVec 32 := Scf.iv c0_i32_4 c1_i32_5 k0_t2
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c224_i32 : BitVec 32 := 224#32
  let v753 : BitVec 32 := Scalar.addi v612 c224_i32
  let v754 : Index := Scalar.indexCast v753
  ![v754.toNat]

def k0_chk15 (v762 : IVec S16 32) : Prop :=
  (∀ a x, ((![v762] : Fin 1 → IVec S16 32) a x).toNat < S4096.size a)
theorem k0_idx15_inb : ∀ (v762 : IVec S16 32) (k0_hw15 : k0_chk15 v762), ∀ a x, ((![v762] : Fin 1 → IVec S16 32) a x).toNat < S4096.size a := fun v762 k0_hw15 => k0_hw15
def k0_off18 (k0_t2 : Fin k0_t2_loop.trips) : Fin 1 → Nat :=
  let c0_i32_132 : BitVec 32 := 0#32
  let c0_i32_4 : BitVec 32 := 0#32
  let c1_i32_5 : BitVec 32 := 1#32
  let arg11 : BitVec 32 := Scf.iv c0_i32_4 c1_i32_5 k0_t2
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c240_i32 : BitVec 32 := 240#32
  let v763 : BitVec 32 := Scalar.addi v612 c240_i32
  let v764 : Index := Scalar.indexCast v763
  ![v764.toNat]

def k0_chk16 (v772 : IVec S16 32) : Prop :=
  (∀ a x, ((![v772] : Fin 1 → IVec S16 32) a x).toNat < S4096.size a)
theorem k0_idx16_inb : ∀ (v772 : IVec S16 32) (k0_hw16 : k0_chk16 v772), ∀ a x, ((![v772] : Fin 1 → IVec S16 32) a x).toNat < S4096.size a := fun v772 k0_hw16 => k0_hw16
@[reducible] def k0_t3_loop : Scf.Loop 32 :=
  let c0_i32_7 : BitVec 32 := 0#32
  let c64_i32_8 : BitVec 32 := 64#32
  let v13 : BitVec 32 := Scalar.addi c0_i32_7 c64_i32_8
  let c1_i32_9 : BitVec 32 := 1#32
  ⟨c0_i32_7, v13, c1_i32_9⟩
def k0_mult3 (k0_t3 : Fin k0_t3_loop.trips) : BitVec 32 :=
  let c0_i32_132 : BitVec 32 := 0#32
  let c0_i32_7 : BitVec 32 := 0#32
  let c1_i32_9 : BitVec 32 := 1#32
  let arg11 : BitVec 32 := Scf.iv c0_i32_7 c1_i32_9 k0_t3
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  v611
def k0_off19 (k0_t3 : Fin k0_t3_loop.trips) : Fin 1 → Nat :=
  let c0_i32_132 : BitVec 32 := 0#32
  let c0_i32_7 : BitVec 32 := 0#32
  let c1_i32_9 : BitVec 32 := 1#32
  let arg11 : BitVec 32 := Scf.iv c0_i32_7 c1_i32_9 k0_t3
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c0_i32_134 : BitVec 32 := 0#32
  let v613 : BitVec 32 := Scalar.addi v612 c0_i32_134
  let v614 : Index := Scalar.indexCast v613
  ![v614.toNat]

def k0_chk17 (v622 : IVec S16 32) : Prop :=
  (∀ a x, ((![v622] : Fin 1 → IVec S16 32) a x).toNat < S4096.size a)
theorem k0_idx17_inb : ∀ (v622 : IVec S16 32) (k0_hw17 : k0_chk17 v622), ∀ a x, ((![v622] : Fin 1 → IVec S16 32) a x).toNat < S4096.size a := fun v622 k0_hw17 => k0_hw17
def k0_off20 (k0_t3 : Fin k0_t3_loop.trips) : Fin 1 → Nat :=
  let c0_i32_132 : BitVec 32 := 0#32
  let c0_i32_7 : BitVec 32 := 0#32
  let c1_i32_9 : BitVec 32 := 1#32
  let arg11 : BitVec 32 := Scf.iv c0_i32_7 c1_i32_9 k0_t3
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c16_i32 : BitVec 32 := 16#32
  let v623 : BitVec 32 := Scalar.addi v612 c16_i32
  let v624 : Index := Scalar.indexCast v623
  ![v624.toNat]

def k0_chk18 (v632 : IVec S16 32) : Prop :=
  (∀ a x, ((![v632] : Fin 1 → IVec S16 32) a x).toNat < S4096.size a)
theorem k0_idx18_inb : ∀ (v632 : IVec S16 32) (k0_hw18 : k0_chk18 v632), ∀ a x, ((![v632] : Fin 1 → IVec S16 32) a x).toNat < S4096.size a := fun v632 k0_hw18 => k0_hw18
def k0_off21 (k0_t3 : Fin k0_t3_loop.trips) : Fin 1 → Nat :=
  let c0_i32_132 : BitVec 32 := 0#32
  let c0_i32_7 : BitVec 32 := 0#32
  let c1_i32_9 : BitVec 32 := 1#32
  let arg11 : BitVec 32 := Scf.iv c0_i32_7 c1_i32_9 k0_t3
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c32_i32 : BitVec 32 := 32#32
  let v633 : BitVec 32 := Scalar.addi v612 c32_i32
  let v634 : Index := Scalar.indexCast v633
  ![v634.toNat]

def k0_chk19 (v642 : IVec S16 32) : Prop :=
  (∀ a x, ((![v642] : Fin 1 → IVec S16 32) a x).toNat < S4096.size a)
theorem k0_idx19_inb : ∀ (v642 : IVec S16 32) (k0_hw19 : k0_chk19 v642), ∀ a x, ((![v642] : Fin 1 → IVec S16 32) a x).toNat < S4096.size a := fun v642 k0_hw19 => k0_hw19
def k0_off22 (k0_t3 : Fin k0_t3_loop.trips) : Fin 1 → Nat :=
  let c0_i32_132 : BitVec 32 := 0#32
  let c0_i32_7 : BitVec 32 := 0#32
  let c1_i32_9 : BitVec 32 := 1#32
  let arg11 : BitVec 32 := Scf.iv c0_i32_7 c1_i32_9 k0_t3
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c48_i32 : BitVec 32 := 48#32
  let v643 : BitVec 32 := Scalar.addi v612 c48_i32
  let v644 : Index := Scalar.indexCast v643
  ![v644.toNat]

def k0_chk20 (v652 : IVec S16 32) : Prop :=
  (∀ a x, ((![v652] : Fin 1 → IVec S16 32) a x).toNat < S4096.size a)
theorem k0_idx20_inb : ∀ (v652 : IVec S16 32) (k0_hw20 : k0_chk20 v652), ∀ a x, ((![v652] : Fin 1 → IVec S16 32) a x).toNat < S4096.size a := fun v652 k0_hw20 => k0_hw20
def k0_off23 (k0_t3 : Fin k0_t3_loop.trips) : Fin 1 → Nat :=
  let c0_i32_132 : BitVec 32 := 0#32
  let c0_i32_7 : BitVec 32 := 0#32
  let c1_i32_9 : BitVec 32 := 1#32
  let arg11 : BitVec 32 := Scf.iv c0_i32_7 c1_i32_9 k0_t3
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c64_i32_135 : BitVec 32 := 64#32
  let v653 : BitVec 32 := Scalar.addi v612 c64_i32_135
  let v654 : Index := Scalar.indexCast v653
  ![v654.toNat]

def k0_chk21 (v662 : IVec S16 32) : Prop :=
  (∀ a x, ((![v662] : Fin 1 → IVec S16 32) a x).toNat < S4096.size a)
theorem k0_idx21_inb : ∀ (v662 : IVec S16 32) (k0_hw21 : k0_chk21 v662), ∀ a x, ((![v662] : Fin 1 → IVec S16 32) a x).toNat < S4096.size a := fun v662 k0_hw21 => k0_hw21
def k0_off24 (k0_t3 : Fin k0_t3_loop.trips) : Fin 1 → Nat :=
  let c0_i32_132 : BitVec 32 := 0#32
  let c0_i32_7 : BitVec 32 := 0#32
  let c1_i32_9 : BitVec 32 := 1#32
  let arg11 : BitVec 32 := Scf.iv c0_i32_7 c1_i32_9 k0_t3
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c80_i32 : BitVec 32 := 80#32
  let v663 : BitVec 32 := Scalar.addi v612 c80_i32
  let v664 : Index := Scalar.indexCast v663
  ![v664.toNat]

def k0_chk22 (v672 : IVec S16 32) : Prop :=
  (∀ a x, ((![v672] : Fin 1 → IVec S16 32) a x).toNat < S4096.size a)
theorem k0_idx22_inb : ∀ (v672 : IVec S16 32) (k0_hw22 : k0_chk22 v672), ∀ a x, ((![v672] : Fin 1 → IVec S16 32) a x).toNat < S4096.size a := fun v672 k0_hw22 => k0_hw22
def k0_off25 (k0_t3 : Fin k0_t3_loop.trips) : Fin 1 → Nat :=
  let c0_i32_132 : BitVec 32 := 0#32
  let c0_i32_7 : BitVec 32 := 0#32
  let c1_i32_9 : BitVec 32 := 1#32
  let arg11 : BitVec 32 := Scf.iv c0_i32_7 c1_i32_9 k0_t3
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c96_i32 : BitVec 32 := 96#32
  let v673 : BitVec 32 := Scalar.addi v612 c96_i32
  let v674 : Index := Scalar.indexCast v673
  ![v674.toNat]

def k0_chk23 (v682 : IVec S16 32) : Prop :=
  (∀ a x, ((![v682] : Fin 1 → IVec S16 32) a x).toNat < S4096.size a)
theorem k0_idx23_inb : ∀ (v682 : IVec S16 32) (k0_hw23 : k0_chk23 v682), ∀ a x, ((![v682] : Fin 1 → IVec S16 32) a x).toNat < S4096.size a := fun v682 k0_hw23 => k0_hw23
def k0_off26 (k0_t3 : Fin k0_t3_loop.trips) : Fin 1 → Nat :=
  let c0_i32_132 : BitVec 32 := 0#32
  let c0_i32_7 : BitVec 32 := 0#32
  let c1_i32_9 : BitVec 32 := 1#32
  let arg11 : BitVec 32 := Scf.iv c0_i32_7 c1_i32_9 k0_t3
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c112_i32 : BitVec 32 := 112#32
  let v683 : BitVec 32 := Scalar.addi v612 c112_i32
  let v684 : Index := Scalar.indexCast v683
  ![v684.toNat]

def k0_chk24 (v692 : IVec S16 32) : Prop :=
  (∀ a x, ((![v692] : Fin 1 → IVec S16 32) a x).toNat < S4096.size a)
theorem k0_idx24_inb : ∀ (v692 : IVec S16 32) (k0_hw24 : k0_chk24 v692), ∀ a x, ((![v692] : Fin 1 → IVec S16 32) a x).toNat < S4096.size a := fun v692 k0_hw24 => k0_hw24
def k0_off27 (k0_t3 : Fin k0_t3_loop.trips) : Fin 1 → Nat :=
  let c0_i32_132 : BitVec 32 := 0#32
  let c0_i32_7 : BitVec 32 := 0#32
  let c1_i32_9 : BitVec 32 := 1#32
  let arg11 : BitVec 32 := Scf.iv c0_i32_7 c1_i32_9 k0_t3
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c128_i32 : BitVec 32 := 128#32
  let v693 : BitVec 32 := Scalar.addi v612 c128_i32
  let v694 : Index := Scalar.indexCast v693
  ![v694.toNat]

def k0_chk25 (v702 : IVec S16 32) : Prop :=
  (∀ a x, ((![v702] : Fin 1 → IVec S16 32) a x).toNat < S4096.size a)
theorem k0_idx25_inb : ∀ (v702 : IVec S16 32) (k0_hw25 : k0_chk25 v702), ∀ a x, ((![v702] : Fin 1 → IVec S16 32) a x).toNat < S4096.size a := fun v702 k0_hw25 => k0_hw25
def k0_off28 (k0_t3 : Fin k0_t3_loop.trips) : Fin 1 → Nat :=
  let c0_i32_132 : BitVec 32 := 0#32
  let c0_i32_7 : BitVec 32 := 0#32
  let c1_i32_9 : BitVec 32 := 1#32
  let arg11 : BitVec 32 := Scf.iv c0_i32_7 c1_i32_9 k0_t3
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c144_i32 : BitVec 32 := 144#32
  let v703 : BitVec 32 := Scalar.addi v612 c144_i32
  let v704 : Index := Scalar.indexCast v703
  ![v704.toNat]

def k0_chk26 (v712 : IVec S16 32) : Prop :=
  (∀ a x, ((![v712] : Fin 1 → IVec S16 32) a x).toNat < S4096.size a)
theorem k0_idx26_inb : ∀ (v712 : IVec S16 32) (k0_hw26 : k0_chk26 v712), ∀ a x, ((![v712] : Fin 1 → IVec S16 32) a x).toNat < S4096.size a := fun v712 k0_hw26 => k0_hw26
def k0_off29 (k0_t3 : Fin k0_t3_loop.trips) : Fin 1 → Nat :=
  let c0_i32_132 : BitVec 32 := 0#32
  let c0_i32_7 : BitVec 32 := 0#32
  let c1_i32_9 : BitVec 32 := 1#32
  let arg11 : BitVec 32 := Scf.iv c0_i32_7 c1_i32_9 k0_t3
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c160_i32 : BitVec 32 := 160#32
  let v713 : BitVec 32 := Scalar.addi v612 c160_i32
  let v714 : Index := Scalar.indexCast v713
  ![v714.toNat]

def k0_chk27 (v722 : IVec S16 32) : Prop :=
  (∀ a x, ((![v722] : Fin 1 → IVec S16 32) a x).toNat < S4096.size a)
theorem k0_idx27_inb : ∀ (v722 : IVec S16 32) (k0_hw27 : k0_chk27 v722), ∀ a x, ((![v722] : Fin 1 → IVec S16 32) a x).toNat < S4096.size a := fun v722 k0_hw27 => k0_hw27
def k0_off30 (k0_t3 : Fin k0_t3_loop.trips) : Fin 1 → Nat :=
  let c0_i32_132 : BitVec 32 := 0#32
  let c0_i32_7 : BitVec 32 := 0#32
  let c1_i32_9 : BitVec 32 := 1#32
  let arg11 : BitVec 32 := Scf.iv c0_i32_7 c1_i32_9 k0_t3
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c176_i32 : BitVec 32 := 176#32
  let v723 : BitVec 32 := Scalar.addi v612 c176_i32
  let v724 : Index := Scalar.indexCast v723
  ![v724.toNat]

def k0_chk28 (v732 : IVec S16 32) : Prop :=
  (∀ a x, ((![v732] : Fin 1 → IVec S16 32) a x).toNat < S4096.size a)
theorem k0_idx28_inb : ∀ (v732 : IVec S16 32) (k0_hw28 : k0_chk28 v732), ∀ a x, ((![v732] : Fin 1 → IVec S16 32) a x).toNat < S4096.size a := fun v732 k0_hw28 => k0_hw28
def k0_off31 (k0_t3 : Fin k0_t3_loop.trips) : Fin 1 → Nat :=
  let c0_i32_132 : BitVec 32 := 0#32
  let c0_i32_7 : BitVec 32 := 0#32
  let c1_i32_9 : BitVec 32 := 1#32
  let arg11 : BitVec 32 := Scf.iv c0_i32_7 c1_i32_9 k0_t3
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c192_i32 : BitVec 32 := 192#32
  let v733 : BitVec 32 := Scalar.addi v612 c192_i32
  let v734 : Index := Scalar.indexCast v733
  ![v734.toNat]

def k0_chk29 (v742 : IVec S16 32) : Prop :=
  (∀ a x, ((![v742] : Fin 1 → IVec S16 32) a x).toNat < S4096.size a)
theorem k0_idx29_inb : ∀ (v742 : IVec S16 32) (k0_hw29 : k0_chk29 v742), ∀ a x, ((![v742] : Fin 1 → IVec S16 32) a x).toNat < S4096.size a := fun v742 k0_hw29 => k0_hw29
def k0_off32 (k0_t3 : Fin k0_t3_loop.trips) : Fin 1 → Nat :=
  let c0_i32_132 : BitVec 32 := 0#32
  let c0_i32_7 : BitVec 32 := 0#32
  let c1_i32_9 : BitVec 32 := 1#32
  let arg11 : BitVec 32 := Scf.iv c0_i32_7 c1_i32_9 k0_t3
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c208_i32 : BitVec 32 := 208#32
  let v743 : BitVec 32 := Scalar.addi v612 c208_i32
  let v744 : Index := Scalar.indexCast v743
  ![v744.toNat]

def k0_chk30 (v752 : IVec S16 32) : Prop :=
  (∀ a x, ((![v752] : Fin 1 → IVec S16 32) a x).toNat < S4096.size a)
theorem k0_idx30_inb : ∀ (v752 : IVec S16 32) (k0_hw30 : k0_chk30 v752), ∀ a x, ((![v752] : Fin 1 → IVec S16 32) a x).toNat < S4096.size a := fun v752 k0_hw30 => k0_hw30
def k0_off33 (k0_t3 : Fin k0_t3_loop.trips) : Fin 1 → Nat :=
  let c0_i32_132 : BitVec 32 := 0#32
  let c0_i32_7 : BitVec 32 := 0#32
  let c1_i32_9 : BitVec 32 := 1#32
  let arg11 : BitVec 32 := Scf.iv c0_i32_7 c1_i32_9 k0_t3
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c224_i32 : BitVec 32 := 224#32
  let v753 : BitVec 32 := Scalar.addi v612 c224_i32
  let v754 : Index := Scalar.indexCast v753
  ![v754.toNat]

def k0_chk31 (v762 : IVec S16 32) : Prop :=
  (∀ a x, ((![v762] : Fin 1 → IVec S16 32) a x).toNat < S4096.size a)
theorem k0_idx31_inb : ∀ (v762 : IVec S16 32) (k0_hw31 : k0_chk31 v762), ∀ a x, ((![v762] : Fin 1 → IVec S16 32) a x).toNat < S4096.size a := fun v762 k0_hw31 => k0_hw31
def k0_off34 (k0_t3 : Fin k0_t3_loop.trips) : Fin 1 → Nat :=
  let c0_i32_132 : BitVec 32 := 0#32
  let c0_i32_7 : BitVec 32 := 0#32
  let c1_i32_9 : BitVec 32 := 1#32
  let arg11 : BitVec 32 := Scf.iv c0_i32_7 c1_i32_9 k0_t3
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c240_i32 : BitVec 32 := 240#32
  let v763 : BitVec 32 := Scalar.addi v612 c240_i32
  let v764 : Index := Scalar.indexCast v763
  ![v764.toNat]

def k0_chk32 (v772 : IVec S16 32) : Prop :=
  (∀ a x, ((![v772] : Fin 1 → IVec S16 32) a x).toNat < S4096.size a)
theorem k0_idx32_inb : ∀ (v772 : IVec S16 32) (k0_hw32 : k0_chk32 v772), ∀ a x, ((![v772] : Fin 1 → IVec S16 32) a x).toNat < S4096.size a := fun v772 k0_hw32 => k0_hw32
@[reducible] def k0_t4_loop : Scf.Loop 32 :=
  let c0_i32_11 : BitVec 32 := 0#32
  let c64_i32_12 : BitVec 32 := 64#32
  let v16 : BitVec 32 := Scalar.addi c0_i32_11 c64_i32_12
  let c1_i32_13 : BitVec 32 := 1#32
  ⟨c0_i32_11, v16, c1_i32_13⟩
def k0_mult4 (k0_t4 : Fin k0_t4_loop.trips) : BitVec 32 :=
  let c0_i32_132 : BitVec 32 := 0#32
  let c0_i32_11 : BitVec 32 := 0#32
  let c1_i32_13 : BitVec 32 := 1#32
  let arg11 : BitVec 32 := Scf.iv c0_i32_11 c1_i32_13 k0_t4
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  v611
def k0_off35 (k0_t4 : Fin k0_t4_loop.trips) : Fin 1 → Nat :=
  let c0_i32_132 : BitVec 32 := 0#32
  let c0_i32_11 : BitVec 32 := 0#32
  let c1_i32_13 : BitVec 32 := 1#32
  let arg11 : BitVec 32 := Scf.iv c0_i32_11 c1_i32_13 k0_t4
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c0_i32_134 : BitVec 32 := 0#32
  let v613 : BitVec 32 := Scalar.addi v612 c0_i32_134
  let v614 : Index := Scalar.indexCast v613
  ![v614.toNat]

def k0_chk33 (v622 : IVec S16 32) : Prop :=
  (∀ a x, ((![v622] : Fin 1 → IVec S16 32) a x).toNat < S4096.size a)
theorem k0_idx33_inb : ∀ (v622 : IVec S16 32) (k0_hw33 : k0_chk33 v622), ∀ a x, ((![v622] : Fin 1 → IVec S16 32) a x).toNat < S4096.size a := fun v622 k0_hw33 => k0_hw33
def k0_off36 (k0_t4 : Fin k0_t4_loop.trips) : Fin 1 → Nat :=
  let c0_i32_132 : BitVec 32 := 0#32
  let c0_i32_11 : BitVec 32 := 0#32
  let c1_i32_13 : BitVec 32 := 1#32
  let arg11 : BitVec 32 := Scf.iv c0_i32_11 c1_i32_13 k0_t4
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c16_i32 : BitVec 32 := 16#32
  let v623 : BitVec 32 := Scalar.addi v612 c16_i32
  let v624 : Index := Scalar.indexCast v623
  ![v624.toNat]

def k0_chk34 (v632 : IVec S16 32) : Prop :=
  (∀ a x, ((![v632] : Fin 1 → IVec S16 32) a x).toNat < S4096.size a)
theorem k0_idx34_inb : ∀ (v632 : IVec S16 32) (k0_hw34 : k0_chk34 v632), ∀ a x, ((![v632] : Fin 1 → IVec S16 32) a x).toNat < S4096.size a := fun v632 k0_hw34 => k0_hw34
def k0_off37 (k0_t4 : Fin k0_t4_loop.trips) : Fin 1 → Nat :=
  let c0_i32_132 : BitVec 32 := 0#32
  let c0_i32_11 : BitVec 32 := 0#32
  let c1_i32_13 : BitVec 32 := 1#32
  let arg11 : BitVec 32 := Scf.iv c0_i32_11 c1_i32_13 k0_t4
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c32_i32 : BitVec 32 := 32#32
  let v633 : BitVec 32 := Scalar.addi v612 c32_i32
  let v634 : Index := Scalar.indexCast v633
  ![v634.toNat]

def k0_chk35 (v642 : IVec S16 32) : Prop :=
  (∀ a x, ((![v642] : Fin 1 → IVec S16 32) a x).toNat < S4096.size a)
theorem k0_idx35_inb : ∀ (v642 : IVec S16 32) (k0_hw35 : k0_chk35 v642), ∀ a x, ((![v642] : Fin 1 → IVec S16 32) a x).toNat < S4096.size a := fun v642 k0_hw35 => k0_hw35
def k0_off38 (k0_t4 : Fin k0_t4_loop.trips) : Fin 1 → Nat :=
  let c0_i32_132 : BitVec 32 := 0#32
  let c0_i32_11 : BitVec 32 := 0#32
  let c1_i32_13 : BitVec 32 := 1#32
  let arg11 : BitVec 32 := Scf.iv c0_i32_11 c1_i32_13 k0_t4
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c48_i32 : BitVec 32 := 48#32
  let v643 : BitVec 32 := Scalar.addi v612 c48_i32
  let v644 : Index := Scalar.indexCast v643
  ![v644.toNat]

def k0_chk36 (v652 : IVec S16 32) : Prop :=
  (∀ a x, ((![v652] : Fin 1 → IVec S16 32) a x).toNat < S4096.size a)
theorem k0_idx36_inb : ∀ (v652 : IVec S16 32) (k0_hw36 : k0_chk36 v652), ∀ a x, ((![v652] : Fin 1 → IVec S16 32) a x).toNat < S4096.size a := fun v652 k0_hw36 => k0_hw36
def k0_off39 (k0_t4 : Fin k0_t4_loop.trips) : Fin 1 → Nat :=
  let c0_i32_132 : BitVec 32 := 0#32
  let c0_i32_11 : BitVec 32 := 0#32
  let c1_i32_13 : BitVec 32 := 1#32
  let arg11 : BitVec 32 := Scf.iv c0_i32_11 c1_i32_13 k0_t4
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c64_i32_135 : BitVec 32 := 64#32
  let v653 : BitVec 32 := Scalar.addi v612 c64_i32_135
  let v654 : Index := Scalar.indexCast v653
  ![v654.toNat]

def k0_chk37 (v662 : IVec S16 32) : Prop :=
  (∀ a x, ((![v662] : Fin 1 → IVec S16 32) a x).toNat < S4096.size a)
theorem k0_idx37_inb : ∀ (v662 : IVec S16 32) (k0_hw37 : k0_chk37 v662), ∀ a x, ((![v662] : Fin 1 → IVec S16 32) a x).toNat < S4096.size a := fun v662 k0_hw37 => k0_hw37
def k0_off40 (k0_t4 : Fin k0_t4_loop.trips) : Fin 1 → Nat :=
  let c0_i32_132 : BitVec 32 := 0#32
  let c0_i32_11 : BitVec 32 := 0#32
  let c1_i32_13 : BitVec 32 := 1#32
  let arg11 : BitVec 32 := Scf.iv c0_i32_11 c1_i32_13 k0_t4
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c80_i32 : BitVec 32 := 80#32
  let v663 : BitVec 32 := Scalar.addi v612 c80_i32
  let v664 : Index := Scalar.indexCast v663
  ![v664.toNat]

def k0_chk38 (v672 : IVec S16 32) : Prop :=
  (∀ a x, ((![v672] : Fin 1 → IVec S16 32) a x).toNat < S4096.size a)
theorem k0_idx38_inb : ∀ (v672 : IVec S16 32) (k0_hw38 : k0_chk38 v672), ∀ a x, ((![v672] : Fin 1 → IVec S16 32) a x).toNat < S4096.size a := fun v672 k0_hw38 => k0_hw38
def k0_off41 (k0_t4 : Fin k0_t4_loop.trips) : Fin 1 → Nat :=
  let c0_i32_132 : BitVec 32 := 0#32
  let c0_i32_11 : BitVec 32 := 0#32
  let c1_i32_13 : BitVec 32 := 1#32
  let arg11 : BitVec 32 := Scf.iv c0_i32_11 c1_i32_13 k0_t4
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c96_i32 : BitVec 32 := 96#32
  let v673 : BitVec 32 := Scalar.addi v612 c96_i32
  let v674 : Index := Scalar.indexCast v673
  ![v674.toNat]

def k0_chk39 (v682 : IVec S16 32) : Prop :=
  (∀ a x, ((![v682] : Fin 1 → IVec S16 32) a x).toNat < S4096.size a)
theorem k0_idx39_inb : ∀ (v682 : IVec S16 32) (k0_hw39 : k0_chk39 v682), ∀ a x, ((![v682] : Fin 1 → IVec S16 32) a x).toNat < S4096.size a := fun v682 k0_hw39 => k0_hw39
def k0_off42 (k0_t4 : Fin k0_t4_loop.trips) : Fin 1 → Nat :=
  let c0_i32_132 : BitVec 32 := 0#32
  let c0_i32_11 : BitVec 32 := 0#32
  let c1_i32_13 : BitVec 32 := 1#32
  let arg11 : BitVec 32 := Scf.iv c0_i32_11 c1_i32_13 k0_t4
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c112_i32 : BitVec 32 := 112#32
  let v683 : BitVec 32 := Scalar.addi v612 c112_i32
  let v684 : Index := Scalar.indexCast v683
  ![v684.toNat]

def k0_chk40 (v692 : IVec S16 32) : Prop :=
  (∀ a x, ((![v692] : Fin 1 → IVec S16 32) a x).toNat < S4096.size a)
theorem k0_idx40_inb : ∀ (v692 : IVec S16 32) (k0_hw40 : k0_chk40 v692), ∀ a x, ((![v692] : Fin 1 → IVec S16 32) a x).toNat < S4096.size a := fun v692 k0_hw40 => k0_hw40
def k0_off43 (k0_t4 : Fin k0_t4_loop.trips) : Fin 1 → Nat :=
  let c0_i32_132 : BitVec 32 := 0#32
  let c0_i32_11 : BitVec 32 := 0#32
  let c1_i32_13 : BitVec 32 := 1#32
  let arg11 : BitVec 32 := Scf.iv c0_i32_11 c1_i32_13 k0_t4
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c128_i32 : BitVec 32 := 128#32
  let v693 : BitVec 32 := Scalar.addi v612 c128_i32
  let v694 : Index := Scalar.indexCast v693
  ![v694.toNat]

def k0_chk41 (v702 : IVec S16 32) : Prop :=
  (∀ a x, ((![v702] : Fin 1 → IVec S16 32) a x).toNat < S4096.size a)
theorem k0_idx41_inb : ∀ (v702 : IVec S16 32) (k0_hw41 : k0_chk41 v702), ∀ a x, ((![v702] : Fin 1 → IVec S16 32) a x).toNat < S4096.size a := fun v702 k0_hw41 => k0_hw41
def k0_off44 (k0_t4 : Fin k0_t4_loop.trips) : Fin 1 → Nat :=
  let c0_i32_132 : BitVec 32 := 0#32
  let c0_i32_11 : BitVec 32 := 0#32
  let c1_i32_13 : BitVec 32 := 1#32
  let arg11 : BitVec 32 := Scf.iv c0_i32_11 c1_i32_13 k0_t4
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c144_i32 : BitVec 32 := 144#32
  let v703 : BitVec 32 := Scalar.addi v612 c144_i32
  let v704 : Index := Scalar.indexCast v703
  ![v704.toNat]

def k0_chk42 (v712 : IVec S16 32) : Prop :=
  (∀ a x, ((![v712] : Fin 1 → IVec S16 32) a x).toNat < S4096.size a)
theorem k0_idx42_inb : ∀ (v712 : IVec S16 32) (k0_hw42 : k0_chk42 v712), ∀ a x, ((![v712] : Fin 1 → IVec S16 32) a x).toNat < S4096.size a := fun v712 k0_hw42 => k0_hw42
def k0_off45 (k0_t4 : Fin k0_t4_loop.trips) : Fin 1 → Nat :=
  let c0_i32_132 : BitVec 32 := 0#32
  let c0_i32_11 : BitVec 32 := 0#32
  let c1_i32_13 : BitVec 32 := 1#32
  let arg11 : BitVec 32 := Scf.iv c0_i32_11 c1_i32_13 k0_t4
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c160_i32 : BitVec 32 := 160#32
  let v713 : BitVec 32 := Scalar.addi v612 c160_i32
  let v714 : Index := Scalar.indexCast v713
  ![v714.toNat]

def k0_chk43 (v722 : IVec S16 32) : Prop :=
  (∀ a x, ((![v722] : Fin 1 → IVec S16 32) a x).toNat < S4096.size a)
theorem k0_idx43_inb : ∀ (v722 : IVec S16 32) (k0_hw43 : k0_chk43 v722), ∀ a x, ((![v722] : Fin 1 → IVec S16 32) a x).toNat < S4096.size a := fun v722 k0_hw43 => k0_hw43
def k0_off46 (k0_t4 : Fin k0_t4_loop.trips) : Fin 1 → Nat :=
  let c0_i32_132 : BitVec 32 := 0#32
  let c0_i32_11 : BitVec 32 := 0#32
  let c1_i32_13 : BitVec 32 := 1#32
  let arg11 : BitVec 32 := Scf.iv c0_i32_11 c1_i32_13 k0_t4
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c176_i32 : BitVec 32 := 176#32
  let v723 : BitVec 32 := Scalar.addi v612 c176_i32
  let v724 : Index := Scalar.indexCast v723
  ![v724.toNat]

def k0_chk44 (v732 : IVec S16 32) : Prop :=
  (∀ a x, ((![v732] : Fin 1 → IVec S16 32) a x).toNat < S4096.size a)
theorem k0_idx44_inb : ∀ (v732 : IVec S16 32) (k0_hw44 : k0_chk44 v732), ∀ a x, ((![v732] : Fin 1 → IVec S16 32) a x).toNat < S4096.size a := fun v732 k0_hw44 => k0_hw44
def k0_off47 (k0_t4 : Fin k0_t4_loop.trips) : Fin 1 → Nat :=
  let c0_i32_132 : BitVec 32 := 0#32
  let c0_i32_11 : BitVec 32 := 0#32
  let c1_i32_13 : BitVec 32 := 1#32
  let arg11 : BitVec 32 := Scf.iv c0_i32_11 c1_i32_13 k0_t4
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c192_i32 : BitVec 32 := 192#32
  let v733 : BitVec 32 := Scalar.addi v612 c192_i32
  let v734 : Index := Scalar.indexCast v733
  ![v734.toNat]

def k0_chk45 (v742 : IVec S16 32) : Prop :=
  (∀ a x, ((![v742] : Fin 1 → IVec S16 32) a x).toNat < S4096.size a)
theorem k0_idx45_inb : ∀ (v742 : IVec S16 32) (k0_hw45 : k0_chk45 v742), ∀ a x, ((![v742] : Fin 1 → IVec S16 32) a x).toNat < S4096.size a := fun v742 k0_hw45 => k0_hw45
def k0_off48 (k0_t4 : Fin k0_t4_loop.trips) : Fin 1 → Nat :=
  let c0_i32_132 : BitVec 32 := 0#32
  let c0_i32_11 : BitVec 32 := 0#32
  let c1_i32_13 : BitVec 32 := 1#32
  let arg11 : BitVec 32 := Scf.iv c0_i32_11 c1_i32_13 k0_t4
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c208_i32 : BitVec 32 := 208#32
  let v743 : BitVec 32 := Scalar.addi v612 c208_i32
  let v744 : Index := Scalar.indexCast v743
  ![v744.toNat]

def k0_chk46 (v752 : IVec S16 32) : Prop :=
  (∀ a x, ((![v752] : Fin 1 → IVec S16 32) a x).toNat < S4096.size a)
theorem k0_idx46_inb : ∀ (v752 : IVec S16 32) (k0_hw46 : k0_chk46 v752), ∀ a x, ((![v752] : Fin 1 → IVec S16 32) a x).toNat < S4096.size a := fun v752 k0_hw46 => k0_hw46
def k0_off49 (k0_t4 : Fin k0_t4_loop.trips) : Fin 1 → Nat :=
  let c0_i32_132 : BitVec 32 := 0#32
  let c0_i32_11 : BitVec 32 := 0#32
  let c1_i32_13 : BitVec 32 := 1#32
  let arg11 : BitVec 32 := Scf.iv c0_i32_11 c1_i32_13 k0_t4
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c224_i32 : BitVec 32 := 224#32
  let v753 : BitVec 32 := Scalar.addi v612 c224_i32
  let v754 : Index := Scalar.indexCast v753
  ![v754.toNat]

def k0_chk47 (v762 : IVec S16 32) : Prop :=
  (∀ a x, ((![v762] : Fin 1 → IVec S16 32) a x).toNat < S4096.size a)
theorem k0_idx47_inb : ∀ (v762 : IVec S16 32) (k0_hw47 : k0_chk47 v762), ∀ a x, ((![v762] : Fin 1 → IVec S16 32) a x).toNat < S4096.size a := fun v762 k0_hw47 => k0_hw47
def k0_off50 (k0_t4 : Fin k0_t4_loop.trips) : Fin 1 → Nat :=
  let c0_i32_132 : BitVec 32 := 0#32
  let c0_i32_11 : BitVec 32 := 0#32
  let c1_i32_13 : BitVec 32 := 1#32
  let arg11 : BitVec 32 := Scf.iv c0_i32_11 c1_i32_13 k0_t4
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c240_i32 : BitVec 32 := 240#32
  let v763 : BitVec 32 := Scalar.addi v612 c240_i32
  let v764 : Index := Scalar.indexCast v763
  ![v764.toNat]

def k0_chk48 (v772 : IVec S16 32) : Prop :=
  (∀ a x, ((![v772] : Fin 1 → IVec S16 32) a x).toNat < S4096.size a)
theorem k0_idx48_inb : ∀ (v772 : IVec S16 32) (k0_hw48 : k0_chk48 v772), ∀ a x, ((![v772] : Fin 1 → IVec S16 32) a x).toNat < S4096.size a := fun v772 k0_hw48 => k0_hw48
@[reducible] def k0_t5_loop : Scf.Loop 32 :=
  let c0_i32_15 : BitVec 32 := 0#32
  let c64_i32_16 : BitVec 32 := 64#32
  let v19 : BitVec 32 := Scalar.addi c0_i32_15 c64_i32_16
  let c1_i32_17 : BitVec 32 := 1#32
  ⟨c0_i32_15, v19, c1_i32_17⟩
def k0_mult5 (k0_t5 : Fin k0_t5_loop.trips) : BitVec 32 :=
  let c0_i32_132 : BitVec 32 := 0#32
  let c0_i32_15 : BitVec 32 := 0#32
  let c1_i32_17 : BitVec 32 := 1#32
  let arg11 : BitVec 32 := Scf.iv c0_i32_15 c1_i32_17 k0_t5
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  v611
def k0_off51 (k0_t5 : Fin k0_t5_loop.trips) : Fin 1 → Nat :=
  let c0_i32_132 : BitVec 32 := 0#32
  let c0_i32_15 : BitVec 32 := 0#32
  let c1_i32_17 : BitVec 32 := 1#32
  let arg11 : BitVec 32 := Scf.iv c0_i32_15 c1_i32_17 k0_t5
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c0_i32_134 : BitVec 32 := 0#32
  let v613 : BitVec 32 := Scalar.addi v612 c0_i32_134
  let v614 : Index := Scalar.indexCast v613
  ![v614.toNat]

def k0_chk49 (v622 : IVec S16 32) : Prop :=
  (∀ a x, ((![v622] : Fin 1 → IVec S16 32) a x).toNat < S4096.size a)
theorem k0_idx49_inb : ∀ (v622 : IVec S16 32) (k0_hw49 : k0_chk49 v622), ∀ a x, ((![v622] : Fin 1 → IVec S16 32) a x).toNat < S4096.size a := fun v622 k0_hw49 => k0_hw49
def k0_off52 (k0_t5 : Fin k0_t5_loop.trips) : Fin 1 → Nat :=
  let c0_i32_132 : BitVec 32 := 0#32
  let c0_i32_15 : BitVec 32 := 0#32
  let c1_i32_17 : BitVec 32 := 1#32
  let arg11 : BitVec 32 := Scf.iv c0_i32_15 c1_i32_17 k0_t5
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c16_i32 : BitVec 32 := 16#32
  let v623 : BitVec 32 := Scalar.addi v612 c16_i32
  let v624 : Index := Scalar.indexCast v623
  ![v624.toNat]

def k0_chk50 (v632 : IVec S16 32) : Prop :=
  (∀ a x, ((![v632] : Fin 1 → IVec S16 32) a x).toNat < S4096.size a)
theorem k0_idx50_inb : ∀ (v632 : IVec S16 32) (k0_hw50 : k0_chk50 v632), ∀ a x, ((![v632] : Fin 1 → IVec S16 32) a x).toNat < S4096.size a := fun v632 k0_hw50 => k0_hw50
def k0_off53 (k0_t5 : Fin k0_t5_loop.trips) : Fin 1 → Nat :=
  let c0_i32_132 : BitVec 32 := 0#32
  let c0_i32_15 : BitVec 32 := 0#32
  let c1_i32_17 : BitVec 32 := 1#32
  let arg11 : BitVec 32 := Scf.iv c0_i32_15 c1_i32_17 k0_t5
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c32_i32 : BitVec 32 := 32#32
  let v633 : BitVec 32 := Scalar.addi v612 c32_i32
  let v634 : Index := Scalar.indexCast v633
  ![v634.toNat]

def k0_chk51 (v642 : IVec S16 32) : Prop :=
  (∀ a x, ((![v642] : Fin 1 → IVec S16 32) a x).toNat < S4096.size a)
theorem k0_idx51_inb : ∀ (v642 : IVec S16 32) (k0_hw51 : k0_chk51 v642), ∀ a x, ((![v642] : Fin 1 → IVec S16 32) a x).toNat < S4096.size a := fun v642 k0_hw51 => k0_hw51
def k0_off54 (k0_t5 : Fin k0_t5_loop.trips) : Fin 1 → Nat :=
  let c0_i32_132 : BitVec 32 := 0#32
  let c0_i32_15 : BitVec 32 := 0#32
  let c1_i32_17 : BitVec 32 := 1#32
  let arg11 : BitVec 32 := Scf.iv c0_i32_15 c1_i32_17 k0_t5
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c48_i32 : BitVec 32 := 48#32
  let v643 : BitVec 32 := Scalar.addi v612 c48_i32
  let v644 : Index := Scalar.indexCast v643
  ![v644.toNat]

def k0_chk52 (v652 : IVec S16 32) : Prop :=
  (∀ a x, ((![v652] : Fin 1 → IVec S16 32) a x).toNat < S4096.size a)
theorem k0_idx52_inb : ∀ (v652 : IVec S16 32) (k0_hw52 : k0_chk52 v652), ∀ a x, ((![v652] : Fin 1 → IVec S16 32) a x).toNat < S4096.size a := fun v652 k0_hw52 => k0_hw52
def k0_off55 (k0_t5 : Fin k0_t5_loop.trips) : Fin 1 → Nat :=
  let c0_i32_132 : BitVec 32 := 0#32
  let c0_i32_15 : BitVec 32 := 0#32
  let c1_i32_17 : BitVec 32 := 1#32
  let arg11 : BitVec 32 := Scf.iv c0_i32_15 c1_i32_17 k0_t5
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c64_i32_135 : BitVec 32 := 64#32
  let v653 : BitVec 32 := Scalar.addi v612 c64_i32_135
  let v654 : Index := Scalar.indexCast v653
  ![v654.toNat]

def k0_chk53 (v662 : IVec S16 32) : Prop :=
  (∀ a x, ((![v662] : Fin 1 → IVec S16 32) a x).toNat < S4096.size a)
theorem k0_idx53_inb : ∀ (v662 : IVec S16 32) (k0_hw53 : k0_chk53 v662), ∀ a x, ((![v662] : Fin 1 → IVec S16 32) a x).toNat < S4096.size a := fun v662 k0_hw53 => k0_hw53
def k0_off56 (k0_t5 : Fin k0_t5_loop.trips) : Fin 1 → Nat :=
  let c0_i32_132 : BitVec 32 := 0#32
  let c0_i32_15 : BitVec 32 := 0#32
  let c1_i32_17 : BitVec 32 := 1#32
  let arg11 : BitVec 32 := Scf.iv c0_i32_15 c1_i32_17 k0_t5
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c80_i32 : BitVec 32 := 80#32
  let v663 : BitVec 32 := Scalar.addi v612 c80_i32
  let v664 : Index := Scalar.indexCast v663
  ![v664.toNat]

def k0_chk54 (v672 : IVec S16 32) : Prop :=
  (∀ a x, ((![v672] : Fin 1 → IVec S16 32) a x).toNat < S4096.size a)
theorem k0_idx54_inb : ∀ (v672 : IVec S16 32) (k0_hw54 : k0_chk54 v672), ∀ a x, ((![v672] : Fin 1 → IVec S16 32) a x).toNat < S4096.size a := fun v672 k0_hw54 => k0_hw54
def k0_off57 (k0_t5 : Fin k0_t5_loop.trips) : Fin 1 → Nat :=
  let c0_i32_132 : BitVec 32 := 0#32
  let c0_i32_15 : BitVec 32 := 0#32
  let c1_i32_17 : BitVec 32 := 1#32
  let arg11 : BitVec 32 := Scf.iv c0_i32_15 c1_i32_17 k0_t5
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c96_i32 : BitVec 32 := 96#32
  let v673 : BitVec 32 := Scalar.addi v612 c96_i32
  let v674 : Index := Scalar.indexCast v673
  ![v674.toNat]

def k0_chk55 (v682 : IVec S16 32) : Prop :=
  (∀ a x, ((![v682] : Fin 1 → IVec S16 32) a x).toNat < S4096.size a)
theorem k0_idx55_inb : ∀ (v682 : IVec S16 32) (k0_hw55 : k0_chk55 v682), ∀ a x, ((![v682] : Fin 1 → IVec S16 32) a x).toNat < S4096.size a := fun v682 k0_hw55 => k0_hw55
def k0_off58 (k0_t5 : Fin k0_t5_loop.trips) : Fin 1 → Nat :=
  let c0_i32_132 : BitVec 32 := 0#32
  let c0_i32_15 : BitVec 32 := 0#32
  let c1_i32_17 : BitVec 32 := 1#32
  let arg11 : BitVec 32 := Scf.iv c0_i32_15 c1_i32_17 k0_t5
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c112_i32 : BitVec 32 := 112#32
  let v683 : BitVec 32 := Scalar.addi v612 c112_i32
  let v684 : Index := Scalar.indexCast v683
  ![v684.toNat]

def k0_chk56 (v692 : IVec S16 32) : Prop :=
  (∀ a x, ((![v692] : Fin 1 → IVec S16 32) a x).toNat < S4096.size a)
theorem k0_idx56_inb : ∀ (v692 : IVec S16 32) (k0_hw56 : k0_chk56 v692), ∀ a x, ((![v692] : Fin 1 → IVec S16 32) a x).toNat < S4096.size a := fun v692 k0_hw56 => k0_hw56
def k0_off59 (k0_t5 : Fin k0_t5_loop.trips) : Fin 1 → Nat :=
  let c0_i32_132 : BitVec 32 := 0#32
  let c0_i32_15 : BitVec 32 := 0#32
  let c1_i32_17 : BitVec 32 := 1#32
  let arg11 : BitVec 32 := Scf.iv c0_i32_15 c1_i32_17 k0_t5
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c128_i32 : BitVec 32 := 128#32
  let v693 : BitVec 32 := Scalar.addi v612 c128_i32
  let v694 : Index := Scalar.indexCast v693
  ![v694.toNat]

def k0_chk57 (v702 : IVec S16 32) : Prop :=
  (∀ a x, ((![v702] : Fin 1 → IVec S16 32) a x).toNat < S4096.size a)
theorem k0_idx57_inb : ∀ (v702 : IVec S16 32) (k0_hw57 : k0_chk57 v702), ∀ a x, ((![v702] : Fin 1 → IVec S16 32) a x).toNat < S4096.size a := fun v702 k0_hw57 => k0_hw57
def k0_off60 (k0_t5 : Fin k0_t5_loop.trips) : Fin 1 → Nat :=
  let c0_i32_132 : BitVec 32 := 0#32
  let c0_i32_15 : BitVec 32 := 0#32
  let c1_i32_17 : BitVec 32 := 1#32
  let arg11 : BitVec 32 := Scf.iv c0_i32_15 c1_i32_17 k0_t5
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c144_i32 : BitVec 32 := 144#32
  let v703 : BitVec 32 := Scalar.addi v612 c144_i32
  let v704 : Index := Scalar.indexCast v703
  ![v704.toNat]

def k0_chk58 (v712 : IVec S16 32) : Prop :=
  (∀ a x, ((![v712] : Fin 1 → IVec S16 32) a x).toNat < S4096.size a)
theorem k0_idx58_inb : ∀ (v712 : IVec S16 32) (k0_hw58 : k0_chk58 v712), ∀ a x, ((![v712] : Fin 1 → IVec S16 32) a x).toNat < S4096.size a := fun v712 k0_hw58 => k0_hw58
def k0_off61 (k0_t5 : Fin k0_t5_loop.trips) : Fin 1 → Nat :=
  let c0_i32_132 : BitVec 32 := 0#32
  let c0_i32_15 : BitVec 32 := 0#32
  let c1_i32_17 : BitVec 32 := 1#32
  let arg11 : BitVec 32 := Scf.iv c0_i32_15 c1_i32_17 k0_t5
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c160_i32 : BitVec 32 := 160#32
  let v713 : BitVec 32 := Scalar.addi v612 c160_i32
  let v714 : Index := Scalar.indexCast v713
  ![v714.toNat]

def k0_chk59 (v722 : IVec S16 32) : Prop :=
  (∀ a x, ((![v722] : Fin 1 → IVec S16 32) a x).toNat < S4096.size a)
theorem k0_idx59_inb : ∀ (v722 : IVec S16 32) (k0_hw59 : k0_chk59 v722), ∀ a x, ((![v722] : Fin 1 → IVec S16 32) a x).toNat < S4096.size a := fun v722 k0_hw59 => k0_hw59
def k0_off62 (k0_t5 : Fin k0_t5_loop.trips) : Fin 1 → Nat :=
  let c0_i32_132 : BitVec 32 := 0#32
  let c0_i32_15 : BitVec 32 := 0#32
  let c1_i32_17 : BitVec 32 := 1#32
  let arg11 : BitVec 32 := Scf.iv c0_i32_15 c1_i32_17 k0_t5
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c176_i32 : BitVec 32 := 176#32
  let v723 : BitVec 32 := Scalar.addi v612 c176_i32
  let v724 : Index := Scalar.indexCast v723
  ![v724.toNat]

def k0_chk60 (v732 : IVec S16 32) : Prop :=
  (∀ a x, ((![v732] : Fin 1 → IVec S16 32) a x).toNat < S4096.size a)
theorem k0_idx60_inb : ∀ (v732 : IVec S16 32) (k0_hw60 : k0_chk60 v732), ∀ a x, ((![v732] : Fin 1 → IVec S16 32) a x).toNat < S4096.size a := fun v732 k0_hw60 => k0_hw60
def k0_off63 (k0_t5 : Fin k0_t5_loop.trips) : Fin 1 → Nat :=
  let c0_i32_132 : BitVec 32 := 0#32
  let c0_i32_15 : BitVec 32 := 0#32
  let c1_i32_17 : BitVec 32 := 1#32
  let arg11 : BitVec 32 := Scf.iv c0_i32_15 c1_i32_17 k0_t5
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c192_i32 : BitVec 32 := 192#32
  let v733 : BitVec 32 := Scalar.addi v612 c192_i32
  let v734 : Index := Scalar.indexCast v733
  ![v734.toNat]

def k0_chk61 (v742 : IVec S16 32) : Prop :=
  (∀ a x, ((![v742] : Fin 1 → IVec S16 32) a x).toNat < S4096.size a)
theorem k0_idx61_inb : ∀ (v742 : IVec S16 32) (k0_hw61 : k0_chk61 v742), ∀ a x, ((![v742] : Fin 1 → IVec S16 32) a x).toNat < S4096.size a := fun v742 k0_hw61 => k0_hw61
def k0_off64 (k0_t5 : Fin k0_t5_loop.trips) : Fin 1 → Nat :=
  let c0_i32_132 : BitVec 32 := 0#32
  let c0_i32_15 : BitVec 32 := 0#32
  let c1_i32_17 : BitVec 32 := 1#32
  let arg11 : BitVec 32 := Scf.iv c0_i32_15 c1_i32_17 k0_t5
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c208_i32 : BitVec 32 := 208#32
  let v743 : BitVec 32 := Scalar.addi v612 c208_i32
  let v744 : Index := Scalar.indexCast v743
  ![v744.toNat]

def k0_chk62 (v752 : IVec S16 32) : Prop :=
  (∀ a x, ((![v752] : Fin 1 → IVec S16 32) a x).toNat < S4096.size a)
theorem k0_idx62_inb : ∀ (v752 : IVec S16 32) (k0_hw62 : k0_chk62 v752), ∀ a x, ((![v752] : Fin 1 → IVec S16 32) a x).toNat < S4096.size a := fun v752 k0_hw62 => k0_hw62
def k0_off65 (k0_t5 : Fin k0_t5_loop.trips) : Fin 1 → Nat :=
  let c0_i32_132 : BitVec 32 := 0#32
  let c0_i32_15 : BitVec 32 := 0#32
  let c1_i32_17 : BitVec 32 := 1#32
  let arg11 : BitVec 32 := Scf.iv c0_i32_15 c1_i32_17 k0_t5
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c224_i32 : BitVec 32 := 224#32
  let v753 : BitVec 32 := Scalar.addi v612 c224_i32
  let v754 : Index := Scalar.indexCast v753
  ![v754.toNat]

def k0_chk63 (v762 : IVec S16 32) : Prop :=
  (∀ a x, ((![v762] : Fin 1 → IVec S16 32) a x).toNat < S4096.size a)
theorem k0_idx63_inb : ∀ (v762 : IVec S16 32) (k0_hw63 : k0_chk63 v762), ∀ a x, ((![v762] : Fin 1 → IVec S16 32) a x).toNat < S4096.size a := fun v762 k0_hw63 => k0_hw63
def k0_off66 (k0_t5 : Fin k0_t5_loop.trips) : Fin 1 → Nat :=
  let c0_i32_132 : BitVec 32 := 0#32
  let c0_i32_15 : BitVec 32 := 0#32
  let c1_i32_17 : BitVec 32 := 1#32
  let arg11 : BitVec 32 := Scf.iv c0_i32_15 c1_i32_17 k0_t5
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c240_i32 : BitVec 32 := 240#32
  let v763 : BitVec 32 := Scalar.addi v612 c240_i32
  let v764 : Index := Scalar.indexCast v763
  ![v764.toNat]

def k0_chk64 (v772 : IVec S16 32) : Prop :=
  (∀ a x, ((![v772] : Fin 1 → IVec S16 32) a x).toNat < S4096.size a)
theorem k0_idx64_inb : ∀ (v772 : IVec S16 32) (k0_hw64 : k0_chk64 v772), ∀ a x, ((![v772] : Fin 1 → IVec S16 32) a x).toNat < S4096.size a := fun v772 k0_hw64 => k0_hw64
@[reducible] def k0_t6_loop : Scf.Loop 32 :=
  let c0_i32_19 : BitVec 32 := 0#32
  let c64_i32_20 : BitVec 32 := 64#32
  let v22 : BitVec 32 := Scalar.addi c0_i32_19 c64_i32_20
  let c1_i32_21 : BitVec 32 := 1#32
  ⟨c0_i32_19, v22, c1_i32_21⟩
def k0_mult6 (k0_t6 : Fin k0_t6_loop.trips) : BitVec 32 :=
  let c0_i32_132 : BitVec 32 := 0#32
  let c0_i32_19 : BitVec 32 := 0#32
  let c1_i32_21 : BitVec 32 := 1#32
  let arg11 : BitVec 32 := Scf.iv c0_i32_19 c1_i32_21 k0_t6
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  v611
def k0_off67 (k0_t6 : Fin k0_t6_loop.trips) : Fin 1 → Nat :=
  let c0_i32_132 : BitVec 32 := 0#32
  let c0_i32_19 : BitVec 32 := 0#32
  let c1_i32_21 : BitVec 32 := 1#32
  let arg11 : BitVec 32 := Scf.iv c0_i32_19 c1_i32_21 k0_t6
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c0_i32_134 : BitVec 32 := 0#32
  let v613 : BitVec 32 := Scalar.addi v612 c0_i32_134
  let v614 : Index := Scalar.indexCast v613
  ![v614.toNat]

def k0_chk65 (v622 : IVec S16 32) : Prop :=
  (∀ a x, ((![v622] : Fin 1 → IVec S16 32) a x).toNat < S4096.size a)
theorem k0_idx65_inb : ∀ (v622 : IVec S16 32) (k0_hw65 : k0_chk65 v622), ∀ a x, ((![v622] : Fin 1 → IVec S16 32) a x).toNat < S4096.size a := fun v622 k0_hw65 => k0_hw65
def k0_off68 (k0_t6 : Fin k0_t6_loop.trips) : Fin 1 → Nat :=
  let c0_i32_132 : BitVec 32 := 0#32
  let c0_i32_19 : BitVec 32 := 0#32
  let c1_i32_21 : BitVec 32 := 1#32
  let arg11 : BitVec 32 := Scf.iv c0_i32_19 c1_i32_21 k0_t6
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c16_i32 : BitVec 32 := 16#32
  let v623 : BitVec 32 := Scalar.addi v612 c16_i32
  let v624 : Index := Scalar.indexCast v623
  ![v624.toNat]

def k0_chk66 (v632 : IVec S16 32) : Prop :=
  (∀ a x, ((![v632] : Fin 1 → IVec S16 32) a x).toNat < S4096.size a)
theorem k0_idx66_inb : ∀ (v632 : IVec S16 32) (k0_hw66 : k0_chk66 v632), ∀ a x, ((![v632] : Fin 1 → IVec S16 32) a x).toNat < S4096.size a := fun v632 k0_hw66 => k0_hw66
def k0_off69 (k0_t6 : Fin k0_t6_loop.trips) : Fin 1 → Nat :=
  let c0_i32_132 : BitVec 32 := 0#32
  let c0_i32_19 : BitVec 32 := 0#32
  let c1_i32_21 : BitVec 32 := 1#32
  let arg11 : BitVec 32 := Scf.iv c0_i32_19 c1_i32_21 k0_t6
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c32_i32 : BitVec 32 := 32#32
  let v633 : BitVec 32 := Scalar.addi v612 c32_i32
  let v634 : Index := Scalar.indexCast v633
  ![v634.toNat]

def k0_chk67 (v642 : IVec S16 32) : Prop :=
  (∀ a x, ((![v642] : Fin 1 → IVec S16 32) a x).toNat < S4096.size a)
theorem k0_idx67_inb : ∀ (v642 : IVec S16 32) (k0_hw67 : k0_chk67 v642), ∀ a x, ((![v642] : Fin 1 → IVec S16 32) a x).toNat < S4096.size a := fun v642 k0_hw67 => k0_hw67
def k0_off70 (k0_t6 : Fin k0_t6_loop.trips) : Fin 1 → Nat :=
  let c0_i32_132 : BitVec 32 := 0#32
  let c0_i32_19 : BitVec 32 := 0#32
  let c1_i32_21 : BitVec 32 := 1#32
  let arg11 : BitVec 32 := Scf.iv c0_i32_19 c1_i32_21 k0_t6
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c48_i32 : BitVec 32 := 48#32
  let v643 : BitVec 32 := Scalar.addi v612 c48_i32
  let v644 : Index := Scalar.indexCast v643
  ![v644.toNat]

def k0_chk68 (v652 : IVec S16 32) : Prop :=
  (∀ a x, ((![v652] : Fin 1 → IVec S16 32) a x).toNat < S4096.size a)
theorem k0_idx68_inb : ∀ (v652 : IVec S16 32) (k0_hw68 : k0_chk68 v652), ∀ a x, ((![v652] : Fin 1 → IVec S16 32) a x).toNat < S4096.size a := fun v652 k0_hw68 => k0_hw68
def k0_off71 (k0_t6 : Fin k0_t6_loop.trips) : Fin 1 → Nat :=
  let c0_i32_132 : BitVec 32 := 0#32
  let c0_i32_19 : BitVec 32 := 0#32
  let c1_i32_21 : BitVec 32 := 1#32
  let arg11 : BitVec 32 := Scf.iv c0_i32_19 c1_i32_21 k0_t6
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c64_i32_135 : BitVec 32 := 64#32
  let v653 : BitVec 32 := Scalar.addi v612 c64_i32_135
  let v654 : Index := Scalar.indexCast v653
  ![v654.toNat]

def k0_chk69 (v662 : IVec S16 32) : Prop :=
  (∀ a x, ((![v662] : Fin 1 → IVec S16 32) a x).toNat < S4096.size a)
theorem k0_idx69_inb : ∀ (v662 : IVec S16 32) (k0_hw69 : k0_chk69 v662), ∀ a x, ((![v662] : Fin 1 → IVec S16 32) a x).toNat < S4096.size a := fun v662 k0_hw69 => k0_hw69
def k0_off72 (k0_t6 : Fin k0_t6_loop.trips) : Fin 1 → Nat :=
  let c0_i32_132 : BitVec 32 := 0#32
  let c0_i32_19 : BitVec 32 := 0#32
  let c1_i32_21 : BitVec 32 := 1#32
  let arg11 : BitVec 32 := Scf.iv c0_i32_19 c1_i32_21 k0_t6
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c80_i32 : BitVec 32 := 80#32
  let v663 : BitVec 32 := Scalar.addi v612 c80_i32
  let v664 : Index := Scalar.indexCast v663
  ![v664.toNat]

def k0_chk70 (v672 : IVec S16 32) : Prop :=
  (∀ a x, ((![v672] : Fin 1 → IVec S16 32) a x).toNat < S4096.size a)
theorem k0_idx70_inb : ∀ (v672 : IVec S16 32) (k0_hw70 : k0_chk70 v672), ∀ a x, ((![v672] : Fin 1 → IVec S16 32) a x).toNat < S4096.size a := fun v672 k0_hw70 => k0_hw70
def k0_off73 (k0_t6 : Fin k0_t6_loop.trips) : Fin 1 → Nat :=
  let c0_i32_132 : BitVec 32 := 0#32
  let c0_i32_19 : BitVec 32 := 0#32
  let c1_i32_21 : BitVec 32 := 1#32
  let arg11 : BitVec 32 := Scf.iv c0_i32_19 c1_i32_21 k0_t6
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c96_i32 : BitVec 32 := 96#32
  let v673 : BitVec 32 := Scalar.addi v612 c96_i32
  let v674 : Index := Scalar.indexCast v673
  ![v674.toNat]

def k0_chk71 (v682 : IVec S16 32) : Prop :=
  (∀ a x, ((![v682] : Fin 1 → IVec S16 32) a x).toNat < S4096.size a)
theorem k0_idx71_inb : ∀ (v682 : IVec S16 32) (k0_hw71 : k0_chk71 v682), ∀ a x, ((![v682] : Fin 1 → IVec S16 32) a x).toNat < S4096.size a := fun v682 k0_hw71 => k0_hw71
def k0_off74 (k0_t6 : Fin k0_t6_loop.trips) : Fin 1 → Nat :=
  let c0_i32_132 : BitVec 32 := 0#32
  let c0_i32_19 : BitVec 32 := 0#32
  let c1_i32_21 : BitVec 32 := 1#32
  let arg11 : BitVec 32 := Scf.iv c0_i32_19 c1_i32_21 k0_t6
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c112_i32 : BitVec 32 := 112#32
  let v683 : BitVec 32 := Scalar.addi v612 c112_i32
  let v684 : Index := Scalar.indexCast v683
  ![v684.toNat]

def k0_chk72 (v692 : IVec S16 32) : Prop :=
  (∀ a x, ((![v692] : Fin 1 → IVec S16 32) a x).toNat < S4096.size a)
theorem k0_idx72_inb : ∀ (v692 : IVec S16 32) (k0_hw72 : k0_chk72 v692), ∀ a x, ((![v692] : Fin 1 → IVec S16 32) a x).toNat < S4096.size a := fun v692 k0_hw72 => k0_hw72
def k0_off75 (k0_t6 : Fin k0_t6_loop.trips) : Fin 1 → Nat :=
  let c0_i32_132 : BitVec 32 := 0#32
  let c0_i32_19 : BitVec 32 := 0#32
  let c1_i32_21 : BitVec 32 := 1#32
  let arg11 : BitVec 32 := Scf.iv c0_i32_19 c1_i32_21 k0_t6
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c128_i32 : BitVec 32 := 128#32
  let v693 : BitVec 32 := Scalar.addi v612 c128_i32
  let v694 : Index := Scalar.indexCast v693
  ![v694.toNat]

def k0_chk73 (v702 : IVec S16 32) : Prop :=
  (∀ a x, ((![v702] : Fin 1 → IVec S16 32) a x).toNat < S4096.size a)
theorem k0_idx73_inb : ∀ (v702 : IVec S16 32) (k0_hw73 : k0_chk73 v702), ∀ a x, ((![v702] : Fin 1 → IVec S16 32) a x).toNat < S4096.size a := fun v702 k0_hw73 => k0_hw73
def k0_off76 (k0_t6 : Fin k0_t6_loop.trips) : Fin 1 → Nat :=
  let c0_i32_132 : BitVec 32 := 0#32
  let c0_i32_19 : BitVec 32 := 0#32
  let c1_i32_21 : BitVec 32 := 1#32
  let arg11 : BitVec 32 := Scf.iv c0_i32_19 c1_i32_21 k0_t6
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c144_i32 : BitVec 32 := 144#32
  let v703 : BitVec 32 := Scalar.addi v612 c144_i32
  let v704 : Index := Scalar.indexCast v703
  ![v704.toNat]

def k0_chk74 (v712 : IVec S16 32) : Prop :=
  (∀ a x, ((![v712] : Fin 1 → IVec S16 32) a x).toNat < S4096.size a)
theorem k0_idx74_inb : ∀ (v712 : IVec S16 32) (k0_hw74 : k0_chk74 v712), ∀ a x, ((![v712] : Fin 1 → IVec S16 32) a x).toNat < S4096.size a := fun v712 k0_hw74 => k0_hw74
def k0_off77 (k0_t6 : Fin k0_t6_loop.trips) : Fin 1 → Nat :=
  let c0_i32_132 : BitVec 32 := 0#32
  let c0_i32_19 : BitVec 32 := 0#32
  let c1_i32_21 : BitVec 32 := 1#32
  let arg11 : BitVec 32 := Scf.iv c0_i32_19 c1_i32_21 k0_t6
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c160_i32 : BitVec 32 := 160#32
  let v713 : BitVec 32 := Scalar.addi v612 c160_i32
  let v714 : Index := Scalar.indexCast v713
  ![v714.toNat]

def k0_chk75 (v722 : IVec S16 32) : Prop :=
  (∀ a x, ((![v722] : Fin 1 → IVec S16 32) a x).toNat < S4096.size a)
theorem k0_idx75_inb : ∀ (v722 : IVec S16 32) (k0_hw75 : k0_chk75 v722), ∀ a x, ((![v722] : Fin 1 → IVec S16 32) a x).toNat < S4096.size a := fun v722 k0_hw75 => k0_hw75
def k0_off78 (k0_t6 : Fin k0_t6_loop.trips) : Fin 1 → Nat :=
  let c0_i32_132 : BitVec 32 := 0#32
  let c0_i32_19 : BitVec 32 := 0#32
  let c1_i32_21 : BitVec 32 := 1#32
  let arg11 : BitVec 32 := Scf.iv c0_i32_19 c1_i32_21 k0_t6
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c176_i32 : BitVec 32 := 176#32
  let v723 : BitVec 32 := Scalar.addi v612 c176_i32
  let v724 : Index := Scalar.indexCast v723
  ![v724.toNat]

def k0_chk76 (v732 : IVec S16 32) : Prop :=
  (∀ a x, ((![v732] : Fin 1 → IVec S16 32) a x).toNat < S4096.size a)
theorem k0_idx76_inb : ∀ (v732 : IVec S16 32) (k0_hw76 : k0_chk76 v732), ∀ a x, ((![v732] : Fin 1 → IVec S16 32) a x).toNat < S4096.size a := fun v732 k0_hw76 => k0_hw76
def k0_off79 (k0_t6 : Fin k0_t6_loop.trips) : Fin 1 → Nat :=
  let c0_i32_132 : BitVec 32 := 0#32
  let c0_i32_19 : BitVec 32 := 0#32
  let c1_i32_21 : BitVec 32 := 1#32
  let arg11 : BitVec 32 := Scf.iv c0_i32_19 c1_i32_21 k0_t6
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c192_i32 : BitVec 32 := 192#32
  let v733 : BitVec 32 := Scalar.addi v612 c192_i32
  let v734 : Index := Scalar.indexCast v733
  ![v734.toNat]

def k0_chk77 (v742 : IVec S16 32) : Prop :=
  (∀ a x, ((![v742] : Fin 1 → IVec S16 32) a x).toNat < S4096.size a)
theorem k0_idx77_inb : ∀ (v742 : IVec S16 32) (k0_hw77 : k0_chk77 v742), ∀ a x, ((![v742] : Fin 1 → IVec S16 32) a x).toNat < S4096.size a := fun v742 k0_hw77 => k0_hw77
def k0_off80 (k0_t6 : Fin k0_t6_loop.trips) : Fin 1 → Nat :=
  let c0_i32_132 : BitVec 32 := 0#32
  let c0_i32_19 : BitVec 32 := 0#32
  let c1_i32_21 : BitVec 32 := 1#32
  let arg11 : BitVec 32 := Scf.iv c0_i32_19 c1_i32_21 k0_t6
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c208_i32 : BitVec 32 := 208#32
  let v743 : BitVec 32 := Scalar.addi v612 c208_i32
  let v744 : Index := Scalar.indexCast v743
  ![v744.toNat]

def k0_chk78 (v752 : IVec S16 32) : Prop :=
  (∀ a x, ((![v752] : Fin 1 → IVec S16 32) a x).toNat < S4096.size a)
theorem k0_idx78_inb : ∀ (v752 : IVec S16 32) (k0_hw78 : k0_chk78 v752), ∀ a x, ((![v752] : Fin 1 → IVec S16 32) a x).toNat < S4096.size a := fun v752 k0_hw78 => k0_hw78
def k0_off81 (k0_t6 : Fin k0_t6_loop.trips) : Fin 1 → Nat :=
  let c0_i32_132 : BitVec 32 := 0#32
  let c0_i32_19 : BitVec 32 := 0#32
  let c1_i32_21 : BitVec 32 := 1#32
  let arg11 : BitVec 32 := Scf.iv c0_i32_19 c1_i32_21 k0_t6
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c224_i32 : BitVec 32 := 224#32
  let v753 : BitVec 32 := Scalar.addi v612 c224_i32
  let v754 : Index := Scalar.indexCast v753
  ![v754.toNat]

def k0_chk79 (v762 : IVec S16 32) : Prop :=
  (∀ a x, ((![v762] : Fin 1 → IVec S16 32) a x).toNat < S4096.size a)
theorem k0_idx79_inb : ∀ (v762 : IVec S16 32) (k0_hw79 : k0_chk79 v762), ∀ a x, ((![v762] : Fin 1 → IVec S16 32) a x).toNat < S4096.size a := fun v762 k0_hw79 => k0_hw79
def k0_off82 (k0_t6 : Fin k0_t6_loop.trips) : Fin 1 → Nat :=
  let c0_i32_132 : BitVec 32 := 0#32
  let c0_i32_19 : BitVec 32 := 0#32
  let c1_i32_21 : BitVec 32 := 1#32
  let arg11 : BitVec 32 := Scf.iv c0_i32_19 c1_i32_21 k0_t6
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c240_i32 : BitVec 32 := 240#32
  let v763 : BitVec 32 := Scalar.addi v612 c240_i32
  let v764 : Index := Scalar.indexCast v763
  ![v764.toNat]

def k0_chk80 (v772 : IVec S16 32) : Prop :=
  (∀ a x, ((![v772] : Fin 1 → IVec S16 32) a x).toNat < S4096.size a)
theorem k0_idx80_inb : ∀ (v772 : IVec S16 32) (k0_hw80 : k0_chk80 v772), ∀ a x, ((![v772] : Fin 1 → IVec S16 32) a x).toNat < S4096.size a := fun v772 k0_hw80 => k0_hw80
@[reducible] def k0_t7_loop : Scf.Loop 32 :=
  let c0_i32_23 : BitVec 32 := 0#32
  let c64_i32_24 : BitVec 32 := 64#32
  let v25 : BitVec 32 := Scalar.addi c0_i32_23 c64_i32_24
  let c1_i32_25 : BitVec 32 := 1#32
  ⟨c0_i32_23, v25, c1_i32_25⟩
def k0_mult7 (k0_t7 : Fin k0_t7_loop.trips) : BitVec 32 :=
  let c0_i32_132 : BitVec 32 := 0#32
  let c0_i32_23 : BitVec 32 := 0#32
  let c1_i32_25 : BitVec 32 := 1#32
  let arg11 : BitVec 32 := Scf.iv c0_i32_23 c1_i32_25 k0_t7
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  v611
def k0_off83 (k0_t7 : Fin k0_t7_loop.trips) : Fin 1 → Nat :=
  let c0_i32_132 : BitVec 32 := 0#32
  let c0_i32_23 : BitVec 32 := 0#32
  let c1_i32_25 : BitVec 32 := 1#32
  let arg11 : BitVec 32 := Scf.iv c0_i32_23 c1_i32_25 k0_t7
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c0_i32_134 : BitVec 32 := 0#32
  let v613 : BitVec 32 := Scalar.addi v612 c0_i32_134
  let v614 : Index := Scalar.indexCast v613
  ![v614.toNat]

def k0_chk81 (v622 : IVec S16 32) : Prop :=
  (∀ a x, ((![v622] : Fin 1 → IVec S16 32) a x).toNat < S4096.size a)
theorem k0_idx81_inb : ∀ (v622 : IVec S16 32) (k0_hw81 : k0_chk81 v622), ∀ a x, ((![v622] : Fin 1 → IVec S16 32) a x).toNat < S4096.size a := fun v622 k0_hw81 => k0_hw81
def k0_off84 (k0_t7 : Fin k0_t7_loop.trips) : Fin 1 → Nat :=
  let c0_i32_132 : BitVec 32 := 0#32
  let c0_i32_23 : BitVec 32 := 0#32
  let c1_i32_25 : BitVec 32 := 1#32
  let arg11 : BitVec 32 := Scf.iv c0_i32_23 c1_i32_25 k0_t7
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c16_i32 : BitVec 32 := 16#32
  let v623 : BitVec 32 := Scalar.addi v612 c16_i32
  let v624 : Index := Scalar.indexCast v623
  ![v624.toNat]

def k0_chk82 (v632 : IVec S16 32) : Prop :=
  (∀ a x, ((![v632] : Fin 1 → IVec S16 32) a x).toNat < S4096.size a)
theorem k0_idx82_inb : ∀ (v632 : IVec S16 32) (k0_hw82 : k0_chk82 v632), ∀ a x, ((![v632] : Fin 1 → IVec S16 32) a x).toNat < S4096.size a := fun v632 k0_hw82 => k0_hw82
def k0_off85 (k0_t7 : Fin k0_t7_loop.trips) : Fin 1 → Nat :=
  let c0_i32_132 : BitVec 32 := 0#32
  let c0_i32_23 : BitVec 32 := 0#32
  let c1_i32_25 : BitVec 32 := 1#32
  let arg11 : BitVec 32 := Scf.iv c0_i32_23 c1_i32_25 k0_t7
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c32_i32 : BitVec 32 := 32#32
  let v633 : BitVec 32 := Scalar.addi v612 c32_i32
  let v634 : Index := Scalar.indexCast v633
  ![v634.toNat]

def k0_chk83 (v642 : IVec S16 32) : Prop :=
  (∀ a x, ((![v642] : Fin 1 → IVec S16 32) a x).toNat < S4096.size a)
theorem k0_idx83_inb : ∀ (v642 : IVec S16 32) (k0_hw83 : k0_chk83 v642), ∀ a x, ((![v642] : Fin 1 → IVec S16 32) a x).toNat < S4096.size a := fun v642 k0_hw83 => k0_hw83
def k0_off86 (k0_t7 : Fin k0_t7_loop.trips) : Fin 1 → Nat :=
  let c0_i32_132 : BitVec 32 := 0#32
  let c0_i32_23 : BitVec 32 := 0#32
  let c1_i32_25 : BitVec 32 := 1#32
  let arg11 : BitVec 32 := Scf.iv c0_i32_23 c1_i32_25 k0_t7
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c48_i32 : BitVec 32 := 48#32
  let v643 : BitVec 32 := Scalar.addi v612 c48_i32
  let v644 : Index := Scalar.indexCast v643
  ![v644.toNat]

def k0_chk84 (v652 : IVec S16 32) : Prop :=
  (∀ a x, ((![v652] : Fin 1 → IVec S16 32) a x).toNat < S4096.size a)
theorem k0_idx84_inb : ∀ (v652 : IVec S16 32) (k0_hw84 : k0_chk84 v652), ∀ a x, ((![v652] : Fin 1 → IVec S16 32) a x).toNat < S4096.size a := fun v652 k0_hw84 => k0_hw84
def k0_off87 (k0_t7 : Fin k0_t7_loop.trips) : Fin 1 → Nat :=
  let c0_i32_132 : BitVec 32 := 0#32
  let c0_i32_23 : BitVec 32 := 0#32
  let c1_i32_25 : BitVec 32 := 1#32
  let arg11 : BitVec 32 := Scf.iv c0_i32_23 c1_i32_25 k0_t7
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c64_i32_135 : BitVec 32 := 64#32
  let v653 : BitVec 32 := Scalar.addi v612 c64_i32_135
  let v654 : Index := Scalar.indexCast v653
  ![v654.toNat]

def k0_chk85 (v662 : IVec S16 32) : Prop :=
  (∀ a x, ((![v662] : Fin 1 → IVec S16 32) a x).toNat < S4096.size a)
theorem k0_idx85_inb : ∀ (v662 : IVec S16 32) (k0_hw85 : k0_chk85 v662), ∀ a x, ((![v662] : Fin 1 → IVec S16 32) a x).toNat < S4096.size a := fun v662 k0_hw85 => k0_hw85
def k0_off88 (k0_t7 : Fin k0_t7_loop.trips) : Fin 1 → Nat :=
  let c0_i32_132 : BitVec 32 := 0#32
  let c0_i32_23 : BitVec 32 := 0#32
  let c1_i32_25 : BitVec 32 := 1#32
  let arg11 : BitVec 32 := Scf.iv c0_i32_23 c1_i32_25 k0_t7
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c80_i32 : BitVec 32 := 80#32
  let v663 : BitVec 32 := Scalar.addi v612 c80_i32
  let v664 : Index := Scalar.indexCast v663
  ![v664.toNat]

def k0_chk86 (v672 : IVec S16 32) : Prop :=
  (∀ a x, ((![v672] : Fin 1 → IVec S16 32) a x).toNat < S4096.size a)
theorem k0_idx86_inb : ∀ (v672 : IVec S16 32) (k0_hw86 : k0_chk86 v672), ∀ a x, ((![v672] : Fin 1 → IVec S16 32) a x).toNat < S4096.size a := fun v672 k0_hw86 => k0_hw86
def k0_off89 (k0_t7 : Fin k0_t7_loop.trips) : Fin 1 → Nat :=
  let c0_i32_132 : BitVec 32 := 0#32
  let c0_i32_23 : BitVec 32 := 0#32
  let c1_i32_25 : BitVec 32 := 1#32
  let arg11 : BitVec 32 := Scf.iv c0_i32_23 c1_i32_25 k0_t7
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c96_i32 : BitVec 32 := 96#32
  let v673 : BitVec 32 := Scalar.addi v612 c96_i32
  let v674 : Index := Scalar.indexCast v673
  ![v674.toNat]

def k0_chk87 (v682 : IVec S16 32) : Prop :=
  (∀ a x, ((![v682] : Fin 1 → IVec S16 32) a x).toNat < S4096.size a)
theorem k0_idx87_inb : ∀ (v682 : IVec S16 32) (k0_hw87 : k0_chk87 v682), ∀ a x, ((![v682] : Fin 1 → IVec S16 32) a x).toNat < S4096.size a := fun v682 k0_hw87 => k0_hw87
def k0_off90 (k0_t7 : Fin k0_t7_loop.trips) : Fin 1 → Nat :=
  let c0_i32_132 : BitVec 32 := 0#32
  let c0_i32_23 : BitVec 32 := 0#32
  let c1_i32_25 : BitVec 32 := 1#32
  let arg11 : BitVec 32 := Scf.iv c0_i32_23 c1_i32_25 k0_t7
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c112_i32 : BitVec 32 := 112#32
  let v683 : BitVec 32 := Scalar.addi v612 c112_i32
  let v684 : Index := Scalar.indexCast v683
  ![v684.toNat]

def k0_chk88 (v692 : IVec S16 32) : Prop :=
  (∀ a x, ((![v692] : Fin 1 → IVec S16 32) a x).toNat < S4096.size a)
theorem k0_idx88_inb : ∀ (v692 : IVec S16 32) (k0_hw88 : k0_chk88 v692), ∀ a x, ((![v692] : Fin 1 → IVec S16 32) a x).toNat < S4096.size a := fun v692 k0_hw88 => k0_hw88
def k0_off91 (k0_t7 : Fin k0_t7_loop.trips) : Fin 1 → Nat :=
  let c0_i32_132 : BitVec 32 := 0#32
  let c0_i32_23 : BitVec 32 := 0#32
  let c1_i32_25 : BitVec 32 := 1#32
  let arg11 : BitVec 32 := Scf.iv c0_i32_23 c1_i32_25 k0_t7
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c128_i32 : BitVec 32 := 128#32
  let v693 : BitVec 32 := Scalar.addi v612 c128_i32
  let v694 : Index := Scalar.indexCast v693
  ![v694.toNat]

def k0_chk89 (v702 : IVec S16 32) : Prop :=
  (∀ a x, ((![v702] : Fin 1 → IVec S16 32) a x).toNat < S4096.size a)
theorem k0_idx89_inb : ∀ (v702 : IVec S16 32) (k0_hw89 : k0_chk89 v702), ∀ a x, ((![v702] : Fin 1 → IVec S16 32) a x).toNat < S4096.size a := fun v702 k0_hw89 => k0_hw89
def k0_off92 (k0_t7 : Fin k0_t7_loop.trips) : Fin 1 → Nat :=
  let c0_i32_132 : BitVec 32 := 0#32
  let c0_i32_23 : BitVec 32 := 0#32
  let c1_i32_25 : BitVec 32 := 1#32
  let arg11 : BitVec 32 := Scf.iv c0_i32_23 c1_i32_25 k0_t7
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c144_i32 : BitVec 32 := 144#32
  let v703 : BitVec 32 := Scalar.addi v612 c144_i32
  let v704 : Index := Scalar.indexCast v703
  ![v704.toNat]

def k0_chk90 (v712 : IVec S16 32) : Prop :=
  (∀ a x, ((![v712] : Fin 1 → IVec S16 32) a x).toNat < S4096.size a)
theorem k0_idx90_inb : ∀ (v712 : IVec S16 32) (k0_hw90 : k0_chk90 v712), ∀ a x, ((![v712] : Fin 1 → IVec S16 32) a x).toNat < S4096.size a := fun v712 k0_hw90 => k0_hw90
def k0_off93 (k0_t7 : Fin k0_t7_loop.trips) : Fin 1 → Nat :=
  let c0_i32_132 : BitVec 32 := 0#32
  let c0_i32_23 : BitVec 32 := 0#32
  let c1_i32_25 : BitVec 32 := 1#32
  let arg11 : BitVec 32 := Scf.iv c0_i32_23 c1_i32_25 k0_t7
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c160_i32 : BitVec 32 := 160#32
  let v713 : BitVec 32 := Scalar.addi v612 c160_i32
  let v714 : Index := Scalar.indexCast v713
  ![v714.toNat]

def k0_chk91 (v722 : IVec S16 32) : Prop :=
  (∀ a x, ((![v722] : Fin 1 → IVec S16 32) a x).toNat < S4096.size a)
theorem k0_idx91_inb : ∀ (v722 : IVec S16 32) (k0_hw91 : k0_chk91 v722), ∀ a x, ((![v722] : Fin 1 → IVec S16 32) a x).toNat < S4096.size a := fun v722 k0_hw91 => k0_hw91
def k0_off94 (k0_t7 : Fin k0_t7_loop.trips) : Fin 1 → Nat :=
  let c0_i32_132 : BitVec 32 := 0#32
  let c0_i32_23 : BitVec 32 := 0#32
  let c1_i32_25 : BitVec 32 := 1#32
  let arg11 : BitVec 32 := Scf.iv c0_i32_23 c1_i32_25 k0_t7
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c176_i32 : BitVec 32 := 176#32
  let v723 : BitVec 32 := Scalar.addi v612 c176_i32
  let v724 : Index := Scalar.indexCast v723
  ![v724.toNat]

def k0_chk92 (v732 : IVec S16 32) : Prop :=
  (∀ a x, ((![v732] : Fin 1 → IVec S16 32) a x).toNat < S4096.size a)
theorem k0_idx92_inb : ∀ (v732 : IVec S16 32) (k0_hw92 : k0_chk92 v732), ∀ a x, ((![v732] : Fin 1 → IVec S16 32) a x).toNat < S4096.size a := fun v732 k0_hw92 => k0_hw92
def k0_off95 (k0_t7 : Fin k0_t7_loop.trips) : Fin 1 → Nat :=
  let c0_i32_132 : BitVec 32 := 0#32
  let c0_i32_23 : BitVec 32 := 0#32
  let c1_i32_25 : BitVec 32 := 1#32
  let arg11 : BitVec 32 := Scf.iv c0_i32_23 c1_i32_25 k0_t7
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c192_i32 : BitVec 32 := 192#32
  let v733 : BitVec 32 := Scalar.addi v612 c192_i32
  let v734 : Index := Scalar.indexCast v733
  ![v734.toNat]

def k0_chk93 (v742 : IVec S16 32) : Prop :=
  (∀ a x, ((![v742] : Fin 1 → IVec S16 32) a x).toNat < S4096.size a)
theorem k0_idx93_inb : ∀ (v742 : IVec S16 32) (k0_hw93 : k0_chk93 v742), ∀ a x, ((![v742] : Fin 1 → IVec S16 32) a x).toNat < S4096.size a := fun v742 k0_hw93 => k0_hw93
def k0_off96 (k0_t7 : Fin k0_t7_loop.trips) : Fin 1 → Nat :=
  let c0_i32_132 : BitVec 32 := 0#32
  let c0_i32_23 : BitVec 32 := 0#32
  let c1_i32_25 : BitVec 32 := 1#32
  let arg11 : BitVec 32 := Scf.iv c0_i32_23 c1_i32_25 k0_t7
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c208_i32 : BitVec 32 := 208#32
  let v743 : BitVec 32 := Scalar.addi v612 c208_i32
  let v744 : Index := Scalar.indexCast v743
  ![v744.toNat]

def k0_chk94 (v752 : IVec S16 32) : Prop :=
  (∀ a x, ((![v752] : Fin 1 → IVec S16 32) a x).toNat < S4096.size a)
theorem k0_idx94_inb : ∀ (v752 : IVec S16 32) (k0_hw94 : k0_chk94 v752), ∀ a x, ((![v752] : Fin 1 → IVec S16 32) a x).toNat < S4096.size a := fun v752 k0_hw94 => k0_hw94
def k0_off97 (k0_t7 : Fin k0_t7_loop.trips) : Fin 1 → Nat :=
  let c0_i32_132 : BitVec 32 := 0#32
  let c0_i32_23 : BitVec 32 := 0#32
  let c1_i32_25 : BitVec 32 := 1#32
  let arg11 : BitVec 32 := Scf.iv c0_i32_23 c1_i32_25 k0_t7
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c224_i32 : BitVec 32 := 224#32
  let v753 : BitVec 32 := Scalar.addi v612 c224_i32
  let v754 : Index := Scalar.indexCast v753
  ![v754.toNat]

def k0_chk95 (v762 : IVec S16 32) : Prop :=
  (∀ a x, ((![v762] : Fin 1 → IVec S16 32) a x).toNat < S4096.size a)
theorem k0_idx95_inb : ∀ (v762 : IVec S16 32) (k0_hw95 : k0_chk95 v762), ∀ a x, ((![v762] : Fin 1 → IVec S16 32) a x).toNat < S4096.size a := fun v762 k0_hw95 => k0_hw95
def k0_off98 (k0_t7 : Fin k0_t7_loop.trips) : Fin 1 → Nat :=
  let c0_i32_132 : BitVec 32 := 0#32
  let c0_i32_23 : BitVec 32 := 0#32
  let c1_i32_25 : BitVec 32 := 1#32
  let arg11 : BitVec 32 := Scf.iv c0_i32_23 c1_i32_25 k0_t7
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c240_i32 : BitVec 32 := 240#32
  let v763 : BitVec 32 := Scalar.addi v612 c240_i32
  let v764 : Index := Scalar.indexCast v763
  ![v764.toNat]

def k0_chk96 (v772 : IVec S16 32) : Prop :=
  (∀ a x, ((![v772] : Fin 1 → IVec S16 32) a x).toNat < S4096.size a)
theorem k0_idx96_inb : ∀ (v772 : IVec S16 32) (k0_hw96 : k0_chk96 v772), ∀ a x, ((![v772] : Fin 1 → IVec S16 32) a x).toNat < S4096.size a := fun v772 k0_hw96 => k0_hw96
@[reducible] def k0_t8_loop : Scf.Loop 32 :=
  let c0_i32_27 : BitVec 32 := 0#32
  let c64_i32_28 : BitVec 32 := 64#32
  let v28 : BitVec 32 := Scalar.addi c0_i32_27 c64_i32_28
  let c1_i32_29 : BitVec 32 := 1#32
  ⟨c0_i32_27, v28, c1_i32_29⟩
def k0_mult8 (k0_t8 : Fin k0_t8_loop.trips) : BitVec 32 :=
  let c0_i32_132 : BitVec 32 := 0#32
  let c0_i32_27 : BitVec 32 := 0#32
  let c1_i32_29 : BitVec 32 := 1#32
  let arg11 : BitVec 32 := Scf.iv c0_i32_27 c1_i32_29 k0_t8
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  v611
def k0_off99 (k0_t8 : Fin k0_t8_loop.trips) : Fin 1 → Nat :=
  let c0_i32_132 : BitVec 32 := 0#32
  let c0_i32_27 : BitVec 32 := 0#32
  let c1_i32_29 : BitVec 32 := 1#32
  let arg11 : BitVec 32 := Scf.iv c0_i32_27 c1_i32_29 k0_t8
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c0_i32_134 : BitVec 32 := 0#32
  let v613 : BitVec 32 := Scalar.addi v612 c0_i32_134
  let v614 : Index := Scalar.indexCast v613
  ![v614.toNat]

def k0_chk97 (v622 : IVec S16 32) : Prop :=
  (∀ a x, ((![v622] : Fin 1 → IVec S16 32) a x).toNat < S4096.size a)
theorem k0_idx97_inb : ∀ (v622 : IVec S16 32) (k0_hw97 : k0_chk97 v622), ∀ a x, ((![v622] : Fin 1 → IVec S16 32) a x).toNat < S4096.size a := fun v622 k0_hw97 => k0_hw97
def k0_off100 (k0_t8 : Fin k0_t8_loop.trips) : Fin 1 → Nat :=
  let c0_i32_132 : BitVec 32 := 0#32
  let c0_i32_27 : BitVec 32 := 0#32
  let c1_i32_29 : BitVec 32 := 1#32
  let arg11 : BitVec 32 := Scf.iv c0_i32_27 c1_i32_29 k0_t8
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c16_i32 : BitVec 32 := 16#32
  let v623 : BitVec 32 := Scalar.addi v612 c16_i32
  let v624 : Index := Scalar.indexCast v623
  ![v624.toNat]

def k0_chk98 (v632 : IVec S16 32) : Prop :=
  (∀ a x, ((![v632] : Fin 1 → IVec S16 32) a x).toNat < S4096.size a)
theorem k0_idx98_inb : ∀ (v632 : IVec S16 32) (k0_hw98 : k0_chk98 v632), ∀ a x, ((![v632] : Fin 1 → IVec S16 32) a x).toNat < S4096.size a := fun v632 k0_hw98 => k0_hw98
def k0_off101 (k0_t8 : Fin k0_t8_loop.trips) : Fin 1 → Nat :=
  let c0_i32_132 : BitVec 32 := 0#32
  let c0_i32_27 : BitVec 32 := 0#32
  let c1_i32_29 : BitVec 32 := 1#32
  let arg11 : BitVec 32 := Scf.iv c0_i32_27 c1_i32_29 k0_t8
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c32_i32 : BitVec 32 := 32#32
  let v633 : BitVec 32 := Scalar.addi v612 c32_i32
  let v634 : Index := Scalar.indexCast v633
  ![v634.toNat]

def k0_chk99 (v642 : IVec S16 32) : Prop :=
  (∀ a x, ((![v642] : Fin 1 → IVec S16 32) a x).toNat < S4096.size a)
theorem k0_idx99_inb : ∀ (v642 : IVec S16 32) (k0_hw99 : k0_chk99 v642), ∀ a x, ((![v642] : Fin 1 → IVec S16 32) a x).toNat < S4096.size a := fun v642 k0_hw99 => k0_hw99
def k0_off102 (k0_t8 : Fin k0_t8_loop.trips) : Fin 1 → Nat :=
  let c0_i32_132 : BitVec 32 := 0#32
  let c0_i32_27 : BitVec 32 := 0#32
  let c1_i32_29 : BitVec 32 := 1#32
  let arg11 : BitVec 32 := Scf.iv c0_i32_27 c1_i32_29 k0_t8
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c48_i32 : BitVec 32 := 48#32
  let v643 : BitVec 32 := Scalar.addi v612 c48_i32
  let v644 : Index := Scalar.indexCast v643
  ![v644.toNat]

def k0_chk100 (v652 : IVec S16 32) : Prop :=
  (∀ a x, ((![v652] : Fin 1 → IVec S16 32) a x).toNat < S4096.size a)
theorem k0_idx100_inb : ∀ (v652 : IVec S16 32) (k0_hw100 : k0_chk100 v652), ∀ a x, ((![v652] : Fin 1 → IVec S16 32) a x).toNat < S4096.size a := fun v652 k0_hw100 => k0_hw100
def k0_off103 (k0_t8 : Fin k0_t8_loop.trips) : Fin 1 → Nat :=
  let c0_i32_132 : BitVec 32 := 0#32
  let c0_i32_27 : BitVec 32 := 0#32
  let c1_i32_29 : BitVec 32 := 1#32
  let arg11 : BitVec 32 := Scf.iv c0_i32_27 c1_i32_29 k0_t8
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c64_i32_135 : BitVec 32 := 64#32
  let v653 : BitVec 32 := Scalar.addi v612 c64_i32_135
  let v654 : Index := Scalar.indexCast v653
  ![v654.toNat]

def k0_chk101 (v662 : IVec S16 32) : Prop :=
  (∀ a x, ((![v662] : Fin 1 → IVec S16 32) a x).toNat < S4096.size a)
theorem k0_idx101_inb : ∀ (v662 : IVec S16 32) (k0_hw101 : k0_chk101 v662), ∀ a x, ((![v662] : Fin 1 → IVec S16 32) a x).toNat < S4096.size a := fun v662 k0_hw101 => k0_hw101
def k0_off104 (k0_t8 : Fin k0_t8_loop.trips) : Fin 1 → Nat :=
  let c0_i32_132 : BitVec 32 := 0#32
  let c0_i32_27 : BitVec 32 := 0#32
  let c1_i32_29 : BitVec 32 := 1#32
  let arg11 : BitVec 32 := Scf.iv c0_i32_27 c1_i32_29 k0_t8
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c80_i32 : BitVec 32 := 80#32
  let v663 : BitVec 32 := Scalar.addi v612 c80_i32
  let v664 : Index := Scalar.indexCast v663
  ![v664.toNat]

def k0_chk102 (v672 : IVec S16 32) : Prop :=
  (∀ a x, ((![v672] : Fin 1 → IVec S16 32) a x).toNat < S4096.size a)
theorem k0_idx102_inb : ∀ (v672 : IVec S16 32) (k0_hw102 : k0_chk102 v672), ∀ a x, ((![v672] : Fin 1 → IVec S16 32) a x).toNat < S4096.size a := fun v672 k0_hw102 => k0_hw102
def k0_off105 (k0_t8 : Fin k0_t8_loop.trips) : Fin 1 → Nat :=
  let c0_i32_132 : BitVec 32 := 0#32
  let c0_i32_27 : BitVec 32 := 0#32
  let c1_i32_29 : BitVec 32 := 1#32
  let arg11 : BitVec 32 := Scf.iv c0_i32_27 c1_i32_29 k0_t8
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c96_i32 : BitVec 32 := 96#32
  let v673 : BitVec 32 := Scalar.addi v612 c96_i32
  let v674 : Index := Scalar.indexCast v673
  ![v674.toNat]

def k0_chk103 (v682 : IVec S16 32) : Prop :=
  (∀ a x, ((![v682] : Fin 1 → IVec S16 32) a x).toNat < S4096.size a)
theorem k0_idx103_inb : ∀ (v682 : IVec S16 32) (k0_hw103 : k0_chk103 v682), ∀ a x, ((![v682] : Fin 1 → IVec S16 32) a x).toNat < S4096.size a := fun v682 k0_hw103 => k0_hw103
def k0_off106 (k0_t8 : Fin k0_t8_loop.trips) : Fin 1 → Nat :=
  let c0_i32_132 : BitVec 32 := 0#32
  let c0_i32_27 : BitVec 32 := 0#32
  let c1_i32_29 : BitVec 32 := 1#32
  let arg11 : BitVec 32 := Scf.iv c0_i32_27 c1_i32_29 k0_t8
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c112_i32 : BitVec 32 := 112#32
  let v683 : BitVec 32 := Scalar.addi v612 c112_i32
  let v684 : Index := Scalar.indexCast v683
  ![v684.toNat]

def k0_chk104 (v692 : IVec S16 32) : Prop :=
  (∀ a x, ((![v692] : Fin 1 → IVec S16 32) a x).toNat < S4096.size a)
theorem k0_idx104_inb : ∀ (v692 : IVec S16 32) (k0_hw104 : k0_chk104 v692), ∀ a x, ((![v692] : Fin 1 → IVec S16 32) a x).toNat < S4096.size a := fun v692 k0_hw104 => k0_hw104
def k0_off107 (k0_t8 : Fin k0_t8_loop.trips) : Fin 1 → Nat :=
  let c0_i32_132 : BitVec 32 := 0#32
  let c0_i32_27 : BitVec 32 := 0#32
  let c1_i32_29 : BitVec 32 := 1#32
  let arg11 : BitVec 32 := Scf.iv c0_i32_27 c1_i32_29 k0_t8
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c128_i32 : BitVec 32 := 128#32
  let v693 : BitVec 32 := Scalar.addi v612 c128_i32
  let v694 : Index := Scalar.indexCast v693
  ![v694.toNat]

def k0_chk105 (v702 : IVec S16 32) : Prop :=
  (∀ a x, ((![v702] : Fin 1 → IVec S16 32) a x).toNat < S4096.size a)
theorem k0_idx105_inb : ∀ (v702 : IVec S16 32) (k0_hw105 : k0_chk105 v702), ∀ a x, ((![v702] : Fin 1 → IVec S16 32) a x).toNat < S4096.size a := fun v702 k0_hw105 => k0_hw105
def k0_off108 (k0_t8 : Fin k0_t8_loop.trips) : Fin 1 → Nat :=
  let c0_i32_132 : BitVec 32 := 0#32
  let c0_i32_27 : BitVec 32 := 0#32
  let c1_i32_29 : BitVec 32 := 1#32
  let arg11 : BitVec 32 := Scf.iv c0_i32_27 c1_i32_29 k0_t8
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c144_i32 : BitVec 32 := 144#32
  let v703 : BitVec 32 := Scalar.addi v612 c144_i32
  let v704 : Index := Scalar.indexCast v703
  ![v704.toNat]

def k0_chk106 (v712 : IVec S16 32) : Prop :=
  (∀ a x, ((![v712] : Fin 1 → IVec S16 32) a x).toNat < S4096.size a)
theorem k0_idx106_inb : ∀ (v712 : IVec S16 32) (k0_hw106 : k0_chk106 v712), ∀ a x, ((![v712] : Fin 1 → IVec S16 32) a x).toNat < S4096.size a := fun v712 k0_hw106 => k0_hw106
def k0_off109 (k0_t8 : Fin k0_t8_loop.trips) : Fin 1 → Nat :=
  let c0_i32_132 : BitVec 32 := 0#32
  let c0_i32_27 : BitVec 32 := 0#32
  let c1_i32_29 : BitVec 32 := 1#32
  let arg11 : BitVec 32 := Scf.iv c0_i32_27 c1_i32_29 k0_t8
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c160_i32 : BitVec 32 := 160#32
  let v713 : BitVec 32 := Scalar.addi v612 c160_i32
  let v714 : Index := Scalar.indexCast v713
  ![v714.toNat]

def k0_chk107 (v722 : IVec S16 32) : Prop :=
  (∀ a x, ((![v722] : Fin 1 → IVec S16 32) a x).toNat < S4096.size a)
theorem k0_idx107_inb : ∀ (v722 : IVec S16 32) (k0_hw107 : k0_chk107 v722), ∀ a x, ((![v722] : Fin 1 → IVec S16 32) a x).toNat < S4096.size a := fun v722 k0_hw107 => k0_hw107
def k0_off110 (k0_t8 : Fin k0_t8_loop.trips) : Fin 1 → Nat :=
  let c0_i32_132 : BitVec 32 := 0#32
  let c0_i32_27 : BitVec 32 := 0#32
  let c1_i32_29 : BitVec 32 := 1#32
  let arg11 : BitVec 32 := Scf.iv c0_i32_27 c1_i32_29 k0_t8
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c176_i32 : BitVec 32 := 176#32
  let v723 : BitVec 32 := Scalar.addi v612 c176_i32
  let v724 : Index := Scalar.indexCast v723
  ![v724.toNat]

def k0_chk108 (v732 : IVec S16 32) : Prop :=
  (∀ a x, ((![v732] : Fin 1 → IVec S16 32) a x).toNat < S4096.size a)
theorem k0_idx108_inb : ∀ (v732 : IVec S16 32) (k0_hw108 : k0_chk108 v732), ∀ a x, ((![v732] : Fin 1 → IVec S16 32) a x).toNat < S4096.size a := fun v732 k0_hw108 => k0_hw108
def k0_off111 (k0_t8 : Fin k0_t8_loop.trips) : Fin 1 → Nat :=
  let c0_i32_132 : BitVec 32 := 0#32
  let c0_i32_27 : BitVec 32 := 0#32
  let c1_i32_29 : BitVec 32 := 1#32
  let arg11 : BitVec 32 := Scf.iv c0_i32_27 c1_i32_29 k0_t8
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c192_i32 : BitVec 32 := 192#32
  let v733 : BitVec 32 := Scalar.addi v612 c192_i32
  let v734 : Index := Scalar.indexCast v733
  ![v734.toNat]

def k0_chk109 (v742 : IVec S16 32) : Prop :=
  (∀ a x, ((![v742] : Fin 1 → IVec S16 32) a x).toNat < S4096.size a)
theorem k0_idx109_inb : ∀ (v742 : IVec S16 32) (k0_hw109 : k0_chk109 v742), ∀ a x, ((![v742] : Fin 1 → IVec S16 32) a x).toNat < S4096.size a := fun v742 k0_hw109 => k0_hw109
def k0_off112 (k0_t8 : Fin k0_t8_loop.trips) : Fin 1 → Nat :=
  let c0_i32_132 : BitVec 32 := 0#32
  let c0_i32_27 : BitVec 32 := 0#32
  let c1_i32_29 : BitVec 32 := 1#32
  let arg11 : BitVec 32 := Scf.iv c0_i32_27 c1_i32_29 k0_t8
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c208_i32 : BitVec 32 := 208#32
  let v743 : BitVec 32 := Scalar.addi v612 c208_i32
  let v744 : Index := Scalar.indexCast v743
  ![v744.toNat]

def k0_chk110 (v752 : IVec S16 32) : Prop :=
  (∀ a x, ((![v752] : Fin 1 → IVec S16 32) a x).toNat < S4096.size a)
theorem k0_idx110_inb : ∀ (v752 : IVec S16 32) (k0_hw110 : k0_chk110 v752), ∀ a x, ((![v752] : Fin 1 → IVec S16 32) a x).toNat < S4096.size a := fun v752 k0_hw110 => k0_hw110
def k0_off113 (k0_t8 : Fin k0_t8_loop.trips) : Fin 1 → Nat :=
  let c0_i32_132 : BitVec 32 := 0#32
  let c0_i32_27 : BitVec 32 := 0#32
  let c1_i32_29 : BitVec 32 := 1#32
  let arg11 : BitVec 32 := Scf.iv c0_i32_27 c1_i32_29 k0_t8
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c224_i32 : BitVec 32 := 224#32
  let v753 : BitVec 32 := Scalar.addi v612 c224_i32
  let v754 : Index := Scalar.indexCast v753
  ![v754.toNat]

def k0_chk111 (v762 : IVec S16 32) : Prop :=
  (∀ a x, ((![v762] : Fin 1 → IVec S16 32) a x).toNat < S4096.size a)
theorem k0_idx111_inb : ∀ (v762 : IVec S16 32) (k0_hw111 : k0_chk111 v762), ∀ a x, ((![v762] : Fin 1 → IVec S16 32) a x).toNat < S4096.size a := fun v762 k0_hw111 => k0_hw111
def k0_off114 (k0_t8 : Fin k0_t8_loop.trips) : Fin 1 → Nat :=
  let c0_i32_132 : BitVec 32 := 0#32
  let c0_i32_27 : BitVec 32 := 0#32
  let c1_i32_29 : BitVec 32 := 1#32
  let arg11 : BitVec 32 := Scf.iv c0_i32_27 c1_i32_29 k0_t8
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c240_i32 : BitVec 32 := 240#32
  let v763 : BitVec 32 := Scalar.addi v612 c240_i32
  let v764 : Index := Scalar.indexCast v763
  ![v764.toNat]

def k0_chk112 (v772 : IVec S16 32) : Prop :=
  (∀ a x, ((![v772] : Fin 1 → IVec S16 32) a x).toNat < S4096.size a)
theorem k0_idx112_inb : ∀ (v772 : IVec S16 32) (k0_hw112 : k0_chk112 v772), ∀ a x, ((![v772] : Fin 1 → IVec S16 32) a x).toNat < S4096.size a := fun v772 k0_hw112 => k0_hw112
@[reducible] def k0_t9_loop : Scf.Loop 32 :=
  let c0_i32_31 : BitVec 32 := 0#32
  let c64_i32_32 : BitVec 32 := 64#32
  let v31 : BitVec 32 := Scalar.addi c0_i32_31 c64_i32_32
  let c1_i32_33 : BitVec 32 := 1#32
  ⟨c0_i32_31, v31, c1_i32_33⟩
def k0_mult9 (k0_t9 : Fin k0_t9_loop.trips) : BitVec 32 :=
  let c0_i32_132 : BitVec 32 := 0#32
  let c0_i32_31 : BitVec 32 := 0#32
  let c1_i32_33 : BitVec 32 := 1#32
  let arg11 : BitVec 32 := Scf.iv c0_i32_31 c1_i32_33 k0_t9
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  v611
def k0_off115 (k0_t9 : Fin k0_t9_loop.trips) : Fin 1 → Nat :=
  let c0_i32_132 : BitVec 32 := 0#32
  let c0_i32_31 : BitVec 32 := 0#32
  let c1_i32_33 : BitVec 32 := 1#32
  let arg11 : BitVec 32 := Scf.iv c0_i32_31 c1_i32_33 k0_t9
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c0_i32_134 : BitVec 32 := 0#32
  let v613 : BitVec 32 := Scalar.addi v612 c0_i32_134
  let v614 : Index := Scalar.indexCast v613
  ![v614.toNat]

def k0_chk113 (v622 : IVec S16 32) : Prop :=
  (∀ a x, ((![v622] : Fin 1 → IVec S16 32) a x).toNat < S4096.size a)
theorem k0_idx113_inb : ∀ (v622 : IVec S16 32) (k0_hw113 : k0_chk113 v622), ∀ a x, ((![v622] : Fin 1 → IVec S16 32) a x).toNat < S4096.size a := fun v622 k0_hw113 => k0_hw113
def k0_off116 (k0_t9 : Fin k0_t9_loop.trips) : Fin 1 → Nat :=
  let c0_i32_132 : BitVec 32 := 0#32
  let c0_i32_31 : BitVec 32 := 0#32
  let c1_i32_33 : BitVec 32 := 1#32
  let arg11 : BitVec 32 := Scf.iv c0_i32_31 c1_i32_33 k0_t9
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c16_i32 : BitVec 32 := 16#32
  let v623 : BitVec 32 := Scalar.addi v612 c16_i32
  let v624 : Index := Scalar.indexCast v623
  ![v624.toNat]

def k0_chk114 (v632 : IVec S16 32) : Prop :=
  (∀ a x, ((![v632] : Fin 1 → IVec S16 32) a x).toNat < S4096.size a)
theorem k0_idx114_inb : ∀ (v632 : IVec S16 32) (k0_hw114 : k0_chk114 v632), ∀ a x, ((![v632] : Fin 1 → IVec S16 32) a x).toNat < S4096.size a := fun v632 k0_hw114 => k0_hw114
def k0_off117 (k0_t9 : Fin k0_t9_loop.trips) : Fin 1 → Nat :=
  let c0_i32_132 : BitVec 32 := 0#32
  let c0_i32_31 : BitVec 32 := 0#32
  let c1_i32_33 : BitVec 32 := 1#32
  let arg11 : BitVec 32 := Scf.iv c0_i32_31 c1_i32_33 k0_t9
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c32_i32 : BitVec 32 := 32#32
  let v633 : BitVec 32 := Scalar.addi v612 c32_i32
  let v634 : Index := Scalar.indexCast v633
  ![v634.toNat]

def k0_chk115 (v642 : IVec S16 32) : Prop :=
  (∀ a x, ((![v642] : Fin 1 → IVec S16 32) a x).toNat < S4096.size a)
theorem k0_idx115_inb : ∀ (v642 : IVec S16 32) (k0_hw115 : k0_chk115 v642), ∀ a x, ((![v642] : Fin 1 → IVec S16 32) a x).toNat < S4096.size a := fun v642 k0_hw115 => k0_hw115
def k0_off118 (k0_t9 : Fin k0_t9_loop.trips) : Fin 1 → Nat :=
  let c0_i32_132 : BitVec 32 := 0#32
  let c0_i32_31 : BitVec 32 := 0#32
  let c1_i32_33 : BitVec 32 := 1#32
  let arg11 : BitVec 32 := Scf.iv c0_i32_31 c1_i32_33 k0_t9
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c48_i32 : BitVec 32 := 48#32
  let v643 : BitVec 32 := Scalar.addi v612 c48_i32
  let v644 : Index := Scalar.indexCast v643
  ![v644.toNat]

def k0_chk116 (v652 : IVec S16 32) : Prop :=
  (∀ a x, ((![v652] : Fin 1 → IVec S16 32) a x).toNat < S4096.size a)
theorem k0_idx116_inb : ∀ (v652 : IVec S16 32) (k0_hw116 : k0_chk116 v652), ∀ a x, ((![v652] : Fin 1 → IVec S16 32) a x).toNat < S4096.size a := fun v652 k0_hw116 => k0_hw116
def k0_off119 (k0_t9 : Fin k0_t9_loop.trips) : Fin 1 → Nat :=
  let c0_i32_132 : BitVec 32 := 0#32
  let c0_i32_31 : BitVec 32 := 0#32
  let c1_i32_33 : BitVec 32 := 1#32
  let arg11 : BitVec 32 := Scf.iv c0_i32_31 c1_i32_33 k0_t9
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c64_i32_135 : BitVec 32 := 64#32
  let v653 : BitVec 32 := Scalar.addi v612 c64_i32_135
  let v654 : Index := Scalar.indexCast v653
  ![v654.toNat]

def k0_chk117 (v662 : IVec S16 32) : Prop :=
  (∀ a x, ((![v662] : Fin 1 → IVec S16 32) a x).toNat < S4096.size a)
theorem k0_idx117_inb : ∀ (v662 : IVec S16 32) (k0_hw117 : k0_chk117 v662), ∀ a x, ((![v662] : Fin 1 → IVec S16 32) a x).toNat < S4096.size a := fun v662 k0_hw117 => k0_hw117
def k0_off120 (k0_t9 : Fin k0_t9_loop.trips) : Fin 1 → Nat :=
  let c0_i32_132 : BitVec 32 := 0#32
  let c0_i32_31 : BitVec 32 := 0#32
  let c1_i32_33 : BitVec 32 := 1#32
  let arg11 : BitVec 32 := Scf.iv c0_i32_31 c1_i32_33 k0_t9
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c80_i32 : BitVec 32 := 80#32
  let v663 : BitVec 32 := Scalar.addi v612 c80_i32
  let v664 : Index := Scalar.indexCast v663
  ![v664.toNat]

def k0_chk118 (v672 : IVec S16 32) : Prop :=
  (∀ a x, ((![v672] : Fin 1 → IVec S16 32) a x).toNat < S4096.size a)
theorem k0_idx118_inb : ∀ (v672 : IVec S16 32) (k0_hw118 : k0_chk118 v672), ∀ a x, ((![v672] : Fin 1 → IVec S16 32) a x).toNat < S4096.size a := fun v672 k0_hw118 => k0_hw118
def k0_off121 (k0_t9 : Fin k0_t9_loop.trips) : Fin 1 → Nat :=
  let c0_i32_132 : BitVec 32 := 0#32
  let c0_i32_31 : BitVec 32 := 0#32
  let c1_i32_33 : BitVec 32 := 1#32
  let arg11 : BitVec 32 := Scf.iv c0_i32_31 c1_i32_33 k0_t9
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c96_i32 : BitVec 32 := 96#32
  let v673 : BitVec 32 := Scalar.addi v612 c96_i32
  let v674 : Index := Scalar.indexCast v673
  ![v674.toNat]

def k0_chk119 (v682 : IVec S16 32) : Prop :=
  (∀ a x, ((![v682] : Fin 1 → IVec S16 32) a x).toNat < S4096.size a)
theorem k0_idx119_inb : ∀ (v682 : IVec S16 32) (k0_hw119 : k0_chk119 v682), ∀ a x, ((![v682] : Fin 1 → IVec S16 32) a x).toNat < S4096.size a := fun v682 k0_hw119 => k0_hw119
def k0_off122 (k0_t9 : Fin k0_t9_loop.trips) : Fin 1 → Nat :=
  let c0_i32_132 : BitVec 32 := 0#32
  let c0_i32_31 : BitVec 32 := 0#32
  let c1_i32_33 : BitVec 32 := 1#32
  let arg11 : BitVec 32 := Scf.iv c0_i32_31 c1_i32_33 k0_t9
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c112_i32 : BitVec 32 := 112#32
  let v683 : BitVec 32 := Scalar.addi v612 c112_i32
  let v684 : Index := Scalar.indexCast v683
  ![v684.toNat]

def k0_chk120 (v692 : IVec S16 32) : Prop :=
  (∀ a x, ((![v692] : Fin 1 → IVec S16 32) a x).toNat < S4096.size a)
theorem k0_idx120_inb : ∀ (v692 : IVec S16 32) (k0_hw120 : k0_chk120 v692), ∀ a x, ((![v692] : Fin 1 → IVec S16 32) a x).toNat < S4096.size a := fun v692 k0_hw120 => k0_hw120
def k0_off123 (k0_t9 : Fin k0_t9_loop.trips) : Fin 1 → Nat :=
  let c0_i32_132 : BitVec 32 := 0#32
  let c0_i32_31 : BitVec 32 := 0#32
  let c1_i32_33 : BitVec 32 := 1#32
  let arg11 : BitVec 32 := Scf.iv c0_i32_31 c1_i32_33 k0_t9
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c128_i32 : BitVec 32 := 128#32
  let v693 : BitVec 32 := Scalar.addi v612 c128_i32
  let v694 : Index := Scalar.indexCast v693
  ![v694.toNat]

def k0_chk121 (v702 : IVec S16 32) : Prop :=
  (∀ a x, ((![v702] : Fin 1 → IVec S16 32) a x).toNat < S4096.size a)
theorem k0_idx121_inb : ∀ (v702 : IVec S16 32) (k0_hw121 : k0_chk121 v702), ∀ a x, ((![v702] : Fin 1 → IVec S16 32) a x).toNat < S4096.size a := fun v702 k0_hw121 => k0_hw121
def k0_off124 (k0_t9 : Fin k0_t9_loop.trips) : Fin 1 → Nat :=
  let c0_i32_132 : BitVec 32 := 0#32
  let c0_i32_31 : BitVec 32 := 0#32
  let c1_i32_33 : BitVec 32 := 1#32
  let arg11 : BitVec 32 := Scf.iv c0_i32_31 c1_i32_33 k0_t9
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c144_i32 : BitVec 32 := 144#32
  let v703 : BitVec 32 := Scalar.addi v612 c144_i32
  let v704 : Index := Scalar.indexCast v703
  ![v704.toNat]

def k0_chk122 (v712 : IVec S16 32) : Prop :=
  (∀ a x, ((![v712] : Fin 1 → IVec S16 32) a x).toNat < S4096.size a)
theorem k0_idx122_inb : ∀ (v712 : IVec S16 32) (k0_hw122 : k0_chk122 v712), ∀ a x, ((![v712] : Fin 1 → IVec S16 32) a x).toNat < S4096.size a := fun v712 k0_hw122 => k0_hw122
def k0_off125 (k0_t9 : Fin k0_t9_loop.trips) : Fin 1 → Nat :=
  let c0_i32_132 : BitVec 32 := 0#32
  let c0_i32_31 : BitVec 32 := 0#32
  let c1_i32_33 : BitVec 32 := 1#32
  let arg11 : BitVec 32 := Scf.iv c0_i32_31 c1_i32_33 k0_t9
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c160_i32 : BitVec 32 := 160#32
  let v713 : BitVec 32 := Scalar.addi v612 c160_i32
  let v714 : Index := Scalar.indexCast v713
  ![v714.toNat]

def k0_chk123 (v722 : IVec S16 32) : Prop :=
  (∀ a x, ((![v722] : Fin 1 → IVec S16 32) a x).toNat < S4096.size a)
theorem k0_idx123_inb : ∀ (v722 : IVec S16 32) (k0_hw123 : k0_chk123 v722), ∀ a x, ((![v722] : Fin 1 → IVec S16 32) a x).toNat < S4096.size a := fun v722 k0_hw123 => k0_hw123
def k0_off126 (k0_t9 : Fin k0_t9_loop.trips) : Fin 1 → Nat :=
  let c0_i32_132 : BitVec 32 := 0#32
  let c0_i32_31 : BitVec 32 := 0#32
  let c1_i32_33 : BitVec 32 := 1#32
  let arg11 : BitVec 32 := Scf.iv c0_i32_31 c1_i32_33 k0_t9
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c176_i32 : BitVec 32 := 176#32
  let v723 : BitVec 32 := Scalar.addi v612 c176_i32
  let v724 : Index := Scalar.indexCast v723
  ![v724.toNat]

def k0_chk124 (v732 : IVec S16 32) : Prop :=
  (∀ a x, ((![v732] : Fin 1 → IVec S16 32) a x).toNat < S4096.size a)
theorem k0_idx124_inb : ∀ (v732 : IVec S16 32) (k0_hw124 : k0_chk124 v732), ∀ a x, ((![v732] : Fin 1 → IVec S16 32) a x).toNat < S4096.size a := fun v732 k0_hw124 => k0_hw124
def k0_off127 (k0_t9 : Fin k0_t9_loop.trips) : Fin 1 → Nat :=
  let c0_i32_132 : BitVec 32 := 0#32
  let c0_i32_31 : BitVec 32 := 0#32
  let c1_i32_33 : BitVec 32 := 1#32
  let arg11 : BitVec 32 := Scf.iv c0_i32_31 c1_i32_33 k0_t9
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c192_i32 : BitVec 32 := 192#32
  let v733 : BitVec 32 := Scalar.addi v612 c192_i32
  let v734 : Index := Scalar.indexCast v733
  ![v734.toNat]

def k0_chk125 (v742 : IVec S16 32) : Prop :=
  (∀ a x, ((![v742] : Fin 1 → IVec S16 32) a x).toNat < S4096.size a)
theorem k0_idx125_inb : ∀ (v742 : IVec S16 32) (k0_hw125 : k0_chk125 v742), ∀ a x, ((![v742] : Fin 1 → IVec S16 32) a x).toNat < S4096.size a := fun v742 k0_hw125 => k0_hw125
def k0_off128 (k0_t9 : Fin k0_t9_loop.trips) : Fin 1 → Nat :=
  let c0_i32_132 : BitVec 32 := 0#32
  let c0_i32_31 : BitVec 32 := 0#32
  let c1_i32_33 : BitVec 32 := 1#32
  let arg11 : BitVec 32 := Scf.iv c0_i32_31 c1_i32_33 k0_t9
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c208_i32 : BitVec 32 := 208#32
  let v743 : BitVec 32 := Scalar.addi v612 c208_i32
  let v744 : Index := Scalar.indexCast v743
  ![v744.toNat]

def k0_chk126 (v752 : IVec S16 32) : Prop :=
  (∀ a x, ((![v752] : Fin 1 → IVec S16 32) a x).toNat < S4096.size a)
theorem k0_idx126_inb : ∀ (v752 : IVec S16 32) (k0_hw126 : k0_chk126 v752), ∀ a x, ((![v752] : Fin 1 → IVec S16 32) a x).toNat < S4096.size a := fun v752 k0_hw126 => k0_hw126
def k0_off129 (k0_t9 : Fin k0_t9_loop.trips) : Fin 1 → Nat :=
  let c0_i32_132 : BitVec 32 := 0#32
  let c0_i32_31 : BitVec 32 := 0#32
  let c1_i32_33 : BitVec 32 := 1#32
  let arg11 : BitVec 32 := Scf.iv c0_i32_31 c1_i32_33 k0_t9
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c224_i32 : BitVec 32 := 224#32
  let v753 : BitVec 32 := Scalar.addi v612 c224_i32
  let v754 : Index := Scalar.indexCast v753
  ![v754.toNat]

def k0_chk127 (v762 : IVec S16 32) : Prop :=
  (∀ a x, ((![v762] : Fin 1 → IVec S16 32) a x).toNat < S4096.size a)
theorem k0_idx127_inb : ∀ (v762 : IVec S16 32) (k0_hw127 : k0_chk127 v762), ∀ a x, ((![v762] : Fin 1 → IVec S16 32) a x).toNat < S4096.size a := fun v762 k0_hw127 => k0_hw127
def k0_off130 (k0_t9 : Fin k0_t9_loop.trips) : Fin 1 → Nat :=
  let c0_i32_132 : BitVec 32 := 0#32
  let c0_i32_31 : BitVec 32 := 0#32
  let c1_i32_33 : BitVec 32 := 1#32
  let arg11 : BitVec 32 := Scf.iv c0_i32_31 c1_i32_33 k0_t9
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c240_i32 : BitVec 32 := 240#32
  let v763 : BitVec 32 := Scalar.addi v612 c240_i32
  let v764 : Index := Scalar.indexCast v763
  ![v764.toNat]

def k0_chk128 (v772 : IVec S16 32) : Prop :=
  (∀ a x, ((![v772] : Fin 1 → IVec S16 32) a x).toNat < S4096.size a)
theorem k0_idx128_inb : ∀ (v772 : IVec S16 32) (k0_hw128 : k0_chk128 v772), ∀ a x, ((![v772] : Fin 1 → IVec S16 32) a x).toNat < S4096.size a := fun v772 k0_hw128 => k0_hw128
@[reducible] def k0_t10_loop : Scf.Loop 32 :=
  let c0_i32_35 : BitVec 32 := 0#32
  let c64_i32_36 : BitVec 32 := 64#32
  let v34 : BitVec 32 := Scalar.addi c0_i32_35 c64_i32_36
  let c1_i32_37 : BitVec 32 := 1#32
  ⟨c0_i32_35, v34, c1_i32_37⟩
def k0_mult10 (k0_t10 : Fin k0_t10_loop.trips) : BitVec 32 :=
  let c0_i32_132 : BitVec 32 := 0#32
  let c0_i32_35 : BitVec 32 := 0#32
  let c1_i32_37 : BitVec 32 := 1#32
  let arg11 : BitVec 32 := Scf.iv c0_i32_35 c1_i32_37 k0_t10
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  v611
def k0_off131 (k0_t10 : Fin k0_t10_loop.trips) : Fin 1 → Nat :=
  let c0_i32_132 : BitVec 32 := 0#32
  let c0_i32_35 : BitVec 32 := 0#32
  let c1_i32_37 : BitVec 32 := 1#32
  let arg11 : BitVec 32 := Scf.iv c0_i32_35 c1_i32_37 k0_t10
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c0_i32_134 : BitVec 32 := 0#32
  let v613 : BitVec 32 := Scalar.addi v612 c0_i32_134
  let v614 : Index := Scalar.indexCast v613
  ![v614.toNat]

def k0_chk129 (v622 : IVec S16 32) : Prop :=
  (∀ a x, ((![v622] : Fin 1 → IVec S16 32) a x).toNat < S4096.size a)
theorem k0_idx129_inb : ∀ (v622 : IVec S16 32) (k0_hw129 : k0_chk129 v622), ∀ a x, ((![v622] : Fin 1 → IVec S16 32) a x).toNat < S4096.size a := fun v622 k0_hw129 => k0_hw129
def k0_off132 (k0_t10 : Fin k0_t10_loop.trips) : Fin 1 → Nat :=
  let c0_i32_132 : BitVec 32 := 0#32
  let c0_i32_35 : BitVec 32 := 0#32
  let c1_i32_37 : BitVec 32 := 1#32
  let arg11 : BitVec 32 := Scf.iv c0_i32_35 c1_i32_37 k0_t10
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c16_i32 : BitVec 32 := 16#32
  let v623 : BitVec 32 := Scalar.addi v612 c16_i32
  let v624 : Index := Scalar.indexCast v623
  ![v624.toNat]

def k0_chk130 (v632 : IVec S16 32) : Prop :=
  (∀ a x, ((![v632] : Fin 1 → IVec S16 32) a x).toNat < S4096.size a)
theorem k0_idx130_inb : ∀ (v632 : IVec S16 32) (k0_hw130 : k0_chk130 v632), ∀ a x, ((![v632] : Fin 1 → IVec S16 32) a x).toNat < S4096.size a := fun v632 k0_hw130 => k0_hw130
def k0_off133 (k0_t10 : Fin k0_t10_loop.trips) : Fin 1 → Nat :=
  let c0_i32_132 : BitVec 32 := 0#32
  let c0_i32_35 : BitVec 32 := 0#32
  let c1_i32_37 : BitVec 32 := 1#32
  let arg11 : BitVec 32 := Scf.iv c0_i32_35 c1_i32_37 k0_t10
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c32_i32 : BitVec 32 := 32#32
  let v633 : BitVec 32 := Scalar.addi v612 c32_i32
  let v634 : Index := Scalar.indexCast v633
  ![v634.toNat]

def k0_chk131 (v642 : IVec S16 32) : Prop :=
  (∀ a x, ((![v642] : Fin 1 → IVec S16 32) a x).toNat < S4096.size a)
theorem k0_idx131_inb : ∀ (v642 : IVec S16 32) (k0_hw131 : k0_chk131 v642), ∀ a x, ((![v642] : Fin 1 → IVec S16 32) a x).toNat < S4096.size a := fun v642 k0_hw131 => k0_hw131
def k0_off134 (k0_t10 : Fin k0_t10_loop.trips) : Fin 1 → Nat :=
  let c0_i32_132 : BitVec 32 := 0#32
  let c0_i32_35 : BitVec 32 := 0#32
  let c1_i32_37 : BitVec 32 := 1#32
  let arg11 : BitVec 32 := Scf.iv c0_i32_35 c1_i32_37 k0_t10
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c48_i32 : BitVec 32 := 48#32
  let v643 : BitVec 32 := Scalar.addi v612 c48_i32
  let v644 : Index := Scalar.indexCast v643
  ![v644.toNat]

def k0_chk132 (v652 : IVec S16 32) : Prop :=
  (∀ a x, ((![v652] : Fin 1 → IVec S16 32) a x).toNat < S4096.size a)
theorem k0_idx132_inb : ∀ (v652 : IVec S16 32) (k0_hw132 : k0_chk132 v652), ∀ a x, ((![v652] : Fin 1 → IVec S16 32) a x).toNat < S4096.size a := fun v652 k0_hw132 => k0_hw132
def k0_off135 (k0_t10 : Fin k0_t10_loop.trips) : Fin 1 → Nat :=
  let c0_i32_132 : BitVec 32 := 0#32
  let c0_i32_35 : BitVec 32 := 0#32
  let c1_i32_37 : BitVec 32 := 1#32
  let arg11 : BitVec 32 := Scf.iv c0_i32_35 c1_i32_37 k0_t10
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c64_i32_135 : BitVec 32 := 64#32
  let v653 : BitVec 32 := Scalar.addi v612 c64_i32_135
  let v654 : Index := Scalar.indexCast v653
  ![v654.toNat]

def k0_chk133 (v662 : IVec S16 32) : Prop :=
  (∀ a x, ((![v662] : Fin 1 → IVec S16 32) a x).toNat < S4096.size a)
theorem k0_idx133_inb : ∀ (v662 : IVec S16 32) (k0_hw133 : k0_chk133 v662), ∀ a x, ((![v662] : Fin 1 → IVec S16 32) a x).toNat < S4096.size a := fun v662 k0_hw133 => k0_hw133
def k0_off136 (k0_t10 : Fin k0_t10_loop.trips) : Fin 1 → Nat :=
  let c0_i32_132 : BitVec 32 := 0#32
  let c0_i32_35 : BitVec 32 := 0#32
  let c1_i32_37 : BitVec 32 := 1#32
  let arg11 : BitVec 32 := Scf.iv c0_i32_35 c1_i32_37 k0_t10
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c80_i32 : BitVec 32 := 80#32
  let v663 : BitVec 32 := Scalar.addi v612 c80_i32
  let v664 : Index := Scalar.indexCast v663
  ![v664.toNat]

def k0_chk134 (v672 : IVec S16 32) : Prop :=
  (∀ a x, ((![v672] : Fin 1 → IVec S16 32) a x).toNat < S4096.size a)
theorem k0_idx134_inb : ∀ (v672 : IVec S16 32) (k0_hw134 : k0_chk134 v672), ∀ a x, ((![v672] : Fin 1 → IVec S16 32) a x).toNat < S4096.size a := fun v672 k0_hw134 => k0_hw134
def k0_off137 (k0_t10 : Fin k0_t10_loop.trips) : Fin 1 → Nat :=
  let c0_i32_132 : BitVec 32 := 0#32
  let c0_i32_35 : BitVec 32 := 0#32
  let c1_i32_37 : BitVec 32 := 1#32
  let arg11 : BitVec 32 := Scf.iv c0_i32_35 c1_i32_37 k0_t10
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c96_i32 : BitVec 32 := 96#32
  let v673 : BitVec 32 := Scalar.addi v612 c96_i32
  let v674 : Index := Scalar.indexCast v673
  ![v674.toNat]

def k0_chk135 (v682 : IVec S16 32) : Prop :=
  (∀ a x, ((![v682] : Fin 1 → IVec S16 32) a x).toNat < S4096.size a)
theorem k0_idx135_inb : ∀ (v682 : IVec S16 32) (k0_hw135 : k0_chk135 v682), ∀ a x, ((![v682] : Fin 1 → IVec S16 32) a x).toNat < S4096.size a := fun v682 k0_hw135 => k0_hw135
def k0_off138 (k0_t10 : Fin k0_t10_loop.trips) : Fin 1 → Nat :=
  let c0_i32_132 : BitVec 32 := 0#32
  let c0_i32_35 : BitVec 32 := 0#32
  let c1_i32_37 : BitVec 32 := 1#32
  let arg11 : BitVec 32 := Scf.iv c0_i32_35 c1_i32_37 k0_t10
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c112_i32 : BitVec 32 := 112#32
  let v683 : BitVec 32 := Scalar.addi v612 c112_i32
  let v684 : Index := Scalar.indexCast v683
  ![v684.toNat]

def k0_chk136 (v692 : IVec S16 32) : Prop :=
  (∀ a x, ((![v692] : Fin 1 → IVec S16 32) a x).toNat < S4096.size a)
theorem k0_idx136_inb : ∀ (v692 : IVec S16 32) (k0_hw136 : k0_chk136 v692), ∀ a x, ((![v692] : Fin 1 → IVec S16 32) a x).toNat < S4096.size a := fun v692 k0_hw136 => k0_hw136
def k0_off139 (k0_t10 : Fin k0_t10_loop.trips) : Fin 1 → Nat :=
  let c0_i32_132 : BitVec 32 := 0#32
  let c0_i32_35 : BitVec 32 := 0#32
  let c1_i32_37 : BitVec 32 := 1#32
  let arg11 : BitVec 32 := Scf.iv c0_i32_35 c1_i32_37 k0_t10
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c128_i32 : BitVec 32 := 128#32
  let v693 : BitVec 32 := Scalar.addi v612 c128_i32
  let v694 : Index := Scalar.indexCast v693
  ![v694.toNat]

def k0_chk137 (v702 : IVec S16 32) : Prop :=
  (∀ a x, ((![v702] : Fin 1 → IVec S16 32) a x).toNat < S4096.size a)
theorem k0_idx137_inb : ∀ (v702 : IVec S16 32) (k0_hw137 : k0_chk137 v702), ∀ a x, ((![v702] : Fin 1 → IVec S16 32) a x).toNat < S4096.size a := fun v702 k0_hw137 => k0_hw137
def k0_off140 (k0_t10 : Fin k0_t10_loop.trips) : Fin 1 → Nat :=
  let c0_i32_132 : BitVec 32 := 0#32
  let c0_i32_35 : BitVec 32 := 0#32
  let c1_i32_37 : BitVec 32 := 1#32
  let arg11 : BitVec 32 := Scf.iv c0_i32_35 c1_i32_37 k0_t10
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c144_i32 : BitVec 32 := 144#32
  let v703 : BitVec 32 := Scalar.addi v612 c144_i32
  let v704 : Index := Scalar.indexCast v703
  ![v704.toNat]

def k0_chk138 (v712 : IVec S16 32) : Prop :=
  (∀ a x, ((![v712] : Fin 1 → IVec S16 32) a x).toNat < S4096.size a)
theorem k0_idx138_inb : ∀ (v712 : IVec S16 32) (k0_hw138 : k0_chk138 v712), ∀ a x, ((![v712] : Fin 1 → IVec S16 32) a x).toNat < S4096.size a := fun v712 k0_hw138 => k0_hw138
def k0_off141 (k0_t10 : Fin k0_t10_loop.trips) : Fin 1 → Nat :=
  let c0_i32_132 : BitVec 32 := 0#32
  let c0_i32_35 : BitVec 32 := 0#32
  let c1_i32_37 : BitVec 32 := 1#32
  let arg11 : BitVec 32 := Scf.iv c0_i32_35 c1_i32_37 k0_t10
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c160_i32 : BitVec 32 := 160#32
  let v713 : BitVec 32 := Scalar.addi v612 c160_i32
  let v714 : Index := Scalar.indexCast v713
  ![v714.toNat]

def k0_chk139 (v722 : IVec S16 32) : Prop :=
  (∀ a x, ((![v722] : Fin 1 → IVec S16 32) a x).toNat < S4096.size a)
theorem k0_idx139_inb : ∀ (v722 : IVec S16 32) (k0_hw139 : k0_chk139 v722), ∀ a x, ((![v722] : Fin 1 → IVec S16 32) a x).toNat < S4096.size a := fun v722 k0_hw139 => k0_hw139
def k0_off142 (k0_t10 : Fin k0_t10_loop.trips) : Fin 1 → Nat :=
  let c0_i32_132 : BitVec 32 := 0#32
  let c0_i32_35 : BitVec 32 := 0#32
  let c1_i32_37 : BitVec 32 := 1#32
  let arg11 : BitVec 32 := Scf.iv c0_i32_35 c1_i32_37 k0_t10
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c176_i32 : BitVec 32 := 176#32
  let v723 : BitVec 32 := Scalar.addi v612 c176_i32
  let v724 : Index := Scalar.indexCast v723
  ![v724.toNat]

def k0_chk140 (v732 : IVec S16 32) : Prop :=
  (∀ a x, ((![v732] : Fin 1 → IVec S16 32) a x).toNat < S4096.size a)
theorem k0_idx140_inb : ∀ (v732 : IVec S16 32) (k0_hw140 : k0_chk140 v732), ∀ a x, ((![v732] : Fin 1 → IVec S16 32) a x).toNat < S4096.size a := fun v732 k0_hw140 => k0_hw140
def k0_off143 (k0_t10 : Fin k0_t10_loop.trips) : Fin 1 → Nat :=
  let c0_i32_132 : BitVec 32 := 0#32
  let c0_i32_35 : BitVec 32 := 0#32
  let c1_i32_37 : BitVec 32 := 1#32
  let arg11 : BitVec 32 := Scf.iv c0_i32_35 c1_i32_37 k0_t10
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c192_i32 : BitVec 32 := 192#32
  let v733 : BitVec 32 := Scalar.addi v612 c192_i32
  let v734 : Index := Scalar.indexCast v733
  ![v734.toNat]

def k0_chk141 (v742 : IVec S16 32) : Prop :=
  (∀ a x, ((![v742] : Fin 1 → IVec S16 32) a x).toNat < S4096.size a)
theorem k0_idx141_inb : ∀ (v742 : IVec S16 32) (k0_hw141 : k0_chk141 v742), ∀ a x, ((![v742] : Fin 1 → IVec S16 32) a x).toNat < S4096.size a := fun v742 k0_hw141 => k0_hw141
def k0_off144 (k0_t10 : Fin k0_t10_loop.trips) : Fin 1 → Nat :=
  let c0_i32_132 : BitVec 32 := 0#32
  let c0_i32_35 : BitVec 32 := 0#32
  let c1_i32_37 : BitVec 32 := 1#32
  let arg11 : BitVec 32 := Scf.iv c0_i32_35 c1_i32_37 k0_t10
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c208_i32 : BitVec 32 := 208#32
  let v743 : BitVec 32 := Scalar.addi v612 c208_i32
  let v744 : Index := Scalar.indexCast v743
  ![v744.toNat]

def k0_chk142 (v752 : IVec S16 32) : Prop :=
  (∀ a x, ((![v752] : Fin 1 → IVec S16 32) a x).toNat < S4096.size a)
theorem k0_idx142_inb : ∀ (v752 : IVec S16 32) (k0_hw142 : k0_chk142 v752), ∀ a x, ((![v752] : Fin 1 → IVec S16 32) a x).toNat < S4096.size a := fun v752 k0_hw142 => k0_hw142
def k0_off145 (k0_t10 : Fin k0_t10_loop.trips) : Fin 1 → Nat :=
  let c0_i32_132 : BitVec 32 := 0#32
  let c0_i32_35 : BitVec 32 := 0#32
  let c1_i32_37 : BitVec 32 := 1#32
  let arg11 : BitVec 32 := Scf.iv c0_i32_35 c1_i32_37 k0_t10
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c224_i32 : BitVec 32 := 224#32
  let v753 : BitVec 32 := Scalar.addi v612 c224_i32
  let v754 : Index := Scalar.indexCast v753
  ![v754.toNat]

def k0_chk143 (v762 : IVec S16 32) : Prop :=
  (∀ a x, ((![v762] : Fin 1 → IVec S16 32) a x).toNat < S4096.size a)
theorem k0_idx143_inb : ∀ (v762 : IVec S16 32) (k0_hw143 : k0_chk143 v762), ∀ a x, ((![v762] : Fin 1 → IVec S16 32) a x).toNat < S4096.size a := fun v762 k0_hw143 => k0_hw143
def k0_off146 (k0_t10 : Fin k0_t10_loop.trips) : Fin 1 → Nat :=
  let c0_i32_132 : BitVec 32 := 0#32
  let c0_i32_35 : BitVec 32 := 0#32
  let c1_i32_37 : BitVec 32 := 1#32
  let arg11 : BitVec 32 := Scf.iv c0_i32_35 c1_i32_37 k0_t10
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c240_i32 : BitVec 32 := 240#32
  let v763 : BitVec 32 := Scalar.addi v612 c240_i32
  let v764 : Index := Scalar.indexCast v763
  ![v764.toNat]

def k0_chk144 (v772 : IVec S16 32) : Prop :=
  (∀ a x, ((![v772] : Fin 1 → IVec S16 32) a x).toNat < S4096.size a)
theorem k0_idx144_inb : ∀ (v772 : IVec S16 32) (k0_hw144 : k0_chk144 v772), ∀ a x, ((![v772] : Fin 1 → IVec S16 32) a x).toNat < S4096.size a := fun v772 k0_hw144 => k0_hw144
@[reducible] def k0_t11_loop : Scf.Loop 32 :=
  let c0_i32_39 : BitVec 32 := 0#32
  let c64_i32_40 : BitVec 32 := 64#32
  let v37 : BitVec 32 := Scalar.addi c0_i32_39 c64_i32_40
  let c1_i32_41 : BitVec 32 := 1#32
  ⟨c0_i32_39, v37, c1_i32_41⟩
def k0_mult11 (k0_t11 : Fin k0_t11_loop.trips) : BitVec 32 :=
  let c0_i32_132 : BitVec 32 := 0#32
  let c0_i32_39 : BitVec 32 := 0#32
  let c1_i32_41 : BitVec 32 := 1#32
  let arg11 : BitVec 32 := Scf.iv c0_i32_39 c1_i32_41 k0_t11
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  v611
def k0_off147 (k0_t11 : Fin k0_t11_loop.trips) : Fin 1 → Nat :=
  let c0_i32_132 : BitVec 32 := 0#32
  let c0_i32_39 : BitVec 32 := 0#32
  let c1_i32_41 : BitVec 32 := 1#32
  let arg11 : BitVec 32 := Scf.iv c0_i32_39 c1_i32_41 k0_t11
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c0_i32_134 : BitVec 32 := 0#32
  let v613 : BitVec 32 := Scalar.addi v612 c0_i32_134
  let v614 : Index := Scalar.indexCast v613
  ![v614.toNat]

def k0_chk145 (v622 : IVec S16 32) : Prop :=
  (∀ a x, ((![v622] : Fin 1 → IVec S16 32) a x).toNat < S4096.size a)
theorem k0_idx145_inb : ∀ (v622 : IVec S16 32) (k0_hw145 : k0_chk145 v622), ∀ a x, ((![v622] : Fin 1 → IVec S16 32) a x).toNat < S4096.size a := fun v622 k0_hw145 => k0_hw145
def k0_off148 (k0_t11 : Fin k0_t11_loop.trips) : Fin 1 → Nat :=
  let c0_i32_132 : BitVec 32 := 0#32
  let c0_i32_39 : BitVec 32 := 0#32
  let c1_i32_41 : BitVec 32 := 1#32
  let arg11 : BitVec 32 := Scf.iv c0_i32_39 c1_i32_41 k0_t11
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c16_i32 : BitVec 32 := 16#32
  let v623 : BitVec 32 := Scalar.addi v612 c16_i32
  let v624 : Index := Scalar.indexCast v623
  ![v624.toNat]

def k0_chk146 (v632 : IVec S16 32) : Prop :=
  (∀ a x, ((![v632] : Fin 1 → IVec S16 32) a x).toNat < S4096.size a)
theorem k0_idx146_inb : ∀ (v632 : IVec S16 32) (k0_hw146 : k0_chk146 v632), ∀ a x, ((![v632] : Fin 1 → IVec S16 32) a x).toNat < S4096.size a := fun v632 k0_hw146 => k0_hw146
def k0_off149 (k0_t11 : Fin k0_t11_loop.trips) : Fin 1 → Nat :=
  let c0_i32_132 : BitVec 32 := 0#32
  let c0_i32_39 : BitVec 32 := 0#32
  let c1_i32_41 : BitVec 32 := 1#32
  let arg11 : BitVec 32 := Scf.iv c0_i32_39 c1_i32_41 k0_t11
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c32_i32 : BitVec 32 := 32#32
  let v633 : BitVec 32 := Scalar.addi v612 c32_i32
  let v634 : Index := Scalar.indexCast v633
  ![v634.toNat]

def k0_chk147 (v642 : IVec S16 32) : Prop :=
  (∀ a x, ((![v642] : Fin 1 → IVec S16 32) a x).toNat < S4096.size a)
theorem k0_idx147_inb : ∀ (v642 : IVec S16 32) (k0_hw147 : k0_chk147 v642), ∀ a x, ((![v642] : Fin 1 → IVec S16 32) a x).toNat < S4096.size a := fun v642 k0_hw147 => k0_hw147
def k0_off150 (k0_t11 : Fin k0_t11_loop.trips) : Fin 1 → Nat :=
  let c0_i32_132 : BitVec 32 := 0#32
  let c0_i32_39 : BitVec 32 := 0#32
  let c1_i32_41 : BitVec 32 := 1#32
  let arg11 : BitVec 32 := Scf.iv c0_i32_39 c1_i32_41 k0_t11
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c48_i32 : BitVec 32 := 48#32
  let v643 : BitVec 32 := Scalar.addi v612 c48_i32
  let v644 : Index := Scalar.indexCast v643
  ![v644.toNat]

def k0_chk148 (v652 : IVec S16 32) : Prop :=
  (∀ a x, ((![v652] : Fin 1 → IVec S16 32) a x).toNat < S4096.size a)
theorem k0_idx148_inb : ∀ (v652 : IVec S16 32) (k0_hw148 : k0_chk148 v652), ∀ a x, ((![v652] : Fin 1 → IVec S16 32) a x).toNat < S4096.size a := fun v652 k0_hw148 => k0_hw148
def k0_off151 (k0_t11 : Fin k0_t11_loop.trips) : Fin 1 → Nat :=
  let c0_i32_132 : BitVec 32 := 0#32
  let c0_i32_39 : BitVec 32 := 0#32
  let c1_i32_41 : BitVec 32 := 1#32
  let arg11 : BitVec 32 := Scf.iv c0_i32_39 c1_i32_41 k0_t11
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c64_i32_135 : BitVec 32 := 64#32
  let v653 : BitVec 32 := Scalar.addi v612 c64_i32_135
  let v654 : Index := Scalar.indexCast v653
  ![v654.toNat]

def k0_chk149 (v662 : IVec S16 32) : Prop :=
  (∀ a x, ((![v662] : Fin 1 → IVec S16 32) a x).toNat < S4096.size a)
theorem k0_idx149_inb : ∀ (v662 : IVec S16 32) (k0_hw149 : k0_chk149 v662), ∀ a x, ((![v662] : Fin 1 → IVec S16 32) a x).toNat < S4096.size a := fun v662 k0_hw149 => k0_hw149
def k0_off152 (k0_t11 : Fin k0_t11_loop.trips) : Fin 1 → Nat :=
  let c0_i32_132 : BitVec 32 := 0#32
  let c0_i32_39 : BitVec 32 := 0#32
  let c1_i32_41 : BitVec 32 := 1#32
  let arg11 : BitVec 32 := Scf.iv c0_i32_39 c1_i32_41 k0_t11
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c80_i32 : BitVec 32 := 80#32
  let v663 : BitVec 32 := Scalar.addi v612 c80_i32
  let v664 : Index := Scalar.indexCast v663
  ![v664.toNat]

def k0_chk150 (v672 : IVec S16 32) : Prop :=
  (∀ a x, ((![v672] : Fin 1 → IVec S16 32) a x).toNat < S4096.size a)
theorem k0_idx150_inb : ∀ (v672 : IVec S16 32) (k0_hw150 : k0_chk150 v672), ∀ a x, ((![v672] : Fin 1 → IVec S16 32) a x).toNat < S4096.size a := fun v672 k0_hw150 => k0_hw150
def k0_off153 (k0_t11 : Fin k0_t11_loop.trips) : Fin 1 → Nat :=
  let c0_i32_132 : BitVec 32 := 0#32
  let c0_i32_39 : BitVec 32 := 0#32
  let c1_i32_41 : BitVec 32 := 1#32
  let arg11 : BitVec 32 := Scf.iv c0_i32_39 c1_i32_41 k0_t11
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c96_i32 : BitVec 32 := 96#32
  let v673 : BitVec 32 := Scalar.addi v612 c96_i32
  let v674 : Index := Scalar.indexCast v673
  ![v674.toNat]

def k0_chk151 (v682 : IVec S16 32) : Prop :=
  (∀ a x, ((![v682] : Fin 1 → IVec S16 32) a x).toNat < S4096.size a)
theorem k0_idx151_inb : ∀ (v682 : IVec S16 32) (k0_hw151 : k0_chk151 v682), ∀ a x, ((![v682] : Fin 1 → IVec S16 32) a x).toNat < S4096.size a := fun v682 k0_hw151 => k0_hw151
def k0_off154 (k0_t11 : Fin k0_t11_loop.trips) : Fin 1 → Nat :=
  let c0_i32_132 : BitVec 32 := 0#32
  let c0_i32_39 : BitVec 32 := 0#32
  let c1_i32_41 : BitVec 32 := 1#32
  let arg11 : BitVec 32 := Scf.iv c0_i32_39 c1_i32_41 k0_t11
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c112_i32 : BitVec 32 := 112#32
  let v683 : BitVec 32 := Scalar.addi v612 c112_i32
  let v684 : Index := Scalar.indexCast v683
  ![v684.toNat]

def k0_chk152 (v692 : IVec S16 32) : Prop :=
  (∀ a x, ((![v692] : Fin 1 → IVec S16 32) a x).toNat < S4096.size a)
theorem k0_idx152_inb : ∀ (v692 : IVec S16 32) (k0_hw152 : k0_chk152 v692), ∀ a x, ((![v692] : Fin 1 → IVec S16 32) a x).toNat < S4096.size a := fun v692 k0_hw152 => k0_hw152
def k0_off155 (k0_t11 : Fin k0_t11_loop.trips) : Fin 1 → Nat :=
  let c0_i32_132 : BitVec 32 := 0#32
  let c0_i32_39 : BitVec 32 := 0#32
  let c1_i32_41 : BitVec 32 := 1#32
  let arg11 : BitVec 32 := Scf.iv c0_i32_39 c1_i32_41 k0_t11
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c128_i32 : BitVec 32 := 128#32
  let v693 : BitVec 32 := Scalar.addi v612 c128_i32
  let v694 : Index := Scalar.indexCast v693
  ![v694.toNat]

def k0_chk153 (v702 : IVec S16 32) : Prop :=
  (∀ a x, ((![v702] : Fin 1 → IVec S16 32) a x).toNat < S4096.size a)
theorem k0_idx153_inb : ∀ (v702 : IVec S16 32) (k0_hw153 : k0_chk153 v702), ∀ a x, ((![v702] : Fin 1 → IVec S16 32) a x).toNat < S4096.size a := fun v702 k0_hw153 => k0_hw153
def k0_off156 (k0_t11 : Fin k0_t11_loop.trips) : Fin 1 → Nat :=
  let c0_i32_132 : BitVec 32 := 0#32
  let c0_i32_39 : BitVec 32 := 0#32
  let c1_i32_41 : BitVec 32 := 1#32
  let arg11 : BitVec 32 := Scf.iv c0_i32_39 c1_i32_41 k0_t11
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c144_i32 : BitVec 32 := 144#32
  let v703 : BitVec 32 := Scalar.addi v612 c144_i32
  let v704 : Index := Scalar.indexCast v703
  ![v704.toNat]

def k0_chk154 (v712 : IVec S16 32) : Prop :=
  (∀ a x, ((![v712] : Fin 1 → IVec S16 32) a x).toNat < S4096.size a)
theorem k0_idx154_inb : ∀ (v712 : IVec S16 32) (k0_hw154 : k0_chk154 v712), ∀ a x, ((![v712] : Fin 1 → IVec S16 32) a x).toNat < S4096.size a := fun v712 k0_hw154 => k0_hw154
def k0_off157 (k0_t11 : Fin k0_t11_loop.trips) : Fin 1 → Nat :=
  let c0_i32_132 : BitVec 32 := 0#32
  let c0_i32_39 : BitVec 32 := 0#32
  let c1_i32_41 : BitVec 32 := 1#32
  let arg11 : BitVec 32 := Scf.iv c0_i32_39 c1_i32_41 k0_t11
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c160_i32 : BitVec 32 := 160#32
  let v713 : BitVec 32 := Scalar.addi v612 c160_i32
  let v714 : Index := Scalar.indexCast v713
  ![v714.toNat]

def k0_chk155 (v722 : IVec S16 32) : Prop :=
  (∀ a x, ((![v722] : Fin 1 → IVec S16 32) a x).toNat < S4096.size a)
theorem k0_idx155_inb : ∀ (v722 : IVec S16 32) (k0_hw155 : k0_chk155 v722), ∀ a x, ((![v722] : Fin 1 → IVec S16 32) a x).toNat < S4096.size a := fun v722 k0_hw155 => k0_hw155
def k0_off158 (k0_t11 : Fin k0_t11_loop.trips) : Fin 1 → Nat :=
  let c0_i32_132 : BitVec 32 := 0#32
  let c0_i32_39 : BitVec 32 := 0#32
  let c1_i32_41 : BitVec 32 := 1#32
  let arg11 : BitVec 32 := Scf.iv c0_i32_39 c1_i32_41 k0_t11
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c176_i32 : BitVec 32 := 176#32
  let v723 : BitVec 32 := Scalar.addi v612 c176_i32
  let v724 : Index := Scalar.indexCast v723
  ![v724.toNat]

def k0_chk156 (v732 : IVec S16 32) : Prop :=
  (∀ a x, ((![v732] : Fin 1 → IVec S16 32) a x).toNat < S4096.size a)
theorem k0_idx156_inb : ∀ (v732 : IVec S16 32) (k0_hw156 : k0_chk156 v732), ∀ a x, ((![v732] : Fin 1 → IVec S16 32) a x).toNat < S4096.size a := fun v732 k0_hw156 => k0_hw156
def k0_off159 (k0_t11 : Fin k0_t11_loop.trips) : Fin 1 → Nat :=
  let c0_i32_132 : BitVec 32 := 0#32
  let c0_i32_39 : BitVec 32 := 0#32
  let c1_i32_41 : BitVec 32 := 1#32
  let arg11 : BitVec 32 := Scf.iv c0_i32_39 c1_i32_41 k0_t11
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c192_i32 : BitVec 32 := 192#32
  let v733 : BitVec 32 := Scalar.addi v612 c192_i32
  let v734 : Index := Scalar.indexCast v733
  ![v734.toNat]

def k0_chk157 (v742 : IVec S16 32) : Prop :=
  (∀ a x, ((![v742] : Fin 1 → IVec S16 32) a x).toNat < S4096.size a)
theorem k0_idx157_inb : ∀ (v742 : IVec S16 32) (k0_hw157 : k0_chk157 v742), ∀ a x, ((![v742] : Fin 1 → IVec S16 32) a x).toNat < S4096.size a := fun v742 k0_hw157 => k0_hw157
def k0_off160 (k0_t11 : Fin k0_t11_loop.trips) : Fin 1 → Nat :=
  let c0_i32_132 : BitVec 32 := 0#32
  let c0_i32_39 : BitVec 32 := 0#32
  let c1_i32_41 : BitVec 32 := 1#32
  let arg11 : BitVec 32 := Scf.iv c0_i32_39 c1_i32_41 k0_t11
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c208_i32 : BitVec 32 := 208#32
  let v743 : BitVec 32 := Scalar.addi v612 c208_i32
  let v744 : Index := Scalar.indexCast v743
  ![v744.toNat]

def k0_chk158 (v752 : IVec S16 32) : Prop :=
  (∀ a x, ((![v752] : Fin 1 → IVec S16 32) a x).toNat < S4096.size a)
theorem k0_idx158_inb : ∀ (v752 : IVec S16 32) (k0_hw158 : k0_chk158 v752), ∀ a x, ((![v752] : Fin 1 → IVec S16 32) a x).toNat < S4096.size a := fun v752 k0_hw158 => k0_hw158
def k0_off161 (k0_t11 : Fin k0_t11_loop.trips) : Fin 1 → Nat :=
  let c0_i32_132 : BitVec 32 := 0#32
  let c0_i32_39 : BitVec 32 := 0#32
  let c1_i32_41 : BitVec 32 := 1#32
  let arg11 : BitVec 32 := Scf.iv c0_i32_39 c1_i32_41 k0_t11
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c224_i32 : BitVec 32 := 224#32
  let v753 : BitVec 32 := Scalar.addi v612 c224_i32
  let v754 : Index := Scalar.indexCast v753
  ![v754.toNat]

def k0_chk159 (v762 : IVec S16 32) : Prop :=
  (∀ a x, ((![v762] : Fin 1 → IVec S16 32) a x).toNat < S4096.size a)
theorem k0_idx159_inb : ∀ (v762 : IVec S16 32) (k0_hw159 : k0_chk159 v762), ∀ a x, ((![v762] : Fin 1 → IVec S16 32) a x).toNat < S4096.size a := fun v762 k0_hw159 => k0_hw159
def k0_off162 (k0_t11 : Fin k0_t11_loop.trips) : Fin 1 → Nat :=
  let c0_i32_132 : BitVec 32 := 0#32
  let c0_i32_39 : BitVec 32 := 0#32
  let c1_i32_41 : BitVec 32 := 1#32
  let arg11 : BitVec 32 := Scf.iv c0_i32_39 c1_i32_41 k0_t11
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c240_i32 : BitVec 32 := 240#32
  let v763 : BitVec 32 := Scalar.addi v612 c240_i32
  let v764 : Index := Scalar.indexCast v763
  ![v764.toNat]

def k0_chk160 (v772 : IVec S16 32) : Prop :=
  (∀ a x, ((![v772] : Fin 1 → IVec S16 32) a x).toNat < S4096.size a)
theorem k0_idx160_inb : ∀ (v772 : IVec S16 32) (k0_hw160 : k0_chk160 v772), ∀ a x, ((![v772] : Fin 1 → IVec S16 32) a x).toNat < S4096.size a := fun v772 k0_hw160 => k0_hw160
@[reducible] def k0_t12_loop : Scf.Loop 32 :=
  let c0_i32_43 : BitVec 32 := 0#32
  let c64_i32_44 : BitVec 32 := 64#32
  let v40 : BitVec 32 := Scalar.addi c0_i32_43 c64_i32_44
  let c1_i32_45 : BitVec 32 := 1#32
  ⟨c0_i32_43, v40, c1_i32_45⟩
def k0_mult12 (k0_t12 : Fin k0_t12_loop.trips) : BitVec 32 :=
  let c0_i32_132 : BitVec 32 := 0#32
  let c0_i32_43 : BitVec 32 := 0#32
  let c1_i32_45 : BitVec 32 := 1#32
  let arg11 : BitVec 32 := Scf.iv c0_i32_43 c1_i32_45 k0_t12
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  v611
def k0_off163 (k0_t12 : Fin k0_t12_loop.trips) : Fin 1 → Nat :=
  let c0_i32_132 : BitVec 32 := 0#32
  let c0_i32_43 : BitVec 32 := 0#32
  let c1_i32_45 : BitVec 32 := 1#32
  let arg11 : BitVec 32 := Scf.iv c0_i32_43 c1_i32_45 k0_t12
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c0_i32_134 : BitVec 32 := 0#32
  let v613 : BitVec 32 := Scalar.addi v612 c0_i32_134
  let v614 : Index := Scalar.indexCast v613
  ![v614.toNat]

def k0_chk161 (v622 : IVec S16 32) : Prop :=
  (∀ a x, ((![v622] : Fin 1 → IVec S16 32) a x).toNat < S4096.size a)
theorem k0_idx161_inb : ∀ (v622 : IVec S16 32) (k0_hw161 : k0_chk161 v622), ∀ a x, ((![v622] : Fin 1 → IVec S16 32) a x).toNat < S4096.size a := fun v622 k0_hw161 => k0_hw161
def k0_off164 (k0_t12 : Fin k0_t12_loop.trips) : Fin 1 → Nat :=
  let c0_i32_132 : BitVec 32 := 0#32
  let c0_i32_43 : BitVec 32 := 0#32
  let c1_i32_45 : BitVec 32 := 1#32
  let arg11 : BitVec 32 := Scf.iv c0_i32_43 c1_i32_45 k0_t12
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c16_i32 : BitVec 32 := 16#32
  let v623 : BitVec 32 := Scalar.addi v612 c16_i32
  let v624 : Index := Scalar.indexCast v623
  ![v624.toNat]

def k0_chk162 (v632 : IVec S16 32) : Prop :=
  (∀ a x, ((![v632] : Fin 1 → IVec S16 32) a x).toNat < S4096.size a)
theorem k0_idx162_inb : ∀ (v632 : IVec S16 32) (k0_hw162 : k0_chk162 v632), ∀ a x, ((![v632] : Fin 1 → IVec S16 32) a x).toNat < S4096.size a := fun v632 k0_hw162 => k0_hw162
def k0_off165 (k0_t12 : Fin k0_t12_loop.trips) : Fin 1 → Nat :=
  let c0_i32_132 : BitVec 32 := 0#32
  let c0_i32_43 : BitVec 32 := 0#32
  let c1_i32_45 : BitVec 32 := 1#32
  let arg11 : BitVec 32 := Scf.iv c0_i32_43 c1_i32_45 k0_t12
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c32_i32 : BitVec 32 := 32#32
  let v633 : BitVec 32 := Scalar.addi v612 c32_i32
  let v634 : Index := Scalar.indexCast v633
  ![v634.toNat]

def k0_chk163 (v642 : IVec S16 32) : Prop :=
  (∀ a x, ((![v642] : Fin 1 → IVec S16 32) a x).toNat < S4096.size a)
theorem k0_idx163_inb : ∀ (v642 : IVec S16 32) (k0_hw163 : k0_chk163 v642), ∀ a x, ((![v642] : Fin 1 → IVec S16 32) a x).toNat < S4096.size a := fun v642 k0_hw163 => k0_hw163
def k0_off166 (k0_t12 : Fin k0_t12_loop.trips) : Fin 1 → Nat :=
  let c0_i32_132 : BitVec 32 := 0#32
  let c0_i32_43 : BitVec 32 := 0#32
  let c1_i32_45 : BitVec 32 := 1#32
  let arg11 : BitVec 32 := Scf.iv c0_i32_43 c1_i32_45 k0_t12
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c48_i32 : BitVec 32 := 48#32
  let v643 : BitVec 32 := Scalar.addi v612 c48_i32
  let v644 : Index := Scalar.indexCast v643
  ![v644.toNat]

def k0_chk164 (v652 : IVec S16 32) : Prop :=
  (∀ a x, ((![v652] : Fin 1 → IVec S16 32) a x).toNat < S4096.size a)
theorem k0_idx164_inb : ∀ (v652 : IVec S16 32) (k0_hw164 : k0_chk164 v652), ∀ a x, ((![v652] : Fin 1 → IVec S16 32) a x).toNat < S4096.size a := fun v652 k0_hw164 => k0_hw164
def k0_off167 (k0_t12 : Fin k0_t12_loop.trips) : Fin 1 → Nat :=
  let c0_i32_132 : BitVec 32 := 0#32
  let c0_i32_43 : BitVec 32 := 0#32
  let c1_i32_45 : BitVec 32 := 1#32
  let arg11 : BitVec 32 := Scf.iv c0_i32_43 c1_i32_45 k0_t12
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c64_i32_135 : BitVec 32 := 64#32
  let v653 : BitVec 32 := Scalar.addi v612 c64_i32_135
  let v654 : Index := Scalar.indexCast v653
  ![v654.toNat]

def k0_chk165 (v662 : IVec S16 32) : Prop :=
  (∀ a x, ((![v662] : Fin 1 → IVec S16 32) a x).toNat < S4096.size a)
theorem k0_idx165_inb : ∀ (v662 : IVec S16 32) (k0_hw165 : k0_chk165 v662), ∀ a x, ((![v662] : Fin 1 → IVec S16 32) a x).toNat < S4096.size a := fun v662 k0_hw165 => k0_hw165
def k0_off168 (k0_t12 : Fin k0_t12_loop.trips) : Fin 1 → Nat :=
  let c0_i32_132 : BitVec 32 := 0#32
  let c0_i32_43 : BitVec 32 := 0#32
  let c1_i32_45 : BitVec 32 := 1#32
  let arg11 : BitVec 32 := Scf.iv c0_i32_43 c1_i32_45 k0_t12
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c80_i32 : BitVec 32 := 80#32
  let v663 : BitVec 32 := Scalar.addi v612 c80_i32
  let v664 : Index := Scalar.indexCast v663
  ![v664.toNat]

def k0_chk166 (v672 : IVec S16 32) : Prop :=
  (∀ a x, ((![v672] : Fin 1 → IVec S16 32) a x).toNat < S4096.size a)
theorem k0_idx166_inb : ∀ (v672 : IVec S16 32) (k0_hw166 : k0_chk166 v672), ∀ a x, ((![v672] : Fin 1 → IVec S16 32) a x).toNat < S4096.size a := fun v672 k0_hw166 => k0_hw166
def k0_off169 (k0_t12 : Fin k0_t12_loop.trips) : Fin 1 → Nat :=
  let c0_i32_132 : BitVec 32 := 0#32
  let c0_i32_43 : BitVec 32 := 0#32
  let c1_i32_45 : BitVec 32 := 1#32
  let arg11 : BitVec 32 := Scf.iv c0_i32_43 c1_i32_45 k0_t12
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c96_i32 : BitVec 32 := 96#32
  let v673 : BitVec 32 := Scalar.addi v612 c96_i32
  let v674 : Index := Scalar.indexCast v673
  ![v674.toNat]

def k0_chk167 (v682 : IVec S16 32) : Prop :=
  (∀ a x, ((![v682] : Fin 1 → IVec S16 32) a x).toNat < S4096.size a)
theorem k0_idx167_inb : ∀ (v682 : IVec S16 32) (k0_hw167 : k0_chk167 v682), ∀ a x, ((![v682] : Fin 1 → IVec S16 32) a x).toNat < S4096.size a := fun v682 k0_hw167 => k0_hw167
def k0_off170 (k0_t12 : Fin k0_t12_loop.trips) : Fin 1 → Nat :=
  let c0_i32_132 : BitVec 32 := 0#32
  let c0_i32_43 : BitVec 32 := 0#32
  let c1_i32_45 : BitVec 32 := 1#32
  let arg11 : BitVec 32 := Scf.iv c0_i32_43 c1_i32_45 k0_t12
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c112_i32 : BitVec 32 := 112#32
  let v683 : BitVec 32 := Scalar.addi v612 c112_i32
  let v684 : Index := Scalar.indexCast v683
  ![v684.toNat]

def k0_chk168 (v692 : IVec S16 32) : Prop :=
  (∀ a x, ((![v692] : Fin 1 → IVec S16 32) a x).toNat < S4096.size a)
theorem k0_idx168_inb : ∀ (v692 : IVec S16 32) (k0_hw168 : k0_chk168 v692), ∀ a x, ((![v692] : Fin 1 → IVec S16 32) a x).toNat < S4096.size a := fun v692 k0_hw168 => k0_hw168
def k0_off171 (k0_t12 : Fin k0_t12_loop.trips) : Fin 1 → Nat :=
  let c0_i32_132 : BitVec 32 := 0#32
  let c0_i32_43 : BitVec 32 := 0#32
  let c1_i32_45 : BitVec 32 := 1#32
  let arg11 : BitVec 32 := Scf.iv c0_i32_43 c1_i32_45 k0_t12
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c128_i32 : BitVec 32 := 128#32
  let v693 : BitVec 32 := Scalar.addi v612 c128_i32
  let v694 : Index := Scalar.indexCast v693
  ![v694.toNat]

def k0_chk169 (v702 : IVec S16 32) : Prop :=
  (∀ a x, ((![v702] : Fin 1 → IVec S16 32) a x).toNat < S4096.size a)
theorem k0_idx169_inb : ∀ (v702 : IVec S16 32) (k0_hw169 : k0_chk169 v702), ∀ a x, ((![v702] : Fin 1 → IVec S16 32) a x).toNat < S4096.size a := fun v702 k0_hw169 => k0_hw169
def k0_off172 (k0_t12 : Fin k0_t12_loop.trips) : Fin 1 → Nat :=
  let c0_i32_132 : BitVec 32 := 0#32
  let c0_i32_43 : BitVec 32 := 0#32
  let c1_i32_45 : BitVec 32 := 1#32
  let arg11 : BitVec 32 := Scf.iv c0_i32_43 c1_i32_45 k0_t12
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c144_i32 : BitVec 32 := 144#32
  let v703 : BitVec 32 := Scalar.addi v612 c144_i32
  let v704 : Index := Scalar.indexCast v703
  ![v704.toNat]

def k0_chk170 (v712 : IVec S16 32) : Prop :=
  (∀ a x, ((![v712] : Fin 1 → IVec S16 32) a x).toNat < S4096.size a)
theorem k0_idx170_inb : ∀ (v712 : IVec S16 32) (k0_hw170 : k0_chk170 v712), ∀ a x, ((![v712] : Fin 1 → IVec S16 32) a x).toNat < S4096.size a := fun v712 k0_hw170 => k0_hw170
def k0_off173 (k0_t12 : Fin k0_t12_loop.trips) : Fin 1 → Nat :=
  let c0_i32_132 : BitVec 32 := 0#32
  let c0_i32_43 : BitVec 32 := 0#32
  let c1_i32_45 : BitVec 32 := 1#32
  let arg11 : BitVec 32 := Scf.iv c0_i32_43 c1_i32_45 k0_t12
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c160_i32 : BitVec 32 := 160#32
  let v713 : BitVec 32 := Scalar.addi v612 c160_i32
  let v714 : Index := Scalar.indexCast v713
  ![v714.toNat]

def k0_chk171 (v722 : IVec S16 32) : Prop :=
  (∀ a x, ((![v722] : Fin 1 → IVec S16 32) a x).toNat < S4096.size a)
theorem k0_idx171_inb : ∀ (v722 : IVec S16 32) (k0_hw171 : k0_chk171 v722), ∀ a x, ((![v722] : Fin 1 → IVec S16 32) a x).toNat < S4096.size a := fun v722 k0_hw171 => k0_hw171
def k0_off174 (k0_t12 : Fin k0_t12_loop.trips) : Fin 1 → Nat :=
  let c0_i32_132 : BitVec 32 := 0#32
  let c0_i32_43 : BitVec 32 := 0#32
  let c1_i32_45 : BitVec 32 := 1#32
  let arg11 : BitVec 32 := Scf.iv c0_i32_43 c1_i32_45 k0_t12
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c176_i32 : BitVec 32 := 176#32
  let v723 : BitVec 32 := Scalar.addi v612 c176_i32
  let v724 : Index := Scalar.indexCast v723
  ![v724.toNat]

def k0_chk172 (v732 : IVec S16 32) : Prop :=
  (∀ a x, ((![v732] : Fin 1 → IVec S16 32) a x).toNat < S4096.size a)
theorem k0_idx172_inb : ∀ (v732 : IVec S16 32) (k0_hw172 : k0_chk172 v732), ∀ a x, ((![v732] : Fin 1 → IVec S16 32) a x).toNat < S4096.size a := fun v732 k0_hw172 => k0_hw172
def k0_off175 (k0_t12 : Fin k0_t12_loop.trips) : Fin 1 → Nat :=
  let c0_i32_132 : BitVec 32 := 0#32
  let c0_i32_43 : BitVec 32 := 0#32
  let c1_i32_45 : BitVec 32 := 1#32
  let arg11 : BitVec 32 := Scf.iv c0_i32_43 c1_i32_45 k0_t12
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c192_i32 : BitVec 32 := 192#32
  let v733 : BitVec 32 := Scalar.addi v612 c192_i32
  let v734 : Index := Scalar.indexCast v733
  ![v734.toNat]

def k0_chk173 (v742 : IVec S16 32) : Prop :=
  (∀ a x, ((![v742] : Fin 1 → IVec S16 32) a x).toNat < S4096.size a)
theorem k0_idx173_inb : ∀ (v742 : IVec S16 32) (k0_hw173 : k0_chk173 v742), ∀ a x, ((![v742] : Fin 1 → IVec S16 32) a x).toNat < S4096.size a := fun v742 k0_hw173 => k0_hw173
def k0_off176 (k0_t12 : Fin k0_t12_loop.trips) : Fin 1 → Nat :=
  let c0_i32_132 : BitVec 32 := 0#32
  let c0_i32_43 : BitVec 32 := 0#32
  let c1_i32_45 : BitVec 32 := 1#32
  let arg11 : BitVec 32 := Scf.iv c0_i32_43 c1_i32_45 k0_t12
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c208_i32 : BitVec 32 := 208#32
  let v743 : BitVec 32 := Scalar.addi v612 c208_i32
  let v744 : Index := Scalar.indexCast v743
  ![v744.toNat]

def k0_chk174 (v752 : IVec S16 32) : Prop :=
  (∀ a x, ((![v752] : Fin 1 → IVec S16 32) a x).toNat < S4096.size a)
theorem k0_idx174_inb : ∀ (v752 : IVec S16 32) (k0_hw174 : k0_chk174 v752), ∀ a x, ((![v752] : Fin 1 → IVec S16 32) a x).toNat < S4096.size a := fun v752 k0_hw174 => k0_hw174
def k0_off177 (k0_t12 : Fin k0_t12_loop.trips) : Fin 1 → Nat :=
  let c0_i32_132 : BitVec 32 := 0#32
  let c0_i32_43 : BitVec 32 := 0#32
  let c1_i32_45 : BitVec 32 := 1#32
  let arg11 : BitVec 32 := Scf.iv c0_i32_43 c1_i32_45 k0_t12
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c224_i32 : BitVec 32 := 224#32
  let v753 : BitVec 32 := Scalar.addi v612 c224_i32
  let v754 : Index := Scalar.indexCast v753
  ![v754.toNat]

def k0_chk175 (v762 : IVec S16 32) : Prop :=
  (∀ a x, ((![v762] : Fin 1 → IVec S16 32) a x).toNat < S4096.size a)
theorem k0_idx175_inb : ∀ (v762 : IVec S16 32) (k0_hw175 : k0_chk175 v762), ∀ a x, ((![v762] : Fin 1 → IVec S16 32) a x).toNat < S4096.size a := fun v762 k0_hw175 => k0_hw175
def k0_off178 (k0_t12 : Fin k0_t12_loop.trips) : Fin 1 → Nat :=
  let c0_i32_132 : BitVec 32 := 0#32
  let c0_i32_43 : BitVec 32 := 0#32
  let c1_i32_45 : BitVec 32 := 1#32
  let arg11 : BitVec 32 := Scf.iv c0_i32_43 c1_i32_45 k0_t12
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c240_i32 : BitVec 32 := 240#32
  let v763 : BitVec 32 := Scalar.addi v612 c240_i32
  let v764 : Index := Scalar.indexCast v763
  ![v764.toNat]

def k0_chk176 (v772 : IVec S16 32) : Prop :=
  (∀ a x, ((![v772] : Fin 1 → IVec S16 32) a x).toNat < S4096.size a)
theorem k0_idx176_inb : ∀ (v772 : IVec S16 32) (k0_hw176 : k0_chk176 v772), ∀ a x, ((![v772] : Fin 1 → IVec S16 32) a x).toNat < S4096.size a := fun v772 k0_hw176 => k0_hw176
@[reducible] def k0_t13_loop : Scf.Loop 32 :=
  let c0_i32_47 : BitVec 32 := 0#32
  let c64_i32_48 : BitVec 32 := 64#32
  let v43 : BitVec 32 := Scalar.addi c0_i32_47 c64_i32_48
  let c1_i32_49 : BitVec 32 := 1#32
  ⟨c0_i32_47, v43, c1_i32_49⟩
def k0_mult13 (k0_t13 : Fin k0_t13_loop.trips) : BitVec 32 :=
  let c0_i32_132 : BitVec 32 := 0#32
  let c0_i32_47 : BitVec 32 := 0#32
  let c1_i32_49 : BitVec 32 := 1#32
  let arg11 : BitVec 32 := Scf.iv c0_i32_47 c1_i32_49 k0_t13
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  v611
def k0_off179 (k0_t13 : Fin k0_t13_loop.trips) : Fin 1 → Nat :=
  let c0_i32_132 : BitVec 32 := 0#32
  let c0_i32_47 : BitVec 32 := 0#32
  let c1_i32_49 : BitVec 32 := 1#32
  let arg11 : BitVec 32 := Scf.iv c0_i32_47 c1_i32_49 k0_t13
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c0_i32_134 : BitVec 32 := 0#32
  let v613 : BitVec 32 := Scalar.addi v612 c0_i32_134
  let v614 : Index := Scalar.indexCast v613
  ![v614.toNat]

def k0_chk177 (v622 : IVec S16 32) : Prop :=
  (∀ a x, ((![v622] : Fin 1 → IVec S16 32) a x).toNat < S4096.size a)
theorem k0_idx177_inb : ∀ (v622 : IVec S16 32) (k0_hw177 : k0_chk177 v622), ∀ a x, ((![v622] : Fin 1 → IVec S16 32) a x).toNat < S4096.size a := fun v622 k0_hw177 => k0_hw177
def k0_off180 (k0_t13 : Fin k0_t13_loop.trips) : Fin 1 → Nat :=
  let c0_i32_132 : BitVec 32 := 0#32
  let c0_i32_47 : BitVec 32 := 0#32
  let c1_i32_49 : BitVec 32 := 1#32
  let arg11 : BitVec 32 := Scf.iv c0_i32_47 c1_i32_49 k0_t13
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c16_i32 : BitVec 32 := 16#32
  let v623 : BitVec 32 := Scalar.addi v612 c16_i32
  let v624 : Index := Scalar.indexCast v623
  ![v624.toNat]

def k0_chk178 (v632 : IVec S16 32) : Prop :=
  (∀ a x, ((![v632] : Fin 1 → IVec S16 32) a x).toNat < S4096.size a)
theorem k0_idx178_inb : ∀ (v632 : IVec S16 32) (k0_hw178 : k0_chk178 v632), ∀ a x, ((![v632] : Fin 1 → IVec S16 32) a x).toNat < S4096.size a := fun v632 k0_hw178 => k0_hw178
def k0_off181 (k0_t13 : Fin k0_t13_loop.trips) : Fin 1 → Nat :=
  let c0_i32_132 : BitVec 32 := 0#32
  let c0_i32_47 : BitVec 32 := 0#32
  let c1_i32_49 : BitVec 32 := 1#32
  let arg11 : BitVec 32 := Scf.iv c0_i32_47 c1_i32_49 k0_t13
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c32_i32 : BitVec 32 := 32#32
  let v633 : BitVec 32 := Scalar.addi v612 c32_i32
  let v634 : Index := Scalar.indexCast v633
  ![v634.toNat]

def k0_chk179 (v642 : IVec S16 32) : Prop :=
  (∀ a x, ((![v642] : Fin 1 → IVec S16 32) a x).toNat < S4096.size a)
theorem k0_idx179_inb : ∀ (v642 : IVec S16 32) (k0_hw179 : k0_chk179 v642), ∀ a x, ((![v642] : Fin 1 → IVec S16 32) a x).toNat < S4096.size a := fun v642 k0_hw179 => k0_hw179
def k0_off182 (k0_t13 : Fin k0_t13_loop.trips) : Fin 1 → Nat :=
  let c0_i32_132 : BitVec 32 := 0#32
  let c0_i32_47 : BitVec 32 := 0#32
  let c1_i32_49 : BitVec 32 := 1#32
  let arg11 : BitVec 32 := Scf.iv c0_i32_47 c1_i32_49 k0_t13
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c48_i32 : BitVec 32 := 48#32
  let v643 : BitVec 32 := Scalar.addi v612 c48_i32
  let v644 : Index := Scalar.indexCast v643
  ![v644.toNat]

def k0_chk180 (v652 : IVec S16 32) : Prop :=
  (∀ a x, ((![v652] : Fin 1 → IVec S16 32) a x).toNat < S4096.size a)
theorem k0_idx180_inb : ∀ (v652 : IVec S16 32) (k0_hw180 : k0_chk180 v652), ∀ a x, ((![v652] : Fin 1 → IVec S16 32) a x).toNat < S4096.size a := fun v652 k0_hw180 => k0_hw180
def k0_off183 (k0_t13 : Fin k0_t13_loop.trips) : Fin 1 → Nat :=
  let c0_i32_132 : BitVec 32 := 0#32
  let c0_i32_47 : BitVec 32 := 0#32
  let c1_i32_49 : BitVec 32 := 1#32
  let arg11 : BitVec 32 := Scf.iv c0_i32_47 c1_i32_49 k0_t13
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c64_i32_135 : BitVec 32 := 64#32
  let v653 : BitVec 32 := Scalar.addi v612 c64_i32_135
  let v654 : Index := Scalar.indexCast v653
  ![v654.toNat]

def k0_chk181 (v662 : IVec S16 32) : Prop :=
  (∀ a x, ((![v662] : Fin 1 → IVec S16 32) a x).toNat < S4096.size a)
theorem k0_idx181_inb : ∀ (v662 : IVec S16 32) (k0_hw181 : k0_chk181 v662), ∀ a x, ((![v662] : Fin 1 → IVec S16 32) a x).toNat < S4096.size a := fun v662 k0_hw181 => k0_hw181
def k0_off184 (k0_t13 : Fin k0_t13_loop.trips) : Fin 1 → Nat :=
  let c0_i32_132 : BitVec 32 := 0#32
  let c0_i32_47 : BitVec 32 := 0#32
  let c1_i32_49 : BitVec 32 := 1#32
  let arg11 : BitVec 32 := Scf.iv c0_i32_47 c1_i32_49 k0_t13
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c80_i32 : BitVec 32 := 80#32
  let v663 : BitVec 32 := Scalar.addi v612 c80_i32
  let v664 : Index := Scalar.indexCast v663
  ![v664.toNat]

def k0_chk182 (v672 : IVec S16 32) : Prop :=
  (∀ a x, ((![v672] : Fin 1 → IVec S16 32) a x).toNat < S4096.size a)
theorem k0_idx182_inb : ∀ (v672 : IVec S16 32) (k0_hw182 : k0_chk182 v672), ∀ a x, ((![v672] : Fin 1 → IVec S16 32) a x).toNat < S4096.size a := fun v672 k0_hw182 => k0_hw182
def k0_off185 (k0_t13 : Fin k0_t13_loop.trips) : Fin 1 → Nat :=
  let c0_i32_132 : BitVec 32 := 0#32
  let c0_i32_47 : BitVec 32 := 0#32
  let c1_i32_49 : BitVec 32 := 1#32
  let arg11 : BitVec 32 := Scf.iv c0_i32_47 c1_i32_49 k0_t13
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c96_i32 : BitVec 32 := 96#32
  let v673 : BitVec 32 := Scalar.addi v612 c96_i32
  let v674 : Index := Scalar.indexCast v673
  ![v674.toNat]

def k0_chk183 (v682 : IVec S16 32) : Prop :=
  (∀ a x, ((![v682] : Fin 1 → IVec S16 32) a x).toNat < S4096.size a)
theorem k0_idx183_inb : ∀ (v682 : IVec S16 32) (k0_hw183 : k0_chk183 v682), ∀ a x, ((![v682] : Fin 1 → IVec S16 32) a x).toNat < S4096.size a := fun v682 k0_hw183 => k0_hw183
def k0_off186 (k0_t13 : Fin k0_t13_loop.trips) : Fin 1 → Nat :=
  let c0_i32_132 : BitVec 32 := 0#32
  let c0_i32_47 : BitVec 32 := 0#32
  let c1_i32_49 : BitVec 32 := 1#32
  let arg11 : BitVec 32 := Scf.iv c0_i32_47 c1_i32_49 k0_t13
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c112_i32 : BitVec 32 := 112#32
  let v683 : BitVec 32 := Scalar.addi v612 c112_i32
  let v684 : Index := Scalar.indexCast v683
  ![v684.toNat]

def k0_chk184 (v692 : IVec S16 32) : Prop :=
  (∀ a x, ((![v692] : Fin 1 → IVec S16 32) a x).toNat < S4096.size a)
theorem k0_idx184_inb : ∀ (v692 : IVec S16 32) (k0_hw184 : k0_chk184 v692), ∀ a x, ((![v692] : Fin 1 → IVec S16 32) a x).toNat < S4096.size a := fun v692 k0_hw184 => k0_hw184
def k0_off187 (k0_t13 : Fin k0_t13_loop.trips) : Fin 1 → Nat :=
  let c0_i32_132 : BitVec 32 := 0#32
  let c0_i32_47 : BitVec 32 := 0#32
  let c1_i32_49 : BitVec 32 := 1#32
  let arg11 : BitVec 32 := Scf.iv c0_i32_47 c1_i32_49 k0_t13
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c128_i32 : BitVec 32 := 128#32
  let v693 : BitVec 32 := Scalar.addi v612 c128_i32
  let v694 : Index := Scalar.indexCast v693
  ![v694.toNat]

def k0_chk185 (v702 : IVec S16 32) : Prop :=
  (∀ a x, ((![v702] : Fin 1 → IVec S16 32) a x).toNat < S4096.size a)
theorem k0_idx185_inb : ∀ (v702 : IVec S16 32) (k0_hw185 : k0_chk185 v702), ∀ a x, ((![v702] : Fin 1 → IVec S16 32) a x).toNat < S4096.size a := fun v702 k0_hw185 => k0_hw185
def k0_off188 (k0_t13 : Fin k0_t13_loop.trips) : Fin 1 → Nat :=
  let c0_i32_132 : BitVec 32 := 0#32
  let c0_i32_47 : BitVec 32 := 0#32
  let c1_i32_49 : BitVec 32 := 1#32
  let arg11 : BitVec 32 := Scf.iv c0_i32_47 c1_i32_49 k0_t13
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c144_i32 : BitVec 32 := 144#32
  let v703 : BitVec 32 := Scalar.addi v612 c144_i32
  let v704 : Index := Scalar.indexCast v703
  ![v704.toNat]

def k0_chk186 (v712 : IVec S16 32) : Prop :=
  (∀ a x, ((![v712] : Fin 1 → IVec S16 32) a x).toNat < S4096.size a)
theorem k0_idx186_inb : ∀ (v712 : IVec S16 32) (k0_hw186 : k0_chk186 v712), ∀ a x, ((![v712] : Fin 1 → IVec S16 32) a x).toNat < S4096.size a := fun v712 k0_hw186 => k0_hw186
def k0_off189 (k0_t13 : Fin k0_t13_loop.trips) : Fin 1 → Nat :=
  let c0_i32_132 : BitVec 32 := 0#32
  let c0_i32_47 : BitVec 32 := 0#32
  let c1_i32_49 : BitVec 32 := 1#32
  let arg11 : BitVec 32 := Scf.iv c0_i32_47 c1_i32_49 k0_t13
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c160_i32 : BitVec 32 := 160#32
  let v713 : BitVec 32 := Scalar.addi v612 c160_i32
  let v714 : Index := Scalar.indexCast v713
  ![v714.toNat]

def k0_chk187 (v722 : IVec S16 32) : Prop :=
  (∀ a x, ((![v722] : Fin 1 → IVec S16 32) a x).toNat < S4096.size a)
theorem k0_idx187_inb : ∀ (v722 : IVec S16 32) (k0_hw187 : k0_chk187 v722), ∀ a x, ((![v722] : Fin 1 → IVec S16 32) a x).toNat < S4096.size a := fun v722 k0_hw187 => k0_hw187
def k0_off190 (k0_t13 : Fin k0_t13_loop.trips) : Fin 1 → Nat :=
  let c0_i32_132 : BitVec 32 := 0#32
  let c0_i32_47 : BitVec 32 := 0#32
  let c1_i32_49 : BitVec 32 := 1#32
  let arg11 : BitVec 32 := Scf.iv c0_i32_47 c1_i32_49 k0_t13
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c176_i32 : BitVec 32 := 176#32
  let v723 : BitVec 32 := Scalar.addi v612 c176_i32
  let v724 : Index := Scalar.indexCast v723
  ![v724.toNat]

def k0_chk188 (v732 : IVec S16 32) : Prop :=
  (∀ a x, ((![v732] : Fin 1 → IVec S16 32) a x).toNat < S4096.size a)
theorem k0_idx188_inb : ∀ (v732 : IVec S16 32) (k0_hw188 : k0_chk188 v732), ∀ a x, ((![v732] : Fin 1 → IVec S16 32) a x).toNat < S4096.size a := fun v732 k0_hw188 => k0_hw188
def k0_off191 (k0_t13 : Fin k0_t13_loop.trips) : Fin 1 → Nat :=
  let c0_i32_132 : BitVec 32 := 0#32
  let c0_i32_47 : BitVec 32 := 0#32
  let c1_i32_49 : BitVec 32 := 1#32
  let arg11 : BitVec 32 := Scf.iv c0_i32_47 c1_i32_49 k0_t13
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c192_i32 : BitVec 32 := 192#32
  let v733 : BitVec 32 := Scalar.addi v612 c192_i32
  let v734 : Index := Scalar.indexCast v733
  ![v734.toNat]

def k0_chk189 (v742 : IVec S16 32) : Prop :=
  (∀ a x, ((![v742] : Fin 1 → IVec S16 32) a x).toNat < S4096.size a)
theorem k0_idx189_inb : ∀ (v742 : IVec S16 32) (k0_hw189 : k0_chk189 v742), ∀ a x, ((![v742] : Fin 1 → IVec S16 32) a x).toNat < S4096.size a := fun v742 k0_hw189 => k0_hw189
def k0_off192 (k0_t13 : Fin k0_t13_loop.trips) : Fin 1 → Nat :=
  let c0_i32_132 : BitVec 32 := 0#32
  let c0_i32_47 : BitVec 32 := 0#32
  let c1_i32_49 : BitVec 32 := 1#32
  let arg11 : BitVec 32 := Scf.iv c0_i32_47 c1_i32_49 k0_t13
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c208_i32 : BitVec 32 := 208#32
  let v743 : BitVec 32 := Scalar.addi v612 c208_i32
  let v744 : Index := Scalar.indexCast v743
  ![v744.toNat]

def k0_chk190 (v752 : IVec S16 32) : Prop :=
  (∀ a x, ((![v752] : Fin 1 → IVec S16 32) a x).toNat < S4096.size a)
theorem k0_idx190_inb : ∀ (v752 : IVec S16 32) (k0_hw190 : k0_chk190 v752), ∀ a x, ((![v752] : Fin 1 → IVec S16 32) a x).toNat < S4096.size a := fun v752 k0_hw190 => k0_hw190
def k0_off193 (k0_t13 : Fin k0_t13_loop.trips) : Fin 1 → Nat :=
  let c0_i32_132 : BitVec 32 := 0#32
  let c0_i32_47 : BitVec 32 := 0#32
  let c1_i32_49 : BitVec 32 := 1#32
  let arg11 : BitVec 32 := Scf.iv c0_i32_47 c1_i32_49 k0_t13
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c224_i32 : BitVec 32 := 224#32
  let v753 : BitVec 32 := Scalar.addi v612 c224_i32
  let v754 : Index := Scalar.indexCast v753
  ![v754.toNat]

def k0_chk191 (v762 : IVec S16 32) : Prop :=
  (∀ a x, ((![v762] : Fin 1 → IVec S16 32) a x).toNat < S4096.size a)
theorem k0_idx191_inb : ∀ (v762 : IVec S16 32) (k0_hw191 : k0_chk191 v762), ∀ a x, ((![v762] : Fin 1 → IVec S16 32) a x).toNat < S4096.size a := fun v762 k0_hw191 => k0_hw191
def k0_off194 (k0_t13 : Fin k0_t13_loop.trips) : Fin 1 → Nat :=
  let c0_i32_132 : BitVec 32 := 0#32
  let c0_i32_47 : BitVec 32 := 0#32
  let c1_i32_49 : BitVec 32 := 1#32
  let arg11 : BitVec 32 := Scf.iv c0_i32_47 c1_i32_49 k0_t13
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c240_i32 : BitVec 32 := 240#32
  let v763 : BitVec 32 := Scalar.addi v612 c240_i32
  let v764 : Index := Scalar.indexCast v763
  ![v764.toNat]

def k0_chk192 (v772 : IVec S16 32) : Prop :=
  (∀ a x, ((![v772] : Fin 1 → IVec S16 32) a x).toNat < S4096.size a)
theorem k0_idx192_inb : ∀ (v772 : IVec S16 32) (k0_hw192 : k0_chk192 v772), ∀ a x, ((![v772] : Fin 1 → IVec S16 32) a x).toNat < S4096.size a := fun v772 k0_hw192 => k0_hw192
@[reducible] def k0_t14_loop : Scf.Loop 32 :=
  let c0_i32_51 : BitVec 32 := 0#32
  let c64_i32_52 : BitVec 32 := 64#32
  let v46 : BitVec 32 := Scalar.addi c0_i32_51 c64_i32_52
  let c1_i32_53 : BitVec 32 := 1#32
  ⟨c0_i32_51, v46, c1_i32_53⟩
def k0_mult14 (k0_t14 : Fin k0_t14_loop.trips) : BitVec 32 :=
  let c0_i32_132 : BitVec 32 := 0#32
  let c0_i32_51 : BitVec 32 := 0#32
  let c1_i32_53 : BitVec 32 := 1#32
  let arg11 : BitVec 32 := Scf.iv c0_i32_51 c1_i32_53 k0_t14
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  v611
def k0_off195 (k0_t14 : Fin k0_t14_loop.trips) : Fin 1 → Nat :=
  let c0_i32_132 : BitVec 32 := 0#32
  let c0_i32_51 : BitVec 32 := 0#32
  let c1_i32_53 : BitVec 32 := 1#32
  let arg11 : BitVec 32 := Scf.iv c0_i32_51 c1_i32_53 k0_t14
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c0_i32_134 : BitVec 32 := 0#32
  let v613 : BitVec 32 := Scalar.addi v612 c0_i32_134
  let v614 : Index := Scalar.indexCast v613
  ![v614.toNat]

def k0_chk193 (v622 : IVec S16 32) : Prop :=
  (∀ a x, ((![v622] : Fin 1 → IVec S16 32) a x).toNat < S4096.size a)
theorem k0_idx193_inb : ∀ (v622 : IVec S16 32) (k0_hw193 : k0_chk193 v622), ∀ a x, ((![v622] : Fin 1 → IVec S16 32) a x).toNat < S4096.size a := fun v622 k0_hw193 => k0_hw193
def k0_off196 (k0_t14 : Fin k0_t14_loop.trips) : Fin 1 → Nat :=
  let c0_i32_132 : BitVec 32 := 0#32
  let c0_i32_51 : BitVec 32 := 0#32
  let c1_i32_53 : BitVec 32 := 1#32
  let arg11 : BitVec 32 := Scf.iv c0_i32_51 c1_i32_53 k0_t14
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c16_i32 : BitVec 32 := 16#32
  let v623 : BitVec 32 := Scalar.addi v612 c16_i32
  let v624 : Index := Scalar.indexCast v623
  ![v624.toNat]

def k0_chk194 (v632 : IVec S16 32) : Prop :=
  (∀ a x, ((![v632] : Fin 1 → IVec S16 32) a x).toNat < S4096.size a)
theorem k0_idx194_inb : ∀ (v632 : IVec S16 32) (k0_hw194 : k0_chk194 v632), ∀ a x, ((![v632] : Fin 1 → IVec S16 32) a x).toNat < S4096.size a := fun v632 k0_hw194 => k0_hw194
def k0_off197 (k0_t14 : Fin k0_t14_loop.trips) : Fin 1 → Nat :=
  let c0_i32_132 : BitVec 32 := 0#32
  let c0_i32_51 : BitVec 32 := 0#32
  let c1_i32_53 : BitVec 32 := 1#32
  let arg11 : BitVec 32 := Scf.iv c0_i32_51 c1_i32_53 k0_t14
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c32_i32 : BitVec 32 := 32#32
  let v633 : BitVec 32 := Scalar.addi v612 c32_i32
  let v634 : Index := Scalar.indexCast v633
  ![v634.toNat]

def k0_chk195 (v642 : IVec S16 32) : Prop :=
  (∀ a x, ((![v642] : Fin 1 → IVec S16 32) a x).toNat < S4096.size a)
theorem k0_idx195_inb : ∀ (v642 : IVec S16 32) (k0_hw195 : k0_chk195 v642), ∀ a x, ((![v642] : Fin 1 → IVec S16 32) a x).toNat < S4096.size a := fun v642 k0_hw195 => k0_hw195
def k0_off198 (k0_t14 : Fin k0_t14_loop.trips) : Fin 1 → Nat :=
  let c0_i32_132 : BitVec 32 := 0#32
  let c0_i32_51 : BitVec 32 := 0#32
  let c1_i32_53 : BitVec 32 := 1#32
  let arg11 : BitVec 32 := Scf.iv c0_i32_51 c1_i32_53 k0_t14
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c48_i32 : BitVec 32 := 48#32
  let v643 : BitVec 32 := Scalar.addi v612 c48_i32
  let v644 : Index := Scalar.indexCast v643
  ![v644.toNat]

def k0_chk196 (v652 : IVec S16 32) : Prop :=
  (∀ a x, ((![v652] : Fin 1 → IVec S16 32) a x).toNat < S4096.size a)
theorem k0_idx196_inb : ∀ (v652 : IVec S16 32) (k0_hw196 : k0_chk196 v652), ∀ a x, ((![v652] : Fin 1 → IVec S16 32) a x).toNat < S4096.size a := fun v652 k0_hw196 => k0_hw196
def k0_off199 (k0_t14 : Fin k0_t14_loop.trips) : Fin 1 → Nat :=
  let c0_i32_132 : BitVec 32 := 0#32
  let c0_i32_51 : BitVec 32 := 0#32
  let c1_i32_53 : BitVec 32 := 1#32
  let arg11 : BitVec 32 := Scf.iv c0_i32_51 c1_i32_53 k0_t14
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c64_i32_135 : BitVec 32 := 64#32
  let v653 : BitVec 32 := Scalar.addi v612 c64_i32_135
  let v654 : Index := Scalar.indexCast v653
  ![v654.toNat]

def k0_chk197 (v662 : IVec S16 32) : Prop :=
  (∀ a x, ((![v662] : Fin 1 → IVec S16 32) a x).toNat < S4096.size a)
theorem k0_idx197_inb : ∀ (v662 : IVec S16 32) (k0_hw197 : k0_chk197 v662), ∀ a x, ((![v662] : Fin 1 → IVec S16 32) a x).toNat < S4096.size a := fun v662 k0_hw197 => k0_hw197
def k0_off200 (k0_t14 : Fin k0_t14_loop.trips) : Fin 1 → Nat :=
  let c0_i32_132 : BitVec 32 := 0#32
  let c0_i32_51 : BitVec 32 := 0#32
  let c1_i32_53 : BitVec 32 := 1#32
  let arg11 : BitVec 32 := Scf.iv c0_i32_51 c1_i32_53 k0_t14
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c80_i32 : BitVec 32 := 80#32
  let v663 : BitVec 32 := Scalar.addi v612 c80_i32
  let v664 : Index := Scalar.indexCast v663
  ![v664.toNat]

def k0_chk198 (v672 : IVec S16 32) : Prop :=
  (∀ a x, ((![v672] : Fin 1 → IVec S16 32) a x).toNat < S4096.size a)
theorem k0_idx198_inb : ∀ (v672 : IVec S16 32) (k0_hw198 : k0_chk198 v672), ∀ a x, ((![v672] : Fin 1 → IVec S16 32) a x).toNat < S4096.size a := fun v672 k0_hw198 => k0_hw198
def k0_off201 (k0_t14 : Fin k0_t14_loop.trips) : Fin 1 → Nat :=
  let c0_i32_132 : BitVec 32 := 0#32
  let c0_i32_51 : BitVec 32 := 0#32
  let c1_i32_53 : BitVec 32 := 1#32
  let arg11 : BitVec 32 := Scf.iv c0_i32_51 c1_i32_53 k0_t14
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c96_i32 : BitVec 32 := 96#32
  let v673 : BitVec 32 := Scalar.addi v612 c96_i32
  let v674 : Index := Scalar.indexCast v673
  ![v674.toNat]

def k0_chk199 (v682 : IVec S16 32) : Prop :=
  (∀ a x, ((![v682] : Fin 1 → IVec S16 32) a x).toNat < S4096.size a)
theorem k0_idx199_inb : ∀ (v682 : IVec S16 32) (k0_hw199 : k0_chk199 v682), ∀ a x, ((![v682] : Fin 1 → IVec S16 32) a x).toNat < S4096.size a := fun v682 k0_hw199 => k0_hw199
def k0_off202 (k0_t14 : Fin k0_t14_loop.trips) : Fin 1 → Nat :=
  let c0_i32_132 : BitVec 32 := 0#32
  let c0_i32_51 : BitVec 32 := 0#32
  let c1_i32_53 : BitVec 32 := 1#32
  let arg11 : BitVec 32 := Scf.iv c0_i32_51 c1_i32_53 k0_t14
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c112_i32 : BitVec 32 := 112#32
  let v683 : BitVec 32 := Scalar.addi v612 c112_i32
  let v684 : Index := Scalar.indexCast v683
  ![v684.toNat]

def k0_chk200 (v692 : IVec S16 32) : Prop :=
  (∀ a x, ((![v692] : Fin 1 → IVec S16 32) a x).toNat < S4096.size a)
theorem k0_idx200_inb : ∀ (v692 : IVec S16 32) (k0_hw200 : k0_chk200 v692), ∀ a x, ((![v692] : Fin 1 → IVec S16 32) a x).toNat < S4096.size a := fun v692 k0_hw200 => k0_hw200
def k0_off203 (k0_t14 : Fin k0_t14_loop.trips) : Fin 1 → Nat :=
  let c0_i32_132 : BitVec 32 := 0#32
  let c0_i32_51 : BitVec 32 := 0#32
  let c1_i32_53 : BitVec 32 := 1#32
  let arg11 : BitVec 32 := Scf.iv c0_i32_51 c1_i32_53 k0_t14
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c128_i32 : BitVec 32 := 128#32
  let v693 : BitVec 32 := Scalar.addi v612 c128_i32
  let v694 : Index := Scalar.indexCast v693
  ![v694.toNat]

def k0_chk201 (v702 : IVec S16 32) : Prop :=
  (∀ a x, ((![v702] : Fin 1 → IVec S16 32) a x).toNat < S4096.size a)
theorem k0_idx201_inb : ∀ (v702 : IVec S16 32) (k0_hw201 : k0_chk201 v702), ∀ a x, ((![v702] : Fin 1 → IVec S16 32) a x).toNat < S4096.size a := fun v702 k0_hw201 => k0_hw201
def k0_off204 (k0_t14 : Fin k0_t14_loop.trips) : Fin 1 → Nat :=
  let c0_i32_132 : BitVec 32 := 0#32
  let c0_i32_51 : BitVec 32 := 0#32
  let c1_i32_53 : BitVec 32 := 1#32
  let arg11 : BitVec 32 := Scf.iv c0_i32_51 c1_i32_53 k0_t14
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c144_i32 : BitVec 32 := 144#32
  let v703 : BitVec 32 := Scalar.addi v612 c144_i32
  let v704 : Index := Scalar.indexCast v703
  ![v704.toNat]

def k0_chk202 (v712 : IVec S16 32) : Prop :=
  (∀ a x, ((![v712] : Fin 1 → IVec S16 32) a x).toNat < S4096.size a)
theorem k0_idx202_inb : ∀ (v712 : IVec S16 32) (k0_hw202 : k0_chk202 v712), ∀ a x, ((![v712] : Fin 1 → IVec S16 32) a x).toNat < S4096.size a := fun v712 k0_hw202 => k0_hw202
def k0_off205 (k0_t14 : Fin k0_t14_loop.trips) : Fin 1 → Nat :=
  let c0_i32_132 : BitVec 32 := 0#32
  let c0_i32_51 : BitVec 32 := 0#32
  let c1_i32_53 : BitVec 32 := 1#32
  let arg11 : BitVec 32 := Scf.iv c0_i32_51 c1_i32_53 k0_t14
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c160_i32 : BitVec 32 := 160#32
  let v713 : BitVec 32 := Scalar.addi v612 c160_i32
  let v714 : Index := Scalar.indexCast v713
  ![v714.toNat]

def k0_chk203 (v722 : IVec S16 32) : Prop :=
  (∀ a x, ((![v722] : Fin 1 → IVec S16 32) a x).toNat < S4096.size a)
theorem k0_idx203_inb : ∀ (v722 : IVec S16 32) (k0_hw203 : k0_chk203 v722), ∀ a x, ((![v722] : Fin 1 → IVec S16 32) a x).toNat < S4096.size a := fun v722 k0_hw203 => k0_hw203
def k0_off206 (k0_t14 : Fin k0_t14_loop.trips) : Fin 1 → Nat :=
  let c0_i32_132 : BitVec 32 := 0#32
  let c0_i32_51 : BitVec 32 := 0#32
  let c1_i32_53 : BitVec 32 := 1#32
  let arg11 : BitVec 32 := Scf.iv c0_i32_51 c1_i32_53 k0_t14
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c176_i32 : BitVec 32 := 176#32
  let v723 : BitVec 32 := Scalar.addi v612 c176_i32
  let v724 : Index := Scalar.indexCast v723
  ![v724.toNat]

def k0_chk204 (v732 : IVec S16 32) : Prop :=
  (∀ a x, ((![v732] : Fin 1 → IVec S16 32) a x).toNat < S4096.size a)
theorem k0_idx204_inb : ∀ (v732 : IVec S16 32) (k0_hw204 : k0_chk204 v732), ∀ a x, ((![v732] : Fin 1 → IVec S16 32) a x).toNat < S4096.size a := fun v732 k0_hw204 => k0_hw204
def k0_off207 (k0_t14 : Fin k0_t14_loop.trips) : Fin 1 → Nat :=
  let c0_i32_132 : BitVec 32 := 0#32
  let c0_i32_51 : BitVec 32 := 0#32
  let c1_i32_53 : BitVec 32 := 1#32
  let arg11 : BitVec 32 := Scf.iv c0_i32_51 c1_i32_53 k0_t14
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c192_i32 : BitVec 32 := 192#32
  let v733 : BitVec 32 := Scalar.addi v612 c192_i32
  let v734 : Index := Scalar.indexCast v733
  ![v734.toNat]

def k0_chk205 (v742 : IVec S16 32) : Prop :=
  (∀ a x, ((![v742] : Fin 1 → IVec S16 32) a x).toNat < S4096.size a)
theorem k0_idx205_inb : ∀ (v742 : IVec S16 32) (k0_hw205 : k0_chk205 v742), ∀ a x, ((![v742] : Fin 1 → IVec S16 32) a x).toNat < S4096.size a := fun v742 k0_hw205 => k0_hw205
def k0_off208 (k0_t14 : Fin k0_t14_loop.trips) : Fin 1 → Nat :=
  let c0_i32_132 : BitVec 32 := 0#32
  let c0_i32_51 : BitVec 32 := 0#32
  let c1_i32_53 : BitVec 32 := 1#32
  let arg11 : BitVec 32 := Scf.iv c0_i32_51 c1_i32_53 k0_t14
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c208_i32 : BitVec 32 := 208#32
  let v743 : BitVec 32 := Scalar.addi v612 c208_i32
  let v744 : Index := Scalar.indexCast v743
  ![v744.toNat]

def k0_chk206 (v752 : IVec S16 32) : Prop :=
  (∀ a x, ((![v752] : Fin 1 → IVec S16 32) a x).toNat < S4096.size a)
theorem k0_idx206_inb : ∀ (v752 : IVec S16 32) (k0_hw206 : k0_chk206 v752), ∀ a x, ((![v752] : Fin 1 → IVec S16 32) a x).toNat < S4096.size a := fun v752 k0_hw206 => k0_hw206
def k0_off209 (k0_t14 : Fin k0_t14_loop.trips) : Fin 1 → Nat :=
  let c0_i32_132 : BitVec 32 := 0#32
  let c0_i32_51 : BitVec 32 := 0#32
  let c1_i32_53 : BitVec 32 := 1#32
  let arg11 : BitVec 32 := Scf.iv c0_i32_51 c1_i32_53 k0_t14
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c224_i32 : BitVec 32 := 224#32
  let v753 : BitVec 32 := Scalar.addi v612 c224_i32
  let v754 : Index := Scalar.indexCast v753
  ![v754.toNat]

def k0_chk207 (v762 : IVec S16 32) : Prop :=
  (∀ a x, ((![v762] : Fin 1 → IVec S16 32) a x).toNat < S4096.size a)
theorem k0_idx207_inb : ∀ (v762 : IVec S16 32) (k0_hw207 : k0_chk207 v762), ∀ a x, ((![v762] : Fin 1 → IVec S16 32) a x).toNat < S4096.size a := fun v762 k0_hw207 => k0_hw207
def k0_off210 (k0_t14 : Fin k0_t14_loop.trips) : Fin 1 → Nat :=
  let c0_i32_132 : BitVec 32 := 0#32
  let c0_i32_51 : BitVec 32 := 0#32
  let c1_i32_53 : BitVec 32 := 1#32
  let arg11 : BitVec 32 := Scf.iv c0_i32_51 c1_i32_53 k0_t14
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c240_i32 : BitVec 32 := 240#32
  let v763 : BitVec 32 := Scalar.addi v612 c240_i32
  let v764 : Index := Scalar.indexCast v763
  ![v764.toNat]

def k0_chk208 (v772 : IVec S16 32) : Prop :=
  (∀ a x, ((![v772] : Fin 1 → IVec S16 32) a x).toNat < S4096.size a)
theorem k0_idx208_inb : ∀ (v772 : IVec S16 32) (k0_hw208 : k0_chk208 v772), ∀ a x, ((![v772] : Fin 1 → IVec S16 32) a x).toNat < S4096.size a := fun v772 k0_hw208 => k0_hw208
@[reducible] def k0_t15_loop : Scf.Loop 32 :=
  let c0_i32_55 : BitVec 32 := 0#32
  let c64_i32_56 : BitVec 32 := 64#32
  let v49 : BitVec 32 := Scalar.addi c0_i32_55 c64_i32_56
  let c1_i32_57 : BitVec 32 := 1#32
  ⟨c0_i32_55, v49, c1_i32_57⟩
def k0_mult15 (k0_t15 : Fin k0_t15_loop.trips) : BitVec 32 :=
  let c0_i32_132 : BitVec 32 := 0#32
  let c0_i32_55 : BitVec 32 := 0#32
  let c1_i32_57 : BitVec 32 := 1#32
  let arg11 : BitVec 32 := Scf.iv c0_i32_55 c1_i32_57 k0_t15
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  v611
def k0_off211 (k0_t15 : Fin k0_t15_loop.trips) : Fin 1 → Nat :=
  let c0_i32_132 : BitVec 32 := 0#32
  let c0_i32_55 : BitVec 32 := 0#32
  let c1_i32_57 : BitVec 32 := 1#32
  let arg11 : BitVec 32 := Scf.iv c0_i32_55 c1_i32_57 k0_t15
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c0_i32_134 : BitVec 32 := 0#32
  let v613 : BitVec 32 := Scalar.addi v612 c0_i32_134
  let v614 : Index := Scalar.indexCast v613
  ![v614.toNat]

def k0_chk209 (v622 : IVec S16 32) : Prop :=
  (∀ a x, ((![v622] : Fin 1 → IVec S16 32) a x).toNat < S4096.size a)
theorem k0_idx209_inb : ∀ (v622 : IVec S16 32) (k0_hw209 : k0_chk209 v622), ∀ a x, ((![v622] : Fin 1 → IVec S16 32) a x).toNat < S4096.size a := fun v622 k0_hw209 => k0_hw209
def k0_off212 (k0_t15 : Fin k0_t15_loop.trips) : Fin 1 → Nat :=
  let c0_i32_132 : BitVec 32 := 0#32
  let c0_i32_55 : BitVec 32 := 0#32
  let c1_i32_57 : BitVec 32 := 1#32
  let arg11 : BitVec 32 := Scf.iv c0_i32_55 c1_i32_57 k0_t15
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c16_i32 : BitVec 32 := 16#32
  let v623 : BitVec 32 := Scalar.addi v612 c16_i32
  let v624 : Index := Scalar.indexCast v623
  ![v624.toNat]

def k0_chk210 (v632 : IVec S16 32) : Prop :=
  (∀ a x, ((![v632] : Fin 1 → IVec S16 32) a x).toNat < S4096.size a)
theorem k0_idx210_inb : ∀ (v632 : IVec S16 32) (k0_hw210 : k0_chk210 v632), ∀ a x, ((![v632] : Fin 1 → IVec S16 32) a x).toNat < S4096.size a := fun v632 k0_hw210 => k0_hw210
def k0_off213 (k0_t15 : Fin k0_t15_loop.trips) : Fin 1 → Nat :=
  let c0_i32_132 : BitVec 32 := 0#32
  let c0_i32_55 : BitVec 32 := 0#32
  let c1_i32_57 : BitVec 32 := 1#32
  let arg11 : BitVec 32 := Scf.iv c0_i32_55 c1_i32_57 k0_t15
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c32_i32 : BitVec 32 := 32#32
  let v633 : BitVec 32 := Scalar.addi v612 c32_i32
  let v634 : Index := Scalar.indexCast v633
  ![v634.toNat]

def k0_chk211 (v642 : IVec S16 32) : Prop :=
  (∀ a x, ((![v642] : Fin 1 → IVec S16 32) a x).toNat < S4096.size a)
theorem k0_idx211_inb : ∀ (v642 : IVec S16 32) (k0_hw211 : k0_chk211 v642), ∀ a x, ((![v642] : Fin 1 → IVec S16 32) a x).toNat < S4096.size a := fun v642 k0_hw211 => k0_hw211
def k0_off214 (k0_t15 : Fin k0_t15_loop.trips) : Fin 1 → Nat :=
  let c0_i32_132 : BitVec 32 := 0#32
  let c0_i32_55 : BitVec 32 := 0#32
  let c1_i32_57 : BitVec 32 := 1#32
  let arg11 : BitVec 32 := Scf.iv c0_i32_55 c1_i32_57 k0_t15
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c48_i32 : BitVec 32 := 48#32
  let v643 : BitVec 32 := Scalar.addi v612 c48_i32
  let v644 : Index := Scalar.indexCast v643
  ![v644.toNat]

def k0_chk212 (v652 : IVec S16 32) : Prop :=
  (∀ a x, ((![v652] : Fin 1 → IVec S16 32) a x).toNat < S4096.size a)
theorem k0_idx212_inb : ∀ (v652 : IVec S16 32) (k0_hw212 : k0_chk212 v652), ∀ a x, ((![v652] : Fin 1 → IVec S16 32) a x).toNat < S4096.size a := fun v652 k0_hw212 => k0_hw212
def k0_off215 (k0_t15 : Fin k0_t15_loop.trips) : Fin 1 → Nat :=
  let c0_i32_132 : BitVec 32 := 0#32
  let c0_i32_55 : BitVec 32 := 0#32
  let c1_i32_57 : BitVec 32 := 1#32
  let arg11 : BitVec 32 := Scf.iv c0_i32_55 c1_i32_57 k0_t15
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c64_i32_135 : BitVec 32 := 64#32
  let v653 : BitVec 32 := Scalar.addi v612 c64_i32_135
  let v654 : Index := Scalar.indexCast v653
  ![v654.toNat]

def k0_chk213 (v662 : IVec S16 32) : Prop :=
  (∀ a x, ((![v662] : Fin 1 → IVec S16 32) a x).toNat < S4096.size a)
theorem k0_idx213_inb : ∀ (v662 : IVec S16 32) (k0_hw213 : k0_chk213 v662), ∀ a x, ((![v662] : Fin 1 → IVec S16 32) a x).toNat < S4096.size a := fun v662 k0_hw213 => k0_hw213
def k0_off216 (k0_t15 : Fin k0_t15_loop.trips) : Fin 1 → Nat :=
  let c0_i32_132 : BitVec 32 := 0#32
  let c0_i32_55 : BitVec 32 := 0#32
  let c1_i32_57 : BitVec 32 := 1#32
  let arg11 : BitVec 32 := Scf.iv c0_i32_55 c1_i32_57 k0_t15
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c80_i32 : BitVec 32 := 80#32
  let v663 : BitVec 32 := Scalar.addi v612 c80_i32
  let v664 : Index := Scalar.indexCast v663
  ![v664.toNat]

def k0_chk214 (v672 : IVec S16 32) : Prop :=
  (∀ a x, ((![v672] : Fin 1 → IVec S16 32) a x).toNat < S4096.size a)
theorem k0_idx214_inb : ∀ (v672 : IVec S16 32) (k0_hw214 : k0_chk214 v672), ∀ a x, ((![v672] : Fin 1 → IVec S16 32) a x).toNat < S4096.size a := fun v672 k0_hw214 => k0_hw214
def k0_off217 (k0_t15 : Fin k0_t15_loop.trips) : Fin 1 → Nat :=
  let c0_i32_132 : BitVec 32 := 0#32
  let c0_i32_55 : BitVec 32 := 0#32
  let c1_i32_57 : BitVec 32 := 1#32
  let arg11 : BitVec 32 := Scf.iv c0_i32_55 c1_i32_57 k0_t15
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c96_i32 : BitVec 32 := 96#32
  let v673 : BitVec 32 := Scalar.addi v612 c96_i32
  let v674 : Index := Scalar.indexCast v673
  ![v674.toNat]

def k0_chk215 (v682 : IVec S16 32) : Prop :=
  (∀ a x, ((![v682] : Fin 1 → IVec S16 32) a x).toNat < S4096.size a)
theorem k0_idx215_inb : ∀ (v682 : IVec S16 32) (k0_hw215 : k0_chk215 v682), ∀ a x, ((![v682] : Fin 1 → IVec S16 32) a x).toNat < S4096.size a := fun v682 k0_hw215 => k0_hw215
def k0_off218 (k0_t15 : Fin k0_t15_loop.trips) : Fin 1 → Nat :=
  let c0_i32_132 : BitVec 32 := 0#32
  let c0_i32_55 : BitVec 32 := 0#32
  let c1_i32_57 : BitVec 32 := 1#32
  let arg11 : BitVec 32 := Scf.iv c0_i32_55 c1_i32_57 k0_t15
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c112_i32 : BitVec 32 := 112#32
  let v683 : BitVec 32 := Scalar.addi v612 c112_i32
  let v684 : Index := Scalar.indexCast v683
  ![v684.toNat]

def k0_chk216 (v692 : IVec S16 32) : Prop :=
  (∀ a x, ((![v692] : Fin 1 → IVec S16 32) a x).toNat < S4096.size a)
theorem k0_idx216_inb : ∀ (v692 : IVec S16 32) (k0_hw216 : k0_chk216 v692), ∀ a x, ((![v692] : Fin 1 → IVec S16 32) a x).toNat < S4096.size a := fun v692 k0_hw216 => k0_hw216
def k0_off219 (k0_t15 : Fin k0_t15_loop.trips) : Fin 1 → Nat :=
  let c0_i32_132 : BitVec 32 := 0#32
  let c0_i32_55 : BitVec 32 := 0#32
  let c1_i32_57 : BitVec 32 := 1#32
  let arg11 : BitVec 32 := Scf.iv c0_i32_55 c1_i32_57 k0_t15
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c128_i32 : BitVec 32 := 128#32
  let v693 : BitVec 32 := Scalar.addi v612 c128_i32
  let v694 : Index := Scalar.indexCast v693
  ![v694.toNat]

def k0_chk217 (v702 : IVec S16 32) : Prop :=
  (∀ a x, ((![v702] : Fin 1 → IVec S16 32) a x).toNat < S4096.size a)
theorem k0_idx217_inb : ∀ (v702 : IVec S16 32) (k0_hw217 : k0_chk217 v702), ∀ a x, ((![v702] : Fin 1 → IVec S16 32) a x).toNat < S4096.size a := fun v702 k0_hw217 => k0_hw217
def k0_off220 (k0_t15 : Fin k0_t15_loop.trips) : Fin 1 → Nat :=
  let c0_i32_132 : BitVec 32 := 0#32
  let c0_i32_55 : BitVec 32 := 0#32
  let c1_i32_57 : BitVec 32 := 1#32
  let arg11 : BitVec 32 := Scf.iv c0_i32_55 c1_i32_57 k0_t15
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c144_i32 : BitVec 32 := 144#32
  let v703 : BitVec 32 := Scalar.addi v612 c144_i32
  let v704 : Index := Scalar.indexCast v703
  ![v704.toNat]

def k0_chk218 (v712 : IVec S16 32) : Prop :=
  (∀ a x, ((![v712] : Fin 1 → IVec S16 32) a x).toNat < S4096.size a)
theorem k0_idx218_inb : ∀ (v712 : IVec S16 32) (k0_hw218 : k0_chk218 v712), ∀ a x, ((![v712] : Fin 1 → IVec S16 32) a x).toNat < S4096.size a := fun v712 k0_hw218 => k0_hw218
def k0_off221 (k0_t15 : Fin k0_t15_loop.trips) : Fin 1 → Nat :=
  let c0_i32_132 : BitVec 32 := 0#32
  let c0_i32_55 : BitVec 32 := 0#32
  let c1_i32_57 : BitVec 32 := 1#32
  let arg11 : BitVec 32 := Scf.iv c0_i32_55 c1_i32_57 k0_t15
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c160_i32 : BitVec 32 := 160#32
  let v713 : BitVec 32 := Scalar.addi v612 c160_i32
  let v714 : Index := Scalar.indexCast v713
  ![v714.toNat]

def k0_chk219 (v722 : IVec S16 32) : Prop :=
  (∀ a x, ((![v722] : Fin 1 → IVec S16 32) a x).toNat < S4096.size a)
theorem k0_idx219_inb : ∀ (v722 : IVec S16 32) (k0_hw219 : k0_chk219 v722), ∀ a x, ((![v722] : Fin 1 → IVec S16 32) a x).toNat < S4096.size a := fun v722 k0_hw219 => k0_hw219
def k0_off222 (k0_t15 : Fin k0_t15_loop.trips) : Fin 1 → Nat :=
  let c0_i32_132 : BitVec 32 := 0#32
  let c0_i32_55 : BitVec 32 := 0#32
  let c1_i32_57 : BitVec 32 := 1#32
  let arg11 : BitVec 32 := Scf.iv c0_i32_55 c1_i32_57 k0_t15
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c176_i32 : BitVec 32 := 176#32
  let v723 : BitVec 32 := Scalar.addi v612 c176_i32
  let v724 : Index := Scalar.indexCast v723
  ![v724.toNat]

def k0_chk220 (v732 : IVec S16 32) : Prop :=
  (∀ a x, ((![v732] : Fin 1 → IVec S16 32) a x).toNat < S4096.size a)
theorem k0_idx220_inb : ∀ (v732 : IVec S16 32) (k0_hw220 : k0_chk220 v732), ∀ a x, ((![v732] : Fin 1 → IVec S16 32) a x).toNat < S4096.size a := fun v732 k0_hw220 => k0_hw220
def k0_off223 (k0_t15 : Fin k0_t15_loop.trips) : Fin 1 → Nat :=
  let c0_i32_132 : BitVec 32 := 0#32
  let c0_i32_55 : BitVec 32 := 0#32
  let c1_i32_57 : BitVec 32 := 1#32
  let arg11 : BitVec 32 := Scf.iv c0_i32_55 c1_i32_57 k0_t15
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c192_i32 : BitVec 32 := 192#32
  let v733 : BitVec 32 := Scalar.addi v612 c192_i32
  let v734 : Index := Scalar.indexCast v733
  ![v734.toNat]

def k0_chk221 (v742 : IVec S16 32) : Prop :=
  (∀ a x, ((![v742] : Fin 1 → IVec S16 32) a x).toNat < S4096.size a)
theorem k0_idx221_inb : ∀ (v742 : IVec S16 32) (k0_hw221 : k0_chk221 v742), ∀ a x, ((![v742] : Fin 1 → IVec S16 32) a x).toNat < S4096.size a := fun v742 k0_hw221 => k0_hw221
def k0_off224 (k0_t15 : Fin k0_t15_loop.trips) : Fin 1 → Nat :=
  let c0_i32_132 : BitVec 32 := 0#32
  let c0_i32_55 : BitVec 32 := 0#32
  let c1_i32_57 : BitVec 32 := 1#32
  let arg11 : BitVec 32 := Scf.iv c0_i32_55 c1_i32_57 k0_t15
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c208_i32 : BitVec 32 := 208#32
  let v743 : BitVec 32 := Scalar.addi v612 c208_i32
  let v744 : Index := Scalar.indexCast v743
  ![v744.toNat]

def k0_chk222 (v752 : IVec S16 32) : Prop :=
  (∀ a x, ((![v752] : Fin 1 → IVec S16 32) a x).toNat < S4096.size a)
theorem k0_idx222_inb : ∀ (v752 : IVec S16 32) (k0_hw222 : k0_chk222 v752), ∀ a x, ((![v752] : Fin 1 → IVec S16 32) a x).toNat < S4096.size a := fun v752 k0_hw222 => k0_hw222
def k0_off225 (k0_t15 : Fin k0_t15_loop.trips) : Fin 1 → Nat :=
  let c0_i32_132 : BitVec 32 := 0#32
  let c0_i32_55 : BitVec 32 := 0#32
  let c1_i32_57 : BitVec 32 := 1#32
  let arg11 : BitVec 32 := Scf.iv c0_i32_55 c1_i32_57 k0_t15
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c224_i32 : BitVec 32 := 224#32
  let v753 : BitVec 32 := Scalar.addi v612 c224_i32
  let v754 : Index := Scalar.indexCast v753
  ![v754.toNat]

def k0_chk223 (v762 : IVec S16 32) : Prop :=
  (∀ a x, ((![v762] : Fin 1 → IVec S16 32) a x).toNat < S4096.size a)
theorem k0_idx223_inb : ∀ (v762 : IVec S16 32) (k0_hw223 : k0_chk223 v762), ∀ a x, ((![v762] : Fin 1 → IVec S16 32) a x).toNat < S4096.size a := fun v762 k0_hw223 => k0_hw223
def k0_off226 (k0_t15 : Fin k0_t15_loop.trips) : Fin 1 → Nat :=
  let c0_i32_132 : BitVec 32 := 0#32
  let c0_i32_55 : BitVec 32 := 0#32
  let c1_i32_57 : BitVec 32 := 1#32
  let arg11 : BitVec 32 := Scf.iv c0_i32_55 c1_i32_57 k0_t15
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c240_i32 : BitVec 32 := 240#32
  let v763 : BitVec 32 := Scalar.addi v612 c240_i32
  let v764 : Index := Scalar.indexCast v763
  ![v764.toNat]

def k0_chk224 (v772 : IVec S16 32) : Prop :=
  (∀ a x, ((![v772] : Fin 1 → IVec S16 32) a x).toNat < S4096.size a)
theorem k0_idx224_inb : ∀ (v772 : IVec S16 32) (k0_hw224 : k0_chk224 v772), ∀ a x, ((![v772] : Fin 1 → IVec S16 32) a x).toNat < S4096.size a := fun v772 k0_hw224 => k0_hw224
@[reducible] def k0_t16_loop : Scf.Loop 32 :=
  let c0_i32_59 : BitVec 32 := 0#32
  let c64_i32_60 : BitVec 32 := 64#32
  let v52 : BitVec 32 := Scalar.addi c0_i32_59 c64_i32_60
  let c1_i32_61 : BitVec 32 := 1#32
  ⟨c0_i32_59, v52, c1_i32_61⟩
def k0_mult16 (k0_t16 : Fin k0_t16_loop.trips) : BitVec 32 :=
  let c0_i32_132 : BitVec 32 := 0#32
  let c0_i32_59 : BitVec 32 := 0#32
  let c1_i32_61 : BitVec 32 := 1#32
  let arg11 : BitVec 32 := Scf.iv c0_i32_59 c1_i32_61 k0_t16
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  v611
def k0_off227 (k0_t16 : Fin k0_t16_loop.trips) : Fin 1 → Nat :=
  let c0_i32_132 : BitVec 32 := 0#32
  let c0_i32_59 : BitVec 32 := 0#32
  let c1_i32_61 : BitVec 32 := 1#32
  let arg11 : BitVec 32 := Scf.iv c0_i32_59 c1_i32_61 k0_t16
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c0_i32_134 : BitVec 32 := 0#32
  let v613 : BitVec 32 := Scalar.addi v612 c0_i32_134
  let v614 : Index := Scalar.indexCast v613
  ![v614.toNat]

def k0_chk225 (v622 : IVec S16 32) : Prop :=
  (∀ a x, ((![v622] : Fin 1 → IVec S16 32) a x).toNat < S4096.size a)
theorem k0_idx225_inb : ∀ (v622 : IVec S16 32) (k0_hw225 : k0_chk225 v622), ∀ a x, ((![v622] : Fin 1 → IVec S16 32) a x).toNat < S4096.size a := fun v622 k0_hw225 => k0_hw225
def k0_off228 (k0_t16 : Fin k0_t16_loop.trips) : Fin 1 → Nat :=
  let c0_i32_132 : BitVec 32 := 0#32
  let c0_i32_59 : BitVec 32 := 0#32
  let c1_i32_61 : BitVec 32 := 1#32
  let arg11 : BitVec 32 := Scf.iv c0_i32_59 c1_i32_61 k0_t16
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c16_i32 : BitVec 32 := 16#32
  let v623 : BitVec 32 := Scalar.addi v612 c16_i32
  let v624 : Index := Scalar.indexCast v623
  ![v624.toNat]

def k0_chk226 (v632 : IVec S16 32) : Prop :=
  (∀ a x, ((![v632] : Fin 1 → IVec S16 32) a x).toNat < S4096.size a)
theorem k0_idx226_inb : ∀ (v632 : IVec S16 32) (k0_hw226 : k0_chk226 v632), ∀ a x, ((![v632] : Fin 1 → IVec S16 32) a x).toNat < S4096.size a := fun v632 k0_hw226 => k0_hw226
def k0_off229 (k0_t16 : Fin k0_t16_loop.trips) : Fin 1 → Nat :=
  let c0_i32_132 : BitVec 32 := 0#32
  let c0_i32_59 : BitVec 32 := 0#32
  let c1_i32_61 : BitVec 32 := 1#32
  let arg11 : BitVec 32 := Scf.iv c0_i32_59 c1_i32_61 k0_t16
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c32_i32 : BitVec 32 := 32#32
  let v633 : BitVec 32 := Scalar.addi v612 c32_i32
  let v634 : Index := Scalar.indexCast v633
  ![v634.toNat]

def k0_chk227 (v642 : IVec S16 32) : Prop :=
  (∀ a x, ((![v642] : Fin 1 → IVec S16 32) a x).toNat < S4096.size a)
theorem k0_idx227_inb : ∀ (v642 : IVec S16 32) (k0_hw227 : k0_chk227 v642), ∀ a x, ((![v642] : Fin 1 → IVec S16 32) a x).toNat < S4096.size a := fun v642 k0_hw227 => k0_hw227
def k0_off230 (k0_t16 : Fin k0_t16_loop.trips) : Fin 1 → Nat :=
  let c0_i32_132 : BitVec 32 := 0#32
  let c0_i32_59 : BitVec 32 := 0#32
  let c1_i32_61 : BitVec 32 := 1#32
  let arg11 : BitVec 32 := Scf.iv c0_i32_59 c1_i32_61 k0_t16
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c48_i32 : BitVec 32 := 48#32
  let v643 : BitVec 32 := Scalar.addi v612 c48_i32
  let v644 : Index := Scalar.indexCast v643
  ![v644.toNat]

def k0_chk228 (v652 : IVec S16 32) : Prop :=
  (∀ a x, ((![v652] : Fin 1 → IVec S16 32) a x).toNat < S4096.size a)
theorem k0_idx228_inb : ∀ (v652 : IVec S16 32) (k0_hw228 : k0_chk228 v652), ∀ a x, ((![v652] : Fin 1 → IVec S16 32) a x).toNat < S4096.size a := fun v652 k0_hw228 => k0_hw228
def k0_off231 (k0_t16 : Fin k0_t16_loop.trips) : Fin 1 → Nat :=
  let c0_i32_132 : BitVec 32 := 0#32
  let c0_i32_59 : BitVec 32 := 0#32
  let c1_i32_61 : BitVec 32 := 1#32
  let arg11 : BitVec 32 := Scf.iv c0_i32_59 c1_i32_61 k0_t16
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c64_i32_135 : BitVec 32 := 64#32
  let v653 : BitVec 32 := Scalar.addi v612 c64_i32_135
  let v654 : Index := Scalar.indexCast v653
  ![v654.toNat]

def k0_chk229 (v662 : IVec S16 32) : Prop :=
  (∀ a x, ((![v662] : Fin 1 → IVec S16 32) a x).toNat < S4096.size a)
theorem k0_idx229_inb : ∀ (v662 : IVec S16 32) (k0_hw229 : k0_chk229 v662), ∀ a x, ((![v662] : Fin 1 → IVec S16 32) a x).toNat < S4096.size a := fun v662 k0_hw229 => k0_hw229
def k0_off232 (k0_t16 : Fin k0_t16_loop.trips) : Fin 1 → Nat :=
  let c0_i32_132 : BitVec 32 := 0#32
  let c0_i32_59 : BitVec 32 := 0#32
  let c1_i32_61 : BitVec 32 := 1#32
  let arg11 : BitVec 32 := Scf.iv c0_i32_59 c1_i32_61 k0_t16
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c80_i32 : BitVec 32 := 80#32
  let v663 : BitVec 32 := Scalar.addi v612 c80_i32
  let v664 : Index := Scalar.indexCast v663
  ![v664.toNat]

def k0_chk230 (v672 : IVec S16 32) : Prop :=
  (∀ a x, ((![v672] : Fin 1 → IVec S16 32) a x).toNat < S4096.size a)
theorem k0_idx230_inb : ∀ (v672 : IVec S16 32) (k0_hw230 : k0_chk230 v672), ∀ a x, ((![v672] : Fin 1 → IVec S16 32) a x).toNat < S4096.size a := fun v672 k0_hw230 => k0_hw230
def k0_off233 (k0_t16 : Fin k0_t16_loop.trips) : Fin 1 → Nat :=
  let c0_i32_132 : BitVec 32 := 0#32
  let c0_i32_59 : BitVec 32 := 0#32
  let c1_i32_61 : BitVec 32 := 1#32
  let arg11 : BitVec 32 := Scf.iv c0_i32_59 c1_i32_61 k0_t16
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c96_i32 : BitVec 32 := 96#32
  let v673 : BitVec 32 := Scalar.addi v612 c96_i32
  let v674 : Index := Scalar.indexCast v673
  ![v674.toNat]

def k0_chk231 (v682 : IVec S16 32) : Prop :=
  (∀ a x, ((![v682] : Fin 1 → IVec S16 32) a x).toNat < S4096.size a)
theorem k0_idx231_inb : ∀ (v682 : IVec S16 32) (k0_hw231 : k0_chk231 v682), ∀ a x, ((![v682] : Fin 1 → IVec S16 32) a x).toNat < S4096.size a := fun v682 k0_hw231 => k0_hw231
def k0_off234 (k0_t16 : Fin k0_t16_loop.trips) : Fin 1 → Nat :=
  let c0_i32_132 : BitVec 32 := 0#32
  let c0_i32_59 : BitVec 32 := 0#32
  let c1_i32_61 : BitVec 32 := 1#32
  let arg11 : BitVec 32 := Scf.iv c0_i32_59 c1_i32_61 k0_t16
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c112_i32 : BitVec 32 := 112#32
  let v683 : BitVec 32 := Scalar.addi v612 c112_i32
  let v684 : Index := Scalar.indexCast v683
  ![v684.toNat]

def k0_chk232 (v692 : IVec S16 32) : Prop :=
  (∀ a x, ((![v692] : Fin 1 → IVec S16 32) a x).toNat < S4096.size a)
theorem k0_idx232_inb : ∀ (v692 : IVec S16 32) (k0_hw232 : k0_chk232 v692), ∀ a x, ((![v692] : Fin 1 → IVec S16 32) a x).toNat < S4096.size a := fun v692 k0_hw232 => k0_hw232
def k0_off235 (k0_t16 : Fin k0_t16_loop.trips) : Fin 1 → Nat :=
  let c0_i32_132 : BitVec 32 := 0#32
  let c0_i32_59 : BitVec 32 := 0#32
  let c1_i32_61 : BitVec 32 := 1#32
  let arg11 : BitVec 32 := Scf.iv c0_i32_59 c1_i32_61 k0_t16
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c128_i32 : BitVec 32 := 128#32
  let v693 : BitVec 32 := Scalar.addi v612 c128_i32
  let v694 : Index := Scalar.indexCast v693
  ![v694.toNat]

def k0_chk233 (v702 : IVec S16 32) : Prop :=
  (∀ a x, ((![v702] : Fin 1 → IVec S16 32) a x).toNat < S4096.size a)
theorem k0_idx233_inb : ∀ (v702 : IVec S16 32) (k0_hw233 : k0_chk233 v702), ∀ a x, ((![v702] : Fin 1 → IVec S16 32) a x).toNat < S4096.size a := fun v702 k0_hw233 => k0_hw233
def k0_off236 (k0_t16 : Fin k0_t16_loop.trips) : Fin 1 → Nat :=
  let c0_i32_132 : BitVec 32 := 0#32
  let c0_i32_59 : BitVec 32 := 0#32
  let c1_i32_61 : BitVec 32 := 1#32
  let arg11 : BitVec 32 := Scf.iv c0_i32_59 c1_i32_61 k0_t16
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c144_i32 : BitVec 32 := 144#32
  let v703 : BitVec 32 := Scalar.addi v612 c144_i32
  let v704 : Index := Scalar.indexCast v703
  ![v704.toNat]

def k0_chk234 (v712 : IVec S16 32) : Prop :=
  (∀ a x, ((![v712] : Fin 1 → IVec S16 32) a x).toNat < S4096.size a)
theorem k0_idx234_inb : ∀ (v712 : IVec S16 32) (k0_hw234 : k0_chk234 v712), ∀ a x, ((![v712] : Fin 1 → IVec S16 32) a x).toNat < S4096.size a := fun v712 k0_hw234 => k0_hw234
def k0_off237 (k0_t16 : Fin k0_t16_loop.trips) : Fin 1 → Nat :=
  let c0_i32_132 : BitVec 32 := 0#32
  let c0_i32_59 : BitVec 32 := 0#32
  let c1_i32_61 : BitVec 32 := 1#32
  let arg11 : BitVec 32 := Scf.iv c0_i32_59 c1_i32_61 k0_t16
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c160_i32 : BitVec 32 := 160#32
  let v713 : BitVec 32 := Scalar.addi v612 c160_i32
  let v714 : Index := Scalar.indexCast v713
  ![v714.toNat]

def k0_chk235 (v722 : IVec S16 32) : Prop :=
  (∀ a x, ((![v722] : Fin 1 → IVec S16 32) a x).toNat < S4096.size a)
theorem k0_idx235_inb : ∀ (v722 : IVec S16 32) (k0_hw235 : k0_chk235 v722), ∀ a x, ((![v722] : Fin 1 → IVec S16 32) a x).toNat < S4096.size a := fun v722 k0_hw235 => k0_hw235
def k0_off238 (k0_t16 : Fin k0_t16_loop.trips) : Fin 1 → Nat :=
  let c0_i32_132 : BitVec 32 := 0#32
  let c0_i32_59 : BitVec 32 := 0#32
  let c1_i32_61 : BitVec 32 := 1#32
  let arg11 : BitVec 32 := Scf.iv c0_i32_59 c1_i32_61 k0_t16
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c176_i32 : BitVec 32 := 176#32
  let v723 : BitVec 32 := Scalar.addi v612 c176_i32
  let v724 : Index := Scalar.indexCast v723
  ![v724.toNat]

def k0_chk236 (v732 : IVec S16 32) : Prop :=
  (∀ a x, ((![v732] : Fin 1 → IVec S16 32) a x).toNat < S4096.size a)
theorem k0_idx236_inb : ∀ (v732 : IVec S16 32) (k0_hw236 : k0_chk236 v732), ∀ a x, ((![v732] : Fin 1 → IVec S16 32) a x).toNat < S4096.size a := fun v732 k0_hw236 => k0_hw236
def k0_off239 (k0_t16 : Fin k0_t16_loop.trips) : Fin 1 → Nat :=
  let c0_i32_132 : BitVec 32 := 0#32
  let c0_i32_59 : BitVec 32 := 0#32
  let c1_i32_61 : BitVec 32 := 1#32
  let arg11 : BitVec 32 := Scf.iv c0_i32_59 c1_i32_61 k0_t16
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c192_i32 : BitVec 32 := 192#32
  let v733 : BitVec 32 := Scalar.addi v612 c192_i32
  let v734 : Index := Scalar.indexCast v733
  ![v734.toNat]

def k0_chk237 (v742 : IVec S16 32) : Prop :=
  (∀ a x, ((![v742] : Fin 1 → IVec S16 32) a x).toNat < S4096.size a)
theorem k0_idx237_inb : ∀ (v742 : IVec S16 32) (k0_hw237 : k0_chk237 v742), ∀ a x, ((![v742] : Fin 1 → IVec S16 32) a x).toNat < S4096.size a := fun v742 k0_hw237 => k0_hw237
def k0_off240 (k0_t16 : Fin k0_t16_loop.trips) : Fin 1 → Nat :=
  let c0_i32_132 : BitVec 32 := 0#32
  let c0_i32_59 : BitVec 32 := 0#32
  let c1_i32_61 : BitVec 32 := 1#32
  let arg11 : BitVec 32 := Scf.iv c0_i32_59 c1_i32_61 k0_t16
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c208_i32 : BitVec 32 := 208#32
  let v743 : BitVec 32 := Scalar.addi v612 c208_i32
  let v744 : Index := Scalar.indexCast v743
  ![v744.toNat]

def k0_chk238 (v752 : IVec S16 32) : Prop :=
  (∀ a x, ((![v752] : Fin 1 → IVec S16 32) a x).toNat < S4096.size a)
theorem k0_idx238_inb : ∀ (v752 : IVec S16 32) (k0_hw238 : k0_chk238 v752), ∀ a x, ((![v752] : Fin 1 → IVec S16 32) a x).toNat < S4096.size a := fun v752 k0_hw238 => k0_hw238
def k0_off241 (k0_t16 : Fin k0_t16_loop.trips) : Fin 1 → Nat :=
  let c0_i32_132 : BitVec 32 := 0#32
  let c0_i32_59 : BitVec 32 := 0#32
  let c1_i32_61 : BitVec 32 := 1#32
  let arg11 : BitVec 32 := Scf.iv c0_i32_59 c1_i32_61 k0_t16
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c224_i32 : BitVec 32 := 224#32
  let v753 : BitVec 32 := Scalar.addi v612 c224_i32
  let v754 : Index := Scalar.indexCast v753
  ![v754.toNat]

def k0_chk239 (v762 : IVec S16 32) : Prop :=
  (∀ a x, ((![v762] : Fin 1 → IVec S16 32) a x).toNat < S4096.size a)
theorem k0_idx239_inb : ∀ (v762 : IVec S16 32) (k0_hw239 : k0_chk239 v762), ∀ a x, ((![v762] : Fin 1 → IVec S16 32) a x).toNat < S4096.size a := fun v762 k0_hw239 => k0_hw239
def k0_off242 (k0_t16 : Fin k0_t16_loop.trips) : Fin 1 → Nat :=
  let c0_i32_132 : BitVec 32 := 0#32
  let c0_i32_59 : BitVec 32 := 0#32
  let c1_i32_61 : BitVec 32 := 1#32
  let arg11 : BitVec 32 := Scf.iv c0_i32_59 c1_i32_61 k0_t16
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c240_i32 : BitVec 32 := 240#32
  let v763 : BitVec 32 := Scalar.addi v612 c240_i32
  let v764 : Index := Scalar.indexCast v763
  ![v764.toNat]

def k0_chk240 (v772 : IVec S16 32) : Prop :=
  (∀ a x, ((![v772] : Fin 1 → IVec S16 32) a x).toNat < S4096.size a)
theorem k0_idx240_inb : ∀ (v772 : IVec S16 32) (k0_hw240 : k0_chk240 v772), ∀ a x, ((![v772] : Fin 1 → IVec S16 32) a x).toNat < S4096.size a := fun v772 k0_hw240 => k0_hw240
@[reducible] def k0_t17_loop : Scf.Loop 32 :=
  let c0_i32_63 : BitVec 32 := 0#32
  let c64_i32_64 : BitVec 32 := 64#32
  let v55 : BitVec 32 := Scalar.addi c0_i32_63 c64_i32_64
  let c1_i32_65 : BitVec 32 := 1#32
  ⟨c0_i32_63, v55, c1_i32_65⟩
def k0_mult17 (k0_t17 : Fin k0_t17_loop.trips) : BitVec 32 :=
  let c0_i32_132 : BitVec 32 := 0#32
  let c0_i32_63 : BitVec 32 := 0#32
  let c1_i32_65 : BitVec 32 := 1#32
  let arg11 : BitVec 32 := Scf.iv c0_i32_63 c1_i32_65 k0_t17
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  v611
def k0_off243 (k0_t17 : Fin k0_t17_loop.trips) : Fin 1 → Nat :=
  let c0_i32_132 : BitVec 32 := 0#32
  let c0_i32_63 : BitVec 32 := 0#32
  let c1_i32_65 : BitVec 32 := 1#32
  let arg11 : BitVec 32 := Scf.iv c0_i32_63 c1_i32_65 k0_t17
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c0_i32_134 : BitVec 32 := 0#32
  let v613 : BitVec 32 := Scalar.addi v612 c0_i32_134
  let v614 : Index := Scalar.indexCast v613
  ![v614.toNat]

def k0_chk241 (v622 : IVec S16 32) : Prop :=
  (∀ a x, ((![v622] : Fin 1 → IVec S16 32) a x).toNat < S4096.size a)
theorem k0_idx241_inb : ∀ (v622 : IVec S16 32) (k0_hw241 : k0_chk241 v622), ∀ a x, ((![v622] : Fin 1 → IVec S16 32) a x).toNat < S4096.size a := fun v622 k0_hw241 => k0_hw241
def k0_off244 (k0_t17 : Fin k0_t17_loop.trips) : Fin 1 → Nat :=
  let c0_i32_132 : BitVec 32 := 0#32
  let c0_i32_63 : BitVec 32 := 0#32
  let c1_i32_65 : BitVec 32 := 1#32
  let arg11 : BitVec 32 := Scf.iv c0_i32_63 c1_i32_65 k0_t17
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c16_i32 : BitVec 32 := 16#32
  let v623 : BitVec 32 := Scalar.addi v612 c16_i32
  let v624 : Index := Scalar.indexCast v623
  ![v624.toNat]

def k0_chk242 (v632 : IVec S16 32) : Prop :=
  (∀ a x, ((![v632] : Fin 1 → IVec S16 32) a x).toNat < S4096.size a)
theorem k0_idx242_inb : ∀ (v632 : IVec S16 32) (k0_hw242 : k0_chk242 v632), ∀ a x, ((![v632] : Fin 1 → IVec S16 32) a x).toNat < S4096.size a := fun v632 k0_hw242 => k0_hw242
def k0_off245 (k0_t17 : Fin k0_t17_loop.trips) : Fin 1 → Nat :=
  let c0_i32_132 : BitVec 32 := 0#32
  let c0_i32_63 : BitVec 32 := 0#32
  let c1_i32_65 : BitVec 32 := 1#32
  let arg11 : BitVec 32 := Scf.iv c0_i32_63 c1_i32_65 k0_t17
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c32_i32 : BitVec 32 := 32#32
  let v633 : BitVec 32 := Scalar.addi v612 c32_i32
  let v634 : Index := Scalar.indexCast v633
  ![v634.toNat]

def k0_chk243 (v642 : IVec S16 32) : Prop :=
  (∀ a x, ((![v642] : Fin 1 → IVec S16 32) a x).toNat < S4096.size a)
theorem k0_idx243_inb : ∀ (v642 : IVec S16 32) (k0_hw243 : k0_chk243 v642), ∀ a x, ((![v642] : Fin 1 → IVec S16 32) a x).toNat < S4096.size a := fun v642 k0_hw243 => k0_hw243
def k0_off246 (k0_t17 : Fin k0_t17_loop.trips) : Fin 1 → Nat :=
  let c0_i32_132 : BitVec 32 := 0#32
  let c0_i32_63 : BitVec 32 := 0#32
  let c1_i32_65 : BitVec 32 := 1#32
  let arg11 : BitVec 32 := Scf.iv c0_i32_63 c1_i32_65 k0_t17
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c48_i32 : BitVec 32 := 48#32
  let v643 : BitVec 32 := Scalar.addi v612 c48_i32
  let v644 : Index := Scalar.indexCast v643
  ![v644.toNat]

def k0_chk244 (v652 : IVec S16 32) : Prop :=
  (∀ a x, ((![v652] : Fin 1 → IVec S16 32) a x).toNat < S4096.size a)
theorem k0_idx244_inb : ∀ (v652 : IVec S16 32) (k0_hw244 : k0_chk244 v652), ∀ a x, ((![v652] : Fin 1 → IVec S16 32) a x).toNat < S4096.size a := fun v652 k0_hw244 => k0_hw244
def k0_off247 (k0_t17 : Fin k0_t17_loop.trips) : Fin 1 → Nat :=
  let c0_i32_132 : BitVec 32 := 0#32
  let c0_i32_63 : BitVec 32 := 0#32
  let c1_i32_65 : BitVec 32 := 1#32
  let arg11 : BitVec 32 := Scf.iv c0_i32_63 c1_i32_65 k0_t17
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c64_i32_135 : BitVec 32 := 64#32
  let v653 : BitVec 32 := Scalar.addi v612 c64_i32_135
  let v654 : Index := Scalar.indexCast v653
  ![v654.toNat]

def k0_chk245 (v662 : IVec S16 32) : Prop :=
  (∀ a x, ((![v662] : Fin 1 → IVec S16 32) a x).toNat < S4096.size a)
theorem k0_idx245_inb : ∀ (v662 : IVec S16 32) (k0_hw245 : k0_chk245 v662), ∀ a x, ((![v662] : Fin 1 → IVec S16 32) a x).toNat < S4096.size a := fun v662 k0_hw245 => k0_hw245
def k0_off248 (k0_t17 : Fin k0_t17_loop.trips) : Fin 1 → Nat :=
  let c0_i32_132 : BitVec 32 := 0#32
  let c0_i32_63 : BitVec 32 := 0#32
  let c1_i32_65 : BitVec 32 := 1#32
  let arg11 : BitVec 32 := Scf.iv c0_i32_63 c1_i32_65 k0_t17
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c80_i32 : BitVec 32 := 80#32
  let v663 : BitVec 32 := Scalar.addi v612 c80_i32
  let v664 : Index := Scalar.indexCast v663
  ![v664.toNat]

def k0_chk246 (v672 : IVec S16 32) : Prop :=
  (∀ a x, ((![v672] : Fin 1 → IVec S16 32) a x).toNat < S4096.size a)
theorem k0_idx246_inb : ∀ (v672 : IVec S16 32) (k0_hw246 : k0_chk246 v672), ∀ a x, ((![v672] : Fin 1 → IVec S16 32) a x).toNat < S4096.size a := fun v672 k0_hw246 => k0_hw246
def k0_off249 (k0_t17 : Fin k0_t17_loop.trips) : Fin 1 → Nat :=
  let c0_i32_132 : BitVec 32 := 0#32
  let c0_i32_63 : BitVec 32 := 0#32
  let c1_i32_65 : BitVec 32 := 1#32
  let arg11 : BitVec 32 := Scf.iv c0_i32_63 c1_i32_65 k0_t17
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c96_i32 : BitVec 32 := 96#32
  let v673 : BitVec 32 := Scalar.addi v612 c96_i32
  let v674 : Index := Scalar.indexCast v673
  ![v674.toNat]

def k0_chk247 (v682 : IVec S16 32) : Prop :=
  (∀ a x, ((![v682] : Fin 1 → IVec S16 32) a x).toNat < S4096.size a)
theorem k0_idx247_inb : ∀ (v682 : IVec S16 32) (k0_hw247 : k0_chk247 v682), ∀ a x, ((![v682] : Fin 1 → IVec S16 32) a x).toNat < S4096.size a := fun v682 k0_hw247 => k0_hw247
def k0_off250 (k0_t17 : Fin k0_t17_loop.trips) : Fin 1 → Nat :=
  let c0_i32_132 : BitVec 32 := 0#32
  let c0_i32_63 : BitVec 32 := 0#32
  let c1_i32_65 : BitVec 32 := 1#32
  let arg11 : BitVec 32 := Scf.iv c0_i32_63 c1_i32_65 k0_t17
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c112_i32 : BitVec 32 := 112#32
  let v683 : BitVec 32 := Scalar.addi v612 c112_i32
  let v684 : Index := Scalar.indexCast v683
  ![v684.toNat]

def k0_chk248 (v692 : IVec S16 32) : Prop :=
  (∀ a x, ((![v692] : Fin 1 → IVec S16 32) a x).toNat < S4096.size a)
theorem k0_idx248_inb : ∀ (v692 : IVec S16 32) (k0_hw248 : k0_chk248 v692), ∀ a x, ((![v692] : Fin 1 → IVec S16 32) a x).toNat < S4096.size a := fun v692 k0_hw248 => k0_hw248
def k0_off251 (k0_t17 : Fin k0_t17_loop.trips) : Fin 1 → Nat :=
  let c0_i32_132 : BitVec 32 := 0#32
  let c0_i32_63 : BitVec 32 := 0#32
  let c1_i32_65 : BitVec 32 := 1#32
  let arg11 : BitVec 32 := Scf.iv c0_i32_63 c1_i32_65 k0_t17
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c128_i32 : BitVec 32 := 128#32
  let v693 : BitVec 32 := Scalar.addi v612 c128_i32
  let v694 : Index := Scalar.indexCast v693
  ![v694.toNat]

def k0_chk249 (v702 : IVec S16 32) : Prop :=
  (∀ a x, ((![v702] : Fin 1 → IVec S16 32) a x).toNat < S4096.size a)
theorem k0_idx249_inb : ∀ (v702 : IVec S16 32) (k0_hw249 : k0_chk249 v702), ∀ a x, ((![v702] : Fin 1 → IVec S16 32) a x).toNat < S4096.size a := fun v702 k0_hw249 => k0_hw249
def k0_off252 (k0_t17 : Fin k0_t17_loop.trips) : Fin 1 → Nat :=
  let c0_i32_132 : BitVec 32 := 0#32
  let c0_i32_63 : BitVec 32 := 0#32
  let c1_i32_65 : BitVec 32 := 1#32
  let arg11 : BitVec 32 := Scf.iv c0_i32_63 c1_i32_65 k0_t17
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c144_i32 : BitVec 32 := 144#32
  let v703 : BitVec 32 := Scalar.addi v612 c144_i32
  let v704 : Index := Scalar.indexCast v703
  ![v704.toNat]

def k0_chk250 (v712 : IVec S16 32) : Prop :=
  (∀ a x, ((![v712] : Fin 1 → IVec S16 32) a x).toNat < S4096.size a)
theorem k0_idx250_inb : ∀ (v712 : IVec S16 32) (k0_hw250 : k0_chk250 v712), ∀ a x, ((![v712] : Fin 1 → IVec S16 32) a x).toNat < S4096.size a := fun v712 k0_hw250 => k0_hw250
def k0_off253 (k0_t17 : Fin k0_t17_loop.trips) : Fin 1 → Nat :=
  let c0_i32_132 : BitVec 32 := 0#32
  let c0_i32_63 : BitVec 32 := 0#32
  let c1_i32_65 : BitVec 32 := 1#32
  let arg11 : BitVec 32 := Scf.iv c0_i32_63 c1_i32_65 k0_t17
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c160_i32 : BitVec 32 := 160#32
  let v713 : BitVec 32 := Scalar.addi v612 c160_i32
  let v714 : Index := Scalar.indexCast v713
  ![v714.toNat]

def k0_chk251 (v722 : IVec S16 32) : Prop :=
  (∀ a x, ((![v722] : Fin 1 → IVec S16 32) a x).toNat < S4096.size a)
theorem k0_idx251_inb : ∀ (v722 : IVec S16 32) (k0_hw251 : k0_chk251 v722), ∀ a x, ((![v722] : Fin 1 → IVec S16 32) a x).toNat < S4096.size a := fun v722 k0_hw251 => k0_hw251
def k0_off254 (k0_t17 : Fin k0_t17_loop.trips) : Fin 1 → Nat :=
  let c0_i32_132 : BitVec 32 := 0#32
  let c0_i32_63 : BitVec 32 := 0#32
  let c1_i32_65 : BitVec 32 := 1#32
  let arg11 : BitVec 32 := Scf.iv c0_i32_63 c1_i32_65 k0_t17
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c176_i32 : BitVec 32 := 176#32
  let v723 : BitVec 32 := Scalar.addi v612 c176_i32
  let v724 : Index := Scalar.indexCast v723
  ![v724.toNat]

def k0_chk252 (v732 : IVec S16 32) : Prop :=
  (∀ a x, ((![v732] : Fin 1 → IVec S16 32) a x).toNat < S4096.size a)
theorem k0_idx252_inb : ∀ (v732 : IVec S16 32) (k0_hw252 : k0_chk252 v732), ∀ a x, ((![v732] : Fin 1 → IVec S16 32) a x).toNat < S4096.size a := fun v732 k0_hw252 => k0_hw252
def k0_off255 (k0_t17 : Fin k0_t17_loop.trips) : Fin 1 → Nat :=
  let c0_i32_132 : BitVec 32 := 0#32
  let c0_i32_63 : BitVec 32 := 0#32
  let c1_i32_65 : BitVec 32 := 1#32
  let arg11 : BitVec 32 := Scf.iv c0_i32_63 c1_i32_65 k0_t17
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c192_i32 : BitVec 32 := 192#32
  let v733 : BitVec 32 := Scalar.addi v612 c192_i32
  let v734 : Index := Scalar.indexCast v733
  ![v734.toNat]

def k0_chk253 (v742 : IVec S16 32) : Prop :=
  (∀ a x, ((![v742] : Fin 1 → IVec S16 32) a x).toNat < S4096.size a)
theorem k0_idx253_inb : ∀ (v742 : IVec S16 32) (k0_hw253 : k0_chk253 v742), ∀ a x, ((![v742] : Fin 1 → IVec S16 32) a x).toNat < S4096.size a := fun v742 k0_hw253 => k0_hw253
def k0_off256 (k0_t17 : Fin k0_t17_loop.trips) : Fin 1 → Nat :=
  let c0_i32_132 : BitVec 32 := 0#32
  let c0_i32_63 : BitVec 32 := 0#32
  let c1_i32_65 : BitVec 32 := 1#32
  let arg11 : BitVec 32 := Scf.iv c0_i32_63 c1_i32_65 k0_t17
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c208_i32 : BitVec 32 := 208#32
  let v743 : BitVec 32 := Scalar.addi v612 c208_i32
  let v744 : Index := Scalar.indexCast v743
  ![v744.toNat]

def k0_chk254 (v752 : IVec S16 32) : Prop :=
  (∀ a x, ((![v752] : Fin 1 → IVec S16 32) a x).toNat < S4096.size a)
theorem k0_idx254_inb : ∀ (v752 : IVec S16 32) (k0_hw254 : k0_chk254 v752), ∀ a x, ((![v752] : Fin 1 → IVec S16 32) a x).toNat < S4096.size a := fun v752 k0_hw254 => k0_hw254
def k0_off257 (k0_t17 : Fin k0_t17_loop.trips) : Fin 1 → Nat :=
  let c0_i32_132 : BitVec 32 := 0#32
  let c0_i32_63 : BitVec 32 := 0#32
  let c1_i32_65 : BitVec 32 := 1#32
  let arg11 : BitVec 32 := Scf.iv c0_i32_63 c1_i32_65 k0_t17
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c224_i32 : BitVec 32 := 224#32
  let v753 : BitVec 32 := Scalar.addi v612 c224_i32
  let v754 : Index := Scalar.indexCast v753
  ![v754.toNat]

def k0_chk255 (v762 : IVec S16 32) : Prop :=
  (∀ a x, ((![v762] : Fin 1 → IVec S16 32) a x).toNat < S4096.size a)
theorem k0_idx255_inb : ∀ (v762 : IVec S16 32) (k0_hw255 : k0_chk255 v762), ∀ a x, ((![v762] : Fin 1 → IVec S16 32) a x).toNat < S4096.size a := fun v762 k0_hw255 => k0_hw255
def k0_off258 (k0_t17 : Fin k0_t17_loop.trips) : Fin 1 → Nat :=
  let c0_i32_132 : BitVec 32 := 0#32
  let c0_i32_63 : BitVec 32 := 0#32
  let c1_i32_65 : BitVec 32 := 1#32
  let arg11 : BitVec 32 := Scf.iv c0_i32_63 c1_i32_65 k0_t17
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c240_i32 : BitVec 32 := 240#32
  let v763 : BitVec 32 := Scalar.addi v612 c240_i32
  let v764 : Index := Scalar.indexCast v763
  ![v764.toNat]

def k0_chk256 (v772 : IVec S16 32) : Prop :=
  (∀ a x, ((![v772] : Fin 1 → IVec S16 32) a x).toNat < S4096.size a)
theorem k0_idx256_inb : ∀ (v772 : IVec S16 32) (k0_hw256 : k0_chk256 v772), ∀ a x, ((![v772] : Fin 1 → IVec S16 32) a x).toNat < S4096.size a := fun v772 k0_hw256 => k0_hw256
@[reducible] def k0_t18_loop : Scf.Loop 32 :=
  let c0_i32_67 : BitVec 32 := 0#32
  let c64_i32_68 : BitVec 32 := 64#32
  let v58 : BitVec 32 := Scalar.addi c0_i32_67 c64_i32_68
  let c1_i32_69 : BitVec 32 := 1#32
  ⟨c0_i32_67, v58, c1_i32_69⟩
def k0_mult18 (k0_t18 : Fin k0_t18_loop.trips) : BitVec 32 :=
  let c0_i32_132 : BitVec 32 := 0#32
  let c0_i32_67 : BitVec 32 := 0#32
  let c1_i32_69 : BitVec 32 := 1#32
  let arg11 : BitVec 32 := Scf.iv c0_i32_67 c1_i32_69 k0_t18
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  v611
def k0_off259 (k0_t18 : Fin k0_t18_loop.trips) : Fin 1 → Nat :=
  let c0_i32_132 : BitVec 32 := 0#32
  let c0_i32_67 : BitVec 32 := 0#32
  let c1_i32_69 : BitVec 32 := 1#32
  let arg11 : BitVec 32 := Scf.iv c0_i32_67 c1_i32_69 k0_t18
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c0_i32_134 : BitVec 32 := 0#32
  let v613 : BitVec 32 := Scalar.addi v612 c0_i32_134
  let v614 : Index := Scalar.indexCast v613
  ![v614.toNat]

def k0_chk257 (v622 : IVec S16 32) : Prop :=
  (∀ a x, ((![v622] : Fin 1 → IVec S16 32) a x).toNat < S4096.size a)
theorem k0_idx257_inb : ∀ (v622 : IVec S16 32) (k0_hw257 : k0_chk257 v622), ∀ a x, ((![v622] : Fin 1 → IVec S16 32) a x).toNat < S4096.size a := fun v622 k0_hw257 => k0_hw257
def k0_off260 (k0_t18 : Fin k0_t18_loop.trips) : Fin 1 → Nat :=
  let c0_i32_132 : BitVec 32 := 0#32
  let c0_i32_67 : BitVec 32 := 0#32
  let c1_i32_69 : BitVec 32 := 1#32
  let arg11 : BitVec 32 := Scf.iv c0_i32_67 c1_i32_69 k0_t18
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c16_i32 : BitVec 32 := 16#32
  let v623 : BitVec 32 := Scalar.addi v612 c16_i32
  let v624 : Index := Scalar.indexCast v623
  ![v624.toNat]

def k0_chk258 (v632 : IVec S16 32) : Prop :=
  (∀ a x, ((![v632] : Fin 1 → IVec S16 32) a x).toNat < S4096.size a)
theorem k0_idx258_inb : ∀ (v632 : IVec S16 32) (k0_hw258 : k0_chk258 v632), ∀ a x, ((![v632] : Fin 1 → IVec S16 32) a x).toNat < S4096.size a := fun v632 k0_hw258 => k0_hw258
def k0_off261 (k0_t18 : Fin k0_t18_loop.trips) : Fin 1 → Nat :=
  let c0_i32_132 : BitVec 32 := 0#32
  let c0_i32_67 : BitVec 32 := 0#32
  let c1_i32_69 : BitVec 32 := 1#32
  let arg11 : BitVec 32 := Scf.iv c0_i32_67 c1_i32_69 k0_t18
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c32_i32 : BitVec 32 := 32#32
  let v633 : BitVec 32 := Scalar.addi v612 c32_i32
  let v634 : Index := Scalar.indexCast v633
  ![v634.toNat]

def k0_chk259 (v642 : IVec S16 32) : Prop :=
  (∀ a x, ((![v642] : Fin 1 → IVec S16 32) a x).toNat < S4096.size a)
theorem k0_idx259_inb : ∀ (v642 : IVec S16 32) (k0_hw259 : k0_chk259 v642), ∀ a x, ((![v642] : Fin 1 → IVec S16 32) a x).toNat < S4096.size a := fun v642 k0_hw259 => k0_hw259
def k0_off262 (k0_t18 : Fin k0_t18_loop.trips) : Fin 1 → Nat :=
  let c0_i32_132 : BitVec 32 := 0#32
  let c0_i32_67 : BitVec 32 := 0#32
  let c1_i32_69 : BitVec 32 := 1#32
  let arg11 : BitVec 32 := Scf.iv c0_i32_67 c1_i32_69 k0_t18
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c48_i32 : BitVec 32 := 48#32
  let v643 : BitVec 32 := Scalar.addi v612 c48_i32
  let v644 : Index := Scalar.indexCast v643
  ![v644.toNat]

def k0_chk260 (v652 : IVec S16 32) : Prop :=
  (∀ a x, ((![v652] : Fin 1 → IVec S16 32) a x).toNat < S4096.size a)
theorem k0_idx260_inb : ∀ (v652 : IVec S16 32) (k0_hw260 : k0_chk260 v652), ∀ a x, ((![v652] : Fin 1 → IVec S16 32) a x).toNat < S4096.size a := fun v652 k0_hw260 => k0_hw260
def k0_off263 (k0_t18 : Fin k0_t18_loop.trips) : Fin 1 → Nat :=
  let c0_i32_132 : BitVec 32 := 0#32
  let c0_i32_67 : BitVec 32 := 0#32
  let c1_i32_69 : BitVec 32 := 1#32
  let arg11 : BitVec 32 := Scf.iv c0_i32_67 c1_i32_69 k0_t18
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c64_i32_135 : BitVec 32 := 64#32
  let v653 : BitVec 32 := Scalar.addi v612 c64_i32_135
  let v654 : Index := Scalar.indexCast v653
  ![v654.toNat]

def k0_chk261 (v662 : IVec S16 32) : Prop :=
  (∀ a x, ((![v662] : Fin 1 → IVec S16 32) a x).toNat < S4096.size a)
theorem k0_idx261_inb : ∀ (v662 : IVec S16 32) (k0_hw261 : k0_chk261 v662), ∀ a x, ((![v662] : Fin 1 → IVec S16 32) a x).toNat < S4096.size a := fun v662 k0_hw261 => k0_hw261
def k0_off264 (k0_t18 : Fin k0_t18_loop.trips) : Fin 1 → Nat :=
  let c0_i32_132 : BitVec 32 := 0#32
  let c0_i32_67 : BitVec 32 := 0#32
  let c1_i32_69 : BitVec 32 := 1#32
  let arg11 : BitVec 32 := Scf.iv c0_i32_67 c1_i32_69 k0_t18
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c80_i32 : BitVec 32 := 80#32
  let v663 : BitVec 32 := Scalar.addi v612 c80_i32
  let v664 : Index := Scalar.indexCast v663
  ![v664.toNat]

def k0_chk262 (v672 : IVec S16 32) : Prop :=
  (∀ a x, ((![v672] : Fin 1 → IVec S16 32) a x).toNat < S4096.size a)
theorem k0_idx262_inb : ∀ (v672 : IVec S16 32) (k0_hw262 : k0_chk262 v672), ∀ a x, ((![v672] : Fin 1 → IVec S16 32) a x).toNat < S4096.size a := fun v672 k0_hw262 => k0_hw262
def k0_off265 (k0_t18 : Fin k0_t18_loop.trips) : Fin 1 → Nat :=
  let c0_i32_132 : BitVec 32 := 0#32
  let c0_i32_67 : BitVec 32 := 0#32
  let c1_i32_69 : BitVec 32 := 1#32
  let arg11 : BitVec 32 := Scf.iv c0_i32_67 c1_i32_69 k0_t18
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c96_i32 : BitVec 32 := 96#32
  let v673 : BitVec 32 := Scalar.addi v612 c96_i32
  let v674 : Index := Scalar.indexCast v673
  ![v674.toNat]

def k0_chk263 (v682 : IVec S16 32) : Prop :=
  (∀ a x, ((![v682] : Fin 1 → IVec S16 32) a x).toNat < S4096.size a)
theorem k0_idx263_inb : ∀ (v682 : IVec S16 32) (k0_hw263 : k0_chk263 v682), ∀ a x, ((![v682] : Fin 1 → IVec S16 32) a x).toNat < S4096.size a := fun v682 k0_hw263 => k0_hw263
def k0_off266 (k0_t18 : Fin k0_t18_loop.trips) : Fin 1 → Nat :=
  let c0_i32_132 : BitVec 32 := 0#32
  let c0_i32_67 : BitVec 32 := 0#32
  let c1_i32_69 : BitVec 32 := 1#32
  let arg11 : BitVec 32 := Scf.iv c0_i32_67 c1_i32_69 k0_t18
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c112_i32 : BitVec 32 := 112#32
  let v683 : BitVec 32 := Scalar.addi v612 c112_i32
  let v684 : Index := Scalar.indexCast v683
  ![v684.toNat]

def k0_chk264 (v692 : IVec S16 32) : Prop :=
  (∀ a x, ((![v692] : Fin 1 → IVec S16 32) a x).toNat < S4096.size a)
theorem k0_idx264_inb : ∀ (v692 : IVec S16 32) (k0_hw264 : k0_chk264 v692), ∀ a x, ((![v692] : Fin 1 → IVec S16 32) a x).toNat < S4096.size a := fun v692 k0_hw264 => k0_hw264
def k0_off267 (k0_t18 : Fin k0_t18_loop.trips) : Fin 1 → Nat :=
  let c0_i32_132 : BitVec 32 := 0#32
  let c0_i32_67 : BitVec 32 := 0#32
  let c1_i32_69 : BitVec 32 := 1#32
  let arg11 : BitVec 32 := Scf.iv c0_i32_67 c1_i32_69 k0_t18
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c128_i32 : BitVec 32 := 128#32
  let v693 : BitVec 32 := Scalar.addi v612 c128_i32
  let v694 : Index := Scalar.indexCast v693
  ![v694.toNat]

def k0_chk265 (v702 : IVec S16 32) : Prop :=
  (∀ a x, ((![v702] : Fin 1 → IVec S16 32) a x).toNat < S4096.size a)
theorem k0_idx265_inb : ∀ (v702 : IVec S16 32) (k0_hw265 : k0_chk265 v702), ∀ a x, ((![v702] : Fin 1 → IVec S16 32) a x).toNat < S4096.size a := fun v702 k0_hw265 => k0_hw265
def k0_off268 (k0_t18 : Fin k0_t18_loop.trips) : Fin 1 → Nat :=
  let c0_i32_132 : BitVec 32 := 0#32
  let c0_i32_67 : BitVec 32 := 0#32
  let c1_i32_69 : BitVec 32 := 1#32
  let arg11 : BitVec 32 := Scf.iv c0_i32_67 c1_i32_69 k0_t18
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c144_i32 : BitVec 32 := 144#32
  let v703 : BitVec 32 := Scalar.addi v612 c144_i32
  let v704 : Index := Scalar.indexCast v703
  ![v704.toNat]

def k0_chk266 (v712 : IVec S16 32) : Prop :=
  (∀ a x, ((![v712] : Fin 1 → IVec S16 32) a x).toNat < S4096.size a)
theorem k0_idx266_inb : ∀ (v712 : IVec S16 32) (k0_hw266 : k0_chk266 v712), ∀ a x, ((![v712] : Fin 1 → IVec S16 32) a x).toNat < S4096.size a := fun v712 k0_hw266 => k0_hw266
def k0_off269 (k0_t18 : Fin k0_t18_loop.trips) : Fin 1 → Nat :=
  let c0_i32_132 : BitVec 32 := 0#32
  let c0_i32_67 : BitVec 32 := 0#32
  let c1_i32_69 : BitVec 32 := 1#32
  let arg11 : BitVec 32 := Scf.iv c0_i32_67 c1_i32_69 k0_t18
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c160_i32 : BitVec 32 := 160#32
  let v713 : BitVec 32 := Scalar.addi v612 c160_i32
  let v714 : Index := Scalar.indexCast v713
  ![v714.toNat]

def k0_chk267 (v722 : IVec S16 32) : Prop :=
  (∀ a x, ((![v722] : Fin 1 → IVec S16 32) a x).toNat < S4096.size a)
theorem k0_idx267_inb : ∀ (v722 : IVec S16 32) (k0_hw267 : k0_chk267 v722), ∀ a x, ((![v722] : Fin 1 → IVec S16 32) a x).toNat < S4096.size a := fun v722 k0_hw267 => k0_hw267
def k0_off270 (k0_t18 : Fin k0_t18_loop.trips) : Fin 1 → Nat :=
  let c0_i32_132 : BitVec 32 := 0#32
  let c0_i32_67 : BitVec 32 := 0#32
  let c1_i32_69 : BitVec 32 := 1#32
  let arg11 : BitVec 32 := Scf.iv c0_i32_67 c1_i32_69 k0_t18
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c176_i32 : BitVec 32 := 176#32
  let v723 : BitVec 32 := Scalar.addi v612 c176_i32
  let v724 : Index := Scalar.indexCast v723
  ![v724.toNat]

def k0_chk268 (v732 : IVec S16 32) : Prop :=
  (∀ a x, ((![v732] : Fin 1 → IVec S16 32) a x).toNat < S4096.size a)
theorem k0_idx268_inb : ∀ (v732 : IVec S16 32) (k0_hw268 : k0_chk268 v732), ∀ a x, ((![v732] : Fin 1 → IVec S16 32) a x).toNat < S4096.size a := fun v732 k0_hw268 => k0_hw268
def k0_off271 (k0_t18 : Fin k0_t18_loop.trips) : Fin 1 → Nat :=
  let c0_i32_132 : BitVec 32 := 0#32
  let c0_i32_67 : BitVec 32 := 0#32
  let c1_i32_69 : BitVec 32 := 1#32
  let arg11 : BitVec 32 := Scf.iv c0_i32_67 c1_i32_69 k0_t18
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c192_i32 : BitVec 32 := 192#32
  let v733 : BitVec 32 := Scalar.addi v612 c192_i32
  let v734 : Index := Scalar.indexCast v733
  ![v734.toNat]

def k0_chk269 (v742 : IVec S16 32) : Prop :=
  (∀ a x, ((![v742] : Fin 1 → IVec S16 32) a x).toNat < S4096.size a)
theorem k0_idx269_inb : ∀ (v742 : IVec S16 32) (k0_hw269 : k0_chk269 v742), ∀ a x, ((![v742] : Fin 1 → IVec S16 32) a x).toNat < S4096.size a := fun v742 k0_hw269 => k0_hw269
def k0_off272 (k0_t18 : Fin k0_t18_loop.trips) : Fin 1 → Nat :=
  let c0_i32_132 : BitVec 32 := 0#32
  let c0_i32_67 : BitVec 32 := 0#32
  let c1_i32_69 : BitVec 32 := 1#32
  let arg11 : BitVec 32 := Scf.iv c0_i32_67 c1_i32_69 k0_t18
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c208_i32 : BitVec 32 := 208#32
  let v743 : BitVec 32 := Scalar.addi v612 c208_i32
  let v744 : Index := Scalar.indexCast v743
  ![v744.toNat]

def k0_chk270 (v752 : IVec S16 32) : Prop :=
  (∀ a x, ((![v752] : Fin 1 → IVec S16 32) a x).toNat < S4096.size a)
theorem k0_idx270_inb : ∀ (v752 : IVec S16 32) (k0_hw270 : k0_chk270 v752), ∀ a x, ((![v752] : Fin 1 → IVec S16 32) a x).toNat < S4096.size a := fun v752 k0_hw270 => k0_hw270
def k0_off273 (k0_t18 : Fin k0_t18_loop.trips) : Fin 1 → Nat :=
  let c0_i32_132 : BitVec 32 := 0#32
  let c0_i32_67 : BitVec 32 := 0#32
  let c1_i32_69 : BitVec 32 := 1#32
  let arg11 : BitVec 32 := Scf.iv c0_i32_67 c1_i32_69 k0_t18
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c224_i32 : BitVec 32 := 224#32
  let v753 : BitVec 32 := Scalar.addi v612 c224_i32
  let v754 : Index := Scalar.indexCast v753
  ![v754.toNat]

def k0_chk271 (v762 : IVec S16 32) : Prop :=
  (∀ a x, ((![v762] : Fin 1 → IVec S16 32) a x).toNat < S4096.size a)
theorem k0_idx271_inb : ∀ (v762 : IVec S16 32) (k0_hw271 : k0_chk271 v762), ∀ a x, ((![v762] : Fin 1 → IVec S16 32) a x).toNat < S4096.size a := fun v762 k0_hw271 => k0_hw271
def k0_off274 (k0_t18 : Fin k0_t18_loop.trips) : Fin 1 → Nat :=
  let c0_i32_132 : BitVec 32 := 0#32
  let c0_i32_67 : BitVec 32 := 0#32
  let c1_i32_69 : BitVec 32 := 1#32
  let arg11 : BitVec 32 := Scf.iv c0_i32_67 c1_i32_69 k0_t18
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c240_i32 : BitVec 32 := 240#32
  let v763 : BitVec 32 := Scalar.addi v612 c240_i32
  let v764 : Index := Scalar.indexCast v763
  ![v764.toNat]

def k0_chk272 (v772 : IVec S16 32) : Prop :=
  (∀ a x, ((![v772] : Fin 1 → IVec S16 32) a x).toNat < S4096.size a)
theorem k0_idx272_inb : ∀ (v772 : IVec S16 32) (k0_hw272 : k0_chk272 v772), ∀ a x, ((![v772] : Fin 1 → IVec S16 32) a x).toNat < S4096.size a := fun v772 k0_hw272 => k0_hw272
@[reducible] def k0_t19_loop : Scf.Loop 32 :=
  let c0_i32_71 : BitVec 32 := 0#32
  let c64_i32_72 : BitVec 32 := 64#32
  let v61 : BitVec 32 := Scalar.addi c0_i32_71 c64_i32_72
  let c1_i32_73 : BitVec 32 := 1#32
  ⟨c0_i32_71, v61, c1_i32_73⟩
def k0_mult19 (k0_t19 : Fin k0_t19_loop.trips) : BitVec 32 :=
  let c0_i32_132 : BitVec 32 := 0#32
  let c0_i32_71 : BitVec 32 := 0#32
  let c1_i32_73 : BitVec 32 := 1#32
  let arg11 : BitVec 32 := Scf.iv c0_i32_71 c1_i32_73 k0_t19
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  v611
def k0_off275 (k0_t19 : Fin k0_t19_loop.trips) : Fin 1 → Nat :=
  let c0_i32_132 : BitVec 32 := 0#32
  let c0_i32_71 : BitVec 32 := 0#32
  let c1_i32_73 : BitVec 32 := 1#32
  let arg11 : BitVec 32 := Scf.iv c0_i32_71 c1_i32_73 k0_t19
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c0_i32_134 : BitVec 32 := 0#32
  let v613 : BitVec 32 := Scalar.addi v612 c0_i32_134
  let v614 : Index := Scalar.indexCast v613
  ![v614.toNat]

def k0_chk273 (v622 : IVec S16 32) : Prop :=
  (∀ a x, ((![v622] : Fin 1 → IVec S16 32) a x).toNat < S4096.size a)
theorem k0_idx273_inb : ∀ (v622 : IVec S16 32) (k0_hw273 : k0_chk273 v622), ∀ a x, ((![v622] : Fin 1 → IVec S16 32) a x).toNat < S4096.size a := fun v622 k0_hw273 => k0_hw273
def k0_off276 (k0_t19 : Fin k0_t19_loop.trips) : Fin 1 → Nat :=
  let c0_i32_132 : BitVec 32 := 0#32
  let c0_i32_71 : BitVec 32 := 0#32
  let c1_i32_73 : BitVec 32 := 1#32
  let arg11 : BitVec 32 := Scf.iv c0_i32_71 c1_i32_73 k0_t19
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c16_i32 : BitVec 32 := 16#32
  let v623 : BitVec 32 := Scalar.addi v612 c16_i32
  let v624 : Index := Scalar.indexCast v623
  ![v624.toNat]

def k0_chk274 (v632 : IVec S16 32) : Prop :=
  (∀ a x, ((![v632] : Fin 1 → IVec S16 32) a x).toNat < S4096.size a)
theorem k0_idx274_inb : ∀ (v632 : IVec S16 32) (k0_hw274 : k0_chk274 v632), ∀ a x, ((![v632] : Fin 1 → IVec S16 32) a x).toNat < S4096.size a := fun v632 k0_hw274 => k0_hw274
def k0_off277 (k0_t19 : Fin k0_t19_loop.trips) : Fin 1 → Nat :=
  let c0_i32_132 : BitVec 32 := 0#32
  let c0_i32_71 : BitVec 32 := 0#32
  let c1_i32_73 : BitVec 32 := 1#32
  let arg11 : BitVec 32 := Scf.iv c0_i32_71 c1_i32_73 k0_t19
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c32_i32 : BitVec 32 := 32#32
  let v633 : BitVec 32 := Scalar.addi v612 c32_i32
  let v634 : Index := Scalar.indexCast v633
  ![v634.toNat]

def k0_chk275 (v642 : IVec S16 32) : Prop :=
  (∀ a x, ((![v642] : Fin 1 → IVec S16 32) a x).toNat < S4096.size a)
theorem k0_idx275_inb : ∀ (v642 : IVec S16 32) (k0_hw275 : k0_chk275 v642), ∀ a x, ((![v642] : Fin 1 → IVec S16 32) a x).toNat < S4096.size a := fun v642 k0_hw275 => k0_hw275
def k0_off278 (k0_t19 : Fin k0_t19_loop.trips) : Fin 1 → Nat :=
  let c0_i32_132 : BitVec 32 := 0#32
  let c0_i32_71 : BitVec 32 := 0#32
  let c1_i32_73 : BitVec 32 := 1#32
  let arg11 : BitVec 32 := Scf.iv c0_i32_71 c1_i32_73 k0_t19
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c48_i32 : BitVec 32 := 48#32
  let v643 : BitVec 32 := Scalar.addi v612 c48_i32
  let v644 : Index := Scalar.indexCast v643
  ![v644.toNat]

def k0_chk276 (v652 : IVec S16 32) : Prop :=
  (∀ a x, ((![v652] : Fin 1 → IVec S16 32) a x).toNat < S4096.size a)
theorem k0_idx276_inb : ∀ (v652 : IVec S16 32) (k0_hw276 : k0_chk276 v652), ∀ a x, ((![v652] : Fin 1 → IVec S16 32) a x).toNat < S4096.size a := fun v652 k0_hw276 => k0_hw276
def k0_off279 (k0_t19 : Fin k0_t19_loop.trips) : Fin 1 → Nat :=
  let c0_i32_132 : BitVec 32 := 0#32
  let c0_i32_71 : BitVec 32 := 0#32
  let c1_i32_73 : BitVec 32 := 1#32
  let arg11 : BitVec 32 := Scf.iv c0_i32_71 c1_i32_73 k0_t19
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c64_i32_135 : BitVec 32 := 64#32
  let v653 : BitVec 32 := Scalar.addi v612 c64_i32_135
  let v654 : Index := Scalar.indexCast v653
  ![v654.toNat]

def k0_chk277 (v662 : IVec S16 32) : Prop :=
  (∀ a x, ((![v662] : Fin 1 → IVec S16 32) a x).toNat < S4096.size a)
theorem k0_idx277_inb : ∀ (v662 : IVec S16 32) (k0_hw277 : k0_chk277 v662), ∀ a x, ((![v662] : Fin 1 → IVec S16 32) a x).toNat < S4096.size a := fun v662 k0_hw277 => k0_hw277
def k0_off280 (k0_t19 : Fin k0_t19_loop.trips) : Fin 1 → Nat :=
  let c0_i32_132 : BitVec 32 := 0#32
  let c0_i32_71 : BitVec 32 := 0#32
  let c1_i32_73 : BitVec 32 := 1#32
  let arg11 : BitVec 32 := Scf.iv c0_i32_71 c1_i32_73 k0_t19
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c80_i32 : BitVec 32 := 80#32
  let v663 : BitVec 32 := Scalar.addi v612 c80_i32
  let v664 : Index := Scalar.indexCast v663
  ![v664.toNat]

def k0_chk278 (v672 : IVec S16 32) : Prop :=
  (∀ a x, ((![v672] : Fin 1 → IVec S16 32) a x).toNat < S4096.size a)
theorem k0_idx278_inb : ∀ (v672 : IVec S16 32) (k0_hw278 : k0_chk278 v672), ∀ a x, ((![v672] : Fin 1 → IVec S16 32) a x).toNat < S4096.size a := fun v672 k0_hw278 => k0_hw278
def k0_off281 (k0_t19 : Fin k0_t19_loop.trips) : Fin 1 → Nat :=
  let c0_i32_132 : BitVec 32 := 0#32
  let c0_i32_71 : BitVec 32 := 0#32
  let c1_i32_73 : BitVec 32 := 1#32
  let arg11 : BitVec 32 := Scf.iv c0_i32_71 c1_i32_73 k0_t19
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c96_i32 : BitVec 32 := 96#32
  let v673 : BitVec 32 := Scalar.addi v612 c96_i32
  let v674 : Index := Scalar.indexCast v673
  ![v674.toNat]

def k0_chk279 (v682 : IVec S16 32) : Prop :=
  (∀ a x, ((![v682] : Fin 1 → IVec S16 32) a x).toNat < S4096.size a)
theorem k0_idx279_inb : ∀ (v682 : IVec S16 32) (k0_hw279 : k0_chk279 v682), ∀ a x, ((![v682] : Fin 1 → IVec S16 32) a x).toNat < S4096.size a := fun v682 k0_hw279 => k0_hw279
def k0_off282 (k0_t19 : Fin k0_t19_loop.trips) : Fin 1 → Nat :=
  let c0_i32_132 : BitVec 32 := 0#32
  let c0_i32_71 : BitVec 32 := 0#32
  let c1_i32_73 : BitVec 32 := 1#32
  let arg11 : BitVec 32 := Scf.iv c0_i32_71 c1_i32_73 k0_t19
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c112_i32 : BitVec 32 := 112#32
  let v683 : BitVec 32 := Scalar.addi v612 c112_i32
  let v684 : Index := Scalar.indexCast v683
  ![v684.toNat]

def k0_chk280 (v692 : IVec S16 32) : Prop :=
  (∀ a x, ((![v692] : Fin 1 → IVec S16 32) a x).toNat < S4096.size a)
theorem k0_idx280_inb : ∀ (v692 : IVec S16 32) (k0_hw280 : k0_chk280 v692), ∀ a x, ((![v692] : Fin 1 → IVec S16 32) a x).toNat < S4096.size a := fun v692 k0_hw280 => k0_hw280
def k0_off283 (k0_t19 : Fin k0_t19_loop.trips) : Fin 1 → Nat :=
  let c0_i32_132 : BitVec 32 := 0#32
  let c0_i32_71 : BitVec 32 := 0#32
  let c1_i32_73 : BitVec 32 := 1#32
  let arg11 : BitVec 32 := Scf.iv c0_i32_71 c1_i32_73 k0_t19
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c128_i32 : BitVec 32 := 128#32
  let v693 : BitVec 32 := Scalar.addi v612 c128_i32
  let v694 : Index := Scalar.indexCast v693
  ![v694.toNat]

def k0_chk281 (v702 : IVec S16 32) : Prop :=
  (∀ a x, ((![v702] : Fin 1 → IVec S16 32) a x).toNat < S4096.size a)
theorem k0_idx281_inb : ∀ (v702 : IVec S16 32) (k0_hw281 : k0_chk281 v702), ∀ a x, ((![v702] : Fin 1 → IVec S16 32) a x).toNat < S4096.size a := fun v702 k0_hw281 => k0_hw281
def k0_off284 (k0_t19 : Fin k0_t19_loop.trips) : Fin 1 → Nat :=
  let c0_i32_132 : BitVec 32 := 0#32
  let c0_i32_71 : BitVec 32 := 0#32
  let c1_i32_73 : BitVec 32 := 1#32
  let arg11 : BitVec 32 := Scf.iv c0_i32_71 c1_i32_73 k0_t19
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c144_i32 : BitVec 32 := 144#32
  let v703 : BitVec 32 := Scalar.addi v612 c144_i32
  let v704 : Index := Scalar.indexCast v703
  ![v704.toNat]

def k0_chk282 (v712 : IVec S16 32) : Prop :=
  (∀ a x, ((![v712] : Fin 1 → IVec S16 32) a x).toNat < S4096.size a)
theorem k0_idx282_inb : ∀ (v712 : IVec S16 32) (k0_hw282 : k0_chk282 v712), ∀ a x, ((![v712] : Fin 1 → IVec S16 32) a x).toNat < S4096.size a := fun v712 k0_hw282 => k0_hw282
def k0_off285 (k0_t19 : Fin k0_t19_loop.trips) : Fin 1 → Nat :=
  let c0_i32_132 : BitVec 32 := 0#32
  let c0_i32_71 : BitVec 32 := 0#32
  let c1_i32_73 : BitVec 32 := 1#32
  let arg11 : BitVec 32 := Scf.iv c0_i32_71 c1_i32_73 k0_t19
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c160_i32 : BitVec 32 := 160#32
  let v713 : BitVec 32 := Scalar.addi v612 c160_i32
  let v714 : Index := Scalar.indexCast v713
  ![v714.toNat]

def k0_chk283 (v722 : IVec S16 32) : Prop :=
  (∀ a x, ((![v722] : Fin 1 → IVec S16 32) a x).toNat < S4096.size a)
theorem k0_idx283_inb : ∀ (v722 : IVec S16 32) (k0_hw283 : k0_chk283 v722), ∀ a x, ((![v722] : Fin 1 → IVec S16 32) a x).toNat < S4096.size a := fun v722 k0_hw283 => k0_hw283
def k0_off286 (k0_t19 : Fin k0_t19_loop.trips) : Fin 1 → Nat :=
  let c0_i32_132 : BitVec 32 := 0#32
  let c0_i32_71 : BitVec 32 := 0#32
  let c1_i32_73 : BitVec 32 := 1#32
  let arg11 : BitVec 32 := Scf.iv c0_i32_71 c1_i32_73 k0_t19
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c176_i32 : BitVec 32 := 176#32
  let v723 : BitVec 32 := Scalar.addi v612 c176_i32
  let v724 : Index := Scalar.indexCast v723
  ![v724.toNat]

def k0_chk284 (v732 : IVec S16 32) : Prop :=
  (∀ a x, ((![v732] : Fin 1 → IVec S16 32) a x).toNat < S4096.size a)
theorem k0_idx284_inb : ∀ (v732 : IVec S16 32) (k0_hw284 : k0_chk284 v732), ∀ a x, ((![v732] : Fin 1 → IVec S16 32) a x).toNat < S4096.size a := fun v732 k0_hw284 => k0_hw284
def k0_off287 (k0_t19 : Fin k0_t19_loop.trips) : Fin 1 → Nat :=
  let c0_i32_132 : BitVec 32 := 0#32
  let c0_i32_71 : BitVec 32 := 0#32
  let c1_i32_73 : BitVec 32 := 1#32
  let arg11 : BitVec 32 := Scf.iv c0_i32_71 c1_i32_73 k0_t19
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c192_i32 : BitVec 32 := 192#32
  let v733 : BitVec 32 := Scalar.addi v612 c192_i32
  let v734 : Index := Scalar.indexCast v733
  ![v734.toNat]

def k0_chk285 (v742 : IVec S16 32) : Prop :=
  (∀ a x, ((![v742] : Fin 1 → IVec S16 32) a x).toNat < S4096.size a)
theorem k0_idx285_inb : ∀ (v742 : IVec S16 32) (k0_hw285 : k0_chk285 v742), ∀ a x, ((![v742] : Fin 1 → IVec S16 32) a x).toNat < S4096.size a := fun v742 k0_hw285 => k0_hw285
def k0_off288 (k0_t19 : Fin k0_t19_loop.trips) : Fin 1 → Nat :=
  let c0_i32_132 : BitVec 32 := 0#32
  let c0_i32_71 : BitVec 32 := 0#32
  let c1_i32_73 : BitVec 32 := 1#32
  let arg11 : BitVec 32 := Scf.iv c0_i32_71 c1_i32_73 k0_t19
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c208_i32 : BitVec 32 := 208#32
  let v743 : BitVec 32 := Scalar.addi v612 c208_i32
  let v744 : Index := Scalar.indexCast v743
  ![v744.toNat]

def k0_chk286 (v752 : IVec S16 32) : Prop :=
  (∀ a x, ((![v752] : Fin 1 → IVec S16 32) a x).toNat < S4096.size a)
theorem k0_idx286_inb : ∀ (v752 : IVec S16 32) (k0_hw286 : k0_chk286 v752), ∀ a x, ((![v752] : Fin 1 → IVec S16 32) a x).toNat < S4096.size a := fun v752 k0_hw286 => k0_hw286
def k0_off289 (k0_t19 : Fin k0_t19_loop.trips) : Fin 1 → Nat :=
  let c0_i32_132 : BitVec 32 := 0#32
  let c0_i32_71 : BitVec 32 := 0#32
  let c1_i32_73 : BitVec 32 := 1#32
  let arg11 : BitVec 32 := Scf.iv c0_i32_71 c1_i32_73 k0_t19
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c224_i32 : BitVec 32 := 224#32
  let v753 : BitVec 32 := Scalar.addi v612 c224_i32
  let v754 : Index := Scalar.indexCast v753
  ![v754.toNat]

def k0_chk287 (v762 : IVec S16 32) : Prop :=
  (∀ a x, ((![v762] : Fin 1 → IVec S16 32) a x).toNat < S4096.size a)
theorem k0_idx287_inb : ∀ (v762 : IVec S16 32) (k0_hw287 : k0_chk287 v762), ∀ a x, ((![v762] : Fin 1 → IVec S16 32) a x).toNat < S4096.size a := fun v762 k0_hw287 => k0_hw287
def k0_off290 (k0_t19 : Fin k0_t19_loop.trips) : Fin 1 → Nat :=
  let c0_i32_132 : BitVec 32 := 0#32
  let c0_i32_71 : BitVec 32 := 0#32
  let c1_i32_73 : BitVec 32 := 1#32
  let arg11 : BitVec 32 := Scf.iv c0_i32_71 c1_i32_73 k0_t19
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c240_i32 : BitVec 32 := 240#32
  let v763 : BitVec 32 := Scalar.addi v612 c240_i32
  let v764 : Index := Scalar.indexCast v763
  ![v764.toNat]

def k0_chk288 (v772 : IVec S16 32) : Prop :=
  (∀ a x, ((![v772] : Fin 1 → IVec S16 32) a x).toNat < S4096.size a)
theorem k0_idx288_inb : ∀ (v772 : IVec S16 32) (k0_hw288 : k0_chk288 v772), ∀ a x, ((![v772] : Fin 1 → IVec S16 32) a x).toNat < S4096.size a := fun v772 k0_hw288 => k0_hw288
@[reducible] def k0_t20_loop : Scf.Loop 32 :=
  let c0_i32_75 : BitVec 32 := 0#32
  let c64_i32_76 : BitVec 32 := 64#32
  let v64 : BitVec 32 := Scalar.addi c0_i32_75 c64_i32_76
  let c1_i32_77 : BitVec 32 := 1#32
  ⟨c0_i32_75, v64, c1_i32_77⟩
def k0_mult20 (k0_t20 : Fin k0_t20_loop.trips) : BitVec 32 :=
  let c0_i32_132 : BitVec 32 := 0#32
  let c0_i32_75 : BitVec 32 := 0#32
  let c1_i32_77 : BitVec 32 := 1#32
  let arg11 : BitVec 32 := Scf.iv c0_i32_75 c1_i32_77 k0_t20
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  v611
def k0_off291 (k0_t20 : Fin k0_t20_loop.trips) : Fin 1 → Nat :=
  let c0_i32_132 : BitVec 32 := 0#32
  let c0_i32_75 : BitVec 32 := 0#32
  let c1_i32_77 : BitVec 32 := 1#32
  let arg11 : BitVec 32 := Scf.iv c0_i32_75 c1_i32_77 k0_t20
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c0_i32_134 : BitVec 32 := 0#32
  let v613 : BitVec 32 := Scalar.addi v612 c0_i32_134
  let v614 : Index := Scalar.indexCast v613
  ![v614.toNat]

def k0_chk289 (v622 : IVec S16 32) : Prop :=
  (∀ a x, ((![v622] : Fin 1 → IVec S16 32) a x).toNat < S4096.size a)
theorem k0_idx289_inb : ∀ (v622 : IVec S16 32) (k0_hw289 : k0_chk289 v622), ∀ a x, ((![v622] : Fin 1 → IVec S16 32) a x).toNat < S4096.size a := fun v622 k0_hw289 => k0_hw289
def k0_off292 (k0_t20 : Fin k0_t20_loop.trips) : Fin 1 → Nat :=
  let c0_i32_132 : BitVec 32 := 0#32
  let c0_i32_75 : BitVec 32 := 0#32
  let c1_i32_77 : BitVec 32 := 1#32
  let arg11 : BitVec 32 := Scf.iv c0_i32_75 c1_i32_77 k0_t20
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c16_i32 : BitVec 32 := 16#32
  let v623 : BitVec 32 := Scalar.addi v612 c16_i32
  let v624 : Index := Scalar.indexCast v623
  ![v624.toNat]

def k0_chk290 (v632 : IVec S16 32) : Prop :=
  (∀ a x, ((![v632] : Fin 1 → IVec S16 32) a x).toNat < S4096.size a)
theorem k0_idx290_inb : ∀ (v632 : IVec S16 32) (k0_hw290 : k0_chk290 v632), ∀ a x, ((![v632] : Fin 1 → IVec S16 32) a x).toNat < S4096.size a := fun v632 k0_hw290 => k0_hw290
def k0_off293 (k0_t20 : Fin k0_t20_loop.trips) : Fin 1 → Nat :=
  let c0_i32_132 : BitVec 32 := 0#32
  let c0_i32_75 : BitVec 32 := 0#32
  let c1_i32_77 : BitVec 32 := 1#32
  let arg11 : BitVec 32 := Scf.iv c0_i32_75 c1_i32_77 k0_t20
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c32_i32 : BitVec 32 := 32#32
  let v633 : BitVec 32 := Scalar.addi v612 c32_i32
  let v634 : Index := Scalar.indexCast v633
  ![v634.toNat]

def k0_chk291 (v642 : IVec S16 32) : Prop :=
  (∀ a x, ((![v642] : Fin 1 → IVec S16 32) a x).toNat < S4096.size a)
theorem k0_idx291_inb : ∀ (v642 : IVec S16 32) (k0_hw291 : k0_chk291 v642), ∀ a x, ((![v642] : Fin 1 → IVec S16 32) a x).toNat < S4096.size a := fun v642 k0_hw291 => k0_hw291
def k0_off294 (k0_t20 : Fin k0_t20_loop.trips) : Fin 1 → Nat :=
  let c0_i32_132 : BitVec 32 := 0#32
  let c0_i32_75 : BitVec 32 := 0#32
  let c1_i32_77 : BitVec 32 := 1#32
  let arg11 : BitVec 32 := Scf.iv c0_i32_75 c1_i32_77 k0_t20
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c48_i32 : BitVec 32 := 48#32
  let v643 : BitVec 32 := Scalar.addi v612 c48_i32
  let v644 : Index := Scalar.indexCast v643
  ![v644.toNat]

def k0_chk292 (v652 : IVec S16 32) : Prop :=
  (∀ a x, ((![v652] : Fin 1 → IVec S16 32) a x).toNat < S4096.size a)
theorem k0_idx292_inb : ∀ (v652 : IVec S16 32) (k0_hw292 : k0_chk292 v652), ∀ a x, ((![v652] : Fin 1 → IVec S16 32) a x).toNat < S4096.size a := fun v652 k0_hw292 => k0_hw292
def k0_off295 (k0_t20 : Fin k0_t20_loop.trips) : Fin 1 → Nat :=
  let c0_i32_132 : BitVec 32 := 0#32
  let c0_i32_75 : BitVec 32 := 0#32
  let c1_i32_77 : BitVec 32 := 1#32
  let arg11 : BitVec 32 := Scf.iv c0_i32_75 c1_i32_77 k0_t20
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c64_i32_135 : BitVec 32 := 64#32
  let v653 : BitVec 32 := Scalar.addi v612 c64_i32_135
  let v654 : Index := Scalar.indexCast v653
  ![v654.toNat]

def k0_chk293 (v662 : IVec S16 32) : Prop :=
  (∀ a x, ((![v662] : Fin 1 → IVec S16 32) a x).toNat < S4096.size a)
theorem k0_idx293_inb : ∀ (v662 : IVec S16 32) (k0_hw293 : k0_chk293 v662), ∀ a x, ((![v662] : Fin 1 → IVec S16 32) a x).toNat < S4096.size a := fun v662 k0_hw293 => k0_hw293
def k0_off296 (k0_t20 : Fin k0_t20_loop.trips) : Fin 1 → Nat :=
  let c0_i32_132 : BitVec 32 := 0#32
  let c0_i32_75 : BitVec 32 := 0#32
  let c1_i32_77 : BitVec 32 := 1#32
  let arg11 : BitVec 32 := Scf.iv c0_i32_75 c1_i32_77 k0_t20
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c80_i32 : BitVec 32 := 80#32
  let v663 : BitVec 32 := Scalar.addi v612 c80_i32
  let v664 : Index := Scalar.indexCast v663
  ![v664.toNat]

def k0_chk294 (v672 : IVec S16 32) : Prop :=
  (∀ a x, ((![v672] : Fin 1 → IVec S16 32) a x).toNat < S4096.size a)
theorem k0_idx294_inb : ∀ (v672 : IVec S16 32) (k0_hw294 : k0_chk294 v672), ∀ a x, ((![v672] : Fin 1 → IVec S16 32) a x).toNat < S4096.size a := fun v672 k0_hw294 => k0_hw294
def k0_off297 (k0_t20 : Fin k0_t20_loop.trips) : Fin 1 → Nat :=
  let c0_i32_132 : BitVec 32 := 0#32
  let c0_i32_75 : BitVec 32 := 0#32
  let c1_i32_77 : BitVec 32 := 1#32
  let arg11 : BitVec 32 := Scf.iv c0_i32_75 c1_i32_77 k0_t20
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c96_i32 : BitVec 32 := 96#32
  let v673 : BitVec 32 := Scalar.addi v612 c96_i32
  let v674 : Index := Scalar.indexCast v673
  ![v674.toNat]

def k0_chk295 (v682 : IVec S16 32) : Prop :=
  (∀ a x, ((![v682] : Fin 1 → IVec S16 32) a x).toNat < S4096.size a)
theorem k0_idx295_inb : ∀ (v682 : IVec S16 32) (k0_hw295 : k0_chk295 v682), ∀ a x, ((![v682] : Fin 1 → IVec S16 32) a x).toNat < S4096.size a := fun v682 k0_hw295 => k0_hw295
def k0_off298 (k0_t20 : Fin k0_t20_loop.trips) : Fin 1 → Nat :=
  let c0_i32_132 : BitVec 32 := 0#32
  let c0_i32_75 : BitVec 32 := 0#32
  let c1_i32_77 : BitVec 32 := 1#32
  let arg11 : BitVec 32 := Scf.iv c0_i32_75 c1_i32_77 k0_t20
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c112_i32 : BitVec 32 := 112#32
  let v683 : BitVec 32 := Scalar.addi v612 c112_i32
  let v684 : Index := Scalar.indexCast v683
  ![v684.toNat]

def k0_chk296 (v692 : IVec S16 32) : Prop :=
  (∀ a x, ((![v692] : Fin 1 → IVec S16 32) a x).toNat < S4096.size a)
theorem k0_idx296_inb : ∀ (v692 : IVec S16 32) (k0_hw296 : k0_chk296 v692), ∀ a x, ((![v692] : Fin 1 → IVec S16 32) a x).toNat < S4096.size a := fun v692 k0_hw296 => k0_hw296
def k0_off299 (k0_t20 : Fin k0_t20_loop.trips) : Fin 1 → Nat :=
  let c0_i32_132 : BitVec 32 := 0#32
  let c0_i32_75 : BitVec 32 := 0#32
  let c1_i32_77 : BitVec 32 := 1#32
  let arg11 : BitVec 32 := Scf.iv c0_i32_75 c1_i32_77 k0_t20
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c128_i32 : BitVec 32 := 128#32
  let v693 : BitVec 32 := Scalar.addi v612 c128_i32
  let v694 : Index := Scalar.indexCast v693
  ![v694.toNat]

def k0_chk297 (v702 : IVec S16 32) : Prop :=
  (∀ a x, ((![v702] : Fin 1 → IVec S16 32) a x).toNat < S4096.size a)
theorem k0_idx297_inb : ∀ (v702 : IVec S16 32) (k0_hw297 : k0_chk297 v702), ∀ a x, ((![v702] : Fin 1 → IVec S16 32) a x).toNat < S4096.size a := fun v702 k0_hw297 => k0_hw297
def k0_off300 (k0_t20 : Fin k0_t20_loop.trips) : Fin 1 → Nat :=
  let c0_i32_132 : BitVec 32 := 0#32
  let c0_i32_75 : BitVec 32 := 0#32
  let c1_i32_77 : BitVec 32 := 1#32
  let arg11 : BitVec 32 := Scf.iv c0_i32_75 c1_i32_77 k0_t20
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c144_i32 : BitVec 32 := 144#32
  let v703 : BitVec 32 := Scalar.addi v612 c144_i32
  let v704 : Index := Scalar.indexCast v703
  ![v704.toNat]

def k0_chk298 (v712 : IVec S16 32) : Prop :=
  (∀ a x, ((![v712] : Fin 1 → IVec S16 32) a x).toNat < S4096.size a)
theorem k0_idx298_inb : ∀ (v712 : IVec S16 32) (k0_hw298 : k0_chk298 v712), ∀ a x, ((![v712] : Fin 1 → IVec S16 32) a x).toNat < S4096.size a := fun v712 k0_hw298 => k0_hw298
def k0_off301 (k0_t20 : Fin k0_t20_loop.trips) : Fin 1 → Nat :=
  let c0_i32_132 : BitVec 32 := 0#32
  let c0_i32_75 : BitVec 32 := 0#32
  let c1_i32_77 : BitVec 32 := 1#32
  let arg11 : BitVec 32 := Scf.iv c0_i32_75 c1_i32_77 k0_t20
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c160_i32 : BitVec 32 := 160#32
  let v713 : BitVec 32 := Scalar.addi v612 c160_i32
  let v714 : Index := Scalar.indexCast v713
  ![v714.toNat]

def k0_chk299 (v722 : IVec S16 32) : Prop :=
  (∀ a x, ((![v722] : Fin 1 → IVec S16 32) a x).toNat < S4096.size a)
theorem k0_idx299_inb : ∀ (v722 : IVec S16 32) (k0_hw299 : k0_chk299 v722), ∀ a x, ((![v722] : Fin 1 → IVec S16 32) a x).toNat < S4096.size a := fun v722 k0_hw299 => k0_hw299
def k0_off302 (k0_t20 : Fin k0_t20_loop.trips) : Fin 1 → Nat :=
  let c0_i32_132 : BitVec 32 := 0#32
  let c0_i32_75 : BitVec 32 := 0#32
  let c1_i32_77 : BitVec 32 := 1#32
  let arg11 : BitVec 32 := Scf.iv c0_i32_75 c1_i32_77 k0_t20
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c176_i32 : BitVec 32 := 176#32
  let v723 : BitVec 32 := Scalar.addi v612 c176_i32
  let v724 : Index := Scalar.indexCast v723
  ![v724.toNat]

def k0_chk300 (v732 : IVec S16 32) : Prop :=
  (∀ a x, ((![v732] : Fin 1 → IVec S16 32) a x).toNat < S4096.size a)
theorem k0_idx300_inb : ∀ (v732 : IVec S16 32) (k0_hw300 : k0_chk300 v732), ∀ a x, ((![v732] : Fin 1 → IVec S16 32) a x).toNat < S4096.size a := fun v732 k0_hw300 => k0_hw300
def k0_off303 (k0_t20 : Fin k0_t20_loop.trips) : Fin 1 → Nat :=
  let c0_i32_132 : BitVec 32 := 0#32
  let c0_i32_75 : BitVec 32 := 0#32
  let c1_i32_77 : BitVec 32 := 1#32
  let arg11 : BitVec 32 := Scf.iv c0_i32_75 c1_i32_77 k0_t20
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c192_i32 : BitVec 32 := 192#32
  let v733 : BitVec 32 := Scalar.addi v612 c192_i32
  let v734 : Index := Scalar.indexCast v733
  ![v734.toNat]

def k0_chk301 (v742 : IVec S16 32) : Prop :=
  (∀ a x, ((![v742] : Fin 1 → IVec S16 32) a x).toNat < S4096.size a)
theorem k0_idx301_inb : ∀ (v742 : IVec S16 32) (k0_hw301 : k0_chk301 v742), ∀ a x, ((![v742] : Fin 1 → IVec S16 32) a x).toNat < S4096.size a := fun v742 k0_hw301 => k0_hw301
def k0_off304 (k0_t20 : Fin k0_t20_loop.trips) : Fin 1 → Nat :=
  let c0_i32_132 : BitVec 32 := 0#32
  let c0_i32_75 : BitVec 32 := 0#32
  let c1_i32_77 : BitVec 32 := 1#32
  let arg11 : BitVec 32 := Scf.iv c0_i32_75 c1_i32_77 k0_t20
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c208_i32 : BitVec 32 := 208#32
  let v743 : BitVec 32 := Scalar.addi v612 c208_i32
  let v744 : Index := Scalar.indexCast v743
  ![v744.toNat]

def k0_chk302 (v752 : IVec S16 32) : Prop :=
  (∀ a x, ((![v752] : Fin 1 → IVec S16 32) a x).toNat < S4096.size a)
theorem k0_idx302_inb : ∀ (v752 : IVec S16 32) (k0_hw302 : k0_chk302 v752), ∀ a x, ((![v752] : Fin 1 → IVec S16 32) a x).toNat < S4096.size a := fun v752 k0_hw302 => k0_hw302
def k0_off305 (k0_t20 : Fin k0_t20_loop.trips) : Fin 1 → Nat :=
  let c0_i32_132 : BitVec 32 := 0#32
  let c0_i32_75 : BitVec 32 := 0#32
  let c1_i32_77 : BitVec 32 := 1#32
  let arg11 : BitVec 32 := Scf.iv c0_i32_75 c1_i32_77 k0_t20
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c224_i32 : BitVec 32 := 224#32
  let v753 : BitVec 32 := Scalar.addi v612 c224_i32
  let v754 : Index := Scalar.indexCast v753
  ![v754.toNat]

def k0_chk303 (v762 : IVec S16 32) : Prop :=
  (∀ a x, ((![v762] : Fin 1 → IVec S16 32) a x).toNat < S4096.size a)
theorem k0_idx303_inb : ∀ (v762 : IVec S16 32) (k0_hw303 : k0_chk303 v762), ∀ a x, ((![v762] : Fin 1 → IVec S16 32) a x).toNat < S4096.size a := fun v762 k0_hw303 => k0_hw303
def k0_off306 (k0_t20 : Fin k0_t20_loop.trips) : Fin 1 → Nat :=
  let c0_i32_132 : BitVec 32 := 0#32
  let c0_i32_75 : BitVec 32 := 0#32
  let c1_i32_77 : BitVec 32 := 1#32
  let arg11 : BitVec 32 := Scf.iv c0_i32_75 c1_i32_77 k0_t20
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c240_i32 : BitVec 32 := 240#32
  let v763 : BitVec 32 := Scalar.addi v612 c240_i32
  let v764 : Index := Scalar.indexCast v763
  ![v764.toNat]

def k0_chk304 (v772 : IVec S16 32) : Prop :=
  (∀ a x, ((![v772] : Fin 1 → IVec S16 32) a x).toNat < S4096.size a)
theorem k0_idx304_inb : ∀ (v772 : IVec S16 32) (k0_hw304 : k0_chk304 v772), ∀ a x, ((![v772] : Fin 1 → IVec S16 32) a x).toNat < S4096.size a := fun v772 k0_hw304 => k0_hw304
@[reducible] def k0_t21_loop : Scf.Loop 32 :=
  let c0_i32_79 : BitVec 32 := 0#32
  let c64_i32_80 : BitVec 32 := 64#32
  let v67 : BitVec 32 := Scalar.addi c0_i32_79 c64_i32_80
  let c1_i32_81 : BitVec 32 := 1#32
  ⟨c0_i32_79, v67, c1_i32_81⟩
def k0_mult21 (k0_t21 : Fin k0_t21_loop.trips) : BitVec 32 :=
  let c0_i32_132 : BitVec 32 := 0#32
  let c0_i32_79 : BitVec 32 := 0#32
  let c1_i32_81 : BitVec 32 := 1#32
  let arg11 : BitVec 32 := Scf.iv c0_i32_79 c1_i32_81 k0_t21
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  v611
def k0_off307 (k0_t21 : Fin k0_t21_loop.trips) : Fin 1 → Nat :=
  let c0_i32_132 : BitVec 32 := 0#32
  let c0_i32_79 : BitVec 32 := 0#32
  let c1_i32_81 : BitVec 32 := 1#32
  let arg11 : BitVec 32 := Scf.iv c0_i32_79 c1_i32_81 k0_t21
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c0_i32_134 : BitVec 32 := 0#32
  let v613 : BitVec 32 := Scalar.addi v612 c0_i32_134
  let v614 : Index := Scalar.indexCast v613
  ![v614.toNat]

def k0_chk305 (v622 : IVec S16 32) : Prop :=
  (∀ a x, ((![v622] : Fin 1 → IVec S16 32) a x).toNat < S4096.size a)
theorem k0_idx305_inb : ∀ (v622 : IVec S16 32) (k0_hw305 : k0_chk305 v622), ∀ a x, ((![v622] : Fin 1 → IVec S16 32) a x).toNat < S4096.size a := fun v622 k0_hw305 => k0_hw305
def k0_off308 (k0_t21 : Fin k0_t21_loop.trips) : Fin 1 → Nat :=
  let c0_i32_132 : BitVec 32 := 0#32
  let c0_i32_79 : BitVec 32 := 0#32
  let c1_i32_81 : BitVec 32 := 1#32
  let arg11 : BitVec 32 := Scf.iv c0_i32_79 c1_i32_81 k0_t21
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c16_i32 : BitVec 32 := 16#32
  let v623 : BitVec 32 := Scalar.addi v612 c16_i32
  let v624 : Index := Scalar.indexCast v623
  ![v624.toNat]

def k0_chk306 (v632 : IVec S16 32) : Prop :=
  (∀ a x, ((![v632] : Fin 1 → IVec S16 32) a x).toNat < S4096.size a)
theorem k0_idx306_inb : ∀ (v632 : IVec S16 32) (k0_hw306 : k0_chk306 v632), ∀ a x, ((![v632] : Fin 1 → IVec S16 32) a x).toNat < S4096.size a := fun v632 k0_hw306 => k0_hw306
def k0_off309 (k0_t21 : Fin k0_t21_loop.trips) : Fin 1 → Nat :=
  let c0_i32_132 : BitVec 32 := 0#32
  let c0_i32_79 : BitVec 32 := 0#32
  let c1_i32_81 : BitVec 32 := 1#32
  let arg11 : BitVec 32 := Scf.iv c0_i32_79 c1_i32_81 k0_t21
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c32_i32 : BitVec 32 := 32#32
  let v633 : BitVec 32 := Scalar.addi v612 c32_i32
  let v634 : Index := Scalar.indexCast v633
  ![v634.toNat]

def k0_chk307 (v642 : IVec S16 32) : Prop :=
  (∀ a x, ((![v642] : Fin 1 → IVec S16 32) a x).toNat < S4096.size a)
theorem k0_idx307_inb : ∀ (v642 : IVec S16 32) (k0_hw307 : k0_chk307 v642), ∀ a x, ((![v642] : Fin 1 → IVec S16 32) a x).toNat < S4096.size a := fun v642 k0_hw307 => k0_hw307
def k0_off310 (k0_t21 : Fin k0_t21_loop.trips) : Fin 1 → Nat :=
  let c0_i32_132 : BitVec 32 := 0#32
  let c0_i32_79 : BitVec 32 := 0#32
  let c1_i32_81 : BitVec 32 := 1#32
  let arg11 : BitVec 32 := Scf.iv c0_i32_79 c1_i32_81 k0_t21
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c48_i32 : BitVec 32 := 48#32
  let v643 : BitVec 32 := Scalar.addi v612 c48_i32
  let v644 : Index := Scalar.indexCast v643
  ![v644.toNat]

def k0_chk308 (v652 : IVec S16 32) : Prop :=
  (∀ a x, ((![v652] : Fin 1 → IVec S16 32) a x).toNat < S4096.size a)
theorem k0_idx308_inb : ∀ (v652 : IVec S16 32) (k0_hw308 : k0_chk308 v652), ∀ a x, ((![v652] : Fin 1 → IVec S16 32) a x).toNat < S4096.size a := fun v652 k0_hw308 => k0_hw308
def k0_off311 (k0_t21 : Fin k0_t21_loop.trips) : Fin 1 → Nat :=
  let c0_i32_132 : BitVec 32 := 0#32
  let c0_i32_79 : BitVec 32 := 0#32
  let c1_i32_81 : BitVec 32 := 1#32
  let arg11 : BitVec 32 := Scf.iv c0_i32_79 c1_i32_81 k0_t21
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c64_i32_135 : BitVec 32 := 64#32
  let v653 : BitVec 32 := Scalar.addi v612 c64_i32_135
  let v654 : Index := Scalar.indexCast v653
  ![v654.toNat]

def k0_chk309 (v662 : IVec S16 32) : Prop :=
  (∀ a x, ((![v662] : Fin 1 → IVec S16 32) a x).toNat < S4096.size a)
theorem k0_idx309_inb : ∀ (v662 : IVec S16 32) (k0_hw309 : k0_chk309 v662), ∀ a x, ((![v662] : Fin 1 → IVec S16 32) a x).toNat < S4096.size a := fun v662 k0_hw309 => k0_hw309
def k0_off312 (k0_t21 : Fin k0_t21_loop.trips) : Fin 1 → Nat :=
  let c0_i32_132 : BitVec 32 := 0#32
  let c0_i32_79 : BitVec 32 := 0#32
  let c1_i32_81 : BitVec 32 := 1#32
  let arg11 : BitVec 32 := Scf.iv c0_i32_79 c1_i32_81 k0_t21
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c80_i32 : BitVec 32 := 80#32
  let v663 : BitVec 32 := Scalar.addi v612 c80_i32
  let v664 : Index := Scalar.indexCast v663
  ![v664.toNat]

def k0_chk310 (v672 : IVec S16 32) : Prop :=
  (∀ a x, ((![v672] : Fin 1 → IVec S16 32) a x).toNat < S4096.size a)
theorem k0_idx310_inb : ∀ (v672 : IVec S16 32) (k0_hw310 : k0_chk310 v672), ∀ a x, ((![v672] : Fin 1 → IVec S16 32) a x).toNat < S4096.size a := fun v672 k0_hw310 => k0_hw310
def k0_off313 (k0_t21 : Fin k0_t21_loop.trips) : Fin 1 → Nat :=
  let c0_i32_132 : BitVec 32 := 0#32
  let c0_i32_79 : BitVec 32 := 0#32
  let c1_i32_81 : BitVec 32 := 1#32
  let arg11 : BitVec 32 := Scf.iv c0_i32_79 c1_i32_81 k0_t21
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c96_i32 : BitVec 32 := 96#32
  let v673 : BitVec 32 := Scalar.addi v612 c96_i32
  let v674 : Index := Scalar.indexCast v673
  ![v674.toNat]

def k0_chk311 (v682 : IVec S16 32) : Prop :=
  (∀ a x, ((![v682] : Fin 1 → IVec S16 32) a x).toNat < S4096.size a)
theorem k0_idx311_inb : ∀ (v682 : IVec S16 32) (k0_hw311 : k0_chk311 v682), ∀ a x, ((![v682] : Fin 1 → IVec S16 32) a x).toNat < S4096.size a := fun v682 k0_hw311 => k0_hw311
def k0_off314 (k0_t21 : Fin k0_t21_loop.trips) : Fin 1 → Nat :=
  let c0_i32_132 : BitVec 32 := 0#32
  let c0_i32_79 : BitVec 32 := 0#32
  let c1_i32_81 : BitVec 32 := 1#32
  let arg11 : BitVec 32 := Scf.iv c0_i32_79 c1_i32_81 k0_t21
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c112_i32 : BitVec 32 := 112#32
  let v683 : BitVec 32 := Scalar.addi v612 c112_i32
  let v684 : Index := Scalar.indexCast v683
  ![v684.toNat]

def k0_chk312 (v692 : IVec S16 32) : Prop :=
  (∀ a x, ((![v692] : Fin 1 → IVec S16 32) a x).toNat < S4096.size a)
theorem k0_idx312_inb : ∀ (v692 : IVec S16 32) (k0_hw312 : k0_chk312 v692), ∀ a x, ((![v692] : Fin 1 → IVec S16 32) a x).toNat < S4096.size a := fun v692 k0_hw312 => k0_hw312
def k0_off315 (k0_t21 : Fin k0_t21_loop.trips) : Fin 1 → Nat :=
  let c0_i32_132 : BitVec 32 := 0#32
  let c0_i32_79 : BitVec 32 := 0#32
  let c1_i32_81 : BitVec 32 := 1#32
  let arg11 : BitVec 32 := Scf.iv c0_i32_79 c1_i32_81 k0_t21
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c128_i32 : BitVec 32 := 128#32
  let v693 : BitVec 32 := Scalar.addi v612 c128_i32
  let v694 : Index := Scalar.indexCast v693
  ![v694.toNat]

def k0_chk313 (v702 : IVec S16 32) : Prop :=
  (∀ a x, ((![v702] : Fin 1 → IVec S16 32) a x).toNat < S4096.size a)
theorem k0_idx313_inb : ∀ (v702 : IVec S16 32) (k0_hw313 : k0_chk313 v702), ∀ a x, ((![v702] : Fin 1 → IVec S16 32) a x).toNat < S4096.size a := fun v702 k0_hw313 => k0_hw313
def k0_off316 (k0_t21 : Fin k0_t21_loop.trips) : Fin 1 → Nat :=
  let c0_i32_132 : BitVec 32 := 0#32
  let c0_i32_79 : BitVec 32 := 0#32
  let c1_i32_81 : BitVec 32 := 1#32
  let arg11 : BitVec 32 := Scf.iv c0_i32_79 c1_i32_81 k0_t21
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c144_i32 : BitVec 32 := 144#32
  let v703 : BitVec 32 := Scalar.addi v612 c144_i32
  let v704 : Index := Scalar.indexCast v703
  ![v704.toNat]

def k0_chk314 (v712 : IVec S16 32) : Prop :=
  (∀ a x, ((![v712] : Fin 1 → IVec S16 32) a x).toNat < S4096.size a)
theorem k0_idx314_inb : ∀ (v712 : IVec S16 32) (k0_hw314 : k0_chk314 v712), ∀ a x, ((![v712] : Fin 1 → IVec S16 32) a x).toNat < S4096.size a := fun v712 k0_hw314 => k0_hw314
def k0_off317 (k0_t21 : Fin k0_t21_loop.trips) : Fin 1 → Nat :=
  let c0_i32_132 : BitVec 32 := 0#32
  let c0_i32_79 : BitVec 32 := 0#32
  let c1_i32_81 : BitVec 32 := 1#32
  let arg11 : BitVec 32 := Scf.iv c0_i32_79 c1_i32_81 k0_t21
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c160_i32 : BitVec 32 := 160#32
  let v713 : BitVec 32 := Scalar.addi v612 c160_i32
  let v714 : Index := Scalar.indexCast v713
  ![v714.toNat]

def k0_chk315 (v722 : IVec S16 32) : Prop :=
  (∀ a x, ((![v722] : Fin 1 → IVec S16 32) a x).toNat < S4096.size a)
theorem k0_idx315_inb : ∀ (v722 : IVec S16 32) (k0_hw315 : k0_chk315 v722), ∀ a x, ((![v722] : Fin 1 → IVec S16 32) a x).toNat < S4096.size a := fun v722 k0_hw315 => k0_hw315
def k0_off318 (k0_t21 : Fin k0_t21_loop.trips) : Fin 1 → Nat :=
  let c0_i32_132 : BitVec 32 := 0#32
  let c0_i32_79 : BitVec 32 := 0#32
  let c1_i32_81 : BitVec 32 := 1#32
  let arg11 : BitVec 32 := Scf.iv c0_i32_79 c1_i32_81 k0_t21
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c176_i32 : BitVec 32 := 176#32
  let v723 : BitVec 32 := Scalar.addi v612 c176_i32
  let v724 : Index := Scalar.indexCast v723
  ![v724.toNat]

def k0_chk316 (v732 : IVec S16 32) : Prop :=
  (∀ a x, ((![v732] : Fin 1 → IVec S16 32) a x).toNat < S4096.size a)
theorem k0_idx316_inb : ∀ (v732 : IVec S16 32) (k0_hw316 : k0_chk316 v732), ∀ a x, ((![v732] : Fin 1 → IVec S16 32) a x).toNat < S4096.size a := fun v732 k0_hw316 => k0_hw316
def k0_off319 (k0_t21 : Fin k0_t21_loop.trips) : Fin 1 → Nat :=
  let c0_i32_132 : BitVec 32 := 0#32
  let c0_i32_79 : BitVec 32 := 0#32
  let c1_i32_81 : BitVec 32 := 1#32
  let arg11 : BitVec 32 := Scf.iv c0_i32_79 c1_i32_81 k0_t21
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c192_i32 : BitVec 32 := 192#32
  let v733 : BitVec 32 := Scalar.addi v612 c192_i32
  let v734 : Index := Scalar.indexCast v733
  ![v734.toNat]

def k0_chk317 (v742 : IVec S16 32) : Prop :=
  (∀ a x, ((![v742] : Fin 1 → IVec S16 32) a x).toNat < S4096.size a)
theorem k0_idx317_inb : ∀ (v742 : IVec S16 32) (k0_hw317 : k0_chk317 v742), ∀ a x, ((![v742] : Fin 1 → IVec S16 32) a x).toNat < S4096.size a := fun v742 k0_hw317 => k0_hw317
def k0_off320 (k0_t21 : Fin k0_t21_loop.trips) : Fin 1 → Nat :=
  let c0_i32_132 : BitVec 32 := 0#32
  let c0_i32_79 : BitVec 32 := 0#32
  let c1_i32_81 : BitVec 32 := 1#32
  let arg11 : BitVec 32 := Scf.iv c0_i32_79 c1_i32_81 k0_t21
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c208_i32 : BitVec 32 := 208#32
  let v743 : BitVec 32 := Scalar.addi v612 c208_i32
  let v744 : Index := Scalar.indexCast v743
  ![v744.toNat]

def k0_chk318 (v752 : IVec S16 32) : Prop :=
  (∀ a x, ((![v752] : Fin 1 → IVec S16 32) a x).toNat < S4096.size a)
theorem k0_idx318_inb : ∀ (v752 : IVec S16 32) (k0_hw318 : k0_chk318 v752), ∀ a x, ((![v752] : Fin 1 → IVec S16 32) a x).toNat < S4096.size a := fun v752 k0_hw318 => k0_hw318
def k0_off321 (k0_t21 : Fin k0_t21_loop.trips) : Fin 1 → Nat :=
  let c0_i32_132 : BitVec 32 := 0#32
  let c0_i32_79 : BitVec 32 := 0#32
  let c1_i32_81 : BitVec 32 := 1#32
  let arg11 : BitVec 32 := Scf.iv c0_i32_79 c1_i32_81 k0_t21
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c224_i32 : BitVec 32 := 224#32
  let v753 : BitVec 32 := Scalar.addi v612 c224_i32
  let v754 : Index := Scalar.indexCast v753
  ![v754.toNat]

def k0_chk319 (v762 : IVec S16 32) : Prop :=
  (∀ a x, ((![v762] : Fin 1 → IVec S16 32) a x).toNat < S4096.size a)
theorem k0_idx319_inb : ∀ (v762 : IVec S16 32) (k0_hw319 : k0_chk319 v762), ∀ a x, ((![v762] : Fin 1 → IVec S16 32) a x).toNat < S4096.size a := fun v762 k0_hw319 => k0_hw319
def k0_off322 (k0_t21 : Fin k0_t21_loop.trips) : Fin 1 → Nat :=
  let c0_i32_132 : BitVec 32 := 0#32
  let c0_i32_79 : BitVec 32 := 0#32
  let c1_i32_81 : BitVec 32 := 1#32
  let arg11 : BitVec 32 := Scf.iv c0_i32_79 c1_i32_81 k0_t21
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c240_i32 : BitVec 32 := 240#32
  let v763 : BitVec 32 := Scalar.addi v612 c240_i32
  let v764 : Index := Scalar.indexCast v763
  ![v764.toNat]

def k0_chk320 (v772 : IVec S16 32) : Prop :=
  (∀ a x, ((![v772] : Fin 1 → IVec S16 32) a x).toNat < S4096.size a)
theorem k0_idx320_inb : ∀ (v772 : IVec S16 32) (k0_hw320 : k0_chk320 v772), ∀ a x, ((![v772] : Fin 1 → IVec S16 32) a x).toNat < S4096.size a := fun v772 k0_hw320 => k0_hw320
@[reducible] def k0_t22_loop : Scf.Loop 32 :=
  let c0_i32_83 : BitVec 32 := 0#32
  let c64_i32_84 : BitVec 32 := 64#32
  let v70 : BitVec 32 := Scalar.addi c0_i32_83 c64_i32_84
  let c1_i32_85 : BitVec 32 := 1#32
  ⟨c0_i32_83, v70, c1_i32_85⟩
def k0_mult22 (k0_t22 : Fin k0_t22_loop.trips) : BitVec 32 :=
  let c0_i32_132 : BitVec 32 := 0#32
  let c0_i32_83 : BitVec 32 := 0#32
  let c1_i32_85 : BitVec 32 := 1#32
  let arg11 : BitVec 32 := Scf.iv c0_i32_83 c1_i32_85 k0_t22
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  v611
def k0_off323 (k0_t22 : Fin k0_t22_loop.trips) : Fin 1 → Nat :=
  let c0_i32_132 : BitVec 32 := 0#32
  let c0_i32_83 : BitVec 32 := 0#32
  let c1_i32_85 : BitVec 32 := 1#32
  let arg11 : BitVec 32 := Scf.iv c0_i32_83 c1_i32_85 k0_t22
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c0_i32_134 : BitVec 32 := 0#32
  let v613 : BitVec 32 := Scalar.addi v612 c0_i32_134
  let v614 : Index := Scalar.indexCast v613
  ![v614.toNat]

def k0_chk321 (v622 : IVec S16 32) : Prop :=
  (∀ a x, ((![v622] : Fin 1 → IVec S16 32) a x).toNat < S4096.size a)
theorem k0_idx321_inb : ∀ (v622 : IVec S16 32) (k0_hw321 : k0_chk321 v622), ∀ a x, ((![v622] : Fin 1 → IVec S16 32) a x).toNat < S4096.size a := fun v622 k0_hw321 => k0_hw321
def k0_off324 (k0_t22 : Fin k0_t22_loop.trips) : Fin 1 → Nat :=
  let c0_i32_132 : BitVec 32 := 0#32
  let c0_i32_83 : BitVec 32 := 0#32
  let c1_i32_85 : BitVec 32 := 1#32
  let arg11 : BitVec 32 := Scf.iv c0_i32_83 c1_i32_85 k0_t22
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c16_i32 : BitVec 32 := 16#32
  let v623 : BitVec 32 := Scalar.addi v612 c16_i32
  let v624 : Index := Scalar.indexCast v623
  ![v624.toNat]

def k0_chk322 (v632 : IVec S16 32) : Prop :=
  (∀ a x, ((![v632] : Fin 1 → IVec S16 32) a x).toNat < S4096.size a)
theorem k0_idx322_inb : ∀ (v632 : IVec S16 32) (k0_hw322 : k0_chk322 v632), ∀ a x, ((![v632] : Fin 1 → IVec S16 32) a x).toNat < S4096.size a := fun v632 k0_hw322 => k0_hw322
def k0_off325 (k0_t22 : Fin k0_t22_loop.trips) : Fin 1 → Nat :=
  let c0_i32_132 : BitVec 32 := 0#32
  let c0_i32_83 : BitVec 32 := 0#32
  let c1_i32_85 : BitVec 32 := 1#32
  let arg11 : BitVec 32 := Scf.iv c0_i32_83 c1_i32_85 k0_t22
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c32_i32 : BitVec 32 := 32#32
  let v633 : BitVec 32 := Scalar.addi v612 c32_i32
  let v634 : Index := Scalar.indexCast v633
  ![v634.toNat]

def k0_chk323 (v642 : IVec S16 32) : Prop :=
  (∀ a x, ((![v642] : Fin 1 → IVec S16 32) a x).toNat < S4096.size a)
theorem k0_idx323_inb : ∀ (v642 : IVec S16 32) (k0_hw323 : k0_chk323 v642), ∀ a x, ((![v642] : Fin 1 → IVec S16 32) a x).toNat < S4096.size a := fun v642 k0_hw323 => k0_hw323
def k0_off326 (k0_t22 : Fin k0_t22_loop.trips) : Fin 1 → Nat :=
  let c0_i32_132 : BitVec 32 := 0#32
  let c0_i32_83 : BitVec 32 := 0#32
  let c1_i32_85 : BitVec 32 := 1#32
  let arg11 : BitVec 32 := Scf.iv c0_i32_83 c1_i32_85 k0_t22
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c48_i32 : BitVec 32 := 48#32
  let v643 : BitVec 32 := Scalar.addi v612 c48_i32
  let v644 : Index := Scalar.indexCast v643
  ![v644.toNat]

def k0_chk324 (v652 : IVec S16 32) : Prop :=
  (∀ a x, ((![v652] : Fin 1 → IVec S16 32) a x).toNat < S4096.size a)
theorem k0_idx324_inb : ∀ (v652 : IVec S16 32) (k0_hw324 : k0_chk324 v652), ∀ a x, ((![v652] : Fin 1 → IVec S16 32) a x).toNat < S4096.size a := fun v652 k0_hw324 => k0_hw324
def k0_off327 (k0_t22 : Fin k0_t22_loop.trips) : Fin 1 → Nat :=
  let c0_i32_132 : BitVec 32 := 0#32
  let c0_i32_83 : BitVec 32 := 0#32
  let c1_i32_85 : BitVec 32 := 1#32
  let arg11 : BitVec 32 := Scf.iv c0_i32_83 c1_i32_85 k0_t22
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c64_i32_135 : BitVec 32 := 64#32
  let v653 : BitVec 32 := Scalar.addi v612 c64_i32_135
  let v654 : Index := Scalar.indexCast v653
  ![v654.toNat]

def k0_chk325 (v662 : IVec S16 32) : Prop :=
  (∀ a x, ((![v662] : Fin 1 → IVec S16 32) a x).toNat < S4096.size a)
theorem k0_idx325_inb : ∀ (v662 : IVec S16 32) (k0_hw325 : k0_chk325 v662), ∀ a x, ((![v662] : Fin 1 → IVec S16 32) a x).toNat < S4096.size a := fun v662 k0_hw325 => k0_hw325
def k0_off328 (k0_t22 : Fin k0_t22_loop.trips) : Fin 1 → Nat :=
  let c0_i32_132 : BitVec 32 := 0#32
  let c0_i32_83 : BitVec 32 := 0#32
  let c1_i32_85 : BitVec 32 := 1#32
  let arg11 : BitVec 32 := Scf.iv c0_i32_83 c1_i32_85 k0_t22
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c80_i32 : BitVec 32 := 80#32
  let v663 : BitVec 32 := Scalar.addi v612 c80_i32
  let v664 : Index := Scalar.indexCast v663
  ![v664.toNat]

def k0_chk326 (v672 : IVec S16 32) : Prop :=
  (∀ a x, ((![v672] : Fin 1 → IVec S16 32) a x).toNat < S4096.size a)
theorem k0_idx326_inb : ∀ (v672 : IVec S16 32) (k0_hw326 : k0_chk326 v672), ∀ a x, ((![v672] : Fin 1 → IVec S16 32) a x).toNat < S4096.size a := fun v672 k0_hw326 => k0_hw326
def k0_off329 (k0_t22 : Fin k0_t22_loop.trips) : Fin 1 → Nat :=
  let c0_i32_132 : BitVec 32 := 0#32
  let c0_i32_83 : BitVec 32 := 0#32
  let c1_i32_85 : BitVec 32 := 1#32
  let arg11 : BitVec 32 := Scf.iv c0_i32_83 c1_i32_85 k0_t22
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c96_i32 : BitVec 32 := 96#32
  let v673 : BitVec 32 := Scalar.addi v612 c96_i32
  let v674 : Index := Scalar.indexCast v673
  ![v674.toNat]

def k0_chk327 (v682 : IVec S16 32) : Prop :=
  (∀ a x, ((![v682] : Fin 1 → IVec S16 32) a x).toNat < S4096.size a)
theorem k0_idx327_inb : ∀ (v682 : IVec S16 32) (k0_hw327 : k0_chk327 v682), ∀ a x, ((![v682] : Fin 1 → IVec S16 32) a x).toNat < S4096.size a := fun v682 k0_hw327 => k0_hw327
def k0_off330 (k0_t22 : Fin k0_t22_loop.trips) : Fin 1 → Nat :=
  let c0_i32_132 : BitVec 32 := 0#32
  let c0_i32_83 : BitVec 32 := 0#32
  let c1_i32_85 : BitVec 32 := 1#32
  let arg11 : BitVec 32 := Scf.iv c0_i32_83 c1_i32_85 k0_t22
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c112_i32 : BitVec 32 := 112#32
  let v683 : BitVec 32 := Scalar.addi v612 c112_i32
  let v684 : Index := Scalar.indexCast v683
  ![v684.toNat]

def k0_chk328 (v692 : IVec S16 32) : Prop :=
  (∀ a x, ((![v692] : Fin 1 → IVec S16 32) a x).toNat < S4096.size a)
theorem k0_idx328_inb : ∀ (v692 : IVec S16 32) (k0_hw328 : k0_chk328 v692), ∀ a x, ((![v692] : Fin 1 → IVec S16 32) a x).toNat < S4096.size a := fun v692 k0_hw328 => k0_hw328
def k0_off331 (k0_t22 : Fin k0_t22_loop.trips) : Fin 1 → Nat :=
  let c0_i32_132 : BitVec 32 := 0#32
  let c0_i32_83 : BitVec 32 := 0#32
  let c1_i32_85 : BitVec 32 := 1#32
  let arg11 : BitVec 32 := Scf.iv c0_i32_83 c1_i32_85 k0_t22
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c128_i32 : BitVec 32 := 128#32
  let v693 : BitVec 32 := Scalar.addi v612 c128_i32
  let v694 : Index := Scalar.indexCast v693
  ![v694.toNat]

def k0_chk329 (v702 : IVec S16 32) : Prop :=
  (∀ a x, ((![v702] : Fin 1 → IVec S16 32) a x).toNat < S4096.size a)
theorem k0_idx329_inb : ∀ (v702 : IVec S16 32) (k0_hw329 : k0_chk329 v702), ∀ a x, ((![v702] : Fin 1 → IVec S16 32) a x).toNat < S4096.size a := fun v702 k0_hw329 => k0_hw329
def k0_off332 (k0_t22 : Fin k0_t22_loop.trips) : Fin 1 → Nat :=
  let c0_i32_132 : BitVec 32 := 0#32
  let c0_i32_83 : BitVec 32 := 0#32
  let c1_i32_85 : BitVec 32 := 1#32
  let arg11 : BitVec 32 := Scf.iv c0_i32_83 c1_i32_85 k0_t22
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c144_i32 : BitVec 32 := 144#32
  let v703 : BitVec 32 := Scalar.addi v612 c144_i32
  let v704 : Index := Scalar.indexCast v703
  ![v704.toNat]

def k0_chk330 (v712 : IVec S16 32) : Prop :=
  (∀ a x, ((![v712] : Fin 1 → IVec S16 32) a x).toNat < S4096.size a)
theorem k0_idx330_inb : ∀ (v712 : IVec S16 32) (k0_hw330 : k0_chk330 v712), ∀ a x, ((![v712] : Fin 1 → IVec S16 32) a x).toNat < S4096.size a := fun v712 k0_hw330 => k0_hw330
def k0_off333 (k0_t22 : Fin k0_t22_loop.trips) : Fin 1 → Nat :=
  let c0_i32_132 : BitVec 32 := 0#32
  let c0_i32_83 : BitVec 32 := 0#32
  let c1_i32_85 : BitVec 32 := 1#32
  let arg11 : BitVec 32 := Scf.iv c0_i32_83 c1_i32_85 k0_t22
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c160_i32 : BitVec 32 := 160#32
  let v713 : BitVec 32 := Scalar.addi v612 c160_i32
  let v714 : Index := Scalar.indexCast v713
  ![v714.toNat]

def k0_chk331 (v722 : IVec S16 32) : Prop :=
  (∀ a x, ((![v722] : Fin 1 → IVec S16 32) a x).toNat < S4096.size a)
theorem k0_idx331_inb : ∀ (v722 : IVec S16 32) (k0_hw331 : k0_chk331 v722), ∀ a x, ((![v722] : Fin 1 → IVec S16 32) a x).toNat < S4096.size a := fun v722 k0_hw331 => k0_hw331
def k0_off334 (k0_t22 : Fin k0_t22_loop.trips) : Fin 1 → Nat :=
  let c0_i32_132 : BitVec 32 := 0#32
  let c0_i32_83 : BitVec 32 := 0#32
  let c1_i32_85 : BitVec 32 := 1#32
  let arg11 : BitVec 32 := Scf.iv c0_i32_83 c1_i32_85 k0_t22
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c176_i32 : BitVec 32 := 176#32
  let v723 : BitVec 32 := Scalar.addi v612 c176_i32
  let v724 : Index := Scalar.indexCast v723
  ![v724.toNat]

def k0_chk332 (v732 : IVec S16 32) : Prop :=
  (∀ a x, ((![v732] : Fin 1 → IVec S16 32) a x).toNat < S4096.size a)
theorem k0_idx332_inb : ∀ (v732 : IVec S16 32) (k0_hw332 : k0_chk332 v732), ∀ a x, ((![v732] : Fin 1 → IVec S16 32) a x).toNat < S4096.size a := fun v732 k0_hw332 => k0_hw332
def k0_off335 (k0_t22 : Fin k0_t22_loop.trips) : Fin 1 → Nat :=
  let c0_i32_132 : BitVec 32 := 0#32
  let c0_i32_83 : BitVec 32 := 0#32
  let c1_i32_85 : BitVec 32 := 1#32
  let arg11 : BitVec 32 := Scf.iv c0_i32_83 c1_i32_85 k0_t22
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c192_i32 : BitVec 32 := 192#32
  let v733 : BitVec 32 := Scalar.addi v612 c192_i32
  let v734 : Index := Scalar.indexCast v733
  ![v734.toNat]

def k0_chk333 (v742 : IVec S16 32) : Prop :=
  (∀ a x, ((![v742] : Fin 1 → IVec S16 32) a x).toNat < S4096.size a)
theorem k0_idx333_inb : ∀ (v742 : IVec S16 32) (k0_hw333 : k0_chk333 v742), ∀ a x, ((![v742] : Fin 1 → IVec S16 32) a x).toNat < S4096.size a := fun v742 k0_hw333 => k0_hw333
def k0_off336 (k0_t22 : Fin k0_t22_loop.trips) : Fin 1 → Nat :=
  let c0_i32_132 : BitVec 32 := 0#32
  let c0_i32_83 : BitVec 32 := 0#32
  let c1_i32_85 : BitVec 32 := 1#32
  let arg11 : BitVec 32 := Scf.iv c0_i32_83 c1_i32_85 k0_t22
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c208_i32 : BitVec 32 := 208#32
  let v743 : BitVec 32 := Scalar.addi v612 c208_i32
  let v744 : Index := Scalar.indexCast v743
  ![v744.toNat]

def k0_chk334 (v752 : IVec S16 32) : Prop :=
  (∀ a x, ((![v752] : Fin 1 → IVec S16 32) a x).toNat < S4096.size a)
theorem k0_idx334_inb : ∀ (v752 : IVec S16 32) (k0_hw334 : k0_chk334 v752), ∀ a x, ((![v752] : Fin 1 → IVec S16 32) a x).toNat < S4096.size a := fun v752 k0_hw334 => k0_hw334
def k0_off337 (k0_t22 : Fin k0_t22_loop.trips) : Fin 1 → Nat :=
  let c0_i32_132 : BitVec 32 := 0#32
  let c0_i32_83 : BitVec 32 := 0#32
  let c1_i32_85 : BitVec 32 := 1#32
  let arg11 : BitVec 32 := Scf.iv c0_i32_83 c1_i32_85 k0_t22
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c224_i32 : BitVec 32 := 224#32
  let v753 : BitVec 32 := Scalar.addi v612 c224_i32
  let v754 : Index := Scalar.indexCast v753
  ![v754.toNat]

def k0_chk335 (v762 : IVec S16 32) : Prop :=
  (∀ a x, ((![v762] : Fin 1 → IVec S16 32) a x).toNat < S4096.size a)
theorem k0_idx335_inb : ∀ (v762 : IVec S16 32) (k0_hw335 : k0_chk335 v762), ∀ a x, ((![v762] : Fin 1 → IVec S16 32) a x).toNat < S4096.size a := fun v762 k0_hw335 => k0_hw335
def k0_off338 (k0_t22 : Fin k0_t22_loop.trips) : Fin 1 → Nat :=
  let c0_i32_132 : BitVec 32 := 0#32
  let c0_i32_83 : BitVec 32 := 0#32
  let c1_i32_85 : BitVec 32 := 1#32
  let arg11 : BitVec 32 := Scf.iv c0_i32_83 c1_i32_85 k0_t22
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c240_i32 : BitVec 32 := 240#32
  let v763 : BitVec 32 := Scalar.addi v612 c240_i32
  let v764 : Index := Scalar.indexCast v763
  ![v764.toNat]

def k0_chk336 (v772 : IVec S16 32) : Prop :=
  (∀ a x, ((![v772] : Fin 1 → IVec S16 32) a x).toNat < S4096.size a)
theorem k0_idx336_inb : ∀ (v772 : IVec S16 32) (k0_hw336 : k0_chk336 v772), ∀ a x, ((![v772] : Fin 1 → IVec S16 32) a x).toNat < S4096.size a := fun v772 k0_hw336 => k0_hw336
@[reducible] def k0_t23_loop : Scf.Loop 32 :=
  let c0_i32_87 : BitVec 32 := 0#32
  let c64_i32_88 : BitVec 32 := 64#32
  let v73 : BitVec 32 := Scalar.addi c0_i32_87 c64_i32_88
  let c1_i32_89 : BitVec 32 := 1#32
  ⟨c0_i32_87, v73, c1_i32_89⟩
def k0_mult23 (k0_t23 : Fin k0_t23_loop.trips) : BitVec 32 :=
  let c0_i32_132 : BitVec 32 := 0#32
  let c0_i32_87 : BitVec 32 := 0#32
  let c1_i32_89 : BitVec 32 := 1#32
  let arg11 : BitVec 32 := Scf.iv c0_i32_87 c1_i32_89 k0_t23
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  v611
def k0_off339 (k0_t23 : Fin k0_t23_loop.trips) : Fin 1 → Nat :=
  let c0_i32_132 : BitVec 32 := 0#32
  let c0_i32_87 : BitVec 32 := 0#32
  let c1_i32_89 : BitVec 32 := 1#32
  let arg11 : BitVec 32 := Scf.iv c0_i32_87 c1_i32_89 k0_t23
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c0_i32_134 : BitVec 32 := 0#32
  let v613 : BitVec 32 := Scalar.addi v612 c0_i32_134
  let v614 : Index := Scalar.indexCast v613
  ![v614.toNat]

def k0_chk337 (v622 : IVec S16 32) : Prop :=
  (∀ a x, ((![v622] : Fin 1 → IVec S16 32) a x).toNat < S4096.size a)
theorem k0_idx337_inb : ∀ (v622 : IVec S16 32) (k0_hw337 : k0_chk337 v622), ∀ a x, ((![v622] : Fin 1 → IVec S16 32) a x).toNat < S4096.size a := fun v622 k0_hw337 => k0_hw337
def k0_off340 (k0_t23 : Fin k0_t23_loop.trips) : Fin 1 → Nat :=
  let c0_i32_132 : BitVec 32 := 0#32
  let c0_i32_87 : BitVec 32 := 0#32
  let c1_i32_89 : BitVec 32 := 1#32
  let arg11 : BitVec 32 := Scf.iv c0_i32_87 c1_i32_89 k0_t23
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c16_i32 : BitVec 32 := 16#32
  let v623 : BitVec 32 := Scalar.addi v612 c16_i32
  let v624 : Index := Scalar.indexCast v623
  ![v624.toNat]

def k0_chk338 (v632 : IVec S16 32) : Prop :=
  (∀ a x, ((![v632] : Fin 1 → IVec S16 32) a x).toNat < S4096.size a)
theorem k0_idx338_inb : ∀ (v632 : IVec S16 32) (k0_hw338 : k0_chk338 v632), ∀ a x, ((![v632] : Fin 1 → IVec S16 32) a x).toNat < S4096.size a := fun v632 k0_hw338 => k0_hw338
def k0_off341 (k0_t23 : Fin k0_t23_loop.trips) : Fin 1 → Nat :=
  let c0_i32_132 : BitVec 32 := 0#32
  let c0_i32_87 : BitVec 32 := 0#32
  let c1_i32_89 : BitVec 32 := 1#32
  let arg11 : BitVec 32 := Scf.iv c0_i32_87 c1_i32_89 k0_t23
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c32_i32 : BitVec 32 := 32#32
  let v633 : BitVec 32 := Scalar.addi v612 c32_i32
  let v634 : Index := Scalar.indexCast v633
  ![v634.toNat]

def k0_chk339 (v642 : IVec S16 32) : Prop :=
  (∀ a x, ((![v642] : Fin 1 → IVec S16 32) a x).toNat < S4096.size a)
theorem k0_idx339_inb : ∀ (v642 : IVec S16 32) (k0_hw339 : k0_chk339 v642), ∀ a x, ((![v642] : Fin 1 → IVec S16 32) a x).toNat < S4096.size a := fun v642 k0_hw339 => k0_hw339
def k0_off342 (k0_t23 : Fin k0_t23_loop.trips) : Fin 1 → Nat :=
  let c0_i32_132 : BitVec 32 := 0#32
  let c0_i32_87 : BitVec 32 := 0#32
  let c1_i32_89 : BitVec 32 := 1#32
  let arg11 : BitVec 32 := Scf.iv c0_i32_87 c1_i32_89 k0_t23
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c48_i32 : BitVec 32 := 48#32
  let v643 : BitVec 32 := Scalar.addi v612 c48_i32
  let v644 : Index := Scalar.indexCast v643
  ![v644.toNat]

def k0_chk340 (v652 : IVec S16 32) : Prop :=
  (∀ a x, ((![v652] : Fin 1 → IVec S16 32) a x).toNat < S4096.size a)
theorem k0_idx340_inb : ∀ (v652 : IVec S16 32) (k0_hw340 : k0_chk340 v652), ∀ a x, ((![v652] : Fin 1 → IVec S16 32) a x).toNat < S4096.size a := fun v652 k0_hw340 => k0_hw340
def k0_off343 (k0_t23 : Fin k0_t23_loop.trips) : Fin 1 → Nat :=
  let c0_i32_132 : BitVec 32 := 0#32
  let c0_i32_87 : BitVec 32 := 0#32
  let c1_i32_89 : BitVec 32 := 1#32
  let arg11 : BitVec 32 := Scf.iv c0_i32_87 c1_i32_89 k0_t23
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c64_i32_135 : BitVec 32 := 64#32
  let v653 : BitVec 32 := Scalar.addi v612 c64_i32_135
  let v654 : Index := Scalar.indexCast v653
  ![v654.toNat]

def k0_chk341 (v662 : IVec S16 32) : Prop :=
  (∀ a x, ((![v662] : Fin 1 → IVec S16 32) a x).toNat < S4096.size a)
theorem k0_idx341_inb : ∀ (v662 : IVec S16 32) (k0_hw341 : k0_chk341 v662), ∀ a x, ((![v662] : Fin 1 → IVec S16 32) a x).toNat < S4096.size a := fun v662 k0_hw341 => k0_hw341
def k0_off344 (k0_t23 : Fin k0_t23_loop.trips) : Fin 1 → Nat :=
  let c0_i32_132 : BitVec 32 := 0#32
  let c0_i32_87 : BitVec 32 := 0#32
  let c1_i32_89 : BitVec 32 := 1#32
  let arg11 : BitVec 32 := Scf.iv c0_i32_87 c1_i32_89 k0_t23
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c80_i32 : BitVec 32 := 80#32
  let v663 : BitVec 32 := Scalar.addi v612 c80_i32
  let v664 : Index := Scalar.indexCast v663
  ![v664.toNat]

def k0_chk342 (v672 : IVec S16 32) : Prop :=
  (∀ a x, ((![v672] : Fin 1 → IVec S16 32) a x).toNat < S4096.size a)
theorem k0_idx342_inb : ∀ (v672 : IVec S16 32) (k0_hw342 : k0_chk342 v672), ∀ a x, ((![v672] : Fin 1 → IVec S16 32) a x).toNat < S4096.size a := fun v672 k0_hw342 => k0_hw342
def k0_off345 (k0_t23 : Fin k0_t23_loop.trips) : Fin 1 → Nat :=
  let c0_i32_132 : BitVec 32 := 0#32
  let c0_i32_87 : BitVec 32 := 0#32
  let c1_i32_89 : BitVec 32 := 1#32
  let arg11 : BitVec 32 := Scf.iv c0_i32_87 c1_i32_89 k0_t23
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c96_i32 : BitVec 32 := 96#32
  let v673 : BitVec 32 := Scalar.addi v612 c96_i32
  let v674 : Index := Scalar.indexCast v673
  ![v674.toNat]

def k0_chk343 (v682 : IVec S16 32) : Prop :=
  (∀ a x, ((![v682] : Fin 1 → IVec S16 32) a x).toNat < S4096.size a)
theorem k0_idx343_inb : ∀ (v682 : IVec S16 32) (k0_hw343 : k0_chk343 v682), ∀ a x, ((![v682] : Fin 1 → IVec S16 32) a x).toNat < S4096.size a := fun v682 k0_hw343 => k0_hw343
def k0_off346 (k0_t23 : Fin k0_t23_loop.trips) : Fin 1 → Nat :=
  let c0_i32_132 : BitVec 32 := 0#32
  let c0_i32_87 : BitVec 32 := 0#32
  let c1_i32_89 : BitVec 32 := 1#32
  let arg11 : BitVec 32 := Scf.iv c0_i32_87 c1_i32_89 k0_t23
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c112_i32 : BitVec 32 := 112#32
  let v683 : BitVec 32 := Scalar.addi v612 c112_i32
  let v684 : Index := Scalar.indexCast v683
  ![v684.toNat]

def k0_chk344 (v692 : IVec S16 32) : Prop :=
  (∀ a x, ((![v692] : Fin 1 → IVec S16 32) a x).toNat < S4096.size a)
theorem k0_idx344_inb : ∀ (v692 : IVec S16 32) (k0_hw344 : k0_chk344 v692), ∀ a x, ((![v692] : Fin 1 → IVec S16 32) a x).toNat < S4096.size a := fun v692 k0_hw344 => k0_hw344
def k0_off347 (k0_t23 : Fin k0_t23_loop.trips) : Fin 1 → Nat :=
  let c0_i32_132 : BitVec 32 := 0#32
  let c0_i32_87 : BitVec 32 := 0#32
  let c1_i32_89 : BitVec 32 := 1#32
  let arg11 : BitVec 32 := Scf.iv c0_i32_87 c1_i32_89 k0_t23
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c128_i32 : BitVec 32 := 128#32
  let v693 : BitVec 32 := Scalar.addi v612 c128_i32
  let v694 : Index := Scalar.indexCast v693
  ![v694.toNat]

def k0_chk345 (v702 : IVec S16 32) : Prop :=
  (∀ a x, ((![v702] : Fin 1 → IVec S16 32) a x).toNat < S4096.size a)
theorem k0_idx345_inb : ∀ (v702 : IVec S16 32) (k0_hw345 : k0_chk345 v702), ∀ a x, ((![v702] : Fin 1 → IVec S16 32) a x).toNat < S4096.size a := fun v702 k0_hw345 => k0_hw345
def k0_off348 (k0_t23 : Fin k0_t23_loop.trips) : Fin 1 → Nat :=
  let c0_i32_132 : BitVec 32 := 0#32
  let c0_i32_87 : BitVec 32 := 0#32
  let c1_i32_89 : BitVec 32 := 1#32
  let arg11 : BitVec 32 := Scf.iv c0_i32_87 c1_i32_89 k0_t23
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c144_i32 : BitVec 32 := 144#32
  let v703 : BitVec 32 := Scalar.addi v612 c144_i32
  let v704 : Index := Scalar.indexCast v703
  ![v704.toNat]

def k0_chk346 (v712 : IVec S16 32) : Prop :=
  (∀ a x, ((![v712] : Fin 1 → IVec S16 32) a x).toNat < S4096.size a)
theorem k0_idx346_inb : ∀ (v712 : IVec S16 32) (k0_hw346 : k0_chk346 v712), ∀ a x, ((![v712] : Fin 1 → IVec S16 32) a x).toNat < S4096.size a := fun v712 k0_hw346 => k0_hw346
def k0_off349 (k0_t23 : Fin k0_t23_loop.trips) : Fin 1 → Nat :=
  let c0_i32_132 : BitVec 32 := 0#32
  let c0_i32_87 : BitVec 32 := 0#32
  let c1_i32_89 : BitVec 32 := 1#32
  let arg11 : BitVec 32 := Scf.iv c0_i32_87 c1_i32_89 k0_t23
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c160_i32 : BitVec 32 := 160#32
  let v713 : BitVec 32 := Scalar.addi v612 c160_i32
  let v714 : Index := Scalar.indexCast v713
  ![v714.toNat]

def k0_chk347 (v722 : IVec S16 32) : Prop :=
  (∀ a x, ((![v722] : Fin 1 → IVec S16 32) a x).toNat < S4096.size a)
theorem k0_idx347_inb : ∀ (v722 : IVec S16 32) (k0_hw347 : k0_chk347 v722), ∀ a x, ((![v722] : Fin 1 → IVec S16 32) a x).toNat < S4096.size a := fun v722 k0_hw347 => k0_hw347
def k0_off350 (k0_t23 : Fin k0_t23_loop.trips) : Fin 1 → Nat :=
  let c0_i32_132 : BitVec 32 := 0#32
  let c0_i32_87 : BitVec 32 := 0#32
  let c1_i32_89 : BitVec 32 := 1#32
  let arg11 : BitVec 32 := Scf.iv c0_i32_87 c1_i32_89 k0_t23
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c176_i32 : BitVec 32 := 176#32
  let v723 : BitVec 32 := Scalar.addi v612 c176_i32
  let v724 : Index := Scalar.indexCast v723
  ![v724.toNat]

def k0_chk348 (v732 : IVec S16 32) : Prop :=
  (∀ a x, ((![v732] : Fin 1 → IVec S16 32) a x).toNat < S4096.size a)
theorem k0_idx348_inb : ∀ (v732 : IVec S16 32) (k0_hw348 : k0_chk348 v732), ∀ a x, ((![v732] : Fin 1 → IVec S16 32) a x).toNat < S4096.size a := fun v732 k0_hw348 => k0_hw348
def k0_off351 (k0_t23 : Fin k0_t23_loop.trips) : Fin 1 → Nat :=
  let c0_i32_132 : BitVec 32 := 0#32
  let c0_i32_87 : BitVec 32 := 0#32
  let c1_i32_89 : BitVec 32 := 1#32
  let arg11 : BitVec 32 := Scf.iv c0_i32_87 c1_i32_89 k0_t23
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c192_i32 : BitVec 32 := 192#32
  let v733 : BitVec 32 := Scalar.addi v612 c192_i32
  let v734 : Index := Scalar.indexCast v733
  ![v734.toNat]

def k0_chk349 (v742 : IVec S16 32) : Prop :=
  (∀ a x, ((![v742] : Fin 1 → IVec S16 32) a x).toNat < S4096.size a)
theorem k0_idx349_inb : ∀ (v742 : IVec S16 32) (k0_hw349 : k0_chk349 v742), ∀ a x, ((![v742] : Fin 1 → IVec S16 32) a x).toNat < S4096.size a := fun v742 k0_hw349 => k0_hw349
def k0_off352 (k0_t23 : Fin k0_t23_loop.trips) : Fin 1 → Nat :=
  let c0_i32_132 : BitVec 32 := 0#32
  let c0_i32_87 : BitVec 32 := 0#32
  let c1_i32_89 : BitVec 32 := 1#32
  let arg11 : BitVec 32 := Scf.iv c0_i32_87 c1_i32_89 k0_t23
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c208_i32 : BitVec 32 := 208#32
  let v743 : BitVec 32 := Scalar.addi v612 c208_i32
  let v744 : Index := Scalar.indexCast v743
  ![v744.toNat]

def k0_chk350 (v752 : IVec S16 32) : Prop :=
  (∀ a x, ((![v752] : Fin 1 → IVec S16 32) a x).toNat < S4096.size a)
theorem k0_idx350_inb : ∀ (v752 : IVec S16 32) (k0_hw350 : k0_chk350 v752), ∀ a x, ((![v752] : Fin 1 → IVec S16 32) a x).toNat < S4096.size a := fun v752 k0_hw350 => k0_hw350
def k0_off353 (k0_t23 : Fin k0_t23_loop.trips) : Fin 1 → Nat :=
  let c0_i32_132 : BitVec 32 := 0#32
  let c0_i32_87 : BitVec 32 := 0#32
  let c1_i32_89 : BitVec 32 := 1#32
  let arg11 : BitVec 32 := Scf.iv c0_i32_87 c1_i32_89 k0_t23
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c224_i32 : BitVec 32 := 224#32
  let v753 : BitVec 32 := Scalar.addi v612 c224_i32
  let v754 : Index := Scalar.indexCast v753
  ![v754.toNat]

def k0_chk351 (v762 : IVec S16 32) : Prop :=
  (∀ a x, ((![v762] : Fin 1 → IVec S16 32) a x).toNat < S4096.size a)
theorem k0_idx351_inb : ∀ (v762 : IVec S16 32) (k0_hw351 : k0_chk351 v762), ∀ a x, ((![v762] : Fin 1 → IVec S16 32) a x).toNat < S4096.size a := fun v762 k0_hw351 => k0_hw351
def k0_off354 (k0_t23 : Fin k0_t23_loop.trips) : Fin 1 → Nat :=
  let c0_i32_132 : BitVec 32 := 0#32
  let c0_i32_87 : BitVec 32 := 0#32
  let c1_i32_89 : BitVec 32 := 1#32
  let arg11 : BitVec 32 := Scf.iv c0_i32_87 c1_i32_89 k0_t23
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c240_i32 : BitVec 32 := 240#32
  let v763 : BitVec 32 := Scalar.addi v612 c240_i32
  let v764 : Index := Scalar.indexCast v763
  ![v764.toNat]

def k0_chk352 (v772 : IVec S16 32) : Prop :=
  (∀ a x, ((![v772] : Fin 1 → IVec S16 32) a x).toNat < S4096.size a)
theorem k0_idx352_inb : ∀ (v772 : IVec S16 32) (k0_hw352 : k0_chk352 v772), ∀ a x, ((![v772] : Fin 1 → IVec S16 32) a x).toNat < S4096.size a := fun v772 k0_hw352 => k0_hw352
@[reducible] def k0_t24_loop : Scf.Loop 32 :=
  let c0_i32_91 : BitVec 32 := 0#32
  let c64_i32_92 : BitVec 32 := 64#32
  let v76 : BitVec 32 := Scalar.addi c0_i32_91 c64_i32_92
  let c1_i32_93 : BitVec 32 := 1#32
  ⟨c0_i32_91, v76, c1_i32_93⟩
def k0_mult24 (k0_t24 : Fin k0_t24_loop.trips) : BitVec 32 :=
  let c0_i32_132 : BitVec 32 := 0#32
  let c0_i32_91 : BitVec 32 := 0#32
  let c1_i32_93 : BitVec 32 := 1#32
  let arg11 : BitVec 32 := Scf.iv c0_i32_91 c1_i32_93 k0_t24
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  v611
def k0_off355 (k0_t24 : Fin k0_t24_loop.trips) : Fin 1 → Nat :=
  let c0_i32_132 : BitVec 32 := 0#32
  let c0_i32_91 : BitVec 32 := 0#32
  let c1_i32_93 : BitVec 32 := 1#32
  let arg11 : BitVec 32 := Scf.iv c0_i32_91 c1_i32_93 k0_t24
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c0_i32_134 : BitVec 32 := 0#32
  let v613 : BitVec 32 := Scalar.addi v612 c0_i32_134
  let v614 : Index := Scalar.indexCast v613
  ![v614.toNat]

def k0_chk353 (v622 : IVec S16 32) : Prop :=
  (∀ a x, ((![v622] : Fin 1 → IVec S16 32) a x).toNat < S4096.size a)
theorem k0_idx353_inb : ∀ (v622 : IVec S16 32) (k0_hw353 : k0_chk353 v622), ∀ a x, ((![v622] : Fin 1 → IVec S16 32) a x).toNat < S4096.size a := fun v622 k0_hw353 => k0_hw353
def k0_off356 (k0_t24 : Fin k0_t24_loop.trips) : Fin 1 → Nat :=
  let c0_i32_132 : BitVec 32 := 0#32
  let c0_i32_91 : BitVec 32 := 0#32
  let c1_i32_93 : BitVec 32 := 1#32
  let arg11 : BitVec 32 := Scf.iv c0_i32_91 c1_i32_93 k0_t24
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c16_i32 : BitVec 32 := 16#32
  let v623 : BitVec 32 := Scalar.addi v612 c16_i32
  let v624 : Index := Scalar.indexCast v623
  ![v624.toNat]

def k0_chk354 (v632 : IVec S16 32) : Prop :=
  (∀ a x, ((![v632] : Fin 1 → IVec S16 32) a x).toNat < S4096.size a)
theorem k0_idx354_inb : ∀ (v632 : IVec S16 32) (k0_hw354 : k0_chk354 v632), ∀ a x, ((![v632] : Fin 1 → IVec S16 32) a x).toNat < S4096.size a := fun v632 k0_hw354 => k0_hw354
def k0_off357 (k0_t24 : Fin k0_t24_loop.trips) : Fin 1 → Nat :=
  let c0_i32_132 : BitVec 32 := 0#32
  let c0_i32_91 : BitVec 32 := 0#32
  let c1_i32_93 : BitVec 32 := 1#32
  let arg11 : BitVec 32 := Scf.iv c0_i32_91 c1_i32_93 k0_t24
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c32_i32 : BitVec 32 := 32#32
  let v633 : BitVec 32 := Scalar.addi v612 c32_i32
  let v634 : Index := Scalar.indexCast v633
  ![v634.toNat]

def k0_chk355 (v642 : IVec S16 32) : Prop :=
  (∀ a x, ((![v642] : Fin 1 → IVec S16 32) a x).toNat < S4096.size a)
theorem k0_idx355_inb : ∀ (v642 : IVec S16 32) (k0_hw355 : k0_chk355 v642), ∀ a x, ((![v642] : Fin 1 → IVec S16 32) a x).toNat < S4096.size a := fun v642 k0_hw355 => k0_hw355
def k0_off358 (k0_t24 : Fin k0_t24_loop.trips) : Fin 1 → Nat :=
  let c0_i32_132 : BitVec 32 := 0#32
  let c0_i32_91 : BitVec 32 := 0#32
  let c1_i32_93 : BitVec 32 := 1#32
  let arg11 : BitVec 32 := Scf.iv c0_i32_91 c1_i32_93 k0_t24
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c48_i32 : BitVec 32 := 48#32
  let v643 : BitVec 32 := Scalar.addi v612 c48_i32
  let v644 : Index := Scalar.indexCast v643
  ![v644.toNat]

def k0_chk356 (v652 : IVec S16 32) : Prop :=
  (∀ a x, ((![v652] : Fin 1 → IVec S16 32) a x).toNat < S4096.size a)
theorem k0_idx356_inb : ∀ (v652 : IVec S16 32) (k0_hw356 : k0_chk356 v652), ∀ a x, ((![v652] : Fin 1 → IVec S16 32) a x).toNat < S4096.size a := fun v652 k0_hw356 => k0_hw356
def k0_off359 (k0_t24 : Fin k0_t24_loop.trips) : Fin 1 → Nat :=
  let c0_i32_132 : BitVec 32 := 0#32
  let c0_i32_91 : BitVec 32 := 0#32
  let c1_i32_93 : BitVec 32 := 1#32
  let arg11 : BitVec 32 := Scf.iv c0_i32_91 c1_i32_93 k0_t24
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c64_i32_135 : BitVec 32 := 64#32
  let v653 : BitVec 32 := Scalar.addi v612 c64_i32_135
  let v654 : Index := Scalar.indexCast v653
  ![v654.toNat]

def k0_chk357 (v662 : IVec S16 32) : Prop :=
  (∀ a x, ((![v662] : Fin 1 → IVec S16 32) a x).toNat < S4096.size a)
theorem k0_idx357_inb : ∀ (v662 : IVec S16 32) (k0_hw357 : k0_chk357 v662), ∀ a x, ((![v662] : Fin 1 → IVec S16 32) a x).toNat < S4096.size a := fun v662 k0_hw357 => k0_hw357
def k0_off360 (k0_t24 : Fin k0_t24_loop.trips) : Fin 1 → Nat :=
  let c0_i32_132 : BitVec 32 := 0#32
  let c0_i32_91 : BitVec 32 := 0#32
  let c1_i32_93 : BitVec 32 := 1#32
  let arg11 : BitVec 32 := Scf.iv c0_i32_91 c1_i32_93 k0_t24
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c80_i32 : BitVec 32 := 80#32
  let v663 : BitVec 32 := Scalar.addi v612 c80_i32
  let v664 : Index := Scalar.indexCast v663
  ![v664.toNat]

def k0_chk358 (v672 : IVec S16 32) : Prop :=
  (∀ a x, ((![v672] : Fin 1 → IVec S16 32) a x).toNat < S4096.size a)
theorem k0_idx358_inb : ∀ (v672 : IVec S16 32) (k0_hw358 : k0_chk358 v672), ∀ a x, ((![v672] : Fin 1 → IVec S16 32) a x).toNat < S4096.size a := fun v672 k0_hw358 => k0_hw358
def k0_off361 (k0_t24 : Fin k0_t24_loop.trips) : Fin 1 → Nat :=
  let c0_i32_132 : BitVec 32 := 0#32
  let c0_i32_91 : BitVec 32 := 0#32
  let c1_i32_93 : BitVec 32 := 1#32
  let arg11 : BitVec 32 := Scf.iv c0_i32_91 c1_i32_93 k0_t24
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c96_i32 : BitVec 32 := 96#32
  let v673 : BitVec 32 := Scalar.addi v612 c96_i32
  let v674 : Index := Scalar.indexCast v673
  ![v674.toNat]

def k0_chk359 (v682 : IVec S16 32) : Prop :=
  (∀ a x, ((![v682] : Fin 1 → IVec S16 32) a x).toNat < S4096.size a)
theorem k0_idx359_inb : ∀ (v682 : IVec S16 32) (k0_hw359 : k0_chk359 v682), ∀ a x, ((![v682] : Fin 1 → IVec S16 32) a x).toNat < S4096.size a := fun v682 k0_hw359 => k0_hw359
def k0_off362 (k0_t24 : Fin k0_t24_loop.trips) : Fin 1 → Nat :=
  let c0_i32_132 : BitVec 32 := 0#32
  let c0_i32_91 : BitVec 32 := 0#32
  let c1_i32_93 : BitVec 32 := 1#32
  let arg11 : BitVec 32 := Scf.iv c0_i32_91 c1_i32_93 k0_t24
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c112_i32 : BitVec 32 := 112#32
  let v683 : BitVec 32 := Scalar.addi v612 c112_i32
  let v684 : Index := Scalar.indexCast v683
  ![v684.toNat]

def k0_chk360 (v692 : IVec S16 32) : Prop :=
  (∀ a x, ((![v692] : Fin 1 → IVec S16 32) a x).toNat < S4096.size a)
theorem k0_idx360_inb : ∀ (v692 : IVec S16 32) (k0_hw360 : k0_chk360 v692), ∀ a x, ((![v692] : Fin 1 → IVec S16 32) a x).toNat < S4096.size a := fun v692 k0_hw360 => k0_hw360
def k0_off363 (k0_t24 : Fin k0_t24_loop.trips) : Fin 1 → Nat :=
  let c0_i32_132 : BitVec 32 := 0#32
  let c0_i32_91 : BitVec 32 := 0#32
  let c1_i32_93 : BitVec 32 := 1#32
  let arg11 : BitVec 32 := Scf.iv c0_i32_91 c1_i32_93 k0_t24
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c128_i32 : BitVec 32 := 128#32
  let v693 : BitVec 32 := Scalar.addi v612 c128_i32
  let v694 : Index := Scalar.indexCast v693
  ![v694.toNat]

def k0_chk361 (v702 : IVec S16 32) : Prop :=
  (∀ a x, ((![v702] : Fin 1 → IVec S16 32) a x).toNat < S4096.size a)
theorem k0_idx361_inb : ∀ (v702 : IVec S16 32) (k0_hw361 : k0_chk361 v702), ∀ a x, ((![v702] : Fin 1 → IVec S16 32) a x).toNat < S4096.size a := fun v702 k0_hw361 => k0_hw361
def k0_off364 (k0_t24 : Fin k0_t24_loop.trips) : Fin 1 → Nat :=
  let c0_i32_132 : BitVec 32 := 0#32
  let c0_i32_91 : BitVec 32 := 0#32
  let c1_i32_93 : BitVec 32 := 1#32
  let arg11 : BitVec 32 := Scf.iv c0_i32_91 c1_i32_93 k0_t24
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c144_i32 : BitVec 32 := 144#32
  let v703 : BitVec 32 := Scalar.addi v612 c144_i32
  let v704 : Index := Scalar.indexCast v703
  ![v704.toNat]

def k0_chk362 (v712 : IVec S16 32) : Prop :=
  (∀ a x, ((![v712] : Fin 1 → IVec S16 32) a x).toNat < S4096.size a)
theorem k0_idx362_inb : ∀ (v712 : IVec S16 32) (k0_hw362 : k0_chk362 v712), ∀ a x, ((![v712] : Fin 1 → IVec S16 32) a x).toNat < S4096.size a := fun v712 k0_hw362 => k0_hw362
def k0_off365 (k0_t24 : Fin k0_t24_loop.trips) : Fin 1 → Nat :=
  let c0_i32_132 : BitVec 32 := 0#32
  let c0_i32_91 : BitVec 32 := 0#32
  let c1_i32_93 : BitVec 32 := 1#32
  let arg11 : BitVec 32 := Scf.iv c0_i32_91 c1_i32_93 k0_t24
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c160_i32 : BitVec 32 := 160#32
  let v713 : BitVec 32 := Scalar.addi v612 c160_i32
  let v714 : Index := Scalar.indexCast v713
  ![v714.toNat]

def k0_chk363 (v722 : IVec S16 32) : Prop :=
  (∀ a x, ((![v722] : Fin 1 → IVec S16 32) a x).toNat < S4096.size a)
theorem k0_idx363_inb : ∀ (v722 : IVec S16 32) (k0_hw363 : k0_chk363 v722), ∀ a x, ((![v722] : Fin 1 → IVec S16 32) a x).toNat < S4096.size a := fun v722 k0_hw363 => k0_hw363
def k0_off366 (k0_t24 : Fin k0_t24_loop.trips) : Fin 1 → Nat :=
  let c0_i32_132 : BitVec 32 := 0#32
  let c0_i32_91 : BitVec 32 := 0#32
  let c1_i32_93 : BitVec 32 := 1#32
  let arg11 : BitVec 32 := Scf.iv c0_i32_91 c1_i32_93 k0_t24
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c176_i32 : BitVec 32 := 176#32
  let v723 : BitVec 32 := Scalar.addi v612 c176_i32
  let v724 : Index := Scalar.indexCast v723
  ![v724.toNat]

def k0_chk364 (v732 : IVec S16 32) : Prop :=
  (∀ a x, ((![v732] : Fin 1 → IVec S16 32) a x).toNat < S4096.size a)
theorem k0_idx364_inb : ∀ (v732 : IVec S16 32) (k0_hw364 : k0_chk364 v732), ∀ a x, ((![v732] : Fin 1 → IVec S16 32) a x).toNat < S4096.size a := fun v732 k0_hw364 => k0_hw364
def k0_off367 (k0_t24 : Fin k0_t24_loop.trips) : Fin 1 → Nat :=
  let c0_i32_132 : BitVec 32 := 0#32
  let c0_i32_91 : BitVec 32 := 0#32
  let c1_i32_93 : BitVec 32 := 1#32
  let arg11 : BitVec 32 := Scf.iv c0_i32_91 c1_i32_93 k0_t24
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c192_i32 : BitVec 32 := 192#32
  let v733 : BitVec 32 := Scalar.addi v612 c192_i32
  let v734 : Index := Scalar.indexCast v733
  ![v734.toNat]

def k0_chk365 (v742 : IVec S16 32) : Prop :=
  (∀ a x, ((![v742] : Fin 1 → IVec S16 32) a x).toNat < S4096.size a)
theorem k0_idx365_inb : ∀ (v742 : IVec S16 32) (k0_hw365 : k0_chk365 v742), ∀ a x, ((![v742] : Fin 1 → IVec S16 32) a x).toNat < S4096.size a := fun v742 k0_hw365 => k0_hw365
def k0_off368 (k0_t24 : Fin k0_t24_loop.trips) : Fin 1 → Nat :=
  let c0_i32_132 : BitVec 32 := 0#32
  let c0_i32_91 : BitVec 32 := 0#32
  let c1_i32_93 : BitVec 32 := 1#32
  let arg11 : BitVec 32 := Scf.iv c0_i32_91 c1_i32_93 k0_t24
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c208_i32 : BitVec 32 := 208#32
  let v743 : BitVec 32 := Scalar.addi v612 c208_i32
  let v744 : Index := Scalar.indexCast v743
  ![v744.toNat]

def k0_chk366 (v752 : IVec S16 32) : Prop :=
  (∀ a x, ((![v752] : Fin 1 → IVec S16 32) a x).toNat < S4096.size a)
theorem k0_idx366_inb : ∀ (v752 : IVec S16 32) (k0_hw366 : k0_chk366 v752), ∀ a x, ((![v752] : Fin 1 → IVec S16 32) a x).toNat < S4096.size a := fun v752 k0_hw366 => k0_hw366
def k0_off369 (k0_t24 : Fin k0_t24_loop.trips) : Fin 1 → Nat :=
  let c0_i32_132 : BitVec 32 := 0#32
  let c0_i32_91 : BitVec 32 := 0#32
  let c1_i32_93 : BitVec 32 := 1#32
  let arg11 : BitVec 32 := Scf.iv c0_i32_91 c1_i32_93 k0_t24
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c224_i32 : BitVec 32 := 224#32
  let v753 : BitVec 32 := Scalar.addi v612 c224_i32
  let v754 : Index := Scalar.indexCast v753
  ![v754.toNat]

def k0_chk367 (v762 : IVec S16 32) : Prop :=
  (∀ a x, ((![v762] : Fin 1 → IVec S16 32) a x).toNat < S4096.size a)
theorem k0_idx367_inb : ∀ (v762 : IVec S16 32) (k0_hw367 : k0_chk367 v762), ∀ a x, ((![v762] : Fin 1 → IVec S16 32) a x).toNat < S4096.size a := fun v762 k0_hw367 => k0_hw367
def k0_off370 (k0_t24 : Fin k0_t24_loop.trips) : Fin 1 → Nat :=
  let c0_i32_132 : BitVec 32 := 0#32
  let c0_i32_91 : BitVec 32 := 0#32
  let c1_i32_93 : BitVec 32 := 1#32
  let arg11 : BitVec 32 := Scf.iv c0_i32_91 c1_i32_93 k0_t24
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c240_i32 : BitVec 32 := 240#32
  let v763 : BitVec 32 := Scalar.addi v612 c240_i32
  let v764 : Index := Scalar.indexCast v763
  ![v764.toNat]

def k0_chk368 (v772 : IVec S16 32) : Prop :=
  (∀ a x, ((![v772] : Fin 1 → IVec S16 32) a x).toNat < S4096.size a)
theorem k0_idx368_inb : ∀ (v772 : IVec S16 32) (k0_hw368 : k0_chk368 v772), ∀ a x, ((![v772] : Fin 1 → IVec S16 32) a x).toNat < S4096.size a := fun v772 k0_hw368 => k0_hw368
@[reducible] def k0_t25_loop : Scf.Loop 32 :=
  let c0_i32_95 : BitVec 32 := 0#32
  let c64_i32_96 : BitVec 32 := 64#32
  let v79 : BitVec 32 := Scalar.addi c0_i32_95 c64_i32_96
  let c1_i32_97 : BitVec 32 := 1#32
  ⟨c0_i32_95, v79, c1_i32_97⟩
def k0_mult25 (k0_t25 : Fin k0_t25_loop.trips) : BitVec 32 :=
  let c0_i32_132 : BitVec 32 := 0#32
  let c0_i32_95 : BitVec 32 := 0#32
  let c1_i32_97 : BitVec 32 := 1#32
  let arg11 : BitVec 32 := Scf.iv c0_i32_95 c1_i32_97 k0_t25
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  v611
def k0_off371 (k0_t25 : Fin k0_t25_loop.trips) : Fin 1 → Nat :=
  let c0_i32_132 : BitVec 32 := 0#32
  let c0_i32_95 : BitVec 32 := 0#32
  let c1_i32_97 : BitVec 32 := 1#32
  let arg11 : BitVec 32 := Scf.iv c0_i32_95 c1_i32_97 k0_t25
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c0_i32_134 : BitVec 32 := 0#32
  let v613 : BitVec 32 := Scalar.addi v612 c0_i32_134
  let v614 : Index := Scalar.indexCast v613
  ![v614.toNat]

def k0_chk369 (v622 : IVec S16 32) : Prop :=
  (∀ a x, ((![v622] : Fin 1 → IVec S16 32) a x).toNat < S4096.size a)
theorem k0_idx369_inb : ∀ (v622 : IVec S16 32) (k0_hw369 : k0_chk369 v622), ∀ a x, ((![v622] : Fin 1 → IVec S16 32) a x).toNat < S4096.size a := fun v622 k0_hw369 => k0_hw369
def k0_off372 (k0_t25 : Fin k0_t25_loop.trips) : Fin 1 → Nat :=
  let c0_i32_132 : BitVec 32 := 0#32
  let c0_i32_95 : BitVec 32 := 0#32
  let c1_i32_97 : BitVec 32 := 1#32
  let arg11 : BitVec 32 := Scf.iv c0_i32_95 c1_i32_97 k0_t25
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c16_i32 : BitVec 32 := 16#32
  let v623 : BitVec 32 := Scalar.addi v612 c16_i32
  let v624 : Index := Scalar.indexCast v623
  ![v624.toNat]

def k0_chk370 (v632 : IVec S16 32) : Prop :=
  (∀ a x, ((![v632] : Fin 1 → IVec S16 32) a x).toNat < S4096.size a)
theorem k0_idx370_inb : ∀ (v632 : IVec S16 32) (k0_hw370 : k0_chk370 v632), ∀ a x, ((![v632] : Fin 1 → IVec S16 32) a x).toNat < S4096.size a := fun v632 k0_hw370 => k0_hw370
def k0_off373 (k0_t25 : Fin k0_t25_loop.trips) : Fin 1 → Nat :=
  let c0_i32_132 : BitVec 32 := 0#32
  let c0_i32_95 : BitVec 32 := 0#32
  let c1_i32_97 : BitVec 32 := 1#32
  let arg11 : BitVec 32 := Scf.iv c0_i32_95 c1_i32_97 k0_t25
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c32_i32 : BitVec 32 := 32#32
  let v633 : BitVec 32 := Scalar.addi v612 c32_i32
  let v634 : Index := Scalar.indexCast v633
  ![v634.toNat]

def k0_chk371 (v642 : IVec S16 32) : Prop :=
  (∀ a x, ((![v642] : Fin 1 → IVec S16 32) a x).toNat < S4096.size a)
theorem k0_idx371_inb : ∀ (v642 : IVec S16 32) (k0_hw371 : k0_chk371 v642), ∀ a x, ((![v642] : Fin 1 → IVec S16 32) a x).toNat < S4096.size a := fun v642 k0_hw371 => k0_hw371
def k0_off374 (k0_t25 : Fin k0_t25_loop.trips) : Fin 1 → Nat :=
  let c0_i32_132 : BitVec 32 := 0#32
  let c0_i32_95 : BitVec 32 := 0#32
  let c1_i32_97 : BitVec 32 := 1#32
  let arg11 : BitVec 32 := Scf.iv c0_i32_95 c1_i32_97 k0_t25
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c48_i32 : BitVec 32 := 48#32
  let v643 : BitVec 32 := Scalar.addi v612 c48_i32
  let v644 : Index := Scalar.indexCast v643
  ![v644.toNat]

def k0_chk372 (v652 : IVec S16 32) : Prop :=
  (∀ a x, ((![v652] : Fin 1 → IVec S16 32) a x).toNat < S4096.size a)
theorem k0_idx372_inb : ∀ (v652 : IVec S16 32) (k0_hw372 : k0_chk372 v652), ∀ a x, ((![v652] : Fin 1 → IVec S16 32) a x).toNat < S4096.size a := fun v652 k0_hw372 => k0_hw372
def k0_off375 (k0_t25 : Fin k0_t25_loop.trips) : Fin 1 → Nat :=
  let c0_i32_132 : BitVec 32 := 0#32
  let c0_i32_95 : BitVec 32 := 0#32
  let c1_i32_97 : BitVec 32 := 1#32
  let arg11 : BitVec 32 := Scf.iv c0_i32_95 c1_i32_97 k0_t25
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c64_i32_135 : BitVec 32 := 64#32
  let v653 : BitVec 32 := Scalar.addi v612 c64_i32_135
  let v654 : Index := Scalar.indexCast v653
  ![v654.toNat]

def k0_chk373 (v662 : IVec S16 32) : Prop :=
  (∀ a x, ((![v662] : Fin 1 → IVec S16 32) a x).toNat < S4096.size a)
theorem k0_idx373_inb : ∀ (v662 : IVec S16 32) (k0_hw373 : k0_chk373 v662), ∀ a x, ((![v662] : Fin 1 → IVec S16 32) a x).toNat < S4096.size a := fun v662 k0_hw373 => k0_hw373
def k0_off376 (k0_t25 : Fin k0_t25_loop.trips) : Fin 1 → Nat :=
  let c0_i32_132 : BitVec 32 := 0#32
  let c0_i32_95 : BitVec 32 := 0#32
  let c1_i32_97 : BitVec 32 := 1#32
  let arg11 : BitVec 32 := Scf.iv c0_i32_95 c1_i32_97 k0_t25
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c80_i32 : BitVec 32 := 80#32
  let v663 : BitVec 32 := Scalar.addi v612 c80_i32
  let v664 : Index := Scalar.indexCast v663
  ![v664.toNat]

def k0_chk374 (v672 : IVec S16 32) : Prop :=
  (∀ a x, ((![v672] : Fin 1 → IVec S16 32) a x).toNat < S4096.size a)
theorem k0_idx374_inb : ∀ (v672 : IVec S16 32) (k0_hw374 : k0_chk374 v672), ∀ a x, ((![v672] : Fin 1 → IVec S16 32) a x).toNat < S4096.size a := fun v672 k0_hw374 => k0_hw374
def k0_off377 (k0_t25 : Fin k0_t25_loop.trips) : Fin 1 → Nat :=
  let c0_i32_132 : BitVec 32 := 0#32
  let c0_i32_95 : BitVec 32 := 0#32
  let c1_i32_97 : BitVec 32 := 1#32
  let arg11 : BitVec 32 := Scf.iv c0_i32_95 c1_i32_97 k0_t25
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c96_i32 : BitVec 32 := 96#32
  let v673 : BitVec 32 := Scalar.addi v612 c96_i32
  let v674 : Index := Scalar.indexCast v673
  ![v674.toNat]

def k0_chk375 (v682 : IVec S16 32) : Prop :=
  (∀ a x, ((![v682] : Fin 1 → IVec S16 32) a x).toNat < S4096.size a)
theorem k0_idx375_inb : ∀ (v682 : IVec S16 32) (k0_hw375 : k0_chk375 v682), ∀ a x, ((![v682] : Fin 1 → IVec S16 32) a x).toNat < S4096.size a := fun v682 k0_hw375 => k0_hw375
def k0_off378 (k0_t25 : Fin k0_t25_loop.trips) : Fin 1 → Nat :=
  let c0_i32_132 : BitVec 32 := 0#32
  let c0_i32_95 : BitVec 32 := 0#32
  let c1_i32_97 : BitVec 32 := 1#32
  let arg11 : BitVec 32 := Scf.iv c0_i32_95 c1_i32_97 k0_t25
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c112_i32 : BitVec 32 := 112#32
  let v683 : BitVec 32 := Scalar.addi v612 c112_i32
  let v684 : Index := Scalar.indexCast v683
  ![v684.toNat]

def k0_chk376 (v692 : IVec S16 32) : Prop :=
  (∀ a x, ((![v692] : Fin 1 → IVec S16 32) a x).toNat < S4096.size a)
theorem k0_idx376_inb : ∀ (v692 : IVec S16 32) (k0_hw376 : k0_chk376 v692), ∀ a x, ((![v692] : Fin 1 → IVec S16 32) a x).toNat < S4096.size a := fun v692 k0_hw376 => k0_hw376
def k0_off379 (k0_t25 : Fin k0_t25_loop.trips) : Fin 1 → Nat :=
  let c0_i32_132 : BitVec 32 := 0#32
  let c0_i32_95 : BitVec 32 := 0#32
  let c1_i32_97 : BitVec 32 := 1#32
  let arg11 : BitVec 32 := Scf.iv c0_i32_95 c1_i32_97 k0_t25
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c128_i32 : BitVec 32 := 128#32
  let v693 : BitVec 32 := Scalar.addi v612 c128_i32
  let v694 : Index := Scalar.indexCast v693
  ![v694.toNat]

def k0_chk377 (v702 : IVec S16 32) : Prop :=
  (∀ a x, ((![v702] : Fin 1 → IVec S16 32) a x).toNat < S4096.size a)
theorem k0_idx377_inb : ∀ (v702 : IVec S16 32) (k0_hw377 : k0_chk377 v702), ∀ a x, ((![v702] : Fin 1 → IVec S16 32) a x).toNat < S4096.size a := fun v702 k0_hw377 => k0_hw377
def k0_off380 (k0_t25 : Fin k0_t25_loop.trips) : Fin 1 → Nat :=
  let c0_i32_132 : BitVec 32 := 0#32
  let c0_i32_95 : BitVec 32 := 0#32
  let c1_i32_97 : BitVec 32 := 1#32
  let arg11 : BitVec 32 := Scf.iv c0_i32_95 c1_i32_97 k0_t25
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c144_i32 : BitVec 32 := 144#32
  let v703 : BitVec 32 := Scalar.addi v612 c144_i32
  let v704 : Index := Scalar.indexCast v703
  ![v704.toNat]

def k0_chk378 (v712 : IVec S16 32) : Prop :=
  (∀ a x, ((![v712] : Fin 1 → IVec S16 32) a x).toNat < S4096.size a)
theorem k0_idx378_inb : ∀ (v712 : IVec S16 32) (k0_hw378 : k0_chk378 v712), ∀ a x, ((![v712] : Fin 1 → IVec S16 32) a x).toNat < S4096.size a := fun v712 k0_hw378 => k0_hw378
def k0_off381 (k0_t25 : Fin k0_t25_loop.trips) : Fin 1 → Nat :=
  let c0_i32_132 : BitVec 32 := 0#32
  let c0_i32_95 : BitVec 32 := 0#32
  let c1_i32_97 : BitVec 32 := 1#32
  let arg11 : BitVec 32 := Scf.iv c0_i32_95 c1_i32_97 k0_t25
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c160_i32 : BitVec 32 := 160#32
  let v713 : BitVec 32 := Scalar.addi v612 c160_i32
  let v714 : Index := Scalar.indexCast v713
  ![v714.toNat]

def k0_chk379 (v722 : IVec S16 32) : Prop :=
  (∀ a x, ((![v722] : Fin 1 → IVec S16 32) a x).toNat < S4096.size a)
theorem k0_idx379_inb : ∀ (v722 : IVec S16 32) (k0_hw379 : k0_chk379 v722), ∀ a x, ((![v722] : Fin 1 → IVec S16 32) a x).toNat < S4096.size a := fun v722 k0_hw379 => k0_hw379
def k0_off382 (k0_t25 : Fin k0_t25_loop.trips) : Fin 1 → Nat :=
  let c0_i32_132 : BitVec 32 := 0#32
  let c0_i32_95 : BitVec 32 := 0#32
  let c1_i32_97 : BitVec 32 := 1#32
  let arg11 : BitVec 32 := Scf.iv c0_i32_95 c1_i32_97 k0_t25
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c176_i32 : BitVec 32 := 176#32
  let v723 : BitVec 32 := Scalar.addi v612 c176_i32
  let v724 : Index := Scalar.indexCast v723
  ![v724.toNat]

def k0_chk380 (v732 : IVec S16 32) : Prop :=
  (∀ a x, ((![v732] : Fin 1 → IVec S16 32) a x).toNat < S4096.size a)
theorem k0_idx380_inb : ∀ (v732 : IVec S16 32) (k0_hw380 : k0_chk380 v732), ∀ a x, ((![v732] : Fin 1 → IVec S16 32) a x).toNat < S4096.size a := fun v732 k0_hw380 => k0_hw380
def k0_off383 (k0_t25 : Fin k0_t25_loop.trips) : Fin 1 → Nat :=
  let c0_i32_132 : BitVec 32 := 0#32
  let c0_i32_95 : BitVec 32 := 0#32
  let c1_i32_97 : BitVec 32 := 1#32
  let arg11 : BitVec 32 := Scf.iv c0_i32_95 c1_i32_97 k0_t25
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c192_i32 : BitVec 32 := 192#32
  let v733 : BitVec 32 := Scalar.addi v612 c192_i32
  let v734 : Index := Scalar.indexCast v733
  ![v734.toNat]

def k0_chk381 (v742 : IVec S16 32) : Prop :=
  (∀ a x, ((![v742] : Fin 1 → IVec S16 32) a x).toNat < S4096.size a)
theorem k0_idx381_inb : ∀ (v742 : IVec S16 32) (k0_hw381 : k0_chk381 v742), ∀ a x, ((![v742] : Fin 1 → IVec S16 32) a x).toNat < S4096.size a := fun v742 k0_hw381 => k0_hw381
def k0_off384 (k0_t25 : Fin k0_t25_loop.trips) : Fin 1 → Nat :=
  let c0_i32_132 : BitVec 32 := 0#32
  let c0_i32_95 : BitVec 32 := 0#32
  let c1_i32_97 : BitVec 32 := 1#32
  let arg11 : BitVec 32 := Scf.iv c0_i32_95 c1_i32_97 k0_t25
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c208_i32 : BitVec 32 := 208#32
  let v743 : BitVec 32 := Scalar.addi v612 c208_i32
  let v744 : Index := Scalar.indexCast v743
  ![v744.toNat]

def k0_chk382 (v752 : IVec S16 32) : Prop :=
  (∀ a x, ((![v752] : Fin 1 → IVec S16 32) a x).toNat < S4096.size a)
theorem k0_idx382_inb : ∀ (v752 : IVec S16 32) (k0_hw382 : k0_chk382 v752), ∀ a x, ((![v752] : Fin 1 → IVec S16 32) a x).toNat < S4096.size a := fun v752 k0_hw382 => k0_hw382
def k0_off385 (k0_t25 : Fin k0_t25_loop.trips) : Fin 1 → Nat :=
  let c0_i32_132 : BitVec 32 := 0#32
  let c0_i32_95 : BitVec 32 := 0#32
  let c1_i32_97 : BitVec 32 := 1#32
  let arg11 : BitVec 32 := Scf.iv c0_i32_95 c1_i32_97 k0_t25
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c224_i32 : BitVec 32 := 224#32
  let v753 : BitVec 32 := Scalar.addi v612 c224_i32
  let v754 : Index := Scalar.indexCast v753
  ![v754.toNat]

def k0_chk383 (v762 : IVec S16 32) : Prop :=
  (∀ a x, ((![v762] : Fin 1 → IVec S16 32) a x).toNat < S4096.size a)
theorem k0_idx383_inb : ∀ (v762 : IVec S16 32) (k0_hw383 : k0_chk383 v762), ∀ a x, ((![v762] : Fin 1 → IVec S16 32) a x).toNat < S4096.size a := fun v762 k0_hw383 => k0_hw383
def k0_off386 (k0_t25 : Fin k0_t25_loop.trips) : Fin 1 → Nat :=
  let c0_i32_132 : BitVec 32 := 0#32
  let c0_i32_95 : BitVec 32 := 0#32
  let c1_i32_97 : BitVec 32 := 1#32
  let arg11 : BitVec 32 := Scf.iv c0_i32_95 c1_i32_97 k0_t25
  let c1_i32_131 : BitVec 32 := 1#32
  let v609 : BitVec 32 := Scalar.muli arg11 c1_i32_131
  let v610 : BitVec 32 := Scalar.addi c0_i32_132 v609
  let c256_i32_133 : BitVec 32 := 256#32
  let v611 : BitVec 32 := Scalar.muli v610 c256_i32_133
  let v612 : BitVec 32 := v611
  let c240_i32 : BitVec 32 := 240#32
  let v763 : BitVec 32 := Scalar.addi v612 c240_i32
  let v764 : Index := Scalar.indexCast v763
  ![v764.toNat]

def k0_chk384 (v772 : IVec S16 32) : Prop :=
  (∀ a x, ((![v772] : Fin 1 → IVec S16 32) a x).toNat < S4096.size a)
theorem k0_idx384_inb : ∀ (v772 : IVec S16 32) (k0_hw384 : k0_chk384 v772), ∀ a x, ((![v772] : Fin 1 → IVec S16 32) a x).toNat < S4096.size a := fun v772 k0_hw384 => k0_hw384
def k0_off387 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_131_r48 : BitVec 32 := 0#32
  ![v1.toNat, 0]
abbrev grid1 : Pipeline.Grid := .none

abbrev stage1_0 : Fin 1 → Memref sig .tc .vmem S32x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_n" => some ((1 / 12582912 : ℝ) : EReal)
  | "inv_nb" => some ((1 / 201326592 : ℝ) : EReal)
  | _ => none
-- ==== ReferenceIdeal.lean ====
abbrev S16x3x1024x256 : Shape := ⟨4, ![16, 3, 1024, 256]⟩
abbrev S12582912 : Shape := ⟨1, ![12582912]⟩
abbrev S_ : Shape := ⟨0, ![]⟩
abbrev S256 : Shape := ⟨1, ![256]⟩
abbrev S12582912x1 : Shape := ⟨2, ![12582912, 1]⟩
abbrev S1x1x1x256 : Shape := ⟨4, ![1, 1, 1, 256]⟩

abbrev nBuf : Space → Nat
  | .hbm => 68
  | .vmem => 0
  | .smem => 0
  | _ => 0

abbrev bufTy : (tb : Table) → Fin (tcTables nBuf tb) → BufTy
  | .hbm, ⟨0, _⟩ => ⟨S16x3x1024x256, .f32⟩
  | .hbm, ⟨1, _⟩ => ⟨S16x3x1024x256, .f32⟩
  | .hbm, ⟨2, _⟩ => ⟨S12582912, .f32⟩
  | .hbm, ⟨3, _⟩ => ⟨S_, .f32⟩
  | .hbm, ⟨4, _⟩ => ⟨S12582912, .f32⟩
  | .hbm, ⟨5, _⟩ => ⟨S12582912, .i1⟩
  | .hbm, ⟨6, _⟩ => ⟨S_, .f32⟩
  | .hbm, ⟨7, _⟩ => ⟨S12582912, .f32⟩
  | .hbm, ⟨8, _⟩ => ⟨S12582912, .i1⟩
  | .hbm, ⟨9, _⟩ => ⟨S12582912, .i1⟩
  | .hbm, ⟨10, _⟩ => ⟨S_, .f32⟩
  | .hbm, ⟨11, _⟩ => ⟨S12582912, .f32⟩
  | .hbm, ⟨12, _⟩ => ⟨S12582912, .f32⟩
  | .hbm, ⟨13, _⟩ => ⟨S12582912, .f32⟩
  | .hbm, ⟨14, _⟩ => ⟨S_, .i32⟩
  | .hbm, ⟨15, _⟩ => ⟨S_, .i32⟩
  | .hbm, ⟨16, _⟩ => ⟨S_, .f32⟩
  | .hbm, ⟨17, _⟩ => ⟨S12582912, .f32⟩
  | .hbm, ⟨18, _⟩ => ⟨S12582912, .f32⟩
  | .hbm, ⟨19, _⟩ => ⟨S_, .f32⟩
  | .hbm, ⟨20, _⟩ => ⟨S12582912, .f32⟩
  | .hbm, ⟨21, _⟩ => ⟨S12582912, .f32⟩
  | .hbm, ⟨22, _⟩ => ⟨S12582912, .i32⟩
  | .hbm, ⟨23, _⟩ => ⟨S_, .i32⟩
  | .hbm, ⟨24, _⟩ => ⟨S_, .i32⟩
  | .hbm, ⟨25, _⟩ => ⟨S12582912, .i32⟩
  | .hbm, ⟨26, _⟩ => ⟨S12582912, .i32⟩
  | .hbm, ⟨27, _⟩ => ⟨S12582912, .f32⟩
  | .hbm, ⟨28, _⟩ => ⟨S_, .f32⟩
  | .hbm, ⟨29, _⟩ => ⟨S256, .f32⟩
  | .hbm, ⟨30, _⟩ => ⟨S_, .i32⟩
  | .hbm, ⟨31, _⟩ => ⟨S_, .i32⟩
  | .hbm, ⟨32, _⟩ => ⟨S12582912, .i32⟩
  | .hbm, ⟨33, _⟩ => ⟨S12582912, .i32⟩
  | .hbm, ⟨34, _⟩ => ⟨S_, .i32⟩
  | .hbm, ⟨35, _⟩ => ⟨S12582912, .i32⟩
  | .hbm, ⟨36, _⟩ => ⟨S12582912, .i1⟩
  | .hbm, ⟨37, _⟩ => ⟨S_, .i32⟩
  | .hbm, ⟨38, _⟩ => ⟨S12582912, .i32⟩
  | .hbm, ⟨39, _⟩ => ⟨S12582912, .i32⟩
  | .hbm, ⟨40, _⟩ => ⟨S12582912, .i32⟩
  | .hbm, ⟨41, _⟩ => ⟨S12582912x1, .i32⟩
  | .hbm, ⟨42, _⟩ => ⟨S256, .f32⟩
  | .hbm, ⟨43, _⟩ => ⟨S_, .f32⟩
  | .hbm, ⟨44, _⟩ => ⟨S256, .f32⟩
  | .hbm, ⟨45, _⟩ => ⟨S256, .f32⟩
  | .hbm, ⟨46, _⟩ => ⟨S_, .f32⟩
  | .hbm, ⟨47, _⟩ => ⟨S256, .f32⟩
  | .hbm, ⟨48, _⟩ => ⟨S256, .f32⟩
  | .hbm, ⟨49, _⟩ => ⟨S_, .f32⟩
  | .hbm, ⟨50, _⟩ => ⟨S256, .f32⟩
  | .hbm, ⟨51, _⟩ => ⟨S256, .f32⟩
  | .hbm, ⟨52, _⟩ => ⟨S_, .f32⟩
  | .hbm, ⟨53, _⟩ => ⟨S_, .f32⟩
  | .hbm, ⟨54, _⟩ => ⟨S256, .f32⟩
  | .hbm, ⟨55, _⟩ => ⟨S256, .f32⟩
  | .hbm, ⟨56, _⟩ => ⟨S1x1x1x256, .f32⟩
  | .hbm, ⟨57, _⟩ => ⟨S16x3x1024x256, .f32⟩
  | .hbm, ⟨58, _⟩ => ⟨S16x3x1024x256, .f32⟩
  | .hbm, ⟨59, _⟩ => ⟨S_, .f32⟩
  | .hbm, ⟨60, _⟩ => ⟨S1x1x1x256, .f32⟩
  | .hbm, ⟨61, _⟩ => ⟨S1x1x1x256, .f32⟩
  | .hbm, ⟨62, _⟩ => ⟨S16x3x1024x256, .f32⟩
  | .hbm, ⟨63, _⟩ => ⟨S16x3x1024x256, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | _, _ => ⟨S16x3x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_c_2 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_call1_v0 : Ref sig .tc := ⟨.hbm, 24, rfl⟩
abbrev main_call1_v1 : Ref sig .tc := ⟨.hbm, 25, rfl⟩
abbrev main_v11 : Ref sig .tc := ⟨.hbm, 26, rfl⟩
abbrev main_v12 : Ref sig .tc := ⟨.hbm, 27, rfl⟩
abbrev main_cst_4 : Ref sig .tc := ⟨.hbm, 28, rfl⟩
abbrev main_v13 : Ref sig .tc := ⟨.hbm, 29, rfl⟩
abbrev main_c_5 : Ref sig .tc := ⟨.hbm, 30, rfl⟩
abbrev main_call2_v0 : Ref sig .tc := ⟨.hbm, 31, rfl⟩
abbrev main_call2_v1 : Ref sig .tc := ⟨.hbm, 32, rfl⟩
abbrev main_v14 : Ref sig .tc := ⟨.hbm, 33, rfl⟩
abbrev main_c_6 : Ref sig .tc := ⟨.hbm, 34, rfl⟩
abbrev main_v15 : Ref sig .tc := ⟨.hbm, 35, rfl⟩
abbrev main_v16 : Ref sig .tc := ⟨.hbm, 36, rfl⟩
abbrev main_c_7 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_8 : Ref sig .tc := ⟨.hbm, 43, rfl⟩
abbrev main_v22 : Ref sig .tc := ⟨.hbm, 44, rfl⟩
abbrev main_v23 : Ref sig .tc := ⟨.hbm, 45, rfl⟩
abbrev main_cst_9 : Ref sig .tc := ⟨.hbm, 46, rfl⟩
abbrev main_v24 : Ref sig .tc := ⟨.hbm, 47, rfl⟩
abbrev main_v25 : Ref sig .tc := ⟨.hbm, 48, rfl⟩
abbrev main_cst_10 : Ref sig .tc := ⟨.hbm, 49, rfl⟩
abbrev main_v26 : Ref sig .tc := ⟨.hbm, 50, rfl⟩
abbrev main_v27 : Ref sig .tc := ⟨.hbm, 51, rfl⟩
abbrev main_cst_11 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_12 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_13 : Ref sig .tc := ⟨.hbm, 64, rfl⟩
abbrev main_v38 : Ref sig .tc := ⟨.hbm, 65, rfl⟩
abbrev main_cst_14 : Ref sig .tc := ⟨.hbm, 66, rfl⟩
abbrev main_v39 : Ref sig .tc := ⟨.hbm, 67, rfl⟩

abbrev nD : Nat := 1
abbrev τ : Topo := Topo.v7x

variable {F : FTy → Type} [FloatOps F]
-- ==== Proof.Kern.Prog.lean ====
module

public import proofs.«01_k».proof.Proof.Gen.KernelIdeal.Skeleton
public import Idealize.ShloMosaic.Lib.SparseCore.Ops

@[expose] public section

noncomputable section

namespace Cert.Proof.Kern

open Cert.KernelIdeal Cert.KernelIdeal.Gen
open Idealize.ShloMosaic Idealize.SL.Sem

variable {F : FTy → Type} [FloatOps F] [Named F]

/-- The flattened inputs, the two outputs and the five scratch buffers, as one vector subcore names them. -/
abbrev srcV : Memref sig .scVector .hbm S12582912 .f32 := Memref.whole main_v0_scv
abbrev tarV : Memref sig .scVector .hbm S12582912 .f32 := Memref.whole main_v1_scv
abbrev histV : Memref sig .scVector .hbm S32x256 .f32 := Memref.whole main_v2_0_scv
abbrev sumV : Memref sig .scVector .hbm S32x256 .f32 := Memref.whole main_v2_1_scv
abbrev sB : Memref sig .scVector .vmem S16384 .f32 := Memref.whole cc0_scratch0
abbrev tB : Memref sig .scVector .vmem S16384 .f32 := Memref.whole cc0_scratch1
abbrev lB : Memref sig .scVector .vmem S4096 .f32 := Memref.whole cc0_scratch2
abbrev hB : Memref sig .scVector .vmem S256 .f32 := Memref.whole cc0_scratch3
abbrev aB : Memref sig .scVector .vmem S256 .f32 := Memref.whole cc0_scratch4

/-- The sixteen running sums a task carries. -/
abbrev Acc (F : FTy → Type) : Type := FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32

/-- What a task on subcore `i` runs. -/
abbrev TProg (F : FTy → Type) (i : grid0.Coords) (α : Type) : Type 1 :=
  Prog (TpuEff nD τ sig (Elt F) Λ₀ (.scVector ((i 0).castLE hcore0) ((i 1).castLE hsub0))) α

/-- A task's `n`-th DMA semaphore. -/
abbrev semN (n : ℕ) (h : n + S_.numel ≤ 53) : DmaSems sig S_ := SemArray.consecutive n S_ h

/-- The task as it is launched. -/
abbrev task (i : grid0.Coords) : TProg F i PUnit :=
  cc0__sc_body i srcV (Memref.isWhole_whole _) tarV (Memref.isWhole_whole _) histV (Memref.isWhole_whole _) sumV (Memref.isWhole_whole _) sB (Memref.isWhole_whole _) tB (Memref.isWhole_whole _) lB (Memref.isWhole_whole _) hB (Memref.isWhole_whole _) aB (Memref.isWhole_whole _)
    cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49

/-- One trip of a chunk's loop. -/
abbrev trip (i : grid0.Coords) : Fin k0_t2_loop.trips → Acc F → TProg F i (Acc F) :=
  k0_t2_body i srcV (Memref.isWhole_whole _) tarV (Memref.isWhole_whole _) histV (Memref.isWhole_whole _) sumV (Memref.isWhole_whole _) sB (Memref.isWhole_whole _) tB (Memref.isWhole_whole _) lB (Memref.isWhole_whole _) hB (Memref.isWhole_whole _) aB (Memref.isWhole_whole _)
    cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49

/-- One trip of the zeroing loop. -/
abbrev ztrip (i : grid0.Coords) : Fin k0_t1_loop.trips → Unit → TProg F i Unit :=
  k0_t1_body i srcV (Memref.isWhole_whole _) tarV (Memref.isWhole_whole _) histV (Memref.isWhole_whole _) sumV (Memref.isWhole_whole _) sB (Memref.isWhole_whole _) tB (Memref.isWhole_whole _) lB (Memref.isWhole_whole _) hB (Memref.isWhole_whole _) aB (Memref.isWhole_whole _)
    cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49

/-- The sums before the first chunk: sixteen zero vectors. -/
abbrev acc0 : Acc F := (k0_pay649, k0_pay649, k0_pay649, k0_pay649, k0_pay649, k0_pay649, k0_pay649, k0_pay649, k0_pay649, k0_pay649, k0_pay649, k0_pay649, k0_pay649, k0_pay649, k0_pay649, k0_pay649)

/-- The `k`-th of the sixteen running sums. -/
def accAt (a : Acc F) : Fin 16 → FVec F S16 .f32 :=
  ![a.1, a.2.1, a.2.2.1, a.2.2.2.1, a.2.2.2.2.1, a.2.2.2.2.2.1, a.2.2.2.2.2.2.1, a.2.2.2.2.2.2.2.1, a.2.2.2.2.2.2.2.2.1, a.2.2.2.2.2.2.2.2.2.1, a.2.2.2.2.2.2.2.2.2.2.1, a.2.2.2.2.2.2.2.2.2.2.2.1, a.2.2.2.2.2.2.2.2.2.2.2.2.1, a.2.2.2.2.2.2.2.2.2.2.2.2.2.1, a.2.2.2.2.2.2.2.2.2.2.2.2.2.2.1, a.2.2.2.2.2.2.2.2.2.2.2.2.2.2.2]

/-- A chunk's two semaphores are among the task's. -/
theorem semOk (c : Fin 24) (b : ℕ) (hb : b < 2) : 2 * c.val + b + S_.numel ≤ 53 := by
  have : S_.numel = 1 := rfl
  have := c.isLt
  omega

/-- Chunk `c` of a task: copy 16384 sources and as many targets in, then run the loop over them. -/
def chunk (i : grid0.Coords) (c : Fin 24) (a : Acc F) : TProg F i (Acc F) := do
  let s := srcV.slice (Rect.unit (s := S12582912) (k0_off2 i (BitVec.ofNat 32 (16384 * c.val))) S16384.size (k0_off2_inb i c)) (fun _ => rfl)
  let t := tarV.slice (Rect.unit (s := S12582912) (k0_off2 i (BitVec.ofNat 32 (16384 * c.val))) S16384.size (k0_off2_inb i c)) (fun _ => rfl)
  let u := semN (2 * c.val) (semOk c 0 (by decide))
  let v := semN (2 * c.val + 1) (semOk c 1 (by decide))
  Prog.lift (.enqueueDma s (.here sB) (.dma u.sem) (View.wordExact_bits rfl) (Memref.isWhole_whole _).wordExact ⟨Or.inl rfl, trivial⟩)
  Prog.lift (.waitDma2 u.sem s sB (View.wordExact_bits rfl) (Memref.isWhole_whole _).wordExact)
  Prog.lift (.enqueueDma t (.here tB) (.dma v.sem) (View.wordExact_bits rfl) (Memref.isWhole_whole _).wordExact ⟨Or.inl rfl, trivial⟩)
  Prog.lift (.waitDma2 v.sem t tB (View.wordExact_bits rfl) (Memref.isWhole_whole _).wordExact)
  Scf.Loop.for k0_t2_loop k0_t2_ok a (trip i)

/-- Piece `k` of lane `l` is inside the lanes' histogram. -/
theorem lane_inb (l : ℕ) (hl : l < 16) (k : Fin 16) : ∀ a, (![256 * l + 16 * k.val] : Fin 1 → Nat) a + S16.size a ≤ S4096.size a := by
  intro a
  match a with
  | 0 => have := k.isLt; show 256 * l + 16 * k.val + 16 ≤ 4096; omega

/-- Piece `k` is inside a row of 256. -/
theorem piece_inb (k : Fin 16) : ∀ a, (![16 * k.val] : Fin 1 → Nat) a + S16.size a ≤ S256.size a := by
  intro a
  match a with
  | 0 => have := k.isLt; show 16 * k.val + 16 ≤ 256; omega

/-- Piece `k` of lane `l`'s histogram, read into a register. -/
def laneLoad (i : grid0.Coords) (k : Fin 16) (l : ℕ) (hl : l < 16) : TProg F i (Vec F S16 .f32) :=
  Prog.lift (.load lB (Rect.unit (s := S4096) ![256 * l + 16 * k.val] S16.size (lane_inb l hl k)).toLoadRect (View.loadsAt_vmem h_S16))

/-- Add piece `k` of lane `l + 1`'s histogram to what was added so far. -/
def laneAdd (i : grid0.Coords) (k : Fin 16) (l : Fin 15) (h : FVec F S16 .f32) : TProg F i (FVec F S16 .f32) := do
  let v ← laneLoad i k (l.val + 1) (by omega)
  pure (addf h v)

/-- Piece `k` of the task's results: add the sixteen lanes' histograms, store their sum and the `k`-th running sum. -/
def reduceK (i : grid0.Coords) (a : Acc F) (k : Fin 16) (_ : Unit) : TProg F i Unit := do
  let h0 ← laneLoad i k 0 (by decide)
  let h ← Scf.forFrom (laneAdd i k) (List.finRange 15) h0
  let _v : Vec F S16 .f32 ← Prog.lift (.load hB (Rect.unit (s := S256) ![16 * k.val] S16.size (piece_inb k)).toLoadRect (View.loadsAt_vmem h_S16))
  Prog.lift (.store hB (Rect.unit (s := S256) ![16 * k.val] S16.size (piece_inb k)) h Finset.univ (View.stores_vmem_bits_univ h_S16 rfl) (.inl rfl))
  let _v : Vec F S16 .f32 ← Prog.lift (.load aB (Rect.unit (s := S256) ![16 * k.val] S16.size (piece_inb k)).toLoadRect (View.loadsAt_vmem h_S16))
  Prog.lift (.store aB (Rect.unit (s := S256) ![16 * k.val] S16.size (piece_inb k)) (accAt a k) Finset.univ (View.stores_vmem_bits_univ h_S16 rfl) (.inl rfl))

/-- The row of the histogram output a task writes. -/
abbrev histRow (i : grid0.Coords) : Memref sig .scVector .hbm S256 .f32 :=
  (histV.slice (Rect.unit (s := S32x256) (k0_off387 i) S1x256.size (k0_off387_inb i)) (fun _ => rfl)).squeeze S256 squeezes_S1x256_S256

/-- The row of the sums' output a task writes. -/
abbrev sumRow (i : grid0.Coords) : Memref sig .scVector .hbm S256 .f32 :=
  (sumV.slice (Rect.unit (s := S32x256) (k0_off387 i) S1x256.size (k0_off387_inb i)) (fun _ => rfl)).squeeze S256 squeezes_S1x256_S256

/-- The two copies that write the task's rows out. -/
def writeOut (i : grid0.Coords) : TProg F i PUnit := do
  let u := semN 48 (by decide)
  let v := semN 49 (by decide)
  Prog.lift (.enqueueDma hB (.here (histRow i)) (.dma u.sem) (Memref.isWhole_whole _).wordExact ((View.wordExact_bits rfl).reshape _ _) ⟨Or.inl rfl, trivial⟩)
  Prog.lift (.waitDma2 u.sem hB (histRow i) (Memref.isWhole_whole _).wordExact ((View.wordExact_bits rfl).reshape _ _))
  Prog.lift (.enqueueDma aB (.here (sumRow i)) (.dma v.sem) (Memref.isWhole_whole _).wordExact ((View.wordExact_bits rfl).reshape _ _) ⟨Or.inl rfl, trivial⟩)
  Prog.lift (.waitDma2 v.sem aB (sumRow i) (Memref.isWhole_whole _).wordExact ((View.wordExact_bits rfl).reshape _ _))
  pure ⟨⟩

/-- The task, written with its loops: clear the histograms, 24 chunks, 16 pieces of result, two rows out. -/
def taskLoop (i : grid0.Coords) : TProg F i PUnit := do
  Scf.Loop.for k0_t1_loop k0_t1_ok ⟨⟩ (ztrip i)
  let a ← Scf.forFrom (chunk i) (List.finRange 24) acc0
  Scf.forFrom (reduceK i a) (List.finRange 16) ()
  writeOut i

/-- Where piece `k` of trip `r` lies in a chunk. -/
abbrev pieceOff (r : Fin k0_t2_loop.trips) : Fin 16 → Fin 1 → Nat :=
  ![k0_off3 r, k0_off4 r, k0_off5 r, k0_off6 r, k0_off7 r, k0_off8 r, k0_off9 r, k0_off10 r, k0_off11 r, k0_off12 r,
    k0_off13 r, k0_off14 r, k0_off15 r, k0_off16 r, k0_off17 r, k0_off18 r]

/-- Sixteen elements a piece, sixteen pieces a trip. -/
theorem pieceOff_eq (r : Fin k0_t2_loop.trips) (k : Fin 16) : pieceOff r k = ![256 * r.val + 16 * k.val] := by
  fin_cases k
  exacts [k0_off3_eq r, k0_off4_eq r, k0_off5_eq r, k0_off6_eq r, k0_off7_eq r, k0_off8_eq r, k0_off9_eq r, k0_off10_eq r,
    k0_off11_eq r, k0_off12_eq r, k0_off13_eq r, k0_off14_eq r, k0_off15_eq r, k0_off16_eq r, k0_off17_eq r, k0_off18_eq r]

/-- The loop over the rows of a chunk has 64 rounds. -/
theorem trips_eq : k0_t2_loop.trips = 64 := by decide +kernel

/-- Piece `k` of row `r` is inside the chunk. -/
theorem pieceOff_inb (r : Fin k0_t2_loop.trips) (k : Fin 16) : ∀ a, pieceOff r k a + S16.size a ≤ S16384.size a := by
  intro a
  rw [pieceOff_eq]
  have hr : r.val < 64 := Nat.lt_of_lt_of_eq r.isLt trips_eq
  have hk := k.isLt
  match a with
  | 0 => show 256 * r.val + 16 * k.val + 16 ≤ 16384; omega

/-- The rectangle of piece `k` of trip `r`. -/
abbrev pieceRect (r : Fin k0_t2_loop.trips) (k : Fin 16) : Rect S16384 :=
  Rect.unit (s := S16384) (pieceOff r k) S16.size (pieceOff_inb r k)

/-- One piece of a trip: sixteen sources and targets read, the `k`-th running sum taken on, the targets counted. -/
def piece (i : grid0.Coords) (r : Fin k0_t2_loop.trips) (k : Fin 16) (a : Fin 16 → FVec F S16 .f32) :
    TProg F i (Fin 16 → FVec F S16 .f32) := do
  let s : Vec F S16 .f32 ← Prog.lift (.load sB (pieceRect r k).toLoadRect (View.loadsAt_vmem h_S16))
  let t : Vec F S16 .f32 ← Prog.lift (.load tB (pieceRect r k).toLoadRect (View.loadsAt_vmem h_S16))
  have v : IVec S16 32 := k0_pay653 t
  have h : k0_chk1 v := (← Prog.lift (TpuEff.assume (k0_chk1 v) (k0_chk1.dec v))).down
  SparseCore.vectorStoreIdx lB ![v] (k0_pay650 (F := F)) (fun _ => 1#1) true (k0_idx1_inb v h) (View.stores_vmem_bits_univ h_S4096 rfl)
  pure (fun j => if j = k then k0_pay652 (a k) s t else a j)

/-- A trip, written with its loop over the sixteen pieces. -/
def tripLoop (i : grid0.Coords) (r : Fin k0_t2_loop.trips) (a : Acc F) : TProg F i (Acc F) := do
  let b ← Scf.forFrom (piece i r) (List.finRange 16) (accAt a)
  pure (b 0, b 1, b 2, b 3, b 4, b 5, b 6, b 7, b 8, b 9, b 10, b 11, b 12, b 13, b 14, b 15)
end Cert.Proof.Kern
end
-- ==== Proof.Kern.Base.lean ====
module

public import proofs.«01_k».proof.Proof.Kern.Prog
public import Idealize.ShloMosaic.Lib.SparseCore.Quiescent
public import Idealize.ShloMosaic.Lib.SparseCore.Ops
public import Idealize.ShloMosaic.Lib.StableHlo.Run
public import Idealize.ShloMosaic.Lib.Transfers
public import Idealize.ShloMosaic.Lib.Tactic

@[expose] public section

noncomputable section

namespace Cert.Proof.Kern

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch sees it -/

abbrev ΛP : Labels := Pipeline.Sig Λ₀ (Fin 1) fun p => (pcfgs (F := F) p).Adm
abbrev K : SparseCore.Cfg τ sig (ΛP (F := F)) 1 := sc (F := F)
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are distinct and unscoped, and no scoped buffer is shared between tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the windows' rounds, the transfers' counters -/

abbrev UH : Type := URounds (GSem nD τ sig) ℕ
abbrev UW : Type := URounds (GSem nD τ sig) Unit
abbrev UU : Type := (UH × UW) × Counters

local notation "𝕄" => MT nD τ sig (HIx 1) (Elt F) ℕ UU ℕ

/-- The handshakes' rounds within the ghost state. -/
def EH : Emb UH (MT nD τ sig (HIx 1) (Elt F) ℕ UU ℕ) :=
  ((Emb.inl : Emb UH (UH × UW)).trans (Emb.inl : Emb (UH × UW) UU)).trans
    (uEmb (nD := nD) (sig := sig) (Ix := HIx 1) (Val := Elt F) (Name := ℕ) (U := UU) (Lvl := ℕ)).toEmb
/-- The windows' rounds within the ghost state. -/
def EW : Emb UW (MT nD τ sig (HIx 1) (Elt F) ℕ UU ℕ) :=
  ((Emb.inr : Emb UW (UH × UW)).trans (Emb.inl : Emb (UH × UW) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EW_landsIn : (EW : Emb UW 𝕄).LandsIn (upEmb : UEmb _ 𝕄) := by unfold EW; infer_instance

/-! ## What a task computes -/

variable [FloatOps F] [Named F]

/-- The index `n` of a one-dimensional array. -/
def ix {N : ℕ} (n : ℕ) (h : n < N) : Shape.Idx ⟨1, ![N]⟩ := fun | (0 : Fin 1) => ⟨n, h⟩

/-- An index of a vector is the one made of its coordinate. -/
theorem ix_eta {N : ℕ} (y : Shape.Idx ⟨1, ![N]⟩) : y = ix (y 0).val (y 0).isLt := by
  funext a
  match a with
  | 0 => rfl

/-- Indices made of equal numbers are equal. -/
theorem ix_congr {N n m : ℕ} {hn : n < N} {hm : m < N} (h : n = m) : (ix n hn : Shape.Idx ⟨1, ![N]⟩) = ix m hm := by subst h; rfl

/-- Element `n` of a flattened input, counted around. -/
abbrev flat (n : ℕ) : S12582912.Idx := ix (n % 12582912) (Nat.mod_lt _ (by decide))

/-- Sixteen consecutive elements: the `n`-th group. -/
def vecAt (f : S12582912.Idx → F .f32) (n : ℕ) : FVec F S16 .f32 := fun x => f (flat (16 * n + (x 0).val))

/-- 16384 consecutive elements: the `q`-th chunk. -/
def chunkAt (f : S12582912.Idx → F .f32) (q : ℕ) : FVec F S16384 .f32 := fun x => f (flat (16384 * q + (x 0).val))

/-- The sixteen running sums after `n` groups: group `n` goes to sum `n % 16`. -/
def sums (vs vt : ℕ → FVec F S16 .f32) : ℕ → Fin 16 → FVec F S16 .f32
  | 0 => fun _ => k0_pay649
  | n + 1 => fun j => if j.val = n % 16 then k0_pay652 (sums vs vt n j) (vs n) (vt n) else sums vs vt n j

/-- The sixteen lanes' histograms after `n` groups. -/
def counts (vt : ℕ → FVec F S16 .f32) : ℕ → FVec F S4096 .f32
  | 0 => fun _ => Scalar.ofBits .f32 0x00000000#32
  | n + 1 => if h : k0_chk1 (k0_pay653 (vt n)) then
      storeIdx (s := S4096) (e := .f32) (counts vt n) ![k0_pay653 (vt n)] (k0_pay650 (F := F)) (fun _ => 1#1) true (k0_idx1_inb _ h)
    else counts vt n

/-- Bin `p` of the lanes' histograms 0, …, `n` added up, lane 0 first. -/
def laneSum (l : FVec F S4096 .f32) (p : ℕ) : ℕ → F .f32
  | 0 => l (ix (p % 4096) (Nat.mod_lt _ (by decide)))
  | n + 1 => FloatOps.addf (laneSum l p n) (l (ix ((256 * (n + 1) + p) % 4096) (Nat.mod_lt _ (by decide))))

/-- What a task writes to its row of the histogram output. -/
def histOf (l : FVec F S4096 .f32) : FVec F S256 .f32 := fun p => laneSum l (p 0).val 15

/-- What a task writes to its row of the sums' output. -/
def sumOf (a : Fin 16 → FVec F S16 .f32) : FVec F S256 .f32 := fun p =>
  a ⟨(p 0).val / 16, by have : (p 0).val < 256 := (p 0).isLt; omega⟩ (ix ((p 0).val % 16) (Nat.mod_lt _ (by decide)))

end Cert.Proof.Kern
end
-- ==== Proof.Kern.Equal.lean ====
module

public import proofs.«01_k».proof.Proof.Kern.Prog

@[expose] public section

noncomputable section

namespace Cert.Proof.Kern

open Cert.KernelIdeal Cert.KernelIdeal.Gen
open Idealize.ShloMosaic Idealize.SL.Sem

variable {F : FTy → Type} [FloatOps F] [Named F]

/-- The word a task's offset is computed from. -/
abbrev base (i : grid0.Coords) : BitVec 32 :=
  Scalar.muli (Scalar.addi (Scalar.muli (BitVec.ofNat 32 (i 1).val) 2#32) (BitVec.ofNat 32 (i 0).val)) 393216#32

set_option maxRecDepth 65536 in
/-- The text of this part is those chunks. -/
theorem part73_eq (i : grid0.Coords) :
    k0_part73 (F := F) i srcV (Memref.isWhole_whole _) tarV (Memref.isWhole_whole _) histV (Memref.isWhole_whole _) sumV (Memref.isWhole_whole _) sB (Memref.isWhole_whole _) tB (Memref.isWhole_whole _) lB (Memref.isWhole_whole _) hB (Memref.isWhole_whole _) aB (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 = (do
      Scf.Loop.for k0_t1_loop k0_t1_ok ⟨⟩ (ztrip i)
      let a ← chunk i 0 acc0
      let b ← chunk i 1 a
      pure ⟨base i, k0_pay650 (F := F), k0_pay651, b.1, b.2.1, b.2.2.1, b.2.2.2.1, b.2.2.2.2.1, b.2.2.2.2.2.1, b.2.2.2.2.2.2.1, b.2.2.2.2.2.2.2.1, b.2.2.2.2.2.2.2.2.1, b.2.2.2.2.2.2.2.2.2.1, b.2.2.2.2.2.2.2.2.2.2.1, b.2.2.2.2.2.2.2.2.2.2.2.1, b.2.2.2.2.2.2.2.2.2.2.2.2.1, b.2.2.2.2.2.2.2.2.2.2.2.2.2.1, b.2.2.2.2.2.2.2.2.2.2.2.2.2.2.1, b.2.2.2.2.2.2.2.2.2.2.2.2.2.2.2⟩) := rfl

set_option maxRecDepth 65536 in
/-- The text of this part is those chunks. -/
theorem part74_eq (i : grid0.Coords) (a0 a1 a2 a3 a4 a5 a6 a7 a8 a9 a10 a11 a12 a13 a14 a15 : FVec F S16 .f32) :
    k0_part74 (F := F) i srcV (Memref.isWhole_whole _) tarV (Memref.isWhole_whole _) histV (Memref.isWhole_whole _) sumV (Memref.isWhole_whole _) sB (Memref.isWhole_whole _) tB (Memref.isWhole_whole _) lB (Memref.isWhole_whole _) hB (Memref.isWhole_whole _) aB (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 (base i) (k0_pay650 (F := F)) k0_pay651 a0 a1 a2 a3 a4 a5 a6 a7 a8 a9 a10 a11 a12 a13 a14 a15 = (do
      let a ← chunk i 2 (a0, a1, a2, a3, a4, a5, a6, a7, a8, a9, a10, a11, a12, a13, a14, a15)
      let b ← chunk i 3 a
      let d ← chunk i 4 b
      pure ⟨d.1, d.2.1, d.2.2.1, d.2.2.2.1, d.2.2.2.2.1, d.2.2.2.2.2.1, d.2.2.2.2.2.2.1, d.2.2.2.2.2.2.2.1, d.2.2.2.2.2.2.2.2.1, d.2.2.2.2.2.2.2.2.2.1, d.2.2.2.2.2.2.2.2.2.2.1, d.2.2.2.2.2.2.2.2.2.2.2.1, d.2.2.2.2.2.2.2.2.2.2.2.2.1, d.2.2.2.2.2.2.2.2.2.2.2.2.2.1, d.2.2.2.2.2.2.2.2.2.2.2.2.2.2.1, d.2.2.2.2.2.2.2.2.2.2.2.2.2.2.2⟩) := rfl

set_option maxRecDepth 65536 in
/-- The text of this part is those chunks. -/
theorem part75_eq (i : grid0.Coords) (a0 a1 a2 a3 a4 a5 a6 a7 a8 a9 a10 a11 a12 a13 a14 a15 : FVec F S16 .f32) :
    k0_part75 (F := F) i srcV (Memref.isWhole_whole _) tarV (Memref.isWhole_whole _) histV (Memref.isWhole_whole _) sumV (Memref.isWhole_whole _) sB (Memref.isWhole_whole _) tB (Memref.isWhole_whole _) lB (Memref.isWhole_whole _) hB (Memref.isWhole_whole _) aB (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 (base i) (k0_pay650 (F := F)) k0_pay651 a0 a1 a2 a3 a4 a5 a6 a7 a8 a9 a10 a11 a12 a13 a14 a15 = (do
      let a ← chunk i 5 (a0, a1, a2, a3, a4, a5, a6, a7, a8, a9, a10, a11, a12, a13, a14, a15)
      let b ← chunk i 6 a
      let d ← chunk i 7 b
      pure ⟨d.1, d.2.1, d.2.2.1, d.2.2.2.1, d.2.2.2.2.1, d.2.2.2.2.2.1, d.2.2.2.2.2.2.1, d.2.2.2.2.2.2.2.1, d.2.2.2.2.2.2.2.2.1, d.2.2.2.2.2.2.2.2.2.1, d.2.2.2.2.2.2.2.2.2.2.1, d.2.2.2.2.2.2.2.2.2.2.2.1, d.2.2.2.2.2.2.2.2.2.2.2.2.1, d.2.2.2.2.2.2.2.2.2.2.2.2.2.1, d.2.2.2.2.2.2.2.2.2.2.2.2.2.2.1, d.2.2.2.2.2.2.2.2.2.2.2.2.2.2.2⟩) := rfl

set_option maxRecDepth 65536 in
/-- The text of this part is those chunks. -/
theorem part76_eq (i : grid0.Coords) (a0 a1 a2 a3 a4 a5 a6 a7 a8 a9 a10 a11 a12 a13 a14 a15 : FVec F S16 .f32) :
    k0_part76 (F := F) i srcV (Memref.isWhole_whole _) tarV (Memref.isWhole_whole _) histV (Memref.isWhole_whole _) sumV (Memref.isWhole_whole _) sB (Memref.isWhole_whole _) tB (Memref.isWhole_whole _) lB (Memref.isWhole_whole _) hB (Memref.isWhole_whole _) aB (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 (base i) (k0_pay650 (F := F)) k0_pay651 a0 a1 a2 a3 a4 a5 a6 a7 a8 a9 a10 a11 a12 a13 a14 a15 = (do
      let a ← chunk i 8 (a0, a1, a2, a3, a4, a5, a6, a7, a8, a9, a10, a11, a12, a13, a14, a15)
      let b ← chunk i 9 a
      let d ← chunk i 10 b
      pure ⟨d.1, d.2.1, d.2.2.1, d.2.2.2.1, d.2.2.2.2.1, d.2.2.2.2.2.1, d.2.2.2.2.2.2.1, d.2.2.2.2.2.2.2.1, d.2.2.2.2.2.2.2.2.1, d.2.2.2.2.2.2.2.2.2.1, d.2.2.2.2.2.2.2.2.2.2.1, d.2.2.2.2.2.2.2.2.2.2.2.1, d.2.2.2.2.2.2.2.2.2.2.2.2.1, d.2.2.2.2.2.2.2.2.2.2.2.2.2.1, d.2.2.2.2.2.2.2.2.2.2.2.2.2.2.1, d.2.2.2.2.2.2.2.2.2.2.2.2.2.2.2⟩) := rfl

set_option maxRecDepth 65536 in
/-- The text of this part is those chunks. -/
theorem part77_eq (i : grid0.Coords) (a0 a1 a2 a3 a4 a5 a6 a7 a8 a9 a10 a11 a12 a13 a14 a15 : FVec F S16 .f32) :
    k0_part77 (F := F) i srcV (Memref.isWhole_whole _) tarV (Memref.isWhole_whole _) histV (Memref.isWhole_whole _) sumV (Memref.isWhole_whole _) sB (Memref.isWhole_whole _) tB (Memref.isWhole_whole _) lB (Memref.isWhole_whole _) hB (Memref.isWhole_whole _) aB (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 (base i) (k0_pay650 (F := F)) k0_pay651 a0 a1 a2 a3 a4 a5 a6 a7 a8 a9 a10 a11 a12 a13 a14 a15 = (do
      let a ← chunk i 11 (a0, a1, a2, a3, a4, a5, a6, a7, a8, a9, a10, a11, a12, a13, a14, a15)
      let b ← chunk i 12 a
      let d ← chunk i 13 b
      pure ⟨d.1, d.2.1, d.2.2.1, d.2.2.2.1, d.2.2.2.2.1, d.2.2.2.2.2.1, d.2.2.2.2.2.2.1, d.2.2.2.2.2.2.2.1, d.2.2.2.2.2.2.2.2.1, d.2.2.2.2.2.2.2.2.2.1, d.2.2.2.2.2.2.2.2.2.2.1, d.2.2.2.2.2.2.2.2.2.2.2.1, d.2.2.2.2.2.2.2.2.2.2.2.2.1, d.2.2.2.2.2.2.2.2.2.2.2.2.2.1, d.2.2.2.2.2.2.2.2.2.2.2.2.2.2.1, d.2.2.2.2.2.2.2.2.2.2.2.2.2.2.2⟩) := rfl

set_option maxRecDepth 65536 in
/-- The text of this part is those chunks. -/
theorem part78_eq (i : grid0.Coords) (a0 a1 a2 a3 a4 a5 a6 a7 a8 a9 a10 a11 a12 a13 a14 a15 : FVec F S16 .f32) :
    k0_part78 (F := F) i srcV (Memref.isWhole_whole _) tarV (Memref.isWhole_whole _) histV (Memref.isWhole_whole _) sumV (Memref.isWhole_whole _) sB (Memref.isWhole_whole _) tB (Memref.isWhole_whole _) lB (Memref.isWhole_whole _) hB (Memref.isWhole_whole _) aB (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 (base i) (k0_pay650 (F := F)) k0_pay651 a0 a1 a2 a3 a4 a5 a6 a7 a8 a9 a10 a11 a12 a13 a14 a15 = (do
      let a ← chunk i 14 (a0, a1, a2, a3, a4, a5, a6, a7, a8, a9, a10, a11, a12, a13, a14, a15)
      let b ← chunk i 15 a
      let d ← chunk i 16 b
      pure ⟨d.1, d.2.1, d.2.2.1, d.2.2.2.1, d.2.2.2.2.1, d.2.2.2.2.2.1, d.2.2.2.2.2.2.1, d.2.2.2.2.2.2.2.1, d.2.2.2.2.2.2.2.2.1, d.2.2.2.2.2.2.2.2.2.1, d.2.2.2.2.2.2.2.2.2.2.1, d.2.2.2.2.2.2.2.2.2.2.2.1, d.2.2.2.2.2.2.2.2.2.2.2.2.1, d.2.2.2.2.2.2.2.2.2.2.2.2.2.1, d.2.2.2.2.2.2.2.2.2.2.2.2.2.2.1, d.2.2.2.2.2.2.2.2.2.2.2.2.2.2.2⟩) := rfl

set_option maxRecDepth 65536 in
/-- The text of this part is those chunks. -/
theorem part79_eq (i : grid0.Coords) (a0 a1 a2 a3 a4 a5 a6 a7 a8 a9 a10 a11 a12 a13 a14 a15 : FVec F S16 .f32) :
    k0_part79 (F := F) i srcV (Memref.isWhole_whole _) tarV (Memref.isWhole_whole _) histV (Memref.isWhole_whole _) sumV (Memref.isWhole_whole _) sB (Memref.isWhole_whole _) tB (Memref.isWhole_whole _) lB (Memref.isWhole_whole _) hB (Memref.isWhole_whole _) aB (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 (base i) (k0_pay650 (F := F)) k0_pay651 a0 a1 a2 a3 a4 a5 a6 a7 a8 a9 a10 a11 a12 a13 a14 a15 = (do
      let a ← chunk i 17 (a0, a1, a2, a3, a4, a5, a6, a7, a8, a9, a10, a11, a12, a13, a14, a15)
      let b ← chunk i 18 a
      let d ← chunk i 19 b
      pure ⟨d.1, d.2.1, d.2.2.1, d.2.2.2.1, d.2.2.2.2.1, d.2.2.2.2.2.1, d.2.2.2.2.2.2.1, d.2.2.2.2.2.2.2.1, d.2.2.2.2.2.2.2.2.1, d.2.2.2.2.2.2.2.2.2.1, d.2.2.2.2.2.2.2.2.2.2.1, d.2.2.2.2.2.2.2.2.2.2.2.1, d.2.2.2.2.2.2.2.2.2.2.2.2.1, d.2.2.2.2.2.2.2.2.2.2.2.2.2.1, d.2.2.2.2.2.2.2.2.2.2.2.2.2.2.1, d.2.2.2.2.2.2.2.2.2.2.2.2.2.2.2⟩) := rfl

set_option maxRecDepth 65536 in
/-- The text of this part is those chunks. -/
theorem part80_eq (i : grid0.Coords) (a0 a1 a2 a3 a4 a5 a6 a7 a8 a9 a10 a11 a12 a13 a14 a15 : FVec F S16 .f32) :
    k0_part80 (F := F) i srcV (Memref.isWhole_whole _) tarV (Memref.isWhole_whole _) histV (Memref.isWhole_whole _) sumV (Memref.isWhole_whole _) sB (Memref.isWhole_whole _) tB (Memref.isWhole_whole _) lB (Memref.isWhole_whole _) hB (Memref.isWhole_whole _) aB (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 (base i) (k0_pay650 (F := F)) k0_pay651 a0 a1 a2 a3 a4 a5 a6 a7 a8 a9 a10 a11 a12 a13 a14 a15 = (do
      let a ← chunk i 20 (a0, a1, a2, a3, a4, a5, a6, a7, a8, a9, a10, a11, a12, a13, a14, a15)
      let b ← chunk i 21 a
      let d ← chunk i 22 b
      pure ⟨d.1, d.2.1, d.2.2.1, d.2.2.2.1, d.2.2.2.2.1, d.2.2.2.2.2.1, d.2.2.2.2.2.2.1, d.2.2.2.2.2.2.2.1, d.2.2.2.2.2.2.2.2.1, d.2.2.2.2.2.2.2.2.2.1, d.2.2.2.2.2.2.2.2.2.2.1, d.2.2.2.2.2.2.2.2.2.2.2.1, d.2.2.2.2.2.2.2.2.2.2.2.2.1, d.2.2.2.2.2.2.2.2.2.2.2.2.2.1, d.2.2.2.2.2.2.2.2.2.2.2.2.2.2.1, d.2.2.2.2.2.2.2.2.2.2.2.2.2.2.2⟩) := rfl

/-- The first thirteen loads of piece 0, which the text groups with the last chunk. -/
def head81 (i : grid0.Coords) (b : Acc F) : TProg F i (Σ' (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : FVec F S16 .f32), FVec F S16 .f32) := do
  let h0 ← laneLoad i 0 0 (by decide)
  let h ← Scf.forFrom (laneAdd i 0) [0, 1, 2, 3, 4, 5, 6, 7, 8, 9, 10, 11] h0
  pure ⟨b.1, b.2.1, b.2.2.1, b.2.2.2.1, b.2.2.2.2.1, b.2.2.2.2.2.1, b.2.2.2.2.2.2.1, b.2.2.2.2.2.2.2.1, b.2.2.2.2.2.2.2.2.1, b.2.2.2.2.2.2.2.2.2.1, b.2.2.2.2.2.2.2.2.2.2.1, b.2.2.2.2.2.2.2.2.2.2.2.1, b.2.2.2.2.2.2.2.2.2.2.2.2.1, b.2.2.2.2.2.2.2.2.2.2.2.2.2.1, b.2.2.2.2.2.2.2.2.2.2.2.2.2.2.1, b.2.2.2.2.2.2.2.2.2.2.2.2.2.2.2, h⟩

set_option maxRecDepth 65536 in
/-- The text of this part is those chunks. -/
theorem part81_eq (i : grid0.Coords) (a0 a1 a2 a3 a4 a5 a6 a7 a8 a9 a10 a11 a12 a13 a14 a15 : FVec F S16 .f32) :
    k0_part81 (F := F) i srcV (Memref.isWhole_whole _) tarV (Memref.isWhole_whole _) histV (Memref.isWhole_whole _) sumV (Memref.isWhole_whole _) sB (Memref.isWhole_whole _) tB (Memref.isWhole_whole _) lB (Memref.isWhole_whole _) hB (Memref.isWhole_whole _) aB (Memref.isWhole_whole _)
      cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 (base i) (k0_pay650 (F := F)) k0_pay651 a0 a1 a2 a3 a4 a5 a6 a7 a8 a9 a10 a11 a12 a13 a14 a15 = (do
      let a ← chunk i 23 (a0, a1, a2, a3, a4, a5, a6, a7, a8, a9, a10, a11, a12, a13, a14, a15)
      head81 i a) := rfl

/-- Twenty-four trips one after another. -/
theorem forFrom24.{v} {E : Type → Type v} {σ : Type} (f : Fin 24 → σ → Prog E σ) (a : σ) :
    Scf.forFrom f (List.finRange 24) a = (do
      let a0 ← f 0 a
      let a1 ← f 1 a0
      let a2 ← f 2 a1
      let a3 ← f 3 a2
      let a4 ← f 4 a3
      let a5 ← f 5 a4
      let a6 ← f 6 a5
      let a7 ← f 7 a6
      let a8 ← f 8 a7
      let a9 ← f 9 a8
      let a10 ← f 10 a9
      let a11 ← f 11 a10
      let a12 ← f 12 a11
      let a13 ← f 13 a12
      let a14 ← f 14 a13
      let a15 ← f 15 a14
      let a16 ← f 16 a15
      let a17 ← f 17 a16
      let a18 ← f 18 a17
      let a19 ← f 19 a18
      let a20 ← f 20 a19
      let a21 ← f 21 a20
      let a22 ← f 22 a21
      let a23 ← f 23 a22
      pure a23) := by
  have h : List.finRange 24 = [0, 1, 2, 3, 4, 5, 6, 7, 8, 9, 10, 11, 12, 13, 14, 15, 16, 17, 18, 19, 20, 21, 22, 23] := by decide
  simp only [h, Scf.forFrom_cons, Scf.forFrom_nil, ← Prog.pure_eq_ret, bind_pure]

set_option maxRecDepth 65536 in
set_option maxHeartbeats 4000000 in
/-- The task as printed is the task written with its loops. -/
theorem task_eq (i : grid0.Coords) : task (F := F) i = taskLoop i := by
  unfold task cc0__sc_body k0_part95 taskLoop
  rw [part73_eq]
  rw [forFrom24]
  simp only [bind_assoc, pure_bind, part74_eq, part75_eq, part76_eq, part77_eq, part78_eq, part79_eq, part80_eq, part81_eq]
  rfl

/-- Sixteen trips one after another. -/
theorem forFrom16.{v} {E : Type → Type v} {σ : Type} (f : Fin 16 → σ → Prog E σ) (a : σ) :
    Scf.forFrom f (List.finRange 16) a = (do
      let a0 ← f 0 a
      let a1 ← f 1 a0
      let a2 ← f 2 a1
      let a3 ← f 3 a2
      let a4 ← f 4 a3
      let a5 ← f 5 a4
      let a6 ← f 6 a5
      let a7 ← f 7 a6
      let a8 ← f 8 a7
      let a9 ← f 9 a8
      let a10 ← f 10 a9
      let a11 ← f 11 a10
      let a12 ← f 12 a11
      let a13 ← f 13 a12
      let a14 ← f 14 a13
      f 15 a14) := by
  have h : List.finRange 16 = [0, 1, 2, 3, 4, 5, 6, 7, 8, 9, 10, 11, 12, 13, 14, 15] := by decide
  simp only [h, Scf.forFrom_cons, Scf.forFrom_nil, ← Prog.pure_eq_ret, bind_pure]

set_option maxRecDepth 65536 in
/-- A trip as printed is the trip written with its loop. -/
theorem trip_eq (i : grid0.Coords) (r : Fin k0_t2_loop.trips) (a : Acc F) : trip i r a = tripLoop i r a := by
  unfold tripLoop
  rw [forFrom16]
  rfl
end Cert.Proof.Kern
end
-- ==== Proof.Kern.Trip.lean ====
module

public import proofs.«01_k».proof.Proof.Kern.Base
public import proofs.«01_k».proof.Proof.Kern.Equal

@[expose] public section

noncomputable section

namespace Cert.Proof.Kern

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

variable (d : Fin nD) (L : grid0.Coords)

/-- The SparseCore and the subcore of a task. -/
abbrev cV (L : grid0.Coords) : Fin τ.nSC := (L 0).castLE hcore0
abbrev jV (L : grid0.Coords) : Fin τ.nSub := (L 1).castLE hsub0

/-- The task's thread. -/
abbrev thr : Thread nD τ := V d (cV L) (jV L)

/-- The five scratch buffers held at given contents. -/
abbrev pS (f : FVec F S16384 .f32) : sProp 𝕄 := (sB : Memref sig .scVector .vmem S16384 .f32).view.loc (thr d L) ↦{fullShare} f
abbrev pT (f : FVec F S16384 .f32) : sProp 𝕄 := (tB : Memref sig .scVector .vmem S16384 .f32).view.loc (thr d L) ↦{fullShare} f
abbrev pL (f : FVec F S4096 .f32) : sProp 𝕄 := (lB : Memref sig .scVector .vmem S4096 .f32).view.loc (thr d L) ↦{fullShare} f
abbrev pH (f : FVec F S256 .f32) : sProp 𝕄 := (hB : Memref sig .scVector .vmem S256 .f32).view.loc (thr d L) ↦{fullShare} f
abbrev pA (f : FVec F S256 .f32) : sProp 𝕄 := (aB : Memref sig .scVector .vmem S256 .f32).view.loc (thr d L) ↦{fullShare} f

/-- A weakest precondition on the task's thread. -/
abbrev wpT {α : Type} (p : TProg F L α) (Q : α → sProp 𝕄) : sProp 𝕄 :=
  wp frame (wpE (defs₀ (F := F)) 𝒱₀ (thr d L) none) Set.univ p Q

/-- A post weakened by a wand. -/
theorem wpT_wand {α : Type} {p : TProg F L α} {Q Q' : α → sProp 𝕄} : wpT d L p Q ⊢ iprop((∀ a, Q a -∗ Q' a) -∗ wpT d L p Q') :=
  wp_wand _ _ _

/-- The lanes' histogram held on its whole is the buffer held. -/
theorem pL_whole (f : FVec F S4096 .f32) :
    (((lB : Memref sig .scVector .vmem S4096 .f32).access (.whole S4096)).loc (thr d L) ↦[((lB : Memref sig .scVector .vmem S4096 .f32).access (.whole S4096)).set]{fullShare} f : sProp 𝕄)
      = pL d L f := by
  rw [show ((lB : Memref sig .scVector .vmem S4096 .f32).access (.whole S4096)).set = Finset.univ from Memref.set_access_whole (cc0_scratch2 : Ref sig .scVector)]

/-- A piece reads sixteen sources and sixteen targets out of the two chunks. -/
def pieceOf (f : FVec F S16384 .f32) (r : Fin k0_t2_loop.trips) (k : Fin 16) : FVec F S16 .f32 :=
  fun x => f ((pieceRect r k).toLoadRect.idx x)

/-- What a piece does: the `k`-th sum taken on, the targets counted, the chunks kept. -/
theorem piece_wp (r : Fin k0_t2_loop.trips) (k : Fin 16) (a : Fin 16 → FVec F S16 .f32) (fs ft : FVec F S16384 .f32) (fl : FVec F S4096 .f32)
    (hc : k0_chk1 (k0_pay653 (pieceOf ft r k))) :
    iprop(pS d L fs ∗ pT d L ft ∗ pL d L fl)
      ⊢ wpT d L (piece L r k a) fun b =>
          iprop(⌜b = fun j => if j = k then k0_pay652 (a k) (pieceOf fs r k) (pieceOf ft r k) else a j⌝ ∗ pS d L fs ∗ pT d L ft
            ∗ pL d L (storeIdx (s := S4096) (e := .f32) fl ![k0_pay653 (pieceOf ft r k)] (k0_pay650 (F := F)) (fun _ => 1#1) true (k0_idx1_inb _ hc))) := by
  unfold piece
  simp only [Prog.lift, Prog.bind_op, Prog.bind_ret]
  iintro ⟨Hs, Ht, Hl⟩
  iapply (wp_load 𝒱₀ (thr d L) none Set.univ (m := (sB : Memref sig .scVector .vmem S16384 .f32)) (S := Finset.univ) (Finset.subset_univ _)) $$ Hs; iintro Hs
  iapply (wp_load 𝒱₀ (thr d L) none Set.univ (m := (tB : Memref sig .scVector .vmem S16384 .f32)) (S := Finset.univ) (Finset.subset_univ _)) $$ Ht; iintro Ht
  rw [wp_assume_of _ _ _ _ (show k0_chk1 (k0_pay653 ((tB : Memref sig .scVector .vmem S16384 .f32).view.readAt (Elt F) (pieceRect r k).toLoadRect ft)) from hc)]
  ihave Hl' := (Entails.of_eq (pL_whole (F := F) d L _).symm) $$ Hl
  iapply (SparseCore.wp_vectorStoreIdx 𝒱₀ (thr d L) none Set.univ (base := (lB : Memref sig .scVector .vmem S4096 .f32))) $$ Hl'; iintro Hl
  ihave Hl' := (Entails.of_eq (pL_whole (F := F) d L _)) $$ Hl
  rw [Prog.pure_eq_ret, wp_ret]
  imodintro
  isplitr; · ipureintro; rfl
  isplitl [Hs]; · iexact Hs
  isplitl [Ht]; · iexact Ht
  iapply (Entails.of_eq (congrArg (pL d L) ?_)) $$ Hl'
  exact (Memref.write_access_whole_univ (Elt F) (cc0_scratch2 : Ref sig .scVector) fl _).trans
    (congrArg (fun g : FVec F S4096 .f32 => storeIdx (s := S4096) (e := .f32) g ![k0_pay653 (pieceOf ft r k)] (k0_pay650 (F := F)) (fun _ => 1#1) true (k0_idx1_inb _ hc))
      (Memref.read_access_whole (Elt F) (cc0_scratch2 : Ref sig .scVector) fl))

/-- Every target is a level: its integer part lies below 256. -/
def Levels (vT : S12582912.Idx → F .f32) : Prop := ∀ j, (FloatOps.fptosi 32 (vT j) : BitVec 32).toNat < 256

/-- A target's place in the lanes' histograms: lane `x` counts in its own 256 words. -/
theorem place_eq {v : FVec F S16 .f32} (hv : ∀ x, (FloatOps.fptosi 32 (v x) : BitVec 32).toNat < 256) (x : S16.Idx) :
    (k0_pay653 v x).toNat = (FloatOps.fptosi 32 (v x) : BitVec 32).toNat + 256 * (x 0).val := by
  have hx : (x 0).val < 16 := (x 0).isLt
  have h := hv x
  show ((FloatOps.fptosi 32 (v x) : BitVec 32) + BitVec.ofNat 32 (0 * 16 + (x 0).val) * 256#32).toNat = _
  rw [BitVec.toNat_add, BitVec.toNat_mul, BitVec.toNat_ofNat, BitVec.toNat_ofNat]
  omega

/-- Targets that are levels index inside their own lanes. -/
theorem chk_of_levels {v : FVec F S16 .f32} (hv : ∀ x, (FloatOps.fptosi 32 (v x) : BitVec 32).toNat < 256) : k0_chk1 (k0_pay653 v) := by
  intro a x
  obtain rfl : a = 0 := Subsingleton.elim _ _
  have hx : (x 0).val < 16 := (x 0).isLt
  have := hv x
  show (k0_pay653 v x).toNat < 4096
  rw [place_eq hv]
  omega

/-- Group `n` of a task's share, the shares being numbered `w`. -/
abbrev grp (f : S12582912.Idx → F .f32) (w n : ℕ) : FVec F S16 .f32 := vecAt f (24576 * w + n)

/-- Piece `k` of trip `r` of chunk `c` is group `1024 c + 16 r + k`. -/
theorem pieceOf_chunk (f : S12582912.Idx → F .f32) (w c : ℕ) (r : Fin k0_t2_loop.trips) (k : Fin 16) :
    pieceOf (chunkAt f (24 * w + c)) r k = grp f w (1024 * c + 16 * r.val + k.val) := by
  funext x
  show f (flat (16384 * (24 * w + c) + ((pieceRect r k).toLoadRect.idx x 0).val)) = f (flat (16 * (24576 * w + (1024 * c + 16 * r.val + k.val)) + (x 0).val))
  rw [LoadRect.idx_apply]
  have : (pieceRect r k).toLoadRect.off 0 = 256 * r.val + 16 * k.val := congrFun (pieceOff_eq r k) 0
  rw [this]
  congr 2
  show _ + (_ + 1 * (x 0).val) = _
  omega

/-- Every sixteen targets index inside their own lanes. -/
theorem levels_grp {vT : S12582912.Idx → F .f32} (h : Levels vT) (w n : ℕ) : k0_chk1 (k0_pay653 (grp vT w n)) :=
  chk_of_levels fun _ => h _

/-- The running sums after one more piece. -/
theorem sums_succ (vs vt : ℕ → FVec F S16 .f32) (n : ℕ) (j : Fin 16) :
    sums vs vt (n + 1) j = if j.val = n % 16 then k0_pay652 (sums vs vt n j) (vs n) (vt n) else sums vs vt n j := rfl

/-- The lanes' histograms after one more piece. -/
theorem counts_succ (vt : ℕ → FVec F S16 .f32) (n : ℕ) {v : FVec F S16 .f32} (hv : v = vt n) (h : k0_chk1 (k0_pay653 v)) :
    counts vt (n + 1)
      = storeIdx (s := S4096) (e := .f32) (counts vt n) ![k0_pay653 v] (k0_pay650 (F := F)) (fun _ => 1#1) true (k0_idx1_inb _ h) := by
  subst hv
  exact dif_pos h

variable (vS vT : S12582912.Idx → F .f32)

/-- Between two pieces of a chunk: `n` groups of the task's share are done. -/
def PInv (w q n : ℕ) (b : Fin 16 → FVec F S16 .f32) : sProp 𝕄 :=
  iprop(⌜b = sums (grp vS w) (grp vT w) n⌝ ∗ pS d L (chunkAt vS q) ∗ pT d L (chunkAt vT q) ∗ pL d L (counts (grp vT w) n))

/-- A piece adds its squared differences to its running sum and its targets to the counts. -/
theorem piece_step (hT : Levels vT) (w c : ℕ) (r : Fin k0_t2_loop.trips) (k : Fin 16) (b : Fin 16 → FVec F S16 .f32) :
    PInv d L vS vT w (24 * w + c) (1024 * c + 16 * r.val + k.val) b
      ⊢ wpT d L (piece L r k b) (PInv d L vS vT w (24 * w + c) (1024 * c + 16 * r.val + (k.val + 1))) := by
  unfold PInv
  iintro ⟨%hb, H⟩
  have hc : k0_chk1 (k0_pay653 (pieceOf (chunkAt vT (24 * w + c)) r k)) := by rw [pieceOf_chunk]; exact levels_grp hT _ _
  iapply (wpT_wand d L) $$ [H]
  · iapply (piece_wp d L r k b _ _ _ hc) $$ H
  iintro %b' ⟨%hb', Hs, Ht, Hl⟩
  isplitr
  · ipureintro
    rw [hb', hb]
    funext j
    have hk : (1024 * c + 16 * r.val + k.val) % 16 = k.val := by have := k.isLt; omega
    rw [← Nat.add_assoc, sums_succ, hk]
    simp only [pieceOf_chunk, Fin.ext_iff]
    split
    · rename_i e; rw [Fin.ext e]
    · rfl
  isplitl [Hs]; · iexact Hs
  isplitl [Ht]; · iexact Ht
  iapply (Entails.of_eq (congrArg (pL d L) ?_)) $$ Hl
  exact (counts_succ _ _ (pieceOf_chunk vT w c r k) hc).symm

/-- A trip: sixteen pieces. -/
theorem trip_step (hT : Levels vT) (w c : ℕ) (r : Fin k0_t2_loop.trips) (a : Acc F) :
    PInv d L vS vT w (24 * w + c) (1024 * c + 16 * r.val) (accAt a)
      ⊢ wpT d L (trip L r a) fun a' => PInv d L vS vT w (24 * w + c) (1024 * c + 16 * (r.val + 1)) (accAt a') := by
  rw [trip_eq]
  unfold tripLoop
  rw [wpT, wp_bind]
  iintro H
  iapply (Scf.wp_forFrom _ _ _ (piece L r) (fun k b => PInv d L vS vT w (24 * w + c) (1024 * c + 16 * r.val + k) b)
    (fun k b => piece_step d L vS vT hT w c r k b) 0 (Nat.zero_le _) (accAt a))
  isplitl [H]; · iexact H
  iintro %b H
  rw [Prog.pure_eq_ret, wp_ret]
  imodintro
  have e : accAt (b 0, b 1, b 2, b 3, b 4, b 5, b 6, b 7, b 8, b 9, b 10, b 11, b 12, b 13, b 14, b 15) = b := by
    funext j; fin_cases j <;> rfl
  rw [e]
  iexact H

end Cert.Proof.Kern
end
-- ==== Proof.Kern.Chunk.lean ====
module

public import proofs.«01_k».proof.Proof.Kern.Trip

@[expose] public section

noncomputable section

namespace Cert.Proof.Kern

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

variable (d : Fin nD) (L : grid0.Coords)
variable (O : CellTallies nD τ sig (HIx 1)) (W : Waits sig (HIx 1))

/-- What the task's thread owes, its waits so far being those it started with and its own copies'. -/
def pO : sProp 𝕄 := iprop(∃ W', ⌜∀ p ∈ W', p ∈ W ∨ p.2 = none⌝ ∗ owes (thr d L) O W')

/-- A copy and its wait: the destination holds what the source reads, the semaphore is at zero again. -/
theorem copy_wp (hO : ∀ g, O g none = 0) {sp sp' : Space} {s : Shape}
    (src : Memref sig (thr d L).2.kind sp s .f32) (dst : Memref sig (thr d L).2.kind sp' s .f32) (sem : DmaSem sig)
    {h1 : src.view.WordExact} {h2 : dst.view.WordExact} {h3 : DmaTarget.Typed (nD := nD) sp (SemLoc.dma sem) (.here dst)} {h4 : src.view.WordExact} {h5 : dst.view.WordExact}
    {α : Type} {k : PUnit → TProg F L α} {Q : α → sProp 𝕄}
    (fs : Buf (Elt F) (src.view.loc (thr d L))) (fd : Buf (Elt F) (dst.view.loc (thr d L))) (hN : 0 < dst.view.dmaCredit) :
    iprop(levAts (K (F := F)).L (K (F := F)).lev ∗ (src.view.loc (thr d L) ↦[src.view.set]{fullShare} fs) ∗ (dst.view.loc (thr d L) ↦[dst.view.set]{fullShare} fd)
        ∗ semVal (thr d L, SemLoc.dma sem) 0 ∗ pO d L O W)
      ⊢ iprop((((src.view.loc (thr d L) ↦[src.view.set]{fullShare} fs)
            ∗ (dst.view.loc (thr d L) ↦[dst.view.set]{fullShare} (dst.view.write (Elt F) fd (src.view.read (Elt F) fs) Finset.univ))
            ∗ semVal (thr d L, SemLoc.dma sem) 0 ∗ pO d L O W) -∗ wpT d L (k ⟨⟩) Q)
          -∗ wpT d L (.op (.enqueueDma src (.here dst) (.dma sem) h1 h2 h3) fun _ => .op (.waitDma2 sem src dst h4 h5) k) Q) := by
  unfold pO
  iintro ⟨#Hlv, Hs, Hd, Hv, %W', %hW, HO⟩ Hk
  iapply (Transfers.wp_dmaLocal countersEmb 𝒱₀ (thr d L) none none dst.view.dmaCredit rfl hN subset_rfl) $$ [Hs Hd Hv]
  · isplitl [Hs]; · iexact Hs
    isplitl [Hd]; · iexact Hd
    iexact Hv
  iintro Hf
  iapply (Transfers.wp_waitLocalO countersEmb 𝒱₀ (thr d L) none none rfl) $$ [Hf HO]
  · isplitl [Hf]; · iexact Hf
    isplitl [HO]; · iexact HO
    iapply ((K (F := F)).mayWait_none (SemLoc.dma sem) hO); iexact Hlv
  iintro ⟨⟨Hd, Hs⟩, Hv, HO⟩
  iapply Hk
  isplitl [Hs]; · iexact Hs
  isplitl [Hd]; · iexact Hd
  isplitl [Hv]; · iexact Hv
  iexists insert (SemLoc.dma sem, none) W'
  isplitr
  · ipureintro
    intro p hp
    rcases Finset.mem_insert.mp hp with rfl | h
    · exact .inr rfl
    · exact hW p h
  · iexact HO

/-- The source buffer held on its whole view is the buffer held. -/
theorem pS_set (f : FVec F S16384 .f32) :
    ((sB : Memref sig .scVector .vmem S16384 .f32).view.loc (thr d L) ↦[(sB : Memref sig .scVector .vmem S16384 .f32).view.set]{fullShare} f : sProp 𝕄) = pS d L f := by
  simp only [Memref.view_whole, View.set_whole]

/-- The target buffer held on its whole view is the buffer held. -/
theorem pT_set (f : FVec F S16384 .f32) :
    ((tB : Memref sig .scVector .vmem S16384 .f32).view.loc (thr d L) ↦[(tB : Memref sig .scVector .vmem S16384 .f32).view.set]{fullShare} f : sProp 𝕄) = pT d L f := by
  simp only [Memref.view_whole, View.set_whole]

/-- A copy into the source buffer pays a positive credit. -/
theorem sB_credit : 0 < (sB : Memref sig .scVector .vmem S16384 .f32).view.dmaCredit := by decide

/-- A copy into the target buffer pays a positive credit. -/
theorem tB_credit : 0 < (tB : Memref sig .scVector .vmem S16384 .f32).view.dmaCredit := by decide

/-- The chunk of the sources, and of the targets, that a task copies in at its `c`-th copy. -/
abbrev srcC (c : Fin 24) : Memref sig .scVector .hbm S16384 .f32 :=
  srcV.slice (Rect.unit (s := S12582912) (k0_off2 L (BitVec.ofNat 32 (16384 * c.val))) S16384.size (k0_off2_inb L c)) (fun _ => rfl)
abbrev tarC (c : Fin 24) : Memref sig .scVector .hbm S16384 .f32 :=
  tarV.slice (Rect.unit (s := S12582912) (k0_off2 L (BitVec.ofNat 32 (16384 * c.val))) S16384.size (k0_off2_inb L c)) (fun _ => rfl)

/-- The task's number. -/
abbrev wid : ℕ := 2 * (L 1).val + (L 0).val

/-- A task's `c`-th chunk starts at chunk `24 * wid + c` of the array. -/
theorem off2_eq (c : Fin 24) : (k0_off2 L (BitVec.ofNat 32 (16384 * c.val))) = ![16384 * (24 * wid L + c.val)] := by
  rw [k0_off2_eq]
  congr 1
  show _ = 16384 * (24 * (2 * (L 1).val + (L 0).val) + c.val)
  omega

/-- A task has a number below 32. -/
theorem wid_lt : wid L < 32 := by
  have h0 : (L 0).val < 2 := (L 0).isLt
  have h1 : (L 1).val < 16 := (L 1).isLt
  show 2 * (L 1).val + (L 0).val < 32
  omega

variable (vS vT : S12582912.Idx → F .f32)

/-- What chunk `c` needs: its sources and targets, and its two semaphores at zero. -/
def chunkRes (c : Fin 24) : sProp 𝕄 :=
  iprop(((srcC L c).view.loc (thr d L) ↦[(srcC L c).view.set]{fullShare} vS) ∗ ((tarC L c).view.loc (thr d L) ↦[(tarC L c).view.set]{fullShare} vT)
    ∗ semVal (thr d L, SemLoc.dma (semN (2 * c.val) (semOk c 0 (by decide))).sem) 0
    ∗ semVal (thr d L, SemLoc.dma (semN (2 * c.val + 1) (semOk c 1 (by decide))).sem) 0)

/-- A task's `c`-th chunk of an array of sources reads the array's chunk `24 * wid + c`. -/
theorem src_read (c : Fin 24) (f : S12582912.Idx → F .f32) : (srcC L c).view.read (Elt F) f = chunkAt f (24 * wid L + c.val) := by
  funext x
  show f (((Rect.unit (s := S12582912) (k0_off2 L (BitVec.ofNat 32 (16384 * c.val))) S16384.size (k0_off2_inb L c))).toLoadRect.idx x) = _
  have hw := wid_lt L
  have hx : (x 0).val < 16384 := (x 0).isLt
  refine congrArg f ((ix_eta _).trans (ix_congr ?_))
  rw [LoadRect.idx_apply]
  have : ((Rect.unit (s := S12582912) (k0_off2 L (BitVec.ofNat 32 (16384 * c.val))) S16384.size (k0_off2_inb L c))).toLoadRect.off 0 = 16384 * (24 * wid L + c.val) := congrFun (off2_eq L c) 0
  rw [this]
  show _ + 1 * (x 0).val = _
  have := c.isLt
  omega

/-- Between two chunks: `c` chunks are done. -/
def CInv (c : ℕ) (a : Acc F) : sProp 𝕄 :=
  iprop(levAts (K (F := F)).L (K (F := F)).lev ∗ ⌜accAt a = sums (grp vS (wid L)) (grp vT (wid L)) (1024 * c)⌝ ∗ (∃ f, pS d L f) ∗ (∃ f, pT d L f)
    ∗ pL d L (counts (grp vT (wid L)) (1024 * c)) ∗ bigSep Finset.univ (chunkRes d L vS vT) ∗ pO d L O W)

/-- A chunk: two copies in, then 64 trips. -/
theorem chunk_step (hO : ∀ g, O g none = 0) (hT : Levels vT) (c : Fin 24) (a : Acc F) :
    CInv d L O W vS vT c.val a ⊢ wpT d L (chunk L c a) (CInv d L O W vS vT (c.val + 1)) := by
  unfold CInv chunk
  simp only [Prog.lift, Prog.bind_op, Prog.bind_ret]
  rw [SparseCore.bigSep_erase' (Finset.mem_univ c)]
  iintro ⟨#Hlv, %ha, ⟨%f0, Hs⟩, ⟨%f1, Ht⟩, Hl, ⟨Hc, Hrest⟩, HO⟩
  unfold chunkRes
  icases Hc with ⟨Hsrc, Htar, Hu, Hv⟩
  ihave Hs' := (Entails.of_eq (pS_set (F := F) d L f0).symm) $$ Hs
  ihave Ht' := (Entails.of_eq (pT_set (F := F) d L f1).symm) $$ Ht
  iapply (copy_wp d L O W hO (srcC L c) sB (semN (2 * c.val) (semOk c 0 (by decide))).sem vS f0 sB_credit) $$ [Hsrc Hs' Hu HO]
  · isplitr; · iexact Hlv
    isplitl [Hsrc]; · iexact Hsrc
    isplitl [Hs']; · iexact Hs'
    isplitl [Hu]; · iexact Hu
    iexact HO
  iintro ⟨Hsrc, Hs', Hu, HO⟩
  iapply (copy_wp d L O W hO (tarC L c) tB (semN (2 * c.val + 1) (semOk c 1 (by decide))).sem vT f1 tB_credit) $$ [Htar Ht' Hv HO]
  · isplitr; · iexact Hlv
    isplitl [Htar]; · iexact Htar
    isplitl [Ht']; · iexact Ht'
    isplitl [Hv]; · iexact Hv
    iexact HO
  iintro ⟨Htar, Ht', Hv, HO⟩
  have es : (sB : Memref sig .scVector .vmem S16384 .f32).view.write (Elt F) f0 ((srcC L c).view.read (Elt F) vS) Finset.univ = chunkAt vS (24 * wid L + c.val) :=
    (View.write_whole_univ _ _ _).trans (src_read L c vS)
  have et : (tB : Memref sig .scVector .vmem S16384 .f32).view.write (Elt F) f1 ((tarC L c).view.read (Elt F) vT) Finset.univ = chunkAt vT (24 * wid L + c.val) :=
    (View.write_whole_univ _ _ _).trans (src_read L c vT)
  ihave Hs := (Entails.of_eq ((pS_set (F := F) d L _).trans (congrArg (pS d L) es))) $$ Hs'
  ihave Ht := (Entails.of_eq ((pT_set (F := F) d L _).trans (congrArg (pT d L) et))) $$ Ht'
  iapply (Scf.wp_for _ _ _ _ _ _ k0_t2_ok a (trip L) (fun r b => PInv d L vS vT (wid L) (24 * wid L + c.val) (1024 * c.val + 16 * r) (accAt b))
    (fun r b => trip_step d L vS vT hT (wid L) c.val r b))
  isplitl [Hs Ht Hl]
  · unfold PInv
    isplitr; · ipureintro; exact ha
    isplitl [Hs]; · iexact Hs
    isplitl [Ht]; · iexact Ht
    iexact Hl
  iintro %b H
  rw [show Scf.trips k0_t2_loop.lb k0_t2_loop.ub k0_t2_loop.st = 64 from trips_eq,
    show 1024 * c.val + 16 * 64 = 1024 * (c.val + 1) by omega]
  unfold PInv
  icases H with ⟨%hb, Hs, Ht, Hl⟩
  isplitr; · iexact Hlv
  isplitr; · ipureintro; exact hb
  isplitl [Hs]; · iexists _; iexact Hs
  isplitl [Ht]; · iexists _; iexact Ht
  isplitl [Hl]; · iexact Hl
  isplitl [Hsrc Htar Hu Hv Hrest]
  · isplitl [Hsrc Htar Hu Hv]
    · isplitl [Hsrc]; · iexact Hsrc
      isplitl [Htar]; · iexact Htar
      isplitl [Hu]; · iexact Hu
      iexact Hv
    · iexact Hrest
  iexact HO

end Cert.Proof.Kern
end
-- ==== Proof.Kern.Finish.lean ====
module

public import proofs.«01_k».proof.Proof.Kern.Chunk

@[expose] public section

noncomputable section

namespace Cert.Proof.Kern

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

variable (d : Fin nD) (L : grid0.Coords)

/-! ## Stores of sixteen elements -/

/-- Sixteen elements stored at `o` are read back there, the others are as before. -/
theorem stored {N : ℕ} (m : Memref sig .scVector .vmem ⟨1, ![N]⟩ .f32) {off : Fin 1 → ℕ} (o : ℕ) (ho : off = ![o])
    (inb : ∀ a, off a + S16.size a ≤ (⟨1, ![N]⟩ : Shape).size a) (f : m.view.ty.Contents (Elt F)) (w : FVec F S16 .f32) (y : Shape.Idx ⟨1, ![N]⟩) :
    m.view.read (Elt F) ((m.access (Rect.unit (s := ⟨1, ![N]⟩) off S16.size inb)).write (Elt F) f w Finset.univ) y
      = if h : o ≤ (y 0).val ∧ (y 0).val < o + 16 then w (ix ((y 0).val - o) (by omega)) else m.view.read (Elt F) f y := by
  subst ho
  split
  · rename_i h
    have e : (Rect.unit (s := ⟨1, ![N]⟩) ![o] S16.size inb).emb (ix ((y 0).val - o) (by omega) : S16.Idx) = y := by
      refine ((ix_eta _).trans (ix_congr (hm := (y 0).isLt) ?_)).trans (ix_eta y).symm
      rw [Rect.emb_apply]
      show o + 1 * ((y 0).val - o) = (y 0).val
      omega
    conv_lhs => rw [← e]
    exact View.read_slice_write_emb _ _ _ (Finset.mem_univ _)
  · rename_i h
    refine View.read_slice_write_of_not_mem _ _ _ _ fun hm => h ?_
    obtain ⟨x, -, rfl⟩ := Finset.mem_map.mp hm
    rw [Rect.emb_apply]
    have hx : (x 0).val < 16 := (x 0).isLt
    show o ≤ o + 1 * (x 0).val ∧ o + 1 * (x 0).val < o + 16
    omega

/-- Sixteen elements of a whole buffer, read at `o`. -/
theorem loaded {N : ℕ} {off : Fin 1 → ℕ} (o : ℕ) (ho : off = ![o]) (inb : ∀ a, off a + S16.size a ≤ (⟨1, ![N]⟩ : Shape).size a)
    (x : S16.Idx) (h : o + (x 0).val < N) : (Rect.unit (s := ⟨1, ![N]⟩) off S16.size inb).toLoadRect.idx x = ix (o + (x 0).val) h := by
  subst ho
  refine (ix_eta _).trans (ix_congr ?_)
  rw [LoadRect.idx_apply]
  show o + 1 * (x 0).val = _
  omega

/-- A store's place is its buffer's. -/
theorem pL_access (r : Rect S4096) (f : FVec F S4096 .f32) : pL d L f = ((lB : Memref sig .scVector .vmem S4096 .f32).access r).loc (thr d L) ↦{fullShare} f := rfl

/-- The buffer of counts held is what a store to a part of it asks for. -/
theorem pH_access (r : Rect S256) (f : FVec F S256 .f32) : pH d L f = ((hB : Memref sig .scVector .vmem S256 .f32).access r).loc (thr d L) ↦{fullShare} f := rfl

/-- The buffer of sums held is what a store to a part of it asks for. -/
theorem pA_access (r : Rect S256) (f : FVec F S256 .f32) : pA d L f = ((aB : Memref sig .scVector .vmem S256 .f32).access r).loc (thr d L) ↦{fullShare} f := rfl

/-! ## Clearing the lanes' histograms -/

/-- The first `16 k` words are cleared. -/
def ZInv (k : ℕ) (_ : Unit) : sProp 𝕄 := iprop(∃ f : FVec F S4096 .f32, ⌜∀ y : S4096.Idx, (y 0).val < 16 * k → f y = counts (F := F) (fun _ => k0_pay649) 0 y⌝ ∗ pL d L f)

/-- A round of the clearing loop clears sixteen more words. -/
theorem zero_step (k : Fin k0_t1_loop.trips) (u : Unit) : ZInv (F := F) d L k.val u ⊢ wpT d L (ztrip L k u) (ZInv d L (k.val + 1)) := by
  unfold ZInv ztrip k0_t1_body
  simp only [Prog.lift, Prog.bind_op, Prog.bind_ret, Prog.pure_eq_ret]
  iintro ⟨%f, %hf, Hl⟩
  iapply (wp_load 𝒱₀ (thr d L) none Set.univ (m := (lB : Memref sig .scVector .vmem S4096 .f32)) (S := Finset.univ) (Finset.subset_univ _)) $$ Hl; iintro Hl
  ihave Hl' := (Entails.of_eq (pL_access (F := F) d L (Rect.unit (s := S4096) (k0_off1 k) S16.size (k0_off1_inb k)) _)) $$ Hl
  iapply (wp_store 𝒱₀ (thr d L) none Set.univ (m := (lB : Memref sig .scVector .vmem S4096 .f32)) (r := (Rect.unit (s := S4096) (k0_off1 k) S16.size (k0_off1_inb k))) (Mk := Finset.univ) (S := Finset.univ) (Finset.subset_univ _)) $$ Hl'; iintro Hl
  rw [wp_ret]
  imodintro
  iexists _
  isplitr
  rotate_left
  · iexact Hl
  ipureintro
  intro y hy
  refine (stored (lB : Memref sig .scVector .vmem S4096 .f32) (16 * k.val) (k0_off1_eq k) (k0_off1_inb k) f k0_pay649 y).trans ?_
  split
  · rfl
  · exact hf y (by omega)

/-! ## Adding the lanes up -/

/-- Piece `k` of lanes 0, …, `n` added up. -/
def lanes (l : FVec F S4096 .f32) (k n : ℕ) : FVec F S16 .f32 := fun x => laneSum l (16 * k + (x 0).val) n

/-- A load from lane `n` of piece `k` reads that lane's counts. -/
theorem lane_wp (k : Fin 16) (n : ℕ) (hn : n < 16) (l : FVec F S4096 .f32) :
    pL d L l ⊢ wpT d L (laneLoad L k n hn) fun v => iprop(⌜∀ x : S16.Idx, v x = l (ix ((256 * n + (16 * k.val + (x 0).val)) % 4096) (Nat.mod_lt _ (by decide)))⌝ ∗ pL d L l) := by
  unfold laneLoad
  simp only [Prog.lift]
  iintro Hl
  iapply (wp_load 𝒱₀ (thr d L) none Set.univ (m := (lB : Memref sig .scVector .vmem S4096 .f32)) (S := Finset.univ) (Finset.subset_univ _)) $$ Hl; iintro Hl
  rw [wp_ret]
  imodintro
  isplitr
  rotate_left
  · iexact Hl
  ipureintro
  intro x
  have hk := k.isLt
  have hx : (x 0).val < 16 := (x 0).isLt
  exact congrArg l ((loaded (N := 4096) (256 * n + 16 * k.val) rfl (lane_inb n hn k) x (by omega)).trans (ix_congr (by omega)))

/-- Adding a lane extends the sum over the lanes by it. -/
theorem lane_step (k : Fin 16) (l : FVec F S4096 .f32) (n : Fin 15) (h : FVec F S16 .f32) :
    iprop(⌜h = lanes l k.val n.val⌝ ∗ pL d L l) ⊢ wpT d L (laneAdd L k n h) fun h' => iprop(⌜h' = lanes l k.val (n.val + 1)⌝ ∗ pL d L l) := by
  unfold laneAdd
  rw [wpT, wp_bind]
  iintro ⟨%hh, Hl⟩
  iapply (wpT_wand d L) $$ [Hl]
  · iapply (lane_wp d L k (n.val + 1) (Nat.succ_lt_succ n.isLt) l) $$ Hl
  iintro %v ⟨%hv, Hl⟩
  rw [Prog.pure_eq_ret, wp_ret]
  imodintro
  isplitr
  · ipureintro
    subst hh
    funext x
    exact congrArg (FloatOps.addf (lanes l k.val n.val x)) (hv x)
  · iexact Hl

/-- The first `16 k` words of the two results are there. -/
def RInv (l : FVec F S4096 .f32) (a : Fin 16 → FVec F S16 .f32) (k : ℕ) (_ : Unit) : sProp 𝕄 :=
  iprop(pL d L l ∗ (∃ f : FVec F S256 .f32, ⌜∀ y : S256.Idx, (y 0).val < 16 * k → f y = histOf l y⌝ ∗ pH d L f)
    ∗ (∃ f : FVec F S256 .f32, ⌜∀ y : S256.Idx, (y 0).val < 16 * k → f y = sumOf a y⌝ ∗ pA d L f))

/-- A piece of the fold writes its sixteen counts and its sixteen sums. -/
theorem reduce_step (l : FVec F S4096 .f32) (a : Acc F) (k : Fin 16) (u : Unit) :
    RInv d L l (accAt a) k.val u ⊢ wpT d L (reduceK L a k u) (RInv d L l (accAt a) (k.val + 1)) := by
  unfold RInv reduceK
  rw [wpT, wp_bind]
  iintro ⟨Hl, ⟨%fh, %hfh, Hh⟩, ⟨%fa, %hfa, Ha⟩⟩
  iapply (wpT_wand d L) $$ [Hl]
  · iapply (lane_wp d L k 0 (Nat.succ_pos 15) l) $$ Hl
  iintro %v ⟨%hv, Hl⟩
  rw [wp_bind]
  iapply (Scf.wp_forFrom _ _ _ (laneAdd L k) (fun n h => iprop(⌜h = lanes l k.val n⌝ ∗ pL d L l)) (fun n h => lane_step d L k l n h) 0 (Nat.zero_le _) v)
  isplitl [Hl]
  · isplitr
    · ipureintro
      funext x
      exact (hv x).trans (congrArg l (ix_congr (by omega)))
    · iexact Hl
  iintro %h ⟨%hh, Hl⟩
  simp only [Prog.lift, Prog.bind_op, Prog.bind_ret, Prog.pure_eq_ret]
  iapply (wp_load 𝒱₀ (thr d L) none Set.univ (m := (hB : Memref sig .scVector .vmem S256 .f32)) (S := Finset.univ) (Finset.subset_univ _)) $$ Hh; iintro Hh
  ihave Hh' := (Entails.of_eq (pH_access (F := F) d L (Rect.unit (s := S256) ![16 * k.val] S16.size (piece_inb k)) _)) $$ Hh
  iapply (wp_store 𝒱₀ (thr d L) none Set.univ (m := (hB : Memref sig .scVector .vmem S256 .f32)) (r := (Rect.unit (s := S256) ![16 * k.val] S16.size (piece_inb k))) (Mk := Finset.univ) (S := Finset.univ) (Finset.subset_univ _)) $$ Hh'; iintro Hh
  iapply (wp_load 𝒱₀ (thr d L) none Set.univ (m := (aB : Memref sig .scVector .vmem S256 .f32)) (S := Finset.univ) (Finset.subset_univ _)) $$ Ha; iintro Ha
  ihave Ha' := (Entails.of_eq (pA_access (F := F) d L (Rect.unit (s := S256) ![16 * k.val] S16.size (piece_inb k)) _)) $$ Ha
  iapply (wp_store 𝒱₀ (thr d L) none Set.univ (m := (aB : Memref sig .scVector .vmem S256 .f32)) (r := (Rect.unit (s := S256) ![16 * k.val] S16.size (piece_inb k))) (Mk := Finset.univ) (S := Finset.univ) (Finset.subset_univ _)) $$ Ha'; iintro Ha
  rw [wp_ret]
  imodintro
  isplitl [Hl]; · iexact Hl
  have hk := k.isLt
  isplitl [Hh]
  · iexists _
    isplitr
    rotate_left
    · iexact Hh
    ipureintro
    intro y hy
    refine (stored (hB : Memref sig .scVector .vmem S256 .f32) (16 * k.val) rfl (piece_inb k) fh h y).trans ?_
    split
    · rename_i hr
      subst hh
      show laneSum l (16 * k.val + ((y 0).val - 16 * k.val)) 15 = laneSum l (y 0).val 15
      rw [Nat.add_sub_cancel' hr.1]
    · exact hfh y (by omega)
  · iexists _
    isplitr
    rotate_left
    · iexact Ha
    ipureintro
    intro y hy
    refine (stored (aB : Memref sig .scVector .vmem S256 .f32) (16 * k.val) rfl (piece_inb k) fa (accAt a k) y).trans ?_
    split
    · rename_i hr
      have e : (⟨(y 0).val / 16, by have : (y 0).val < 256 := (y 0).isLt; omega⟩ : Fin 16) = k := Fin.ext (by show (y 0).val / 16 = k.val; omega)
      unfold sumOf
      rw [e]
      exact congrArg (accAt a k) (ix_congr (by omega))
    · exact hfa y (by omega)

end Cert.Proof.Kern
end
-- ==== Proof.Kern.Tile.lean ====
module

public import proofs.«01_k».proof.Proof.Kern.Finish

@[expose] public section

noncomputable section

namespace Cert.Proof.Kern

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

variable {F : FTy → Type} [FloatOps F] [Named F]

local notation "𝕄" => MT nD τ sig (HIx 1) (Elt F) ℕ UU ℕ

variable (d : Fin nD) (L : grid0.Coords)

/-- Bin `y 1` of task `y 0`'s histogram: the histogram output after all tasks. -/
def histG (vT : S12582912.Idx → F .f32) : S32x256.Idx → F .f32 :=
  fun y => histOf (counts (grp vT (y 0).val) 24576) (ix (y 1).val (y 1).isLt)

/-- The sums' output after all tasks: word `y 1` of task `y 0`. -/
def sumG (vS vT : S12582912.Idx → F .f32) : S32x256.Idx → F .f32 :=
  fun y => sumOf (sums (grp vS (y 0).val) (grp vT (y 0).val) 24576) (ix (y 1).val (y 1).isLt)

/-- Word `p` of row `w`. -/
def ix2 (w p : ℕ) (hw : w < 32) (hp : p < 256) : S32x256.Idx := fun
  | 0 => ⟨w, hw⟩
  | 1 => ⟨p, hp⟩

/-- Word `p` of a task's row of an output is word `p` of row `wid`. -/
theorem row_emb (p : S256.Idx) : (histRow L).view.emb p = ix2 (wid L) (p 0).val (wid_lt L) (p 0).isLt := by
  have e : Shape.reshapeEquiv (squeezes_S1x256_S256.numel_eq) p = (fun | 0 => ⟨0, by decide⟩ | 1 => ⟨(p 0).val, (p 0).isLt⟩ : S1x256.Idx) := by
    apply Shape.reshapeEquiv_eq_of_rowMajor
    rw [Shape.rowMajor_val_two, Shape.rowMajor_val_one]
    show 0 * 256 + (p 0).val = (p 0).val
    omega
  show (Rect.unit (s := S32x256) (k0_off387 L) S1x256.size (k0_off387_inb L)).emb (Shape.reshapeEquiv (squeezes_S1x256_S256.numel_eq) p) = _
  rw [e]
  funext a
  apply Fin.ext
  rw [Rect.emb_apply]
  have h := k0_off387_eq L
  match a with
  | 0 =>
    have : (Rect.unit (s := S32x256) (k0_off387 L) S1x256.size (k0_off387_inb L)).off 0 = wid L := congrFun h 0
    rw [this]
    show wid L + 1 * 0 = wid L
    omega
  | 1 =>
    have : (Rect.unit (s := S32x256) (k0_off387 L) S1x256.size (k0_off387_inb L)).off 1 = 0 := congrFun h 1
    rw [this]
    show 0 + 1 * (p 0).val = (p 0).val
    omega

/-- The task's rows of the two outputs held at given contents of the whole outputs. -/
abbrev pHist (f : S32x256.Idx → F .f32) : sProp 𝕄 := (histRow L).view.loc (thr d L) ↦[(histRow L).view.set]{fullShare} f
abbrev pSum (f : S32x256.Idx → F .f32) : sProp 𝕄 := (sumRow L).view.loc (thr d L) ↦[(sumRow L).view.set]{fullShare} f

/-- A row of counts written over an array is that row held at the array's new contents. -/
theorem pHist_write (f g : S32x256.Idx → F .f32) (w : FVec F S256 .f32) (h : ∀ p : S256.Idx, g (ix2 (wid L) (p 0).val (wid_lt L) (p 0).isLt) = w p) :
    (pHist d L ((histRow L).view.write (Elt F) f w Finset.univ) : sProp 𝕄) = pHist d L g :=
  pointsTo_congr fun i hi => by
    obtain ⟨x, -, rfl⟩ := Finset.mem_map.mp hi
    rw [View.write_emb_of_mem _ _ (Finset.mem_univ _), row_emb, h]
    rfl

/-- A row of sums written over an array is that row held at the array's new contents. -/
theorem pSum_write (f g : S32x256.Idx → F .f32) (w : FVec F S256 .f32) (h : ∀ p : S256.Idx, g (ix2 (wid L) (p 0).val (wid_lt L) (p 0).isLt) = w p) :
    (pSum d L ((sumRow L).view.write (Elt F) f w Finset.univ) : sProp 𝕄) = pSum d L g :=
  pointsTo_congr fun i hi => by
    obtain ⟨x, -, rfl⟩ := Finset.mem_map.mp hi
    rw [View.write_emb_of_mem _ _ (Finset.mem_univ _)]
    refine Eq.trans ?_ (congrArg g (row_emb L x)).symm
    rw [h]
    rfl

/-- The buffer of counts held on its whole view is the buffer held. -/
theorem pH_set (f : FVec F S256 .f32) :
    ((hB : Memref sig .scVector .vmem S256 .f32).view.loc (thr d L) ↦[(hB : Memref sig .scVector .vmem S256 .f32).view.set]{fullShare} f : sProp 𝕄) = pH d L f := by
  simp only [Memref.view_whole, View.set_whole]

/-- The buffer of sums held on its whole view is the buffer held. -/
theorem pA_set (f : FVec F S256 .f32) :
    ((aB : Memref sig .scVector .vmem S256 .f32).view.loc (thr d L) ↦[(aB : Memref sig .scVector .vmem S256 .f32).view.set]{fullShare} f : sProp 𝕄) = pA d L f := by
  simp only [Memref.view_whole, View.set_whole]

/-- A copy to a row of counts pays a positive credit. -/
theorem row_credit : 0 < (histRow L).view.dmaCredit := show 0 < (hB : Memref sig .scVector .vmem S256 .f32).view.dmaCredit by decide

/-- A copy to a row of sums pays a positive credit. -/
theorem srow_credit : 0 < (sumRow L).view.dmaCredit := show 0 < (hB : Memref sig .scVector .vmem S256 .f32).view.dmaCredit by decide

variable (O : CellTallies nD τ sig (HIx 1)) (W : Waits sig (HIx 1)) (vS vT : S12582912.Idx → F .f32)

/-- The counts' semaphore is among the task's. -/
theorem ok48 : 48 + S_.numel ≤ 53 := by decide

/-- The sums' semaphore is among the task's. -/
theorem ok49 : 49 + S_.numel ≤ 53 := by decide

/-- What a task holds of the arrays and of its semaphores, the two outputs' rows at given contents. -/
def taskRes (fh fa : S32x256.Idx → F .f32) : sProp 𝕄 :=
  iprop(bigSep Finset.univ (chunkRes d L vS vT) ∗ pHist d L fh ∗ pSum d L fa
    ∗ semVal (thr d L, SemLoc.dma (semN 48 ok48).sem) 0 ∗ semVal (thr d L, SemLoc.dma (semN 49 ok49).sem) 0)

/-- The five scratch buffers at some contents. -/
def scratch : sProp 𝕄 := iprop((∃ f, pS d L f) ∗ (∃ f, pT d L f) ∗ (∃ f, pL d L f) ∗ (∃ f, pH d L f) ∗ (∃ f, pA d L f))

/-- The task leaves its histogram and its sums in its rows of the outputs. -/
theorem task_wp (hO : ∀ g, O g none = 0) (hT : Levels vT) (fh fa : S32x256.Idx → F .f32) :
    iprop(levAts (K (F := F)).L (K (F := F)).lev ∗ taskRes d L vS vT fh fa ∗ scratch d L ∗ pO d L O W)
      ⊢ wpT d L (task L) fun _ => iprop(taskRes d L vS vT (histG vT) (sumG vS vT) ∗ scratch d L ∗ pO d L O W) := by
  rw [task_eq]
  unfold taskLoop taskRes scratch
  rw [wpT, wp_bind]
  iintro ⟨#Hlv, ⟨Hc, Hrh, Hra, Hu, Hv⟩, ⟨Hs, Ht, ⟨%fl, Hl⟩, Hh, Ha⟩, HO⟩
  -- the histograms cleared
  iapply (Scf.wp_for _ _ _ _ _ _ k0_t1_ok () (ztrip L) (fun k u => ZInv (F := F) d L k u) (fun k u => zero_step d L k u))
  isplitl [Hl]
  · unfold ZInv
    iexists fl
    isplitr
    · ipureintro; intro y hy; exact absurd hy (by omega)
    · iexact Hl
  iintro %u Hz
  unfold ZInv
  icases Hz with ⟨%f0, %h0, Hl⟩
  have e0 : f0 = counts (grp vT (wid L)) 0 := by
    funext y
    refine (h0 y ?_).trans rfl
    have : Scf.trips k0_t1_loop.lb k0_t1_loop.ub k0_t1_loop.st = 256 := by decide +kernel
    rw [this]
    have hy : (y 0).val < 4096 := (y 0).isLt
    omega
  subst e0
  -- the chunks
  rw [wp_bind]
  iapply (Scf.wp_forFrom _ _ _ (chunk L) (fun c a => CInv d L O W vS vT c a) (fun c a => chunk_step d L O W vS vT hO hT c a) 0 (Nat.zero_le _) acc0)
  isplitl [Hc Hs Ht Hl HO]
  · unfold CInv
    isplitr; · iexact Hlv
    isplitr
    · ipureintro; funext j; fin_cases j <;> rfl
    isplitl [Hs]; · iexact Hs
    isplitl [Ht]; · iexact Ht
    isplitl [Hl]; · iexact Hl
    isplitl [Hc]; · iexact Hc
    iexact HO
  iintro %a H
  unfold CInv
  icases H with ⟨-, %ha, Hs, Ht, Hl, Hc, HO⟩
  -- the reductions
  rw [wp_bind]
  iapply (Scf.wp_forFrom _ _ _ (reduceK L a) (fun k u => RInv d L (counts (grp vT (wid L)) (1024 * 24)) (accAt a) k u)
    (fun k u => reduce_step d L _ a k u) 0 (Nat.zero_le _) ())
  icases Hh with ⟨%fh0, Hh⟩
  icases Ha with ⟨%fa0, Ha⟩
  isplitl [Hl Hh Ha]
  · unfold RInv
    isplitl [Hl]; · iexact Hl
    isplitl [Hh]
    · iexists fh0
      isplitr; · ipureintro; intro y hy; exact absurd hy (by omega)
      iexact Hh
    · iexists fa0
      isplitr; · ipureintro; intro y hy; exact absurd hy (by omega)
      iexact Ha
  iintro %u2 H
  unfold RInv
  icases H with ⟨Hl, ⟨%gh, %hgh, Hh⟩, ⟨%ga, %hga, Ha⟩⟩
  -- the rows written out
  unfold writeOut
  simp only [Prog.lift, Prog.bind_op, Prog.bind_ret, Prog.pure_eq_ret]
  ihave Hh' := (Entails.of_eq (pH_set (F := F) d L gh).symm) $$ Hh
  iapply (copy_wp d L O W hO hB (histRow L) (semN 48 ok48).sem gh fh (row_credit L)) $$ [Hh' Hrh Hu HO]
  · isplitr; · iexact Hlv
    isplitl [Hh']; · iexact Hh'
    isplitl [Hrh]; · iexact Hrh
    isplitl [Hu]; · iexact Hu
    iexact HO
  iintro ⟨Hh', Hrh, Hu, HO⟩
  ihave Ha' := (Entails.of_eq (pA_set (F := F) d L ga).symm) $$ Ha
  iapply (copy_wp d L O W hO aB (sumRow L) (semN 49 ok49).sem ga fa (srow_credit L)) $$ [Ha' Hra Hv HO]
  · isplitr; · iexact Hlv
    isplitl [Ha']; · iexact Ha'
    isplitl [Hra]; · iexact Hra
    isplitl [Hv]; · iexact Hv
    iexact HO
  iintro ⟨Ha', Hra, Hv, HO⟩
  ihave Hh := (Entails.of_eq (pH_set (F := F) d L gh)) $$ Hh'
  ihave Ha := (Entails.of_eq (pA_set (F := F) d L ga)) $$ Ha'
  ihave Hrh' := (Entails.of_eq (pHist_write (F := F) d L fh (histG vT) ((hB : Memref sig .scVector .vmem S256 .f32).view.read (Elt F) gh) fun p => by
    have hp : (p 0).val < 256 := (p 0).isLt
    rw [show (hB : Memref sig .scVector .vmem S256 .f32).view.read (Elt F) gh p = gh p from rfl, hgh p (by omega)]
    exact congrArg (histOf _) (ix_eta p).symm)) $$ Hrh
  ihave Hra' := (Entails.of_eq (pSum_write (F := F) d L fa (sumG vS vT) ((aB : Memref sig .scVector .vmem S256 .f32).view.read (Elt F) ga) fun p => by
    have hp : (p 0).val < 256 := (p 0).isLt
    rw [show (aB : Memref sig .scVector .vmem S256 .f32).view.read (Elt F) ga p = ga p from rfl, hga p (by omega), ha]
    exact congrArg (sumOf _) (ix_eta p).symm)) $$ Hra
  rw [wpT, wp_ret]
  imodintro
  isplitl [Hc Hrh' Hra' Hu Hv]
  · isplitl [Hc]; · iexact Hc
    isplitl [Hrh']; · iexact Hrh'
    isplitl [Hra']; · iexact Hra'
    isplitl [Hu]; · iexact Hu
    iexact Hv
  isplitr [HO]
  · isplitl [Hs]; · iexact Hs
    isplitl [Ht]; · iexact Ht
    isplitl [Hl]; · iexists _; iexact Hl
    isplitl [Hh]; · iexists _; iexact Hh
    iexists _; iexact Ha
  iexact HO

end Cert.Proof.Kern
end
-- ==== Proof.Kern.Task.lean ====
module

public import proofs.«01_k».proof.Proof.Kern.Tile

@[expose] public section

noncomputable section

namespace Cert.Proof.Kern

open Cert.KernelIdeal Cert.KernelIdeal.Gen
open Idealize.ShloMosaic
open Idealize.ShloMosaic.SparseCore (S V T)
open Idealize.ShloMosaic.SparseCore.Cfg (HIx Pay mem_ownCells ownSems0 ownBufs ownCells ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

variable (d : Fin nD) (L : grid0.Coords)

/-! ## A task's semaphores among its thread's own -/

abbrev cellN (n : ℕ) (h : n + S_.numel ≤ 53) : GSem nD τ sig := (thr d L, SemLoc.dma (semN n h).sem)

/-- Two of a task's cells are the same only at the same number. -/
theorem cellN_inj {n k : ℕ} {h : n + S_.numel ≤ 53} {h' : k + S_.numel ≤ 53} (e : cellN d L n h = cellN d L k h') : n = k := by
  have e2 : (semN n h).sem = (semN k h').sem := SemLoc.dma.inj (Prod.mk.inj e).2
  exact congrArg Fin.val e2

abbrev cellE (c : Fin 24) : GSem nD τ sig := cellN d L (2 * c.val) (semOk c 0 (by decide))
abbrev cellO (c : Fin 24) : GSem nD τ sig := cellN d L (2 * c.val + 1) (semOk c 1 (by decide))

/-- The fifty cells a task uses. -/
def taskCells : Finset (GSem nD τ sig) :=
  (Finset.univ.image (cellE d L) ∪ Finset.univ.image (cellO d L)) ∪ {cellN d L 48 ok48, cellN d L 49 ok49}

/-- The first fifty semaphores are a task's own. -/
theorem scoped_lt : ∀ n : Fin 50, (SemLoc.dma (⟨n.val, Nat.lt_trans n.isLt (by decide)⟩ : DmaSem sig) : SemLoc sig).isScoped .scVector = true := by decide

/-- A semaphore of the task is its thread's own. -/
theorem cellN_own (n : ℕ) (h : n + S_.numel ≤ 53) (hn : n < 50) : cellN d L n h ∈ (ownCells (thr d L) : Finset (GSem nD τ sig)) :=
  mem_ownCells.mpr ⟨rfl, scoped_lt ⟨n, hn⟩⟩

/-- All the task's semaphores are its thread's own. -/
theorem taskCells_sub : taskCells d L ⊆ (ownCells (thr d L) : Finset (GSem nD τ sig)) := by
  intro g hg
  unfold taskCells at hg
  rcases Finset.mem_union.mp hg with hg | hg
  · rcases Finset.mem_union.mp hg with hg | hg <;> obtain ⟨c, -, rfl⟩ := Finset.mem_image.mp hg
    · exact cellN_own d L _ _ (by have := c.isLt; omega)
    · exact cellN_own d L _ _ (by have := c.isLt; omega)
  · rcases Finset.mem_insert.mp hg with rfl | hg
    · exact cellN_own d L _ _ (by decide)
    · rw [Finset.mem_singleton.mp hg]; exact cellN_own d L _ _ (by decide)

/-- The sources' semaphores are distinct. -/
theorem cellE_inj : Set.InjOn (cellE d L) ((Finset.univ : Finset (Fin 24)) : Set (Fin 24)) := fun a _ b _ e => by
  have h : 2 * a.val = 2 * b.val := cellN_inj d L e
  exact Fin.ext (by omega)

/-- The targets' semaphores are distinct. -/
theorem cellO_inj : Set.InjOn (cellO d L) ((Finset.univ : Finset (Fin 24)) : Set (Fin 24)) := fun a _ b _ e => by
  have h : 2 * a.val + 1 = 2 * b.val + 1 := cellN_inj d L e
  exact Fin.ext (by omega)

/-- The sources' and the targets' semaphores are apart. -/
theorem cells_disj : Disjoint (Finset.univ.image (cellE d L)) (Finset.univ.image (cellO d L)) :=
  Finset.disjoint_left.mpr fun g h1 h2 => by
    obtain ⟨a, -, rfl⟩ := Finset.mem_image.mp h1
    obtain ⟨b, -, e⟩ := Finset.mem_image.mp h2
    have h : 2 * b.val + 1 = 2 * a.val := cellN_inj d L e
    omega

/-- The chunks' semaphores are the first 48. -/
theorem cells_lt (g : GSem nD τ sig) (hg : g ∈ Finset.univ.image (cellE d L) ∪ Finset.univ.image (cellO d L)) : ∃ n h, n < 48 ∧ g = cellN d L n h := by
  rcases Finset.mem_union.mp hg with h | h <;> obtain ⟨a, -, rfl⟩ := Finset.mem_image.mp h
  · exact ⟨2 * a.val, semOk a 0 (by decide), by have := a.isLt; omega, rfl⟩
  · exact ⟨2 * a.val + 1, semOk a 1 (by decide), by have := a.isLt; omega, rfl⟩

/-- The chunks' semaphores and the rows' are apart. -/
theorem cells_disj' : Disjoint (Finset.univ.image (cellE d L) ∪ Finset.univ.image (cellO d L)) {cellN d L 48 ok48, cellN d L 49 ok49} :=
  Finset.disjoint_left.mpr fun g h1 h2 => by
    obtain ⟨n, h, hn, rfl⟩ := cells_lt d L g h1
    rcases Finset.mem_insert.mp h2 with e | e
    · have h : n = 48 := cellN_inj d L e
      omega
    · have h : n = 49 := cellN_inj d L (Finset.mem_singleton.mp e)
      omega

/-- The two rows' semaphores are apart. -/
theorem cell48 : cellN d L 48 ok48 ∉ ({cellN d L 49 ok49} : Finset (GSem nD τ sig)) := fun h => by
  have h : 48 = 49 := cellN_inj d L (Finset.mem_singleton.mp h)
  omega

/-- A thread's own semaphores at zero: the fifty and the rest. -/
theorem ownSems0_eq :
    (ownSems0 (thr d L) : sProp 𝕄) = iprop((((bigSep Finset.univ fun c => semVal (cellE d L c) 0) ∗ bigSep Finset.univ fun c => semVal (cellO d L c) 0)
      ∗ semVal (cellN d L 48 ok48) 0 ∗ semVal (cellN d L 49 ok49) 0) ∗ bigSep ((ownCells (thr d L)) \ taskCells d L) fun g => semVal g 0) := by
  unfold SparseCore.Cfg.ownSems0
  rw [SparseCore.bigSep_sdiff_split' (taskCells_sub d L)]
  refine congrArg (fun A : sProp 𝕄 => iprop(A ∗ bigSep ((ownCells (thr d L)) \ taskCells d L) fun g => semVal g 0)) ?_
  unfold taskCells
  rw [SparseCore.bigSep_union' (cells_disj' d L), SparseCore.bigSep_union' (cells_disj d L), SparseCore.bigSep_image_of_injOn (cellE_inj d L),
    SparseCore.bigSep_image_of_injOn (cellO_inj d L), SparseCore.bigSep_insert' (cell48 d L), bigSep_singleton]

/-! ## A task's scratch among its thread's own buffers -/

abbrev ref (b : Ref sig .scVector) : DevRef τ sig := (Proc.scVector (cV L) (jV L) : Proc τ).devRef b

/-- The five scratch buffers. -/
def taskRefs : Finset (DevRef τ sig) := ({cc0_scratch0, cc0_scratch1, cc0_scratch2, cc0_scratch3, cc0_scratch4} : Finset (Ref sig .scVector)).image (ref L)

/-- The task's buffers are its thread's own. -/
theorem taskRefs_sub : taskRefs L ⊆ (ownRefs (thr d L).2 : Finset (DevRef τ sig)) := by
  intro b hb
  obtain ⟨r, hr, rfl⟩ := Finset.mem_image.mp hb
  simp only [Finset.mem_insert, Finset.mem_singleton] at hr
  rcases hr with rfl | rfl | rfl | rfl | rfl <;>
    exact SparseCore.Cfg.mem_ownRefs_of_owner (p := Proc.scVector (cV L) (jV L)) rfl

/-- A thread's own buffers: the five scratch buffers and the rest. -/
theorem ownBufs_eq :
    (ownBufs (thr d L) : sProp 𝕄) = iprop(scratch (F := F) d L ∗ bigSep (ownRefs (thr d L).2 \ taskRefs L) fun b => iprop(∃ f, ((d, b) : Loc nD τ sig) ↦{fullShare} f)) := by
  unfold SparseCore.Cfg.ownBufs
  rw [SparseCore.bigSep_sdiff_split' (taskRefs_sub d L)]
  refine congrArg (fun A : sProp 𝕄 => iprop(A ∗ bigSep (ownRefs (thr d L).2 \ taskRefs L) fun b => iprop(∃ f, ((d, b) : Loc nD τ sig) ↦{fullShare} f))) ?_
  unfold taskRefs scratch
  rw [SparseCore.bigSep_image_of_injOn (f := ref L) (fun a _ b _ e => Proc.devRef_injective _ e), SparseCore.bigSep_insert' (by decide), SparseCore.bigSep_insert' (by decide),
    SparseCore.bigSep_insert' (by decide), SparseCore.bigSep_insert' (by decide), bigSep_singleton]
  rfl

/-! ## The task as the launch runs it -/

variable (O : CellTallies nD τ sig (HIx 1)) (W : Waits sig (HIx 1)) (vS vT : S12582912.Idx → F .f32)

/-- A task's share of the arrays, the outputs' rows at given contents. -/
def arrRes (fh fa : S32x256.Idx → F .f32) : sProp 𝕄 :=
  iprop((bigSep Finset.univ fun c : Fin 24 => (srcC L c).view.loc (thr d L) ↦[(srcC L c).view.set]{fullShare} vS)
    ∗ (bigSep Finset.univ fun c : Fin 24 => (tarC L c).view.loc (thr d L) ↦[(tarC L c).view.set]{fullShare} vT) ∗ pHist d L fh ∗ pSum d L fa)

/-- A task's share, spelt out. -/
theorem taskRes_eq (fh fa : S32x256.Idx → F .f32) :
    (taskRes d L vS vT fh fa : sProp 𝕄) = iprop(((bigSep Finset.univ fun c : Fin 24 => (srcC L c).view.loc (thr d L) ↦[(srcC L c).view.set]{fullShare} vS)
      ∗ (bigSep Finset.univ fun c : Fin 24 => (tarC L c).view.loc (thr d L) ↦[(tarC L c).view.set]{fullShare} vT)
      ∗ (bigSep Finset.univ fun c => semVal (cellE d L c) 0) ∗ (bigSep Finset.univ fun c => semVal (cellO d L c) 0))
      ∗ pHist d L fh ∗ pSum d L fa ∗ semVal (cellN d L 48 ok48) 0 ∗ semVal (cellN d L 49 ok49) 0) := by
  unfold taskRes chunkRes
  rw [bigSep_sep', bigSep_sep', bigSep_sep']

/-- The task from its arrays and its thread's own storage, handing all of it back. -/
theorem tile_body (hO : ∀ g, O g none = 0) (hT : Levels vT) (fh fa : S32x256.Idx → F .f32) :
    iprop(levAts (K (F := F)).L (K (F := F)).lev ∗ iprop(emp) ∗ arrRes d L vS vT fh fa
        ∗ scopedBufs (thr d L) ∗ scopedSems0 (thr d L) ∗ owes (thr d L) O W)
      ⊢ wpT d L (task L) fun _ => iprop(arrRes d L vS vT (histG vT) (sumG vS vT) ∗ scopedBufs (thr d L) ∗ scopedSems0 (thr d L) ∗ pO d L O W) := by
  rw [(K (F := F)).scopedBufs_V facts d (cV L) (jV L), SparseCore.Cfg.scopedSems0_V (Val := Elt F) d (cV L) (jV L)]
  rw [show (ownSems0 (V d (cV L) (jV L)) : sProp 𝕄) = _ from ownSems0_eq d L, show (ownBufs (V d (cV L) (jV L)) : sProp 𝕄) = _ from ownBufs_eq d L]
  unfold arrRes
  iintro ⟨#Hlv, -, ⟨Hs, Ht, Hh, Ha⟩, ⟨Hsc, Hbufs⟩, ⟨⟨⟨He, Ho⟩, Hu, Hv⟩, Hsems⟩, HO⟩
  ihave Hwp := (task_wp d L O W vS vT hO hT fh fa) $$ [Hs Ht Hh Ha Hsc He Ho Hu Hv HO]
  · isplitr; · iexact Hlv
    isplitl [Hs Ht Hh Ha He Ho Hu Hv]
    · rw [taskRes_eq]
      isplitl [Hs Ht He Ho]
      · isplitl [Hs]; · iexact Hs
        isplitl [Ht]; · iexact Ht
        isplitl [He]; · iexact He
        iexact Ho
      isplitl [Hh]; · iexact Hh
      isplitl [Ha]; · iexact Ha
      isplitl [Hu]; · iexact Hu
      iexact Hv
    isplitl [Hsc]; · iexact Hsc
    unfold pO
    iexists W
    isplitr; · ipureintro; exact fun p hp => Or.inl hp
    iexact HO
  iapply (wpT_wand d L) $$ Hwp
  iintro %a ⟨HR, Hsc, HO⟩
  ihave HR := (Entails.of_eq (taskRes_eq d L vS vT _ _)) $$ HR
  icases HR with ⟨⟨Hs, Ht, He, Ho⟩, Hh, Ha, Hu, Hv⟩
  isplitl [Hs Ht Hh Ha]
  · isplitl [Hs]; · iexact Hs
    isplitl [Ht]; · iexact Ht
    isplitl [Hh]; · iexact Hh
    iexact Ha
  isplitl [Hsc Hbufs]
  · isplitl [Hsc]; · iexact Hsc
    iexact Hbufs
  isplitl [He Ho Hu Hv Hsems]
  · isplitl [He Ho Hu Hv]
    · isplitl [He Ho]
      · isplitl [He]; · iexact He
        iexact Ho
      isplitl [Hu]; · iexact Hu
      iexact Hv
    iexact Hsems
  iexact HO

end Cert.Proof.Kern
end
-- ==== Proof.Kern.Split.lean ====
module

public import proofs.«01_k».proof.Proof.Kern.Task

@[expose] public section

noncomputable section

namespace Cert.Proof.Kern

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

/-! ## The arrays divided among the tasks -/

abbrev srcLoc (d : Dev nD) : Loc nD τ sig := (SparseCore.T d).loc main_v0
abbrev tarLoc (d : Dev nD) : Loc nD τ sig := (SparseCore.T d).loc main_v1
abbrev histLoc (d : Dev nD) : Loc nD τ sig := (SparseCore.T d).loc main_v2_0
abbrev sumLoc (d : Dev nD) : Loc nD τ sig := (SparseCore.T d).loc main_v2_1

/-- The coordinates of task `i` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- A task's number from its coordinates. -/
theorem wid_coords (c : Fin (grid0.bound 0)) (s : Fin (grid0.bound 1)) : wid (coordsV c s) = 2 * s.val + c.val := rfl

section Sets

variable (L : grid0.Coords)

/-- The elements of a task's `c`-th chunk. -/
theorem srcC_emb (c : Fin 24) (x : S16384.Idx) : (srcC L c).view.emb x = ix (16384 * (24 * wid L + c.val) + (x 0).val)
    (by have := wid_lt L; have := c.isLt; have hx : (x 0).val < 16384 := (x 0).isLt; omega) := by
  refine (ix_eta _).trans (ix_congr ?_)
  show ((Rect.unit (s := S12582912) (k0_off2 L (BitVec.ofNat 32 (16384 * c.val))) S16384.size (k0_off2_inb L c)).emb x 0).val = _
  rw [Rect.emb_apply]
  have : (Rect.unit (s := S12582912) (k0_off2 L (BitVec.ofNat 32 (16384 * c.val))) S16384.size (k0_off2_inb L c)).off 0 = 16384 * (24 * wid L + c.val) := congrFun (off2_eq L c) 0
  rw [this]
  show _ + 1 * (x 0).val = _
  omega

/-- The elements of chunk `c` of a task. -/
theorem mem_src (c : Fin 24) (y : S12582912.Idx) : y ∈ (srcC L c).view.set ↔ (y 0).val / 16384 = 24 * wid L + c.val := by
  constructor
  · intro h
    obtain ⟨x, -, rfl⟩ := Finset.mem_map.mp h
    rw [srcC_emb]
    have hx : (x 0).val < 16384 := (x 0).isLt
    show (16384 * (24 * wid L + c.val) + (x 0).val) / 16384 = _
    omega
  · intro h
    have hy : (y 0).val < 12582912 := (y 0).isLt
    refine Finset.mem_map.mpr ⟨ix ((y 0).val % 16384) (Nat.mod_lt _ (by decide)), Finset.mem_univ _, ?_⟩
    rw [srcC_emb]
    refine Eq.trans (ix_congr ?_) (ix_eta y).symm
    show 16384 * (24 * wid L + c.val) + (y 0).val % 16384 = _
    omega

/-- A task's row of the histogram output. -/
theorem mem_hist (y : S32x256.Idx) : y ∈ (histRow L).view.set ↔ (y 0).val = wid L := by
  constructor
  · intro h
    obtain ⟨x, -, rfl⟩ := Finset.mem_map.mp h
    rw [row_emb]
    rfl
  · intro h
    refine Finset.mem_map.mpr ⟨ix (y 1).val (y 1).isLt, Finset.mem_univ _, ?_⟩
    rw [row_emb]
    funext a
    match a with
    | 0 => exact Fin.ext h.symm
    | 1 => rfl

end Sets

abbrev Tasks : Type := Fin 2 × Fin 16
abbrev coord (t : Tasks) : grid0.Coords := coordsV t.1 t.2

/-- A task's number from its pair. -/
theorem wid_coord (t : Tasks) : wid (coord t) = 2 * t.2.val + t.1.val := rfl

/-- An array held whole is held piece by piece, its elements sorted by a key. -/
theorem cut_eq {J : Type} [Fintype J] [DecidableEq J] (ℓ : Loc nD τ sig) (I : J → Finset (Idx ℓ)) (key : Idx ℓ → J) (hI : ∀ j y, y ∈ I j ↔ key y = j)
    (f : Buf (Elt F) ℓ) : (ℓ ↦{fullShare} f : sProp 𝕄) = bigSep Finset.univ fun j : J => ℓ ↦[I j]{fullShare} f := by
  rw [← pointsTo_biUnion Finset.univ (ℓ := ℓ) I (fun a _ b _ h => Finset.disjoint_left.mpr fun y h1 h2 => h (((hI a y).mp h1).symm.trans ((hI b y).mp h2)))]
  congr 1
  exact (Finset.eq_univ_iff_forall.mpr fun y => Finset.mem_biUnion.mpr ⟨key y, Finset.mem_univ _, (hI _ y).mpr rfl⟩).symm

/-- Which task reads chunk `q`, and which of its chunks it is. -/
def chunkKey (q : ℕ) : Tasks × Fin 24 :=
  ((⟨q / 24 % 2, Nat.mod_lt _ (by decide)⟩, ⟨q / 48 % 16, Nat.mod_lt _ (by decide)⟩), ⟨q % 24, Nat.mod_lt _ (by decide)⟩)
/-- Which task writes row `w`. -/
def rowKey (w : ℕ) : Tasks := (⟨w % 2, Nat.mod_lt _ (by decide)⟩, ⟨w / 2 % 16, Nat.mod_lt _ (by decide)⟩)

/-- The key of a chunk's number is the task and the copy that take it. -/
theorem chunkKey_iff (q : ℕ) (hq : q < 768) (j : Tasks × Fin 24) : q = 24 * wid (coord j.1) + j.2.val ↔ chunkKey q = j := by
  obtain ⟨⟨⟨a, ha⟩, ⟨b, hb⟩⟩, ⟨c, hc⟩⟩ := j
  rw [wid_coord]
  simp only [chunkKey, Prod.mk.injEq, Fin.mk.injEq]
  omega

/-- The key of a row's number is the task that writes it. -/
theorem rowKey_iff (w : ℕ) (hw : w < 32) (j : Tasks) : w = wid (coord j) ↔ rowKey w = j := by
  obtain ⟨⟨a, ha⟩, ⟨b, hb⟩⟩ := j
  rw [wid_coord]
  simp only [rowKey, Prod.mk.injEq, Fin.mk.injEq]
  omega

variable (d : Dev nD)

/-- The sources, divided among the tasks' chunks. -/
theorem src_cut (f : Buf (Elt F) (srcLoc d)) : (srcLoc d ↦{fullShare} f : sProp 𝕄)
    = bigSep Finset.univ fun t : Tasks => bigSep Finset.univ fun c : Fin 24 =>
        (srcC (coord t) c).view.loc (thr d (coord t)) ↦[(srcC (coord t) c).view.set]{fullShare} f := by
  rw [cut_eq (srcLoc d) (fun j : Tasks × Fin 24 => (srcC (coord j.1) j.2).view.set) (fun y => chunkKey ((y 0).val / 16384)) (fun j y => by
    have hy : ((y : S12582912.Idx) 0).val < 12582912 := ((y : S12582912.Idx) 0).isLt
    exact (mem_src (coord j.1) j.2 y).trans (chunkKey_iff _ (by omega) j)) f, ← Finset.univ_product_univ, SparseCore.bigSep_product]

/-- The targets, divided among the tasks' chunks. -/
theorem tar_cut (f : Buf (Elt F) (tarLoc d)) : (tarLoc d ↦{fullShare} f : sProp 𝕄)
    = bigSep Finset.univ fun t : Tasks => bigSep Finset.univ fun c : Fin 24 =>
        (tarC (coord t) c).view.loc (thr d (coord t)) ↦[(tarC (coord t) c).view.set]{fullShare} f := by
  rw [cut_eq (tarLoc d) (fun j : Tasks × Fin 24 => (tarC (coord j.1) j.2).view.set) (fun y => chunkKey ((y 0).val / 16384)) (fun j y => by
    have hy : ((y : S12582912.Idx) 0).val < 12582912 := ((y : S12582912.Idx) 0).isLt
    exact (mem_src (coord j.1) j.2 y).trans (chunkKey_iff _ (by omega) j)) f, ← Finset.univ_product_univ, SparseCore.bigSep_product]

/-- The histograms' output, divided among the tasks' rows. -/
theorem hist_cut (f : Buf (Elt F) (histLoc d)) : (histLoc d ↦{fullShare} f : sProp 𝕄) = bigSep Finset.univ fun t : Tasks => pHist d (coord t) f :=
  cut_eq (histLoc d) (fun j : Tasks => (histRow (coord j)).view.set) (fun y => rowKey (y 0).val) (fun j y =>
    (mem_hist (coord j) y).trans (rowKey_iff _ ((y : S32x256.Idx) 0).isLt j)) f

/-- The sums' output, divided among the tasks' rows. -/
theorem sum_cut (f : Buf (Elt F) (sumLoc d)) : (sumLoc d ↦{fullShare} f : sProp 𝕄) = bigSep Finset.univ fun t : Tasks => pSum d (coord t) f :=
  cut_eq (sumLoc d) (fun j : Tasks => (sumRow (coord j)).view.set) (fun y => rowKey (y 0).val) (fun j y =>
    (mem_hist (coord j) y).trans (rowKey_iff _ ((y : S32x256.Idx) 0).isLt j)) f

/-- The four arrays whole are the tasks' shares of them. -/
theorem arrays_cut (vS vT : S12582912.Idx → F .f32) (fh fa : S32x256.Idx → F .f32) :
    (iprop((srcLoc d ↦{fullShare} vS) ∗ (tarLoc d ↦{fullShare} vT) ∗ (histLoc d ↦{fullShare} fh) ∗ sumLoc d ↦{fullShare} fa) : sProp 𝕄)
      = bigSep Finset.univ fun c : Fin 2 => bigSep Finset.univ fun s : Fin 16 => arrRes d (coordsV c s) vS vT fh fa := by
  rw [← SparseCore.bigSep_product Finset.univ Finset.univ (fun t : Tasks => (arrRes d (coordsV t.1 t.2) vS vT fh fa : sProp 𝕄)), Finset.univ_product_univ]
  unfold arrRes
  rw [bigSep_sep', bigSep_sep', bigSep_sep', src_cut, tar_cut, hist_cut, sum_cut]

end Cert.Proof.Kern
end
-- ==== Proof.Kern.Region.lean ====
module

public import proofs.«01_k».proof.Proof.Kern.Split
public import proofs.«01_k».proof.Proof.Gen.KernelIdeal.Launch
public import proofs.«01_k».proof.Proof.Gen.KernelIdeal.Points
public import Idealize.ShloMosaic.Lib.Pipeline.RegionArrays

@[expose] public section

noncomputable section

namespace Cert.Proof.Kern

open Cert.KernelIdeal Cert.KernelIdeal.Gen
open Idealize.ShloMosaic Idealize.ShloMosaic.Tactic
open Idealize.ShloMosaic.TcCoe
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig (HIx 1) (Elt F) ℕ UU ℕ

/-! ## The combining kernel -/

/-- A whole buffer of the TensorCore. -/
abbrev ptc (c : Dev nD) {sp : Space} {s : Shape} {e : EltTy} (M : Memref sig .tc sp s e) (f : Buf (Elt F) (M.view.loc (c : Thread nD τ))) : sProp 𝕄 :=
  M.view.loc (c : Thread nD τ) ↦{fullShare} f

/-- The offsets are zero. -/
theorem off_zero : (![0, 0] : Fin 2 → ℕ) = fun _ => 0 := by decide

/-- A load of the whole of a staged block reads its contents, -/
theorem read0 (f : S32x256.Idx → F .f32) :
    (win1_0.stage 0).view.readAt (Elt F) (Rect.unit (s := S32x256) ![0, 0] S32x256.size inb_S32x256_S32x256_0_0).toLoadRect f = f :=
  Memref.readAt_unit_zero (Elt F) cc1_stg0_0 off_zero inb_S32x256_S32x256_0_0 f

/-- also for the sums. -/
theorem read1 (f : S32x256.Idx → F .f32) :
    (win1_1.stage 0).view.readAt (Elt F) (Rect.unit (s := S32x256) ![0, 0] S32x256.size inb_S32x256_S32x256_0_0).toLoadRect f = f :=
  Memref.readAt_unit_zero (Elt F) cc1_stg1_0 off_zero inb_S32x256_S32x256_0_0 f

/-- and a store over the whole of it leaves what is stored. -/
theorem write2 (f w : S1x1.Idx → F .f32) :
    ((win1_2.stage 0).access (Rect.unit (s := S1x1) ![0, 0] S1x1.size inb_S1x1_S1x1_0_0)).write (Elt F) f w Finset.univ = w :=
  Memref.write_access_unit_zero_univ (Elt F) cc1_stg2_0 off_zero inb_S1x1_S1x1_0_0 f w

/-- The staged output held is what a store to the whole of it asks for. -/
theorem access2 (c : Dev nD) (f : S1x1.Idx → F .f32) : ptc c (win1_2.stage 0) f
    = (((win1_2.stage 0).access (Rect.unit (s := S1x1) ![0, 0] S1x1.size inb_S1x1_S1x1_0_0)).loc (c : Thread nD τ) ↦{fullShare} f : sProp 𝕄) := rfl

/-- The combining kernel on its three staged blocks leaves the loss in the third. -/
theorem combine_run (c : Dev nD) (fh fa : S32x256.Idx → F .f32) (fo : S1x1.Idx → F .f32) (Q : PUnit → sProp 𝕄) :
    iprop(ptc c (win1_0.stage 0) fh ∗ ptc c (win1_1.stage 0) fa ∗ ptc c (win1_2.stage 0) fo
        ∗ (iprop(ptc c (win1_0.stage 0) fh ∗ ptc c (win1_1.stage 0) fa ∗ ptc c (win1_2.stage 0) (k1_pay1 fh fa)) -∗ Q ⟨⟩))
      ⊢ wp frame (wpE (defs₀ (F := F)) 𝒱₀ (c : Thread nD τ) none) Set.univ
          (cc1__combine_body (win1_0.stage 0) (hstage1_0 0) (win1_1.stage 0) (hstage1_1 0) (win1_2.stage 0) (hstage1_2 0)) Q := by
  rw [cc1__combine_body_eq_skeleton]
  unfold cc1__combine_body_skel
  simp only [Prog.lift, Prog.bind_op, Prog.bind_ret, Prog.pure_eq_ret]
  iintro ⟨H0, H1, H2, Hk⟩
  iapply (wp_load 𝒱₀ (c : Thread nD τ) none Set.univ (m := win1_0.stage 0) (S := Finset.univ) (Finset.subset_univ _)) $$ H0; iintro H0
  iapply (wp_load 𝒱₀ (c : Thread nD τ) none Set.univ (m := win1_1.stage 0) (S := Finset.univ) (Finset.subset_univ _)) $$ H1; iintro H1
  iapply (wp_load 𝒱₀ (c : Thread nD τ) none Set.univ (m := win1_2.stage 0) (S := Finset.univ) (Finset.subset_univ _)) $$ H2; iintro H2
  ihave H2' := (Entails.of_eq (access2 (F := F) c fo)) $$ H2
  iapply (wp_store 𝒱₀ (c : Thread nD τ) none Set.univ (m := win1_2.stage 0) (r := (Rect.unit (s := S1x1) ![0, 0] S1x1.size inb_S1x1_S1x1_0_0)) (Mk := Finset.univ) (S := Finset.univ) (Finset.subset_univ _)) $$ H2'; iintro H2
  rw [read0, read1, write2, wp_ret]
  imodintro
  iapply Hk
  isplitl [H0]; · iexact H0
  isplitl [H1]; · iexact H1
  iexact H2

/-! ## The call's proof data -/

/-- The loss's array. -/
abbrev outLoc (d : Dev nD) : Loc nD τ sig := (SparseCore.T d).loc main_v3

variable (H A : Dev nD → FVec F S32x256 .f32) (O : Dev nD → FVec F S1x1 .f32)

/-- The combining call on the histogram and the sums: its windows hold them, the loss is left in the result's; the
    core goes on owing what it owed, and has waited on nothing of a higher level than before. -/
def dat (c : Dev nD) : Dat τ (Elt F) (HIx 1) ℕ UU ℕ cfg1 c where
  A w := match w with
    | ⟨0, _⟩ => H c
    | ⟨1, _⟩ => A c
    | ⟨2, _⟩ => O c
  after w _ := match w with
    | ⟨0, _⟩ => H c
    | ⟨1, _⟩ => A c
    | ⟨2, _⟩ => k1_pay1 (H c) (A c)
  Φ _ := BI.emp
  q _ := fullShare
  owed _ := 0
  recorded _ := {p | (K (F := F)).lev (SparseCore.T c, p.1) p.2 ≤ 8}

/-- The same, as the family over the program's one pipeline. -/
def pdats : (p : Fin 1) → (c : Dev nD) → Dat τ (Elt F) (HIx 1) ℕ UU ℕ (Pipeline.pin (pcfgs (F := F)) (fun p => (cfgs p).toPCfg_adm) p) c
  | ⟨0, _⟩ => dat H A O

/-- The operands' one block starts at zero. -/
theorem index0 (a : Fin 2) : win1_0.index t1_0 a * main_v2_0.ty.shape.size a = 0 := by fin_cases a <;> decide

/-- The output's one block starts at zero. -/
theorem index2 (a : Fin 2) : win1_2.index t1_0 a * main_v3.ty.shape.size a = 0 := by fin_cases a <;> decide

/-- The one block of each array is the whole of it. -/
theorem block_read0 (f : S32x256.Idx → F .f32) : (win1_0.blk t1_0).view.read (Elt F) f = f :=
  Memref.read_access_unit_zero (Elt F) main_v2_0 (funext index0) (fun a => by fin_cases a <;> decide) f

/-- So too for the sums, -/
theorem block_read1 (f : S32x256.Idx → F .f32) : (win1_1.blk t1_0).view.read (Elt F) f = f :=
  Memref.read_access_unit_zero (Elt F) main_v2_1 (funext index0) (fun a => by fin_cases a <;> decide) f

/-- and for the output. -/
theorem block_read2 (f : S1x1.Idx → F .f32) : (win1_2.blk t1_0).view.read (Elt F) f = f :=
  Memref.read_access_unit_zero (Elt F) main_v3 (funext index2) (fun a => by fin_cases a <;> decide) f

/-- Before the body, the first staged block holds the counts. -/
theorem before0 (c : Dev nD) (d : (cfg1.win 0).block.Idx → Elt F (cfg1.win 0).elt) : (dat H A O c).before 0 t1_0 d = H c := by
  unfold Dat.before; rw [if_pos (by decide)]; exact block_read0 (H c)

/-- Before the body, the second staged block holds the sums. -/
theorem before1 (c : Dev nD) (d : (cfg1.win 1).block.Idx → Elt F (cfg1.win 1).elt) : (dat H A O c).before 1 t1_0 d = A c := by
  unfold Dat.before; rw [if_pos (by decide)]; exact block_read1 (A c)

/-- The combining body reads the counts and the sums and stores the combination. -/
theorem body_obligation (c : Dev nD) : BodyObligation (dat H A O c) (defs₀ (F := F)) 𝒱₀ none Set.univ := fun t => by
  obtain rfl := fin_N1 t
  rw [bigSep_W1, bigSep_W1]
  simp only [owns_whole_eq]
  rw [show (dat H A O c).Φ t1_0.castSucc = BI.emp from rfl, show (dat H A O c).Φ t1_0.succ = BI.emp from rfl,
    show (dat H A O c).owesAt none t1_0.succ = (dat H A O c).owesAt none t1_0.castSucc from rfl]
  iintro ⟨-, Howes, ⟨%d0, %f0, %hf0, H0⟩, ⟨%d1, %f1, %hf1, H1⟩, ⟨%d2, %f2, -, H2⟩⟩
  rw [before0] at hf0
  rw [before1] at hf1
  subst hf0
  subst hf1
  iapply (combine_run c (H c) (A c) _ _)
  isplitl [H0]; · iexact H0
  isplitl [H1]; · iexact H1
  isplitl [H2]; · iexact H2
  iintro ⟨H0, H1, H2⟩
  isplitr; · iempintro
  isplitl [Howes]; · iexact Howes
  isplitl [H0]; · iexists _; isplitr; swap; (· iexact H0); ipureintro; dsimp only [dat]
  isplitl [H1]; · iexists _; isplitr; swap; (· iexact H1); ipureintro; dsimp only [dat]
  iexists _; isplitr; swap; (· iexact H2); ipureintro; dsimp only [dat]

/-- The result's array after the call is the loss. -/
theorem out_eq (c : Dev nD) : (dat H A O c).arrAt 2 cfg1.N = k1_pay1 (H c) (A c) := by
  have hw : (win1_2.blk t1_0).view.read (Elt F) ((dat H A O c).arrAt 2 cfg1.N) = (dat H A O c).flushed 2 t1_0 := by
    rw [show cfg1.N = t1_0.val + 1 from rfl, (dat H A O c).arrAt_succ (2 : Fin 3) t1_0, flush1_2, if_pos rfl]
    exact View.read_write_univ _ _
  exact (block_read2 _).symm.trans (hw.trans (funext fun _ => rfl))

/-- The windows' arrays are the three arrays held whole. -/
theorem arrays_three (c : Dev nD) (f : (w : Fin 3) → Buf (Elt F) ((spec1 w).arr.view.loc (c : Thread nD τ))) :
    (pdats H A O 0 c).arrays f = iprop((histLoc c ↦{fullShare} f 0) ∗ (sumLoc c ↦{fullShare} f 1) ∗ outLoc c ↦{fullShare} f 2) := by
  rw [Pipeline.arrays_eq cfgs (pdats H A O) 0 c launch1.arr_whole ((pdats H A O 0 c).share_full fun _ => rfl)]
  exact bigSep_W1 _

/-- What the core holds of the call: the three arrays, and what it owes with what it has waited on. -/
def callSt (c : Dev nD) (f : FVec F S1x1 .f32) : sProp 𝕄 :=
  iprop((histLoc c ↦{fullShare} H c) ∗ (sumLoc c ↦{fullShare} A c) ∗ (outLoc c ↦{fullShare} f)
    ∗ ∃ W, ⌜(K (F := F)).WBelow (SparseCore.T c) W 8⌝ ∗ owes (SparseCore.T c) 0 W)

set_option backward.isDefEq.respectTransparency.types false in
/-- The combining call as a region: entered with the three arrays, left with the loss in the third. -/
def reg : Pipeline.RegionSeg (pcfgs (F := F)) (fun p => (cfgs p).toPCfg_adm) (pdats H A O) none defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation H A O c).loose
  hwaits c := Pipeline.cellsWaits_intro _ _ none 0 c fun w s t => (K (F := F)).mayWait_none _ fun _ => rfl
  pre c := callSt H A c (O c)
  post c := callSt H A c (k1_pay1 (H c) (A c))
  X _ := BI.emp
  Y _ := BI.emp
  Z _ := BI.emp
  hentry c := by
    rw [Pipeline.ownSems0_none, arrays_three]
    unfold callSt
    iintro ⟨⟨H0, H1, H2, %W, %hW, HO⟩, -, -⟩
    imodintro
    isplitl [H0 H1 H2]
    · isplitl [H0]; · iexact H0
      isplitl [H1]; · iexact H1
      iexact H2
    isplitr; · unfold Pipeline.prefHeld; rw [show (Finset.univ : Finset (Fin 0)) = ∅ from rfl, BI.bigSep_empty]; iempintro
    isplitl [HO]
    · unfold Pipeline.Dat.owesAt Pipeline.owesWithin
      iexists W
      isplitr
      · ipureintro; exact fun p hp => Or.inl (hW p hp)
      iexact HO
    isplitr <;> iempintro
  hin c := by
    rw [show (pdats H A O 0 c).Φ 0 = BI.emp from rfl]
    iintro ⟨-, -, Hr⟩; iempintro
  hout c := by
    rw [Pipeline.ownSems0_none, scopedRest1_eq]
    iintro -
    isplitr; · iempintro
    isplitr <;> iempintro
  hexit c := by
    rw [arrays_three, show (pdats H A O 0 c).arrAt 2 _ = _ from out_eq H A O c, show (pdats H A O 0 c).arrAt 0 _ = H c from (dat H A O c).arrAt_in 0 rfl _,
      show (pdats H A O 0 c).arrAt 1 _ = A c from (dat H A O c).arrAt_in 1 rfl _]
    unfold callSt
    iintro ⟨⟨H0, H1, H2⟩, HO, -⟩
    imodintro
    isplitl [H0]; · iexact H0
    isplitl [H1]; · iexact H1
    isplitl [H2]; · iexact H2
    unfold Pipeline.Dat.owesAt Pipeline.owesWithin
    icases HO with ⟨%W, %hW, HO⟩
    iexists W
    isplitr
    · ipureintro
      intro p hp
      rcases hW hp with h | h
      · exact h
      · obtain ⟨w, s, rfl⟩ := h
        exact Nat.zero_le 8
    iexact HO

/-! ## The call -/

/-- The combining call's cells are distinct. -/
theorem pin_inj : Function.Injective (Pipeline.cellOf (nD := nD) (τ := τ) (Pipeline.pin (pcfgs (F := F)) fun p => (cfgs p).toPCfg_adm)) := cellOf_inj

/-- The combining call's share of the ghost state. -/
def G (d : Dev nD) : sProp 𝕄 := iprop(Pipeline.cellsGhost (nD := nD) (τ := τ) cfgs EW 0 d ∗ Pipeline.toksInit (nD := nD) (τ := τ) cfgs EW 0 d)

/-- The combining call runs from its operands to its output written. -/
theorem combine_call (d : Dev nD) (Q : PUnit.{1} → sProp 𝕄) :
    iprop(iprop(iprop(boundary (SparseCore.T d) ∗ callSt H A d (k1_pay1 (H d) (A d))) -∗ Q ⟨⟩)
        ∗ boundary (SparseCore.T d) ∗ callSt H A d (O d) ∗ levAts (K (F := F)).L (K (F := F)).lev ∗ G d)
      ⊢ wp frame (wpE (D (F := F)) 𝒱 (SparseCore.T d) none) Set.univ (Prog.op (TpuEff.customCall (Pipeline.entry 0) ()) Prog.ret) Q := by
  have h := Pipeline.RegionSeg.wp (pcfgs (F := F)) (fun p => (cfgs p).toPCfg_adm) (pdats H A O) none pin_inj EW defs₀ 𝒱₀ (K (F := F)).L (K (F := F)).lev
    (reg H A O) d none (fun _ h => nomatch h) (α := PUnit) Prog.ret Q
  have hw : Q ⟨⟩ ⊢ wp frame (wpE (D (F := F)) 𝒱 (SparseCore.T d) none) Set.univ (Prog.ret ⟨⟩) Q := by
    rw [wp_ret]
    iintro H
    imodintro
    iexact H
  exact (BIClass.sep_mono (wand_mono (BI.Entails.refl _) hw) (BI.Entails.refl _)).trans h

end Cert.Proof.Kern
end
-- ==== Proof.Kern.Launch.lean ====
module

public import proofs.«01_k».proof.Proof.Kern.Region

@[expose] public section

noncomputable section

namespace Cert.Proof.Kern

open Cert.KernelIdeal Cert.KernelIdeal.Gen
open Idealize.ShloMosaic
open Idealize.ShloMosaic.TcCoe
open Idealize.ShloMosaic.SparseCore (S V)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The values of the run -/

abbrev arg0Loc (d : Dev nD) : Loc nD τ sig := (SparseCore.T d).loc main_arg0
abbrev arg1Loc (d : Dev nD) : Loc nD τ sig := (SparseCore.T d).loc main_arg1
abbrev resLoc (d : Dev nD) : Loc nD τ sig := (SparseCore.T d).loc main_v4

/-- The two inputs, flattened. -/
def vSrc (d : Dev nD) : S12582912.Idx → F .f32 := shapeCast S12582912 (m (arg0Loc d) : FVec F S16x3x1024x256 .f32) shapeCasts_S16x3x1024x256_S12582912

/-- The targets as one vector. -/
def vTar (d : Dev nD) : S12582912.Idx → F .f32 := shapeCast S12582912 (m (arg1Loc d) : FVec F S16x3x1024x256 .f32) shapeCasts_S16x3x1024x256_S12582912

/-- The loss: the combination of the tasks' histograms and sums. -/
def loss (d : Dev nD) : FVec F S1x1 .f32 := k1_pay1 (histG (vTar m d)) (sumG (vSrc m d) (vTar m d))

/-- The program's result. -/
def result (d : Dev nD) : FVec F S_ .f32 := shapeCast S_ (loss m d) shapeCasts_S1x1_S_

/-! ## What the SparseCore call's messages carry -/

/-- What a task gets: its part of the four arrays. -/
def goRes (d : Dev nD) (c : Fin 2) (i : Fin 16) : sProp 𝕄 := arrRes d (coordsV c i) (vSrc m d) (vTar m d) (m (histLoc d)) (m (sumLoc d))
/-- What it hands back: the same, its rows of the results written. -/
def tdRes (d : Dev nD) (c : Fin 2) (i : Fin 16) : sProp 𝕄 := arrRes d (coordsV c i) (vSrc m d) (vTar m d) (histG (vTar m d)) (sumG (vSrc m d) (vTar m d))

instance goRes_storable (d : Dev nD) (c : Fin 2) (i : Fin 16) : BI.Storable (upEmb : UEmb _ 𝕄) (goRes m d c i) := by unfold goRes arrRes; infer_instance
instance tdRes_storable (d : Dev nD) (c : Fin 2) (i : Fin 16) : BI.Storable (upEmb : UEmb _ 𝕄) (tdRes m d c i) := by unfold tdRes arrRes; infer_instance

/-- What the launch hands to the tasks and what they hand back. -/
def P : (K (F := F)).Pay (nD := nD) (Val := Elt F) (Name := ℕ) (U := UU) where
  st q d c := match q with | 0 => bigSep Finset.univ fun i : Fin 16 => goRes m d c i
  dn q d c := match q with | 0 => bigSep Finset.univ fun i : Fin 16 => tdRes m d c i
  go q d c i := match q with | 0 => goRes m d c i
  td q d c i := match q with | 0 => tdRes m d c i
  x _ _ := iprop(emp)

instance P_storable : (P (F := F) m).IsStorable where
  st q d c := match q with
    | 0 => (inferInstance : BI.Storable (upEmb : UEmb _ 𝕄) (bigSep Finset.univ fun i : Fin 16 => goRes m d c i))
  dn q d c := match q with
    | 0 => (inferInstance : BI.Storable (upEmb : UEmb _ 𝕄) (bigSep Finset.univ fun i : Fin 16 => tdRes m d c i))
  go q d c i := match q with | 0 => goRes_storable m d c i
  td q d c i := match q with | 0 => tdRes_storable m d c i

/-! ## The launch's obligations -/

/-- A tile's body is the task at its coordinates. -/
theorem defs₀_vector (c : Fin τ.nSC) (s : Fin τ.nSub) :
    defs₀ (F := F) (.scVector c s) 0 () = SparseCore.onTile hcore0 hsub0 (fun c s => task (F := F) (coordsV c s)) ⟨⟩ c s := rfl

/-- A task's record of its waits, as the launch states it. -/
theorem obl_post (d : Dev nD) (L : grid0.Coords) {A B C : sProp 𝕄} {O : CellTallies nD τ sig (HIx 1)} {W : Waits sig (HIx 1)} {q : Fin 1} :
    iprop(A ∗ B ∗ C ∗ pO (F := F) d L O W) ⊢ iprop(A ∗ B ∗ C ∗ ∃ W', ⌜∀ p ∈ W', p ∈ W ∨ p.2 = none ∨ p.2 = some q⌝ ∗ owes (thr d L) O W') := by
  unfold pO
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 2048 in
/-- Every task runs from its share of the arrays to that share with its rows written. -/
theorem tileObl (hT : ∀ d, Levels (vTar m d)) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) O W (vSrc m d) (vTar m d) hO (hT d) _ _).trans (wp_mono frame _ _ fun _ => obl_post d _)

/-- A SparseCore's resources are its sixteen tasks' resources, before and after. -/
theorem vecSplit : (K (F := F)).VecSplit' (P m) 0 := by
  intro d c
  show (bigSep Finset.univ fun i : Fin 16 => goRes m d c i) ⊢ |={Set.univ}=> iprop((bigSep Finset.univ fun i : Fin 16 => goRes m d c i)
    ∗ ((bigSep Finset.univ fun i : Fin 16 => tdRes m d c i) -∗ bigSep Finset.univ fun i : Fin 16 => tdRes m d c i))
  iintro H; imodintro
  isplitl [H]; · iexact H
  iintro H; iexact H

/-! ## The ghost state at launch -/

/-- The ghost state at the launch. -/
def u₀ : UU := ((initOf (K (F := F)).hsCells (K (F := F)).hsToks, initOf (Pipeline.cells cfgs cellOf_inj) (Pipeline.launchToks cfgs cellOf_inj)), 1)

/-- The ghost state is the handshakes' part and the combining call's part. -/
theorem ownU_split (a : UH) (b : UW) : (ownU (((a, b), 1) : UU) : sProp 𝕄) ⊢ iprop(BI.own (EH a) ∗ BI.own (EW b)) :=
  BI.own_op_elim ((uEmb (nD := nD) (sig := sig) (Ix := HIx 1) (Val := Elt F) (Name := ℕ) (U := UU) (Lvl := ℕ)).toEmb.op_of_mem
    (Prod.mk_mem_op (Prod.mk_mem_op (URA.mem_op_one a) (URA.mem_one_op b)) (URA.mem_op_one 1)))

/-- Nothing, many times, is nothing. -/
theorem bigSep_emp' {I : Type} (s : Finset I) : (bigSep s fun _ => iprop(emp)) = (iprop(emp) : sProp 𝕄) := bigSep_emp_const s

/-- The ghost state at the launch gives each part its share. -/
theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P m).x q thr) := by
  unfold u₀
  iintro Hu
  ihave H := (ownU_split _ _) $$ Hu
  icases H with ⟨HH, HK⟩
  imod (Pipeline.fund_ghost cfgs EW cellOf_inj) $$ HK with ⟨Hc, Ht⟩
  imodintro
  isplitl [HH]; · iexact HH
  isplitl [Hc Ht]
  · unfold G
    rw [bigSep_sep']
    isplitl [Hc]
    · iapply (Entails.of_eq (bigSep_congr fun d _ => bigSep_univ_of_subsingleton (0 : Fin 1))) $$ Hc
    · iapply (Entails.of_eq (bigSep_congr fun d _ => bigSep_univ_of_subsingleton (0 : Fin 1))) $$ Ht
  rw [show (bigSep Finset.univ fun thr : Thread nD τ => bigSep Finset.univ fun q : Fin 1 => (P m).x q thr) = (iprop(emp) : sProp 𝕄) from
    (bigSep_congr fun _ _ => bigSep_emp' _).trans (bigSep_emp' _)]
  iempintro

/-! ## @main on the TensorCore -/

/-- The TensorCore's arrays, one by one. -/
theorem unscopedBufs_eq (d : Dev nD) (W : (b : Ref sig .tc) → Buf (Elt F) ((d.tc : Thread nD τ).loc b)) :
    (unscopedBufs d W : sProp 𝕄) = iprop((arg0Loc d ↦{fullShare} W main_arg0) ∗ (arg1Loc d ↦{fullShare} W main_arg1) ∗ (srcLoc d ↦{fullShare} W main_v0)
      ∗ (tarLoc d ↦{fullShare} W main_v1) ∗ (histLoc d ↦{fullShare} W main_v2_0) ∗ (sumLoc d ↦{fullShare} W main_v2_1)
      ∗ (outLoc d ↦{fullShare} W main_v3) ∗ resLoc d ↦{fullShare} W main_v4) := by
  unfold unscopedBufs
  rw [show (Finset.univ.filter fun b : Ref sig .tc => ¬ b.isScoped) = {main_arg0, main_arg1, main_v0, main_v1, main_v2_0, main_v2_1, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- A reshape reads one array and writes another. -/
theorem reshape_wp (d : Dev nD) (x y : Ref sig .tc) (he : x.ty.elt = y.ty.elt) (hn : x.ty.shape.ShapeCasts y.ty.shape) (hx hy)
    (hxy : x ≠ y) (V : Valuation τ sig (Elt F)) {α : Type}
    (k : _ → Prog (TpuEff nD τ sig (Elt F) (SparseCore.Sig (ΛP (F := F)) 1) .tc) α) (Q : α → sProp 𝕄) :
    iprop(boundary (SparseCore.T d) ∗ ((SparseCore.T d).loc x ↦{fullShare} V x) ∗ (SparseCore.T d).loc y ↦{fullShare} V y)
      ⊢ iprop((iprop(boundary (SparseCore.T d) ∗ ((SparseCore.T d).loc x ↦{fullShare} V x)
            ∗ (SparseCore.T d).loc y ↦{fullShare} (fun i => he ▸ shapeCast y.ty.shape (V x) hn i))
          -∗ wp frame (wpE ((K (F := F)).defs (D (F := F))) 𝒱 (SparseCore.T d) none) Set.univ
            (k ((StableHlo.reshape x y he hn hx hy : HloOp τ sig (Elt F)).fn fun b => V b.1)) Q)
        -∗ wp frame (wpE ((K (F := F)).defs (D (F := F))) 𝒱 (SparseCore.T d) none) Set.univ (hlo rfl (StableHlo.reshape x y he hn hx hy) k) Q) := by
  have hne : (Proc.devRef .tc x : DevRef τ sig) ≠ Proc.devRef .tc y := StableHlo.devRef_ne_of_ne hxy
  have hd (W : Valuation τ sig (Elt F)) : (held (SparseCore.T d) {(Proc.devRef .tc x : DevRef τ sig), Proc.devRef .tc y} W : sProp 𝕄)
      = iprop(((SparseCore.T d).loc x ↦{fullShare} W x) ∗ (SparseCore.T d).loc y ↦{fullShare} W y) := by
    unfold held
    rw [SparseCore.bigSep_insert' (by simpa using hne), bigSep_singleton]
  have h := wp_hlo_within (defs := (K (F := F)).defs (D (F := F))) 𝒱 (SparseCore.T d) none Set.univ (hp := rfl) (op := StableHlo.reshape x y he hn hx hy) (k := k)
    (S := {(Proc.devRef .tc x : DevRef τ sig), Proc.devRef .tc y}) (Finset.Subset.refl _) (V := V) (Q := Q) rfl
  rw [hd, hd, StableHlo.reshape_result_ne _ _ _ _ _ _ V hxy, StableHlo.reshape_result] at h
  exact h

/-- The launch's contents; with the loss in its array. -/
def V0 (d : Dev nD) : Valuation τ sig (Elt F) := fun b => m (d, b)

/-- The arrays before the last reshape: the loss is in its place. -/
def V1 (d : Dev nD) : Valuation τ sig (Elt F) := Function.update (V0 m d) (Proc.devRef .tc (main_v3 : Ref sig .tc)) (loss m d)

/-- The combining call's output is the loss there. -/
theorem V1_out (d : Dev nD) : V1 m d (Proc.devRef .tc (main_v3 : Ref sig .tc)) = loss m d := Function.update_self _ _ _

/-- The result is as it was there. -/
theorem V1_res (d : Dev nD) : V1 m d (Proc.devRef .tc (main_v4 : Ref sig .tc)) = m (resLoc d) :=
  Function.update_of_ne (StableHlo.devRef_ne_of_ne (by decide)) _ _

/-- What the launch hands over is the four arrays. -/
theorem st0_eq (d : Dev nD) : (bigSep Finset.univ fun c : Fin ((K (F := F)).nCore 0) => (P m).st 0 d c)
    = iprop((srcLoc d ↦{fullShare} vSrc m d) ∗ (tarLoc d ↦{fullShare} vTar m d) ∗ (histLoc d ↦{fullShare} m (histLoc d)) ∗ sumLoc d ↦{fullShare} m (sumLoc d)) :=
  (arrays_cut d _ _ _ _).symm

/-- What it hands back is the four arrays, the rows of counts and of sums written. -/
theorem dn0_eq (d : Dev nD) : (bigSep Finset.univ fun c : Fin ((K (F := F)).nCore 0) => (P m).dn 0 d c)
    = iprop((srcLoc d ↦{fullShare} vSrc m d) ∗ (tarLoc d ↦{fullShare} vTar m d) ∗ (histLoc d ↦{fullShare} histG (vTar m d))
      ∗ sumLoc d ↦{fullShare} sumG (vSrc m d) (vTar m d)) :=
  (arrays_cut d _ _ _ _).symm

/-- What @main leaves the claim: the inputs as launched, the result. -/
abbrev FIN (d : Dev nD) : sProp 𝕄 :=
  iprop((arg0Loc d ↦{fullShare} m (arg0Loc d)) ∗ (arg1Loc d ↦{fullShare} m (arg1Loc d)) ∗ resLoc d ↦{fullShare} result m d)

/-- The tasks' results, on each device. -/
abbrev hists : Dev nD → FVec F S32x256 .f32 := fun d => histG (vTar m d)
abbrev sumsOf : Dev nD → FVec F S32x256 .f32 := fun d => sumG (vSrc m d) (vTar m d)

/-- The combining call, from the tasks' results. -/
theorem combine_wp (d : Dev nD) (Q : PUnit.{1} → sProp 𝕄) :
    iprop(iprop(iprop(boundary (SparseCore.T d) ∗ callSt (hists m) (sumsOf m) d (loss m d)) -∗ Q ⟨⟩)
        ∗ boundary (SparseCore.T d) ∗ callSt (hists m) (sumsOf m) d (m (outLoc d)) ∗ levAts (K (F := F)).L (K (F := F)).lev ∗ G d)
      ⊢ wp frame (wpE ((K (F := F)).defs (D (F := F))) 𝒱 (SparseCore.T d) none) Set.univ (Prog.lift (.customCall (SparseCore.inner (Pipeline.entry 0)) ())) Q :=
  (combine_call (hists m) (sumsOf m) (fun d => m (outLoc d)) d Q).trans
    ((K (F := F)).wp_liftProg (D (F := F)) 𝒱 (SparseCore.T d) Set.univ none (Prog.op (TpuEff.customCall (Pipeline.entry 0) ()) Prog.ret) Q)

/-- What the core keeps of its state after the SparseCore call, its waits apart. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

/-- The TensorCore's state after the launch, its debts apart. -/
theorem tcSt1_eq (d : Dev nD) : ((K (F := F)).tcSt EH d ((0 : Fin 1).val + 1) : sProp 𝕄)
    = iprop((∃ W, ⌜(K (F := F)).WBelow (SparseCore.T d) W 8⌝ ∗ owes (SparseCore.T d) 0 W) ∗ tcRest d) := by
  show ((K (F := F)).tcSt EH d 1 : sProp 𝕄) = _
  unfold SparseCore.Cfg.tcSt
  rw [(K (F := F)).Otc_end d (Nat.le_refl 1)]
  rfl

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨H0, H1, Hs, Ht, Hh, Ha, Ho, Hr⟩, Hts, -⟩, HG⟩
  iapply (reshape_wp d main_arg0 main_v0 rfl shapeCasts_S16x3x1024x256_S12582912 _ _ (by decide) (V0 m d) _ _) $$ [Hb H0 Hs]
  · isplitl [Hb]; · iexact Hb
    isplitl [H0]; · iexact H0
    iexact Hs
  iintro ⟨Hb, H0, Hs⟩
  rw [wp_ret]; imodintro
  iapply (reshape_wp d main_arg1 main_v1 rfl shapeCasts_S16x3x1024x256_S12582912 _ _ (by decide) (V0 m d) _ _) $$ [Hb H1 Ht]
  · isplitl [Hb]; · iexact Hb
    isplitl [H1]; · iexact H1
    iexact Ht
  iintro ⟨Hb, H1, Ht⟩
  rw [wp_ret]; imodintro
  iapply ((K (F := F)).wp_run (D (F := F)) 𝒱 (EH := EH) (P := P m) κ d 0) $$ [Hst Hs Ht Hh Ha Hb Hts HG H0 H1 Ho Hr]
  isplitr; · iexact Hctx
  isplitl [Hst]; · iexact Hst
  isplitl [Hs Ht Hh Ha]
  · rw [st0_eq]
    isplitl [Hs]; · iexact Hs
    isplitl [Ht]; · iexact Ht
    isplitl [Hh]; · iexact Hh
    iexact Ha
  iintro ⟨Hst, Hdn⟩
  ihave Hdn' := (Entails.of_eq (dn0_eq m d)) $$ Hdn
  icases Hdn' with ⟨-, -, Hh, Ha⟩
  ihave Hst' := (Entails.of_eq (tcSt1_eq (F := F) d)) $$ Hst
  icases Hst' with ⟨⟨%W, %hW, HO⟩, Hst⟩
  iapply (combine_wp m d _) $$ [Hst Hh Ha Hb Hts HG H0 H1 Ho Hr HO]
  isplitl [Hst Hts H0 H1 Hr]
  · iintro ⟨Hb, HS⟩
    unfold callSt
    icases HS with ⟨-, -, Ho, HO⟩
    iapply (reshape_wp d main_v3 main_v4 rfl shapeCasts_S1x1_S_ _ _ (by decide) (V1 m d) _ _) $$ [Hb Ho Hr]
    · isplitl [Hb]; · iexact Hb
      rw [V1_out, V1_res]
      isplitl [Ho]; · iexact Ho
      iexact Hr
    iintro ⟨Hb, -, Hr⟩
    rw [wp_ret]; imodintro; imodintro
    rw [V1_out, show (K (F := F)).tcSt EH d 1 = _ from tcSt1_eq d]
    isplitl [Hst HO]
    · isplitl [HO]; · iexact HO
      iexact Hst
    isplitl [H0 H1 Hr]
    · isplitl [H0]; · iexact H0
      isplitl [H1]; · iexact H1
      iexact Hr
    isplitl [Hb] <;> iassumption
  isplitl [Hb]; · iexact Hb
  isplitl [Hh Ha Ho HO]
  · unfold callSt
    isplitl [Hh]; · iexact Hh
    isplitl [Ha]; · iexact Ha
    isplitl [Ho]; · iexact Ho
    iexists W
    isplitr; · ipureintro; exact hW
    iexact HO
  isplitr; · iapply ((K (F := F)).ctx_levAts κ) $$ Hctx
  iexact HG

/-- What the end of @main says of the memory. -/
def fq (d : Dev nD) (s' : Phys nD τ sig (Elt F)) : Prop :=
  s'.mem.mem (arg0Loc d) = m (arg0Loc d) ∧ s'.mem.mem (arg1Loc d) = m (arg1Loc d) ∧ s'.mem.mem (resLoc d) = result m d

/-- The final resources say what the final memory holds. -/
theorem hfin (d : Dev nD) (s' : Phys nD τ sig (Elt F)) : iprop(FIN m d ∗ SI s') ⊢ (⌜fq m d s'⌝ : sProp 𝕄) := by
  iintro ⟨⟨H0, H1, Hr⟩, HSI⟩
  ihave H := (persistent_entails_right (SI_pointsTo_agree (st := s') (ℓ := arg0Loc d) (I := Finset.univ) (q := fullShare) (f := m (arg0Loc d)))) $$ [HSI H0]
  · isplitl [HSI] <;> iassumption
  icases H with ⟨%h0, HSI, -⟩
  ihave H := (persistent_entails_right (SI_pointsTo_agree (st := s') (ℓ := arg1Loc d) (I := Finset.univ) (q := fullShare) (f := m (arg1Loc d)))) $$ [HSI H1]
  · isplitl [HSI] <;> iassumption
  icases H with ⟨%h1, HSI, -⟩
  ihave H := (SI_pointsTo_agree (st := s') (ℓ := resLoc d) (I := Finset.univ) (q := fullShare) (f := result m d)) $$ [HSI Hr]
  · isplitl [HSI] <;> iassumption
  icases H with %h2
  ipureintro
  exact ⟨funext fun i => h0 i (Finset.mem_univ i), funext fun i => h1 i (Finset.mem_univ i), funext fun i => h2 i (Finset.mem_univ i)⟩

/-! ## The program's run -/

/-- After a run the inputs are as they were, the result is `result`, and the semaphores are at rest. -/
def QC : PUnit × MemSt nD τ sig (Elt F) → Prop := fun r =>
  (∀ d : Dev nD, r.2.mem (arg0Loc d) = m (arg0Loc d) ∧ r.2.mem (arg1Loc d) = m (arg1Loc d) ∧ r.2.mem (resLoc d) = result m d) ∧ r.2.sem = fun _ => 0

/-- The program, on targets that are levels, runs to its end without a fault and computes `result`. -/
theorem run_main [∀ e, Nonempty (Elt F e)] (hT : ∀ d, Levels (vTar m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hT)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.Proof.Kern
end
-- ==== Proof.Kern.Levels.lean ====
module

public import proofs.«01_k».proof.Proof.Kern.Launch
public import proofs.«01_k».proof.Proof.Gen.Pre_levels
public import Idealize.ShloMosaic.Lib.ReduceAll
public import Idealize.ShloMosaic.Lib.WordCmp

@[expose] public section

noncomputable section

namespace Cert.Proof.Kern

open Cert.KernelIdeal Cert.KernelIdeal.Gen
open Idealize.ShloMosaic

variable {F : FTy → Type} [FloatOps F]

instance : Subsingleton Cert.Pre_levels.S_.Idx := ⟨fun _ _ => funext fun a => a.elim0⟩

/-- What the precondition says of each target: its integer part is one of 0, …, 255, and is the target itself. -/
theorem level_of_pre {a b : FVec F S16x3x1024x256 .f32} (h : Cert.Pre_levels.fn a b = fun _ => 1#1) (i : S16x3x1024x256.Idx) :
    (FloatOps.fptosi 32 (b i) : BitVec 32).toNat < 256
      ∧ (FloatOps.cmpf .oeq (FloatOps.sitofp .f32 (FloatOps.fptosi 32 (b i) : BitVec 32)) (b i) : BitVec 1) = 1#1 := by
  have e := Host.reduce_andi_all _ _ _ _ (fun a => a.elim0) (congrFun h (fun a => a.elim0)) i
  obtain ⟨e1, e2⟩ := IntOp.andi_eq_one.mp e
  obtain ⟨e3, e4⟩ := IntOp.andi_eq_one.mp e1
  refine ⟨?_, e2⟩
  have h3 := IntOp.cmpi_sge.mp e3
  have h4 := IntOp.cmpi_sle.mp e4
  change (0#32 : BitVec 32).toInt ≤ (FloatOps.fptosi 32 (b i) : BitVec 32).toInt at h3
  change (FloatOps.fptosi 32 (b i) : BitVec 32).toInt ≤ (255#32 : BitVec 32).toInt at h4
  generalize (FloatOps.fptosi 32 (b i) : BitVec 32) = v at h3 h4 ⊢
  have h0 : (0#32 : BitVec 32).toInt = 0 := by decide
  have h1 : (255#32 : BitVec 32).toInt = 255 := by decide
  rw [h0] at h3
  rw [h1] at h4
  rw [BitVec.toInt_eq_toNat_cond] at h3 h4
  have := v.isLt
  split at h3 <;> omega

variable [Named F]

/-- Under the precondition the flattened targets are levels. -/
theorem levels_of_pre (m : (ℓ : Loc nD τ sig) → Buf (Elt F) ℓ) (d : Dev nD)
    (h : Cert.Pre_levels.fn (F := F) (m (arg0Loc d)) (m (arg1Loc d)) = fun _ => 1#1) : Levels (vTar m d) := fun j =>
  (level_of_pre h ((Shape.rowMajor S16x3x1024x256).symm _)).1

end Cert.Proof.Kern
end
-- ==== Proof.Kern.Frames.lean ====
module

public import proofs.«01_k».proof.Proof.Kern.Levels
public import proofs.«01_k».proof.Proof.Gen.Kernel
public import proofs.«01_k».proof.Proof.Gen.ReferenceIdeal.Run
public import proofs.«01_k».proof.Defs
public import Idealize.ShloMosaic.Lib.Quiescent

@[expose] public section

noncomputable section

namespace Cert.Proof.Kern

open Idealize.ShloMosaic Idealize.SL.Sem

/-! ## The kernel as printed is the idealized one with its two constants read as the words they print -/

section
variable {F : FTy → Type} [FloatOps F]

/-- The reading of a named constant as the word that was printed. -/
@[reducible] def wordNamed : Named F := ⟨fun _ _ {_} b => FloatOps.ofBits _ b⟩

noncomputable local instance : Named F := wordNamed

/-- The two programs have the same bodies. -/
theorem bodies_eq : Cert.Kernel.defs₀ (F := F) = Cert.KernelIdeal.defs₀ (F := F) := by
  funext p ℓ a
  fin_cases ℓ
  · cases p <;> rfl
  · cases p <;> rfl

/-- The two programs have the same bodies, with the constants read as words. -/
theorem defs_eq : Cert.Kernel.defs (F := F) = Cert.KernelIdeal.defs (F := F) :=
  congrArg (fun D => (Cert.KernelIdeal.sc (F := F)).defs (Pipeline.defs Cert.KernelIdeal.pcfgs D)) bodies_eq

/-- The two programs have the same threads. -/
theorem threads_eq : Cert.Kernel.threads (F := F) = Cert.KernelIdeal.threads (F := F) := rfl

/-- The printed kernel's run. -/
theorem run_printed [∀ e, Nonempty (Elt F e)] (m : (ℓ : Loc Cert.KernelIdeal.nD Cert.KernelIdeal.τ Cert.KernelIdeal.sig) → Buf (Elt F) ℓ)
    (ρ : Dev Cert.KernelIdeal.nD → PrngReg) (hT : ∀ d, Levels (vTar m d)) :
    θ_run (Cert.Kernel.defs (F := F)) (Cert.Kernel.threads (F := F)) ⟨m, fun _ => 0, ρ⟩ (QC m) := by
  rw [defs_eq]
  exact run_main m ρ hT

end

/-! ## The frames -/

/-- The printed kernel runs, keeps its arguments and leaves every semaphore counter at zero. -/
theorem frame_Kernel : Cert.quiescent_Kernel := fun m ρ hpre =>
  (θ_run _ _ _).mono (fun _ h => ⟨fun c => ⟨(h.1 c).1, (h.1 c).2.1⟩, h.2⟩)
    (run_printed (F := Bits) m ρ fun d => @levels_of_pre Bits _ wordNamed m d (hpre d))

/-- The kernel with its constants named runs, keeps its arguments and leaves every semaphore counter at zero. -/
theorem frame_KernelIdeal : Cert.quiescent_KernelIdeal := fun m ρ hpre =>
  (θ_run _ _ _).mono (fun _ h => ⟨fun c => ⟨(h.1 c).1, (h.1 c).2.1⟩, h.2⟩)
    (run_main (F := Ideal) m ρ fun d => levels_of_pre m d (hpre d))

/-- The reference has no semaphores, so its run leaves none raised. -/
theorem frame_ReferenceIdeal : Cert.quiescent_ReferenceIdeal := fun m ρ _ =>
  (θ_run _ _ _).mono (fun r h => ⟨fun c => (h c).2, sem_eq_zero_of_no_sems rfl r.2⟩) (Cert.ReferenceIdeal.Value.run (F := Ideal) m ρ)

/-- The same of the reference, under the precondition of the value claim. -/
theorem frame_ReferenceIdeal_levels : Cert.quiescent_ReferenceIdeal_pre_levels := fun m ρ _ => frame_ReferenceIdeal m ρ trivial

/-- The two constants are named after the numbers they round. -/
theorem constants_named : Cert.preserves_Kernel_KernelIdeal :=
  ⟨IdealRules.named_const.statement Cert.KernelIdeal.κ "inv_nb" .f32 0x31AAAAAB#32 ((1 / 201326592 : ℝ) : EReal) rfl,
    IdealRules.named_const.statement Cert.KernelIdeal.κ "inv_n" .f32 0x33AAAAAB#32 ((1 / 12582912 : ℝ) : EReal) rfl⟩

end Cert.Proof.Kern
end
-- ==== Proof.Kern.Consts.lean ====
module

public import Idealize.ShloMosaic.PureOps.Ideal.Laws

@[expose] public section

noncomputable section

namespace Cert.Proof.Kern

open Idealize.ShloMosaic

/-! ## The reals the literals denote -/

/-- This word is one. -/
theorem lit_one : Ideal.ofBits .f32 0x3F800000#32 = 1 := by
  simp [Ideal.ofBits, Ideal.ieee, -EReal.coe_mul]; norm_num

/-- This word is 255. -/
theorem lit_255 : Ideal.ofBits .f32 0x437F0000#32 = ((255 : ℝ) : EReal) := by
  simp [Ideal.ofBits, Ideal.ieee, -EReal.coe_mul]; norm_num

/-- The word for 256/255. -/
theorem lit_step : Ideal.ofBits .f32 0x3F808081#32 = ((8421505 / 8388608 : ℝ) : EReal) := by
  simp [Ideal.ofBits, Ideal.ieee, -EReal.coe_mul]; norm_num

/-- This word is the number of elements. -/
theorem lit_n : Ideal.ofBits .f32 0x4B400000#32 = ((12582912 : ℝ) : EReal) := by
  simp [Ideal.ofBits, Ideal.ieee, -EReal.coe_mul]

/-- This word is the number of elements times the batch size. -/
theorem lit_nb : Ideal.ofBits .f32 0x4D400000#32 = ((201326592 : ℝ) : EReal) := by
  simp [Ideal.ofBits, Ideal.ieee, -EReal.coe_mul]; norm_num

end Cert.Proof.Kern
end
-- ==== Proof.Kern.Sums.lean ====
module

public import proofs.«01_k».proof.Proof.Kern.Tile
public import proofs.«01_k».proof.Proof.Kern.Consts

@[expose] public section

noncomputable section

namespace Cert.Proof.Kern

open Cert.KernelIdeal Cert.KernelIdeal.Gen
open Idealize.ShloMosaic

/-! ## Regrouping sums over the naturals -/

/-- A sum over `A` blocks of `B` terms is the sum over all terms. -/
theorem sum_blocks (f : ℕ → EReal) (A B : ℕ) :
    ∑ w ∈ Finset.range A, ∑ k ∈ Finset.range B, f (B * w + k) = ∑ n ∈ Finset.range (B * A), f n := by
  induction A with
  | zero => simp
  | succ A ih => rw [Finset.sum_range_succ, ih, Nat.mul_succ, Finset.sum_range_add]

/-- The sum over tasks, groups and lanes is the sum over the elements. -/
theorem sum_tasks (f : ℕ → EReal) :
    ∑ w ∈ Finset.range 32, ∑ k ∈ Finset.range 24576, ∑ x ∈ Finset.range 16, f (16 * (24576 * w + k) + x)
      = ∑ n ∈ Finset.range 12582912, f n :=
  (sum_blocks (fun q => ∑ x ∈ Finset.range 16, f (16 * q + x)) 32 24576).trans (sum_blocks f 786432 16)

/-- One if the statement holds, else zero. -/
abbrev one (p : Prop) [Decidable p] : EReal := if p then 1 else 0

/-- Equivalent conditions count alike. -/
theorem one_congr {p q : Prop} [Decidable p] [Decidable q] (h : p ↔ q) : one p = one q := by
  unfold one
  by_cases hq : q
  · rw [if_pos (h.2 hq), if_pos hq]
  · rw [if_neg (fun hp => hq (h.1 hp)), if_neg hq]

/-! ## A task's sums and histograms -/

variable (vS vT : S12582912.Idx → Ideal .f32)

/-- The level of element `n`. -/
def lev (n : ℕ) : ℕ := (FloatOps.fptosi 32 (vT (flat n)) : BitVec 32).toNat

/-- The squared difference at element `n`. -/
def sq (n : ℕ) : EReal := ((vS (flat n) : EReal) - vT (flat n)) * ((vS (flat n) : EReal) - vT (flat n))

/-- Sum `j` of a task after `n` groups, at lane `x`: the squares of the groups that go to it. -/
theorem sums_eq (w n : ℕ) (j : Fin 16) (x : ℕ) (hx : x < 16) :
    (sums (grp vS w) (grp vT w) n j (ix x hx) : EReal)
      = ∑ k ∈ Finset.range n, if k % 16 = j.val then sq vS vT (16 * (24576 * w + k) + x) else 0 := by
  induction n with
  | zero => exact Ideal.ofBits_zero_f32
  | succ n ih =>
    rw [sums_succ, Finset.sum_range_succ, ← ih]
    by_cases h : j.val = n % 16
    · rw [if_pos h, if_pos h.symm]; rfl
    · rw [if_neg h, if_neg (Ne.symm h), add_zero]

/-- Stores that add one at their lanes' places, read at a word. -/
theorem fold_add (l : List (Fin 16)) (i : Fin 16 → S4096.Idx) (f : S4096.Idx → EReal) (y : S4096.Idx) :
    l.foldl (fun g k => fun z => if ∀ a, (z a).val = (i k a).val then g (i k) + 1 else g z) f y
      = f y + (l.map fun k => one ((i k 0).val = (y 0).val)).sum := by
  induction l generalizing f with
  | nil => simp
  | cons k l ih =>
    rw [List.foldl_cons, ih, List.map_cons, List.sum_cons, ← add_assoc]
    congr 1
    by_cases h : (i k 0).val = (y 0).val
    · have e : y = i k := (ix_eta y).trans ((ix_congr h.symm).trans (ix_eta (i k)).symm)
      rw [if_pos (fun a => by rw [e]), one, if_pos h, e]
    · rw [if_neg (fun hh => h (hh 0).symm), one, if_neg h, add_zero]

/-- A group's store into the lanes' histograms: one more at each lane's place. -/
theorem store_eq (f : FVec Ideal S4096 .f32) (v : IVec S16 32) (h) (y : S4096.Idx) :
    ((storeIdx (F := Ideal) (s := S4096) (e := .f32) f ![v] (k0_pay650 (F := Ideal)) (fun _ => 1#1) true h : FVec Ideal S4096 .f32) y : EReal)
      = (f y : EReal) + ∑ x : Fin 16, one ((v (ix x.val x.isLt)).toNat = (y 0).val) := by
  rw [Fin.sum_univ_def]
  have hw : (k0_pay650 (F := Ideal)) = fun _ => (1 : EReal) := funext fun _ => lit_one
  rw [hw]
  refine Eq.trans ?_ (fold_add (List.finRange 16) (fun k => idxAt (s := S4096) ![v] h (Shape.ofLane (d := ![16]) k)) f y) |>.trans ?_
  · unfold storeIdx
    simp only [if_true, if_pos (show (1#1 : BitVec 1) = 1 from rfl)]
    rfl
  · have e : ∀ k : Fin 16, (Shape.ofLane (d := ![16]) k : S16.Idx) = ix k.val k.isLt := fun k => ix_eta _
    simp only [e]
    rfl

/-- Word `i` of a task's lanes' histograms after `n` groups: how often some lane counted there. -/
theorem counts_eq (hT : Levels vT) (w n : ℕ) (y : S4096.Idx) :
    (counts (grp vT w) n y : EReal)
      = ∑ k ∈ Finset.range n, ∑ x ∈ Finset.range 16, one (lev vT (16 * (24576 * w + k) + x) + 256 * x = (y 0).val) := by
  induction n with
  | zero => exact Ideal.ofBits_zero_f32
  | succ n ih =>
    rw [counts_succ _ _ rfl (levels_grp hT w n), store_eq, ih, Finset.sum_range_succ]
    congr 1
    rw [← Fin.sum_univ_eq_sum_range (fun x => one (lev vT (16 * (24576 * w + n) + x) + 256 * x = (y 0).val))]
    exact Finset.sum_congr rfl fun x _ => one_congr (by rw [place_eq (v := grp vT w n) (fun x => hT _)]; rfl)

/-- A bin of the lanes' histograms added up. -/
theorem laneSum_eq (l : FVec Ideal S4096 .f32) (p n : ℕ) :
    (laneSum l p n : EReal) = ∑ i ∈ Finset.range (n + 1), (l (ix ((256 * i + p) % 4096) (Nat.mod_lt _ (by decide))) : EReal) := by
  induction n with
  | zero => rw [Finset.sum_range_one]; exact congrArg l (ix_congr (by simp))
  | succ n ih => rw [Finset.sum_range_succ, ← ih]; rfl

/-- A task's histogram counts the elements of its share at each level. -/
theorem histG_eq (hT : Levels vT) (w : ℕ) (hw : w < 32) (p : ℕ) (hp : p < 256) :
    (histG vT (ix2 w p hw hp) : EReal)
      = ∑ k ∈ Finset.range 24576, ∑ x ∈ Finset.range 16, one (lev vT (16 * (24576 * w + k) + x) = p) := by
  show (laneSum (counts (grp vT w) 24576) p 15 : EReal) = _
  refine (laneSum_eq _ p 15).trans ?_
  simp only [counts_eq vT hT]
  rw [Finset.sum_comm]
  refine Finset.sum_congr rfl fun k _ => ?_
  rw [Finset.sum_comm]
  refine Finset.sum_congr rfl fun x hx => ?_
  have hl : lev vT (16 * (24576 * w + k) + x) < 256 := hT _
  have hx' := Finset.mem_range.mp hx
  rw [Finset.sum_eq_single_of_mem x hx]
  · refine one_congr ?_
    show _ = (256 * x + p) % 4096 ↔ _
    omega
  · intro i hi hne
    have hi' := Finset.mem_range.mp hi
    refine if_neg ?_
    show ¬ _ = (256 * i + p) % 4096
    omega

/-- All tasks' histograms together count the elements at each level. -/
theorem count_eq (hT : Levels vT) (p : ℕ) (hp : p < 256) :
    ∑ w : Fin 32, (histG vT (ix2 w.val p w.isLt hp) : EReal) = ∑ n ∈ Finset.range 12582912, one (lev vT n = p) := by
  rw [← sum_tasks, ← Fin.sum_univ_eq_sum_range (fun w => ∑ k ∈ Finset.range 24576, ∑ x ∈ Finset.range 16, one (lev vT (16 * (24576 * w + k) + x) = p))]
  exact Finset.sum_congr rfl fun w _ => histG_eq vT hT w.val w.isLt p hp

/-- All tasks' sums together: column `p`'s squared differences. -/
theorem column_eq (p : ℕ) (hp : p < 256) :
    ∑ w : Fin 32, (sumG vS vT (ix2 w.val p w.isLt hp) : EReal)
      = ∑ n ∈ Finset.range 12582912, if n % 256 = p then sq vS vT n else 0 := by
  rw [← sum_tasks, ← Fin.sum_univ_eq_sum_range (fun w => ∑ k ∈ Finset.range 24576, ∑ x ∈ Finset.range 16,
    if (16 * (24576 * w + k) + x) % 256 = p then sq vS vT (16 * (24576 * w + k) + x) else 0)]
  refine Finset.sum_congr rfl fun w _ => (sums_eq vS vT w.val 24576 _ _ _).trans (Finset.sum_congr rfl fun k _ => ?_)
  rw [Finset.sum_eq_single_of_mem (p % 16) (Finset.mem_range.mpr (by omega))]
  · show (if k % 16 = p / 16 then _ else _) = _
    by_cases h : k % 16 = p / 16
    · rw [if_pos h, if_pos (by omega)]; rfl
    · rw [if_neg h, if_neg (by omega)]
  · intro x hx hne
    have := Finset.mem_range.mp hx
    exact if_neg (by omega)

/-! ## Weighting the columns -/

/-- A squared difference is not negative. -/
theorem sq_nonneg (n : ℕ) : 0 ≤ sq vS vT n := by
  unfold sq
  rcases le_total 0 ((vS (flat n) : EReal) - vT (flat n)) with h | h
  · exact EReal.mul_nonneg h h
  · rw [← neg_mul_neg]
    exact EReal.mul_nonneg (EReal.neg_nonneg.mpr h) (EReal.neg_nonneg.mpr h)

/-- A factor in front of a sum of values that are not negative. -/
theorem mul_sum (c : EReal) (f : ℕ → EReal) (hf : ∀ n, 0 ≤ f n) (N : ℕ) :
    c * ∑ n ∈ Finset.range N, f n = ∑ n ∈ Finset.range N, c * f n := by
  induction N with
  | zero => simp
  | succ N ih =>
    rw [Finset.sum_range_succ, EReal.left_distrib_of_nonneg (Finset.sum_nonneg fun n _ => hf n) (hf N), ih, Finset.sum_range_succ]

/-- Weighting each column's sum is weighting each element. -/
theorem weighted (c : ℕ → EReal) :
    ∑ p ∈ Finset.range 256, c p * ∑ n ∈ Finset.range 12582912, (if n % 256 = p then sq vS vT n else 0)
      = ∑ n ∈ Finset.range 12582912, c (n % 256) * sq vS vT n := by
  have h : ∀ p n, 0 ≤ (if n % 256 = p then sq vS vT n else 0) := fun p n => by
    split
    · exact sq_nonneg vS vT n
    · exact le_refl _
  rw [Finset.sum_congr rfl fun p _ => mul_sum (c p) _ (h p) _, Finset.sum_comm]
  refine Finset.sum_congr rfl fun n _ => ?_
  rw [Finset.sum_eq_single_of_mem (n % 256) (Finset.mem_range.mpr (Nat.mod_lt _ (by decide))), if_pos rfl]
  intro p _ hne
  rw [if_neg (Ne.symm hne), mul_zero]

end Cert.Proof.Kern
end
-- ==== Proof.Kern.Combine.lean ====
module

public import proofs.«01_k».proof.Proof.Kern.Sums
public import proofs.«01_k».proof.Proof.Kern.Launch
public import Idealize.ShloMosaic.Lib.Pipeline.Value
public import Idealize.ShloMosaic.PureOps.IdealRules

@[expose] public section

noncomputable section

namespace Cert.Proof.Kern

open Cert.KernelIdeal Cert.KernelIdeal.Gen
open Idealize.ShloMosaic

/-! ## The loss as a formula -/

/-- The inverse of a level's smoothed frequency. -/
def inv (c : ℕ → EReal) (p : ℕ) : EReal :=
  Ideal.div 1 (c p * ((1 / 201326592 : ℝ) : EReal) + Ideal.ofBits .f32 0x2B8CBCCC#32)

/-- A level's weight: the inverses normalized to sum to one. -/
def weight (c : ℕ → EReal) (p : ℕ) : EReal := Ideal.div (inv c p) (∑ q ∈ Finset.range 256, inv c q)

/-- The mean of the squared differences, each weighted by its column. -/
def lossOf (c s : ℕ → EReal) : EReal :=
  (∑ n ∈ Finset.range 12582912, weight c (n % 256) * s n) * ((1 / 12582912 : ℝ) : EReal)

/-- How many elements have level `p`. -/
def countOf (vT : S12582912.Idx → Ideal .f32) (p : ℕ) : EReal := ∑ n ∈ Finset.range 12582912, one (lev vT n = p)

/-! ## The combining call computes it -/

/-- A sum over the indices of a one-dimensional array. -/
theorem sum_ix {N : ℕ} (f : Shape.Idx ⟨1, ![N]⟩ → EReal) (g : ℕ → EReal) (h : ∀ n hn, f (ix n hn) = g n) :
    ∑ i, f i = ∑ n ∈ Finset.range N, g n := by
  rw [← Fin.sum_univ_eq_sum_range]
  refine Fintype.sum_equiv ⟨fun i => i 0, fun n => ix n.val n.isLt, fun i => (ix_eta i).symm, fun _ => rfl⟩ _ _ fun i => ?_
  exact (congrArg f (ix_eta i)).trans (h _ (i 0).isLt)

/-- The sum of a matrix's rows, at a column. -/
theorem rows_eq (X : FVec Ideal S32x256 .f32) (p : ℕ) (hp : p < 256) :
    (multiReduction .add [0] S256 X 0x00000000#32 reduces_S32x256_S256 (.inl rfl) rfl (ix p hp) : EReal)
      = ∑ w : Fin 32, (X (ix2 w.val p w.isLt hp) : EReal) := by
  refine (Ideal.multiReduction_add_single _ _ reduces_S32x256_S256 _ _ _).trans (Finset.sum_congr rfl fun w _ => ?_)
  congr 1
  funext a
  match a with
  | 0 => rfl
  | 1 => rfl

/-- The sum of a vector, as the combining call takes it. -/
theorem total_eq (X : FVec Ideal S256 .f32) (g : ℕ → EReal) (h : ∀ p hp, X (ix p hp) = g p) :
    (extractAt ![0, 0] (shapeCast S1x1 (multiReduction .add [1] S1 (shapeCast S1x256 X shapeCasts_S256_S1x256) 0x00000000#32 reduces_S1x256_S1 (.inl rfl) rfl)
        shapeCasts_S1_S1x1) inpos_S1x1_p0_0 : EReal)
      = ∑ p ∈ Finset.range 256, g p := by
  refine (Ideal.multiReduction_add_total _ 0x00000000#32 reduces_S1x256_S1 (by decide) (.inl rfl) rfl _).trans ?_
  exact (Equiv.sum_comp (Shape.reshapeEquiv shapeCasts_S256_S1x256) X).trans (sum_ix X g h)

/-- The combining call returns the weighted sum of the columns over the number of elements, where `c` and `s` are the column sums of its
operands. -/
theorem combine_eq (H A : FVec Ideal S32x256 .f32) (c s : ℕ → EReal)
    (hc : ∀ p hp, ∑ w : Fin 32, (H (ix2 w.val p w.isLt hp) : EReal) = c p)
    (hs : ∀ p hp, ∑ w : Fin 32, (A (ix2 w.val p w.isLt hp) : EReal) = s p) (y : S1x1.Idx) :
    ((k1_pay1 H A : FVec Ideal S1x1 .f32) y : EReal) = (∑ p ∈ Finset.range 256, weight c p * s p) * ((1 / 12582912 : ℝ) : EReal) := by
  have hn : (Named.named κ "inv_n" 0x33AAAAAB#32 : Ideal .f32) = ((1 / 12582912 : ℝ) : EReal) :=
    IdealRules.named_const.ideal_named_scalar _ _ _ _ rfl
  have hb : (Named.named κ "inv_nb" 0x31AAAAAB#32 : Ideal .f32) = ((1 / 201326592 : ℝ) : EReal) :=
    IdealRules.named_const.ideal_named_scalar _ _ _ _ rfl
  unfold k1_pay1
  simp only [hn, hb]
  refine congrArg (fun z : EReal => z * ((1 / 12582912 : ℝ) : EReal)) (total_eq _ _ fun p hp => ?_)
  have hi : ∀ q hq, Ideal.div (Ideal.ofBits .f32 0x3F800000#32)
      ((multiReduction .add [0] S256 H 0x00000000#32 reduces_S32x256_S256 (.inl rfl) rfl (ix q hq) : EReal)
        * ((1 / 201326592 : ℝ) : EReal) + Ideal.ofBits .f32 0x2B8CBCCC#32) = inv c q := fun q hq => by
    rw [rows_eq, hc, lit_one]; rfl
  refine congr (congrArg (fun a b : EReal => a * b) (congr (congrArg Ideal.div (hi p hp)) (total_eq _ _ hi))) ?_
  exact (rows_eq A p hp).trans (hs p hp)

variable (m : (ℓ : Loc nD τ sig) → Buf (Elt Ideal) ℓ)

/-- The program's result is the formula. -/
theorem result_eq (d : Dev nD) (hT : Levels (vTar m d)) (y : S_.Idx) :
    (result m d y : EReal) = lossOf (countOf (vTar m d)) (sq (vSrc m d) (vTar m d)) := by
  refine (combine_eq _ _ (countOf (vTar m d)) _ (count_eq (vTar m d) hT) (column_eq (vSrc m d) (vTar m d))
    (Shape.reshapeEquiv shapeCasts_S1x1_S_ y)).trans ?_
  rw [weighted]
  rfl

end Cert.Proof.Kern
end
-- ==== Proof.Kern.Reference.lean ====
module

public import proofs.«01_k».proof.Proof.Kern.Combine
public import proofs.«01_k».proof.Proof.Gen.ReferenceIdeal.Run
public import Idealize.ShloMosaic.Lib.Routing.OpsPair

@[expose] public section

noncomputable section

namespace Cert.Proof.Kern

open Cert.ReferenceIdeal Cert.ReferenceIdeal.Gen
open Idealize.ShloMosaic

/-! ## The reference's stages -/

section Stages
variable (t : FVec Ideal S12582912 .f32)

/-- Which targets lie in the histogram's range. -/
def inside : IVec S12582912 1 :=
  andi (cmpf .oge t (broadcastInDim S12582912 ![] bcast_S_S12582912 (constant S_ .f32 0x00000000#32)))
    (cmpf .ole t (broadcastInDim S12582912 ![] bcast_S_S12582912 (constant S_ .f32 0x437F0000#32)))

/-- Each target's bin, zero for those outside the range. -/
def bin : IVec S12582912 32 :=
  maxsi (broadcastInDim S12582912 ![] bcast_S_S12582912 (id (constantI S_ 32 0#32)))
    (select (inside t)
      (fptosi 32 (minimumf (broadcastInDim S12582912 ![] bcast_S_S12582912 (sitofp .f32 (constantI S_ 32 255#32)))
        (maximumf (broadcastInDim S12582912 ![] bcast_S_S12582912 (sitofp .f32 (constantI S_ 32 0#32)))
          (Host.floor (mulf t (broadcastInDim S12582912 ![] bcast_S_S12582912 (constant S_ .f32 0x3F808081#32)))))))
      (broadcastInDim S12582912 ![] bcast_S_S12582912 (id (constantI S_ 32 0#32))))

/-- The word a target counts in. -/
def word : IVec S12582912 32 :=
  select (cmpi .slt (bin t) (broadcastInDim S12582912 ![] bcast_S_S12582912 (constantI S_ 32 0#32)))
    (addi (bin t) (broadcastInDim S12582912 ![] bcast_S_S12582912 (constantI S_ 32 256#32))) (bin t)

/-- The histogram. -/
def histR : FVec Ideal S256 .f32 :=
  Host.scatterAdd scatter_S256_S12582912x1_S12582912_n_0_0_1 (broadcastInDim S256 ![] bcast_S_S256 (constant S_ .f32 0x00000000#32))
    (broadcastInDim S12582912x1 ![0] bcast_S12582912_S12582912x1_0 (word t)) (uitofp .f32 (inside t))

/-- The inverses of the smoothed frequencies. -/
def invR : FVec Ideal S256 .f32 :=
  Host.divf (broadcastInDim S256 ![] bcast_S_S256 (constant S_ .f32 0x3F800000#32))
    (addf (Host.divf (histR t) (broadcastInDim S256 ![] bcast_S_S256 (constant S_ .f32 0x4D400000#32)))
      (broadcastInDim S256 ![] bcast_S_S256 (constant S_ .f32 0x2B8CBCCC#32)))

/-- The weights. -/
def weightR : FVec Ideal S256 .f32 :=
  Host.divf (invR t) (broadcastInDim S256 ![] bcast_S_S256
    (Host.reduceAdd (invR t) (constant S_ .f32 0x00000000#32) reducesTo_S256_S_d0 h_S_))

/-- The weighted squares. -/
def terms (a b : FVec Ideal S16x3x1024x256 .f32) : FVec Ideal S16x3x1024x256 .f32 :=
  mulf (broadcastInDim S16x3x1024x256 ![0, 1, 2, 3] bcast_S1x1x1x256_S16x3x1024x256_0_1_2_3
      (mulf (broadcastInDim S1x1x1x256 ![] bcast_S_S1x1x1x256 (constant S_ .f32 0x3F800000#32))
        (shapeCast S1x1x1x256 (weightR (shapeCast S12582912 b shapeCasts_S16x3x1024x256_S12582912)) shapeCasts_S256_S1x1x1x256)))
    (mulf (subf a b) (subf a b))

/-- The weighted mean. -/
def lossR (a b : FVec Ideal S16x3x1024x256 .f32) : FVec Ideal S_ .f32 :=
  Host.divf (Host.reduceAdd (terms a b) (constant S_ .f32 0x00000000#32) reducesTo_S16x3x1024x256_S_d0_1_2_3 h_S_)
    (constant S_ .f32 0x4B400000#32)

end Stages

/-- The reference's result, by stages. -/
theorem res_eq (m : (ℓ : Loc nD τ sig) → Buf (Elt Ideal) ℓ) (c : Dev nD) :
    Cert.ReferenceIdeal.Value.res_main_v39 (F := Ideal) m c
      = lossR (m ((c.tc : Thread nD τ).loc main_arg0)) (m ((c.tc : Thread nD τ).loc main_arg1)) := by
  unfold Cert.ReferenceIdeal.Value.res_main_v39
  rfl

/-! ## A target that is a level counts in its own bin -/

/-- A level scaled by the step between bins and rounded down is the level, or, at the top, more. -/
theorem scaled (k : ℕ) (hk : k ≤ 255) : min (255 : ℝ) (max 0 ((⌊(k : ℝ) * (8421505 / 8388608)⌋ : ℤ) : ℝ)) = k := by
  have hk' : (k : ℝ) ≤ 255 := by exact_mod_cast hk
  have h0 : (0 : ℝ) ≤ k := Nat.cast_nonneg k
  have hlo : ((k : ℤ) : ℤ) ≤ ⌊(k : ℝ) * (8421505 / 8388608)⌋ := Int.le_floor.mpr (by push_cast; nlinarith)
  have hlo' : (k : ℝ) ≤ ((⌊(k : ℝ) * (8421505 / 8388608)⌋ : ℤ) : ℝ) := by exact_mod_cast hlo
  rw [max_eq_right (le_trans h0 hlo')]
  rcases Nat.lt_or_ge k 255 with h | h
  · have hhi : ⌊(k : ℝ) * (8421505 / 8388608)⌋ < (k : ℤ) + 1 := Int.floor_lt.mpr (by
      have : (k : ℝ) ≤ 254 := by exact_mod_cast (by omega : k ≤ 254)
      push_cast; nlinarith)
    have e : ⌊(k : ℝ) * (8421505 / 8388608)⌋ = (k : ℤ) := by omega
    rw [e]
    push_cast
    exact min_eq_right hk'
  · have e : k = 255 := by omega
    subst e
    push_cast at hlo' ⊢
    exact min_eq_left hlo'

/-- The integer part of a level. -/
theorem toInt_level (k : ℕ) (hk : k ≤ 255) : Ideal.fptosi 32 (((k : ℝ)) : EReal) = BitVec.ofNat 32 k := by
  show BitVec.ofInt 32 (max (-((2 ^ 31 : ℕ) : ℤ)) (min (((2 ^ 31 : ℕ) : ℤ) - 1) (if 0 ≤ (k : ℝ) then ⌊(k : ℝ)⌋ else ⌈(k : ℝ)⌉))) = _
  rw [if_pos (Nat.cast_nonneg k), Int.floor_natCast]
  rw [min_eq_right (by norm_num; omega), max_eq_right (by norm_num)]
  exact BitVec.ofInt_natCast 32 k

section Level
variable (t : FVec Ideal S12582912 .f32) (j : S12582912.Idx) (k : ℕ) (hk : k ≤ 255) (ht : t j = ((k : ℝ) : EReal))
include hk ht

/-- A target that is a level is in range. -/
theorem inside_eq : inside t j = 1#1 := by
  show IntOp.andi (Ideal.cmp .oge (t j) (Ideal.ofBits .f32 0x00000000#32)) (Ideal.cmp .ole (t j) (Ideal.ofBits .f32 0x437F0000#32)) = 1#1
  rw [ht, Ideal.ofBits_zero_f32, lit_255]
  have h1 : (0 : EReal) ≤ ((k : ℝ) : EReal) := EReal.coe_nonneg.mpr (Nat.cast_nonneg k)
  have h2 : ((k : ℝ) : EReal) ≤ ((255 : ℝ) : EReal) := EReal.coe_le_coe_iff.mpr (by exact_mod_cast hk)
  simp only [Ideal.cmp, h1, h2, decide_true]
  rfl

/-- A target that is a level has that level as its bin. -/
theorem bin_eq : bin t j = BitVec.ofNat 32 k := by
  show IntOp.maxsi 0#32 (if inside t j = 1 then Ideal.fptosi 32 (min ((((255#32 : BitVec 32).toInt : ℝ)) : EReal)
    (max ((((0#32 : BitVec 32).toInt : ℝ)) : EReal) (Ideal.liftRound Int.floor ((t j : EReal) * Ideal.ofBits .f32 0x3F808081#32)))) else 0#32) = _
  rw [inside_eq t j k hk ht, if_pos (show (1#1 : BitVec 1) = 1 from rfl), ht, lit_step, ← EReal.coe_mul, Ideal.liftRound_coe,
    show (255#32 : BitVec 32).toInt = 255 from by decide, show (0#32 : BitVec 32).toInt = 0 from by decide,
    ← EReal.coe_strictMono.monotone.map_max, ← EReal.coe_strictMono.monotone.map_min]
  have e := scaled k hk
  push_cast at e ⊢
  rw [e, toInt_level k hk]
  have h : ∀ k : Fin 256, IntOp.maxsi 0#32 (BitVec.ofNat 32 k.val) = BitVec.ofNat 32 k.val := by decide
  exact h ⟨k, by omega⟩

/-- A target that is a level has that level as its scatter's index. -/
theorem word_eq : word t j = BitVec.ofNat 32 k := by
  show (if IntOp.cmpi .slt (bin t j) 0#32 = 1 then IntOp.addi (bin t j) 256#32 else bin t j) = _
  rw [bin_eq t j k hk ht]
  have h : ∀ k : Fin 256, IntOp.cmpi .slt (BitVec.ofNat 32 k.val) 0#32 ≠ 1 := by decide
  exact if_neg (h ⟨k, by omega⟩)

end Level

/-! ## Where the scatter's updates land -/

/-- An update of the scatter starts at its index. -/
theorem start_eq (idx : IVec S12582912x1 32) (j : S12582912.Idx) (a : Fin 1) :
    scatter_S256_S12582912x1_S12582912_n_0_0_1.start j idx a
      = (idx (fun | 0 => ⟨(j 0).val, (j 0).isLt⟩ | 1 => ⟨0, by decide⟩ : S12582912x1.Idx)).toInt := by
  obtain rfl : a = 0 := Subsingleton.elim _ _
  unfold ScatterDims.start
  rw [dif_pos (show (0 : Fin S256.rank) ∈ scatter_S256_S12582912x1_S12582912_n_0_0_1.scatterDimsToOperandDims from List.mem_singleton.2 rfl)]
  congr 1
  apply congrArg idx
  funext b
  match b with
  | 0 => rfl
  | 1 => rfl

/-- An update of the scatter is one word. -/
theorem window_eq (j : S12582912.Idx) (a : Fin 1) : scatter_S256_S12582912x1_S12582912_n_0_0_1.window j a = 0 := by
  obtain rfl : a = 0 := Subsingleton.elim _ _
  unfold ScatterDims.window
  rw [dif_neg (by decide)]

/-- Update `j` lands in word `p` exactly when its index word is `p`. -/
theorem lands (w : IVec S12582912 32) (j : S12582912.Idx) (k : ℕ) (hk : k ≤ 255) (hw : w j = BitVec.ofNat 32 k) (p : ℕ) (hp : p < 256) :
    scatter_S256_S12582912x1_S12582912_n_0_0_1.resultIdx? j (broadcastInDim S12582912x1 ![0] bcast_S12582912_S12582912x1_0 w) = some (ix p hp)
      ↔ k = p := by
  rw [Routing.resultIdx?_eq_some]
  have hv : (broadcastInDim S12582912x1 ![0] bcast_S12582912_S12582912x1_0 w
      (fun | 0 => ⟨(j 0).val, (j 0).isLt⟩ | 1 => ⟨0, by decide⟩ : S12582912x1.Idx)) = BitVec.ofNat 32 k := by
    rw [broadcastInDim_apply _ _ _ _ j (fun a => by match a with | 0 => rfl), hw]
  have hi : ∀ k : Fin 256, (BitVec.ofNat 32 k.val).toInt = (k.val : ℤ) := by decide
  have hk' := hi ⟨k, by omega⟩
  constructor
  · intro h
    have h0 := h 0
    rw [start_eq, window_eq, hv, hk'] at h0
    have : ((ix p hp : S256.Idx) 0).val = p := rfl
    rw [this] at h0
    simpa using h0
  · rintro rfl a
    match a with
    | 0 => rw [start_eq, window_eq, hv, hk']; exact add_zero _

/-- A scatter that adds ones onto zeros, read at a word: how many updates land there. -/
theorem scatter_count (x : FVec Ideal S256 .f32) (idx : IVec S12582912x1 32) (upd : FVec Ideal S12582912 .f32) (g : ℕ → ℕ) (p : ℕ) (hp : p < 256)
    (hx : x (ix p hp) = (0 : EReal))
    (hl : ∀ n hn, scatter_S256_S12582912x1_S12582912_n_0_0_1.resultIdx? (ix n hn) idx = some (ix p hp) ↔ g n = p)
    (hu : ∀ n hn, upd (ix n hn) = (1 : EReal)) :
    (Host.scatterAdd scatter_S256_S12582912x1_S12582912_n_0_0_1 x idx upd (ix p hp) : EReal) = ∑ n ∈ Finset.range 12582912, one (g n = p) := by
  unfold Host.scatterAdd
  rw [Ideal.hostScatterAdd_def]
  unfold Ideal.hostScatterAdd
  rw [hx, zero_add, Finset.sum_filter]
  refine sum_ix _ _ fun n hn => ?_
  rw [hu]
  exact one_congr (hl n hn)

/-! ## The reference computes the formula -/

section Formula
variable (t : FVec Ideal S12582912 .f32) (ht : ∀ j, lev t j ≤ 255) (hv : ∀ n h, t (ix n h) = ((lev t n : ℝ) : EReal))
include ht hv

/-- The histogram counts the elements at each level. -/
theorem histR_eq (p : ℕ) (hp : p < 256) : (histR t (ix p hp) : EReal) = countOf t p :=
  scatter_count _ _ _ (lev t) p hp Ideal.ofBits_zero_f32
    (fun n hn => lands (word t) (ix n hn) (lev t n) (ht n) (word_eq t _ _ (ht n) (hv n hn)) p hp)
    (fun n hn => by
      show (((inside t (ix n hn)).toNat : ℝ) : EReal) = 1
      rw [inside_eq t _ _ (ht n) (hv n hn)]; simp)

/-- The reference's inverse frequencies are the formula's. -/
theorem invR_eq (p : ℕ) (hp : p < 256) : (invR t (ix p hp) : EReal) = inv (countOf t) p := by
  show Ideal.div (Ideal.ofBits .f32 0x3F800000#32)
    (Ideal.div (histR t (ix p hp)) (Ideal.ofBits .f32 0x4D400000#32) + Ideal.ofBits .f32 0x2B8CBCCC#32) = _
  rw [histR_eq t ht hv, lit_one, lit_nb, Ideal.div_coe (by norm_num)]
  rfl

/-- The reference's weights are the formula's. -/
theorem weightR_eq (p : ℕ) (hp : p < 256) : (weightR t (ix p hp) : EReal) = weight (countOf t) p := by
  show Ideal.div (invR t (ix p hp)) (Ideal.hostReduceAdd reducesTo_S256_S_d0 (invR t) (Ideal.ofBits .f32 0x00000000#32) _) = _
  rw [Ideal.hostReduceAdd_total _ (fun b => b.elim0), Ideal.ofBits_zero_f32, zero_add, invR_eq t ht hv, sum_ix _ _ (invR_eq t ht hv)]
  rfl

end Formula

/-- The reference's result is the formula. -/
theorem lossR_eq (a b : FVec Ideal S16x3x1024x256 .f32)
    (ht : ∀ n, lev (shapeCast S12582912 b shapeCasts_S16x3x1024x256_S12582912) n ≤ 255)
    (hv : ∀ n h, (shapeCast S12582912 b shapeCasts_S16x3x1024x256_S12582912 : FVec Ideal S12582912 .f32) (ix n h)
      = ((lev (shapeCast S12582912 b shapeCasts_S16x3x1024x256_S12582912) n : ℝ) : EReal)) (y : S_.Idx) :
    (lossR a b y : EReal)
      = lossOf (countOf (shapeCast S12582912 b shapeCasts_S16x3x1024x256_S12582912))
          (sq (shapeCast S12582912 a shapeCasts_S16x3x1024x256_S12582912) (shapeCast S12582912 b shapeCasts_S16x3x1024x256_S12582912)) := by
  show Ideal.div (Ideal.hostReduceAdd reducesTo_S16x3x1024x256_S_d0_1_2_3 (terms a b) (Ideal.ofBits .f32 0x00000000#32) y)
    (Ideal.ofBits .f32 0x4B400000#32) = _
  rw [Ideal.hostReduceAdd_total _ (fun b => b.elim0), Ideal.ofBits_zero_f32, zero_add, lit_n, Ideal.div_coe (by norm_num)]
  refine congrArg (fun z : EReal => z * ((1 / 12582912 : ℝ) : EReal)) ?_
  refine (Equiv.sum_comp (Shape.reshapeEquiv shapeCasts_S16x3x1024x256_S12582912) (terms a b)).symm.trans (sum_ix _ _ fun n hn => ?_)
  have hr := Shape.rowMajor_reshapeEquiv shapeCasts_S16x3x1024x256_S12582912 (ix n hn : S12582912.Idx)
  have hf : (flat n : S12582912.Idx) = ix n hn := ix_congr (Nat.mod_eq_of_lt hn)
  unfold sq
  rw [hf]
  unfold shapeCast
  generalize Shape.reshapeEquiv shapeCasts_S16x3x1024x256_S12582912 (ix n hn : S12582912.Idx) = i at hr ⊢
  rw [Shape.rowMajor_val_four, Shape.rowMajor_val_one] at hr
  have hi : (i 3).val < 256 := (i 3).isLt
  have hl : (i 3).val = n % 256 := by
    change (((i 0).val * 3 + (i 1).val) * 1024 + (i 2).val) * 256 + (i 3).val = n at hr
    omega
  refine congrArg (fun z : EReal => z * _) ?_
  rw [broadcastInDim_apply _ _ _ i (fun | 0 => ⟨0, by decide⟩ | 1 => ⟨0, by decide⟩ | 2 => ⟨0, by decide⟩ | 3 => ⟨(i 3).val, hi⟩ : S1x1x1x256.Idx)
    (fun a => by match a with | 0 => rfl | 1 => rfl | 2 => rfl | 3 => rfl)]
  show Ideal.ofBits .f32 0x3F800000#32 * shapeCast S1x1x1x256 (weightR _) _ _ = _
  rw [lit_one, one_mul, shapeCast_apply _ _ _ (ix (i 3).val hi) (by
    rw [Shape.rowMajor_val_four, Shape.rowMajor_val_one]; show (i 3).val = ((0 * 1 + 0) * 1 + 0) * 256 + (i 3).val; omega),
    weightR_eq _ ht hv, hl]
  rfl

end Cert.Proof.Kern
end
-- ==== Proof.Kern.Algebraic.lean ====
module

public import proofs.«01_k».proof.Proof.Kern.Reference
public import proofs.«01_k».proof.Proof.Kern.Levels
public import proofs.«01_k».proof.Defs

@[expose] public section

noncomputable section

namespace Cert.Proof.Kern

open Cert.KernelIdeal Cert.KernelIdeal.Gen
open Idealize.ShloMosaic Idealize.SL.Sem

variable (m : (ℓ : Loc nD τ sig) → Buf (Elt Ideal) ℓ) (d : Dev nD)
  (h : Cert.Pre_levels.fn (F := Ideal) (m (arg0Loc d)) (m (arg1Loc d)) = fun _ => 1#1)
include h

/-- Under the precondition a target is its level. -/
theorem target_eq (n : ℕ) (hn : n < 12582912) : vTar m d (ix n hn) = ((lev (vTar m d) n : ℝ) : EReal) := by
  have hf : (flat n : S12582912.Idx) = ix n hn := ix_congr (Nat.mod_eq_of_lt hn)
  have e := (level_of_pre h (Shape.reshapeEquiv shapeCasts_S16x3x1024x256_S12582912 (ix n hn))).2
  have e' : ((((FloatOps.fptosi 32 (vTar m d (ix n hn)) : BitVec 32).toInt : ℝ)) : EReal) = vTar m d (ix n hn) := by
    refine of_decide_eq_true (Bool.eq_true_of_not_eq_false fun hb => ?_)
    change BitVec.ofBool (decide _) = 1#1 at e
    exact absurd (e.symm.trans (congrArg BitVec.ofBool hb)) (by decide)
  have hl := levels_of_pre m d h (ix n hn)
  unfold lev
  rw [hf]
  generalize vTar m d (ix n hn) = x at e' hl ⊢
  refine e'.symm.trans ?_
  rw [BitVec.toInt_eq_toNat_of_lt (by omega), Int.cast_natCast]

/-- The two programs' results, on equal arguments, are equal. -/
theorem results_eq (m' : (ℓ : Loc Cert.ReferenceIdeal.nD Cert.ReferenceIdeal.τ Cert.ReferenceIdeal.sig) → Buf (Elt Ideal) ℓ)
    (h0 : m' ((d.tc : Thread Cert.ReferenceIdeal.nD Cert.ReferenceIdeal.τ).loc Cert.ReferenceIdeal.main_arg0) = m (arg0Loc d))
    (h1 : m' ((d.tc : Thread Cert.ReferenceIdeal.nD Cert.ReferenceIdeal.τ).loc Cert.ReferenceIdeal.main_arg1) = m (arg1Loc d)) :
    Cert.ReferenceIdeal.Value.res_main_v39 (F := Ideal) m' d = result m d := by
  have hT := levels_of_pre m d h
  rw [res_eq, h0, h1]
  funext y
  exact (lossR_eq (m (arg0Loc d)) (m (arg1Loc d)) (fun n => Nat.le_of_lt_succ (hT (flat n))) (target_eq m d h) y).trans
    (result_eq m d hT y).symm

omit h in
/-- On equal arguments whose targets are levels, the kernel and the reference both run to their ends and give equal results. -/
theorem same_results : Cert.algebraic_KernelIdeal_ReferenceIdeal := fun m ρ m' ρ' hpre hm =>
  ⟨fun c => result m c,
    (θ_run _ _ _).mono (fun _ h c => ⟨(h.1 c).2.2, (h.1 c).1, (h.1 c).2.1⟩)
      (run_main (F := Ideal) m ρ fun d => levels_of_pre m d (hpre d)),
    (θ_run _ _ _).mono (fun _ h c => ⟨(h c).1.trans (results_eq m c (hpre c) m' (hm c).1 (hm c).2), (h c).2⟩)
      (Cert.ReferenceIdeal.Value.run (F := Ideal) m' ρ')⟩

end Cert.Proof.Kern
end
-- ==== Proof.lean ====
module

public import proofs.«01_k».proof.Proof.Kern.Frames
public import proofs.«01_k».proof.Proof.Kern.Algebraic
public import proofs.«01_k».proof.Proof.Gen.ReferenceIdeal.Run

@[expose] public section

noncomputable section

namespace Cert.Proof

/-- The certificate's claims. -/
theorem claim : Cert.Claim :=
  ⟨Cert.Kernel.Gen.facts, Cert.KernelIdeal.Gen.facts, Cert.ReferenceIdeal.Gen.facts, Cert.Pre_levels.Gen.facts,
    Kern.frame_Kernel, Kern.frame_KernelIdeal, Kern.frame_ReferenceIdeal, Kern.frame_ReferenceIdeal_levels,
    Kern.constants_named, Kern.same_results⟩

end Cert.Proof
end
